-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
-- ==== Kernel.lean ====
abbrev S112x1x6144 : Shape := ⟨3, ![112, 1, 6144]⟩
abbrev S112x1x30720 : Shape := ⟨3, ![112, 1, 30720]⟩
abbrev S112x1 : Shape := ⟨2, ![112, 1]⟩
abbrev S30720x6144 : Shape := ⟨2, ![30720, 6144]⟩
abbrev S6144 : Shape := ⟨1, ![6144]⟩
abbrev S112x6144 : Shape := ⟨2, ![112, 6144]⟩
abbrev S112x30720 : Shape := ⟨2, ![112, 30720]⟩
abbrev S1x6144 : Shape := ⟨2, ![1, 6144]⟩
abbrev S8x6144x512 : Shape := ⟨3, ![8, 6144, 512]⟩
abbrev S128x30720 : Shape := ⟨2, ![128, 30720]⟩
abbrev S4x112x512 : Shape := ⟨3, ![4, 112, 512]⟩
abbrev S112x128 : Shape := ⟨2, ![112, 128]⟩
abbrev S128x512 : Shape := ⟨2, ![128, 512]⟩
abbrev S8 : Shape := ⟨1, ![8]⟩
abbrev S4 : Shape := ⟨1, ![4]⟩
abbrev S1 : Shape := ⟨1, ![1]⟩
abbrev S_ : Shape := ⟨0, ![]⟩
abbrev S1x6144x512 : Shape := ⟨3, ![1, 6144, 512]⟩
abbrev S6144x512 : Shape := ⟨2, ![6144, 512]⟩
abbrev S16x30720 : Shape := ⟨2, ![16, 30720]⟩
abbrev S128x6144 : Shape := ⟨2, ![128, 6144]⟩
abbrev S112x512 : Shape := ⟨2, ![112, 512]⟩
abbrev S1x112x512 : Shape := ⟨3, ![1, 112, 512]⟩
abbrev S1x128 : Shape := ⟨2, ![1, 128]⟩
abbrev S1x112x128 : Shape := ⟨3, ![1, 112, 128]⟩

abbrev nBuf : Space → Nat
  | .hbm => 9
  | .vmem => 9
  | .smem => 0
  | _ => 0

abbrev bufTy : (tb : Table) → Fin (tcTables nBuf tb) → BufTy
  | .hbm, ⟨0, _⟩ => ⟨S112x1x6144, .bf16⟩
  | .hbm, ⟨1, _⟩ => ⟨S112x1x30720, .fp8e4m3⟩
  | .hbm, ⟨2, _⟩ => ⟨S112x1, .f32⟩
  | .hbm, ⟨3, _⟩ => ⟨S30720x6144, .fp8e4m3⟩
  | .hbm, ⟨4, _⟩ => ⟨S6144, .f32⟩
  | .hbm, ⟨5, _⟩ => ⟨S112x6144, .bf16⟩
  | .hbm, ⟨6, _⟩ => ⟨S112x30720, .fp8e4m3⟩
  | .hbm, ⟨7, _⟩ => ⟨S1x6144, .f32⟩
  | .hbm, ⟨8, _⟩ => ⟨S112x6144, .bf16⟩
  | .local _ .vmem, ⟨0, _⟩ => ⟨S8x6144x512, .fp8e4m3⟩
  | .local _ .vmem, ⟨1, _⟩ => ⟨S112x6144, .bf16⟩
  | .local _ .vmem, ⟨2, _⟩ => ⟨S112x30720, .fp8e4m3⟩
  | .local _ .vmem, ⟨3, _⟩ => ⟨S112x1, .f32⟩
  | .local _ .vmem, ⟨4, _⟩ => ⟨S1x6144, .f32⟩
  | .local _ .vmem, ⟨5, _⟩ => ⟨S128x30720, .fp8e4m3⟩
  | .local _ .vmem, ⟨6, _⟩ => ⟨S4x112x512, .bf16⟩
  | .local _ .vmem, ⟨7, _⟩ => ⟨S112x128, .f32⟩
  | .local _ .vmem, ⟨8, _⟩ => ⟨S128x512, .f32⟩
  | _, _ => ⟨S112x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := .none

def k0_cond1 : BitVec 1 :=
  let c0_i32_1 : BitVec 32 := 0#32
  let c0_i32_2 : BitVec 32 := 0#32
  let v9 : BitVec 1 := Scalar.cmpi .sge c0_i32_1 c0_i32_2
  let c0_i32_3 : BitVec 32 := 0#32
  let c60_i32 : BitVec 32 := 60#32
  let v10 : BitVec 1 := Scalar.cmpi .slt c0_i32_3 c60_i32
  let v11 : BitVec 1 := Scalar.andi v9 v10
  let v12 : BitVec 32 := Scalar.extui v11
  let c0_i32_5 : BitVec 32 := 0#32
  let v13 : BitVec 1 := Scalar.cmpi .ne v12 c0_i32_5
  v13

def k0_mult1 : BitVec 32 :=
  let c0_i32_4 : BitVec 32 := 0#32
  let c0_i32_96 : BitVec 32 := 0#32
  let v113 : BitVec 32 := Scalar.subi c0_i32_4 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult2 : BitVec 32 :=
  let c0_i32_4 : BitVec 32 := 0#32
  let c0_i32_96 : BitVec 32 := 0#32
  let v113 : BitVec 32 := Scalar.subi c0_i32_4 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off1 : Fin 1 → Nat :=
  let c0_i32_0 : BitVec 32 := 0#32
  let c8_i32 : BitVec 32 := 8#32
  let v8 : BitVec 32 := Scalar.remsi c0_i32_0 c8_i32
  ![v8.toNat]
def k0_off2 : Fin 3 → Nat :=
  let c0_i32_0 : BitVec 32 := 0#32
  let c8_i32 : BitVec 32 := 8#32
  let v8 : BitVec 32 := Scalar.remsi c0_i32_0 c8_i32
  let c0_i32_106 : BitVec 32 := 0#32
  let c0_i32_107 : BitVec 32 := 0#32
  ![v8.toNat, 0, 0]
def k0_off3 : Fin 2 → Nat :=
  let c0_i32_4 : BitVec 32 := 0#32
  let c0_i32_96 : BitVec 32 := 0#32
  let v113 : BitVec 32 := Scalar.subi c0_i32_4 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond2 : BitVec 1 :=
  let c1_i32_8 : BitVec 32 := 1#32
  let c0_i32_9 : BitVec 32 := 0#32
  let v15 : BitVec 1 := Scalar.cmpi .sge c1_i32_8 c0_i32_9
  let c1_i32_10 : BitVec 32 := 1#32
  let c60_i32_11 : BitVec 32 := 60#32
  let v16 : BitVec 1 := Scalar.cmpi .slt c1_i32_10 c60_i32_11
  let v17 : BitVec 1 := Scalar.andi v15 v16
  let v18 : BitVec 32 := Scalar.extui v17
  let c0_i32_13 : BitVec 32 := 0#32
  let v19 : BitVec 1 := Scalar.cmpi .ne v18 c0_i32_13
  v19

def k0_mult3 : BitVec 32 :=
  let c1_i32_12 : BitVec 32 := 1#32
  let c0_i32_96 : BitVec 32 := 0#32
  let v113 : BitVec 32 := Scalar.subi c1_i32_12 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult4 : BitVec 32 :=
  let c1_i32_12 : BitVec 32 := 1#32
  let c0_i32_96 : BitVec 32 := 0#32
  let v113 : BitVec 32 := Scalar.subi c1_i32_12 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off4 : Fin 1 → Nat :=
  let c1_i32_6 : BitVec 32 := 1#32
  let c8_i32_7 : BitVec 32 := 8#32
  let v14 : BitVec 32 := Scalar.remsi c1_i32_6 c8_i32_7
  ![v14.toNat]
def k0_off5 : Fin 3 → Nat :=
  let c1_i32_6 : BitVec 32 := 1#32
  let c8_i32_7 : BitVec 32 := 8#32
  let v14 : BitVec 32 := Scalar.remsi c1_i32_6 c8_i32_7
  let c0_i32_106 : BitVec 32 := 0#32
  let c0_i32_107 : BitVec 32 := 0#32
  ![v14.toNat, 0, 0]
def k0_off6 : Fin 2 → Nat :=
  let c1_i32_12 : BitVec 32 := 1#32
  let c0_i32_96 : BitVec 32 := 0#32
  let v113 : BitVec 32 := Scalar.subi c1_i32_12 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond3 : BitVec 1 :=
  let c2_i32_16 : BitVec 32 := 2#32
  let c0_i32_17 : BitVec 32 := 0#32
  let v21 : BitVec 1 := Scalar.cmpi .sge c2_i32_16 c0_i32_17
  let c2_i32_18 : BitVec 32 := 2#32
  let c60_i32_19 : BitVec 32 := 60#32
  let v22 : BitVec 1 := Scalar.cmpi .slt c2_i32_18 c60_i32_19
  let v23 : BitVec 1 := Scalar.andi v21 v22
  let v24 : BitVec 32 := Scalar.extui v23
  let c0_i32_21 : BitVec 32 := 0#32
  let v25 : BitVec 1 := Scalar.cmpi .ne v24 c0_i32_21
  v25

def k0_mult5 : BitVec 32 :=
  let c2_i32_20 : BitVec 32 := 2#32
  let c0_i32_96 : BitVec 32 := 0#32
  let v113 : BitVec 32 := Scalar.subi c2_i32_20 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult6 : BitVec 32 :=
  let c2_i32_20 : BitVec 32 := 2#32
  let c0_i32_96 : BitVec 32 := 0#32
  let v113 : BitVec 32 := Scalar.subi c2_i32_20 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off7 : Fin 1 → Nat :=
  let c2_i32_14 : BitVec 32 := 2#32
  let c8_i32_15 : BitVec 32 := 8#32
  let v20 : BitVec 32 := Scalar.remsi c2_i32_14 c8_i32_15
  ![v20.toNat]
def k0_off8 : Fin 3 → Nat :=
  let c2_i32_14 : BitVec 32 := 2#32
  let c8_i32_15 : BitVec 32 := 8#32
  let v20 : BitVec 32 := Scalar.remsi c2_i32_14 c8_i32_15
  let c0_i32_106 : BitVec 32 := 0#32
  let c0_i32_107 : BitVec 32 := 0#32
  ![v20.toNat, 0, 0]
def k0_off9 : Fin 2 → Nat :=
  let c2_i32_20 : BitVec 32 := 2#32
  let c0_i32_96 : BitVec 32 := 0#32
  let v113 : BitVec 32 := Scalar.subi c2_i32_20 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond4 : BitVec 1 :=
  let c3_i32_24 : BitVec 32 := 3#32
  let c0_i32_25 : BitVec 32 := 0#32
  let v27 : BitVec 1 := Scalar.cmpi .sge c3_i32_24 c0_i32_25
  let c3_i32_26 : BitVec 32 := 3#32
  let c60_i32_27 : BitVec 32 := 60#32
  let v28 : BitVec 1 := Scalar.cmpi .slt c3_i32_26 c60_i32_27
  let v29 : BitVec 1 := Scalar.andi v27 v28
  let v30 : BitVec 32 := Scalar.extui v29
  let c0_i32_29 : BitVec 32 := 0#32
  let v31 : BitVec 1 := Scalar.cmpi .ne v30 c0_i32_29
  v31

def k0_mult7 : BitVec 32 :=
  let c3_i32_28 : BitVec 32 := 3#32
  let c0_i32_96 : BitVec 32 := 0#32
  let v113 : BitVec 32 := Scalar.subi c3_i32_28 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult8 : BitVec 32 :=
  let c3_i32_28 : BitVec 32 := 3#32
  let c0_i32_96 : BitVec 32 := 0#32
  let v113 : BitVec 32 := Scalar.subi c3_i32_28 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off10 : Fin 1 → Nat :=
  let c3_i32_22 : BitVec 32 := 3#32
  let c8_i32_23 : BitVec 32 := 8#32
  let v26 : BitVec 32 := Scalar.remsi c3_i32_22 c8_i32_23
  ![v26.toNat]
def k0_off11 : Fin 3 → Nat :=
  let c3_i32_22 : BitVec 32 := 3#32
  let c8_i32_23 : BitVec 32 := 8#32
  let v26 : BitVec 32 := Scalar.remsi c3_i32_22 c8_i32_23
  let c0_i32_106 : BitVec 32 := 0#32
  let c0_i32_107 : BitVec 32 := 0#32
  ![v26.toNat, 0, 0]
def k0_off12 : Fin 2 → Nat :=
  let c3_i32_28 : BitVec 32 := 3#32
  let c0_i32_96 : BitVec 32 := 0#32
  let v113 : BitVec 32 := Scalar.subi c3_i32_28 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond5 : BitVec 1 :=
  let c4_i32_31 : BitVec 32 := 4#32
  let c0_i32_32 : BitVec 32 := 0#32
  let v33 : BitVec 1 := Scalar.cmpi .sge c4_i32_31 c0_i32_32
  let c4_i32_33 : BitVec 32 := 4#32
  let c60_i32_34 : BitVec 32 := 60#32
  let v34 : BitVec 1 := Scalar.cmpi .slt c4_i32_33 c60_i32_34
  let v35 : BitVec 1 := Scalar.andi v33 v34
  let v36 : BitVec 32 := Scalar.extui v35
  let c0_i32_36 : BitVec 32 := 0#32
  let v37 : BitVec 1 := Scalar.cmpi .ne v36 c0_i32_36
  v37

def k0_mult9 : BitVec 32 :=
  let c4_i32_35 : BitVec 32 := 4#32
  let c0_i32_96 : BitVec 32 := 0#32
  let v113 : BitVec 32 := Scalar.subi c4_i32_35 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult10 : BitVec 32 :=
  let c4_i32_35 : BitVec 32 := 4#32
  let c0_i32_96 : BitVec 32 := 0#32
  let v113 : BitVec 32 := Scalar.subi c4_i32_35 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off13 : Fin 1 → Nat :=
  let c4_i32 : BitVec 32 := 4#32
  let c8_i32_30 : BitVec 32 := 8#32
  let v32 : BitVec 32 := Scalar.remsi c4_i32 c8_i32_30
  ![v32.toNat]
def k0_off14 : Fin 3 → Nat :=
  let c4_i32 : BitVec 32 := 4#32
  let c8_i32_30 : BitVec 32 := 8#32
  let v32 : BitVec 32 := Scalar.remsi c4_i32 c8_i32_30
  let c0_i32_106 : BitVec 32 := 0#32
  let c0_i32_107 : BitVec 32 := 0#32
  ![v32.toNat, 0, 0]
def k0_off15 : Fin 2 → Nat :=
  let c4_i32_35 : BitVec 32 := 4#32
  let c0_i32_96 : BitVec 32 := 0#32
  let v113 : BitVec 32 := Scalar.subi c4_i32_35 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond6 : BitVec 1 :=
  let c5_i32_38 : BitVec 32 := 5#32
  let c0_i32_39 : BitVec 32 := 0#32
  let v39 : BitVec 1 := Scalar.cmpi .sge c5_i32_38 c0_i32_39
  let c5_i32_40 : BitVec 32 := 5#32
  let c60_i32_41 : BitVec 32 := 60#32
  let v40 : BitVec 1 := Scalar.cmpi .slt c5_i32_40 c60_i32_41
  let v41 : BitVec 1 := Scalar.andi v39 v40
  let v42 : BitVec 32 := Scalar.extui v41
  let c0_i32_43 : BitVec 32 := 0#32
  let v43 : BitVec 1 := Scalar.cmpi .ne v42 c0_i32_43
  v43

def k0_mult11 : BitVec 32 :=
  let c5_i32_42 : BitVec 32 := 5#32
  let c0_i32_96 : BitVec 32 := 0#32
  let v113 : BitVec 32 := Scalar.subi c5_i32_42 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult12 : BitVec 32 :=
  let c5_i32_42 : BitVec 32 := 5#32
  let c0_i32_96 : BitVec 32 := 0#32
  let v113 : BitVec 32 := Scalar.subi c5_i32_42 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off16 : Fin 1 → Nat :=
  let c5_i32 : BitVec 32 := 5#32
  let c8_i32_37 : BitVec 32 := 8#32
  let v38 : BitVec 32 := Scalar.remsi c5_i32 c8_i32_37
  ![v38.toNat]
def k0_off17 : Fin 3 → Nat :=
  let c5_i32 : BitVec 32 := 5#32
  let c8_i32_37 : BitVec 32 := 8#32
  let v38 : BitVec 32 := Scalar.remsi c5_i32 c8_i32_37
  let c0_i32_106 : BitVec 32 := 0#32
  let c0_i32_107 : BitVec 32 := 0#32
  ![v38.toNat, 0, 0]
def k0_off18 : Fin 2 → Nat :=
  let c5_i32_42 : BitVec 32 := 5#32
  let c0_i32_96 : BitVec 32 := 0#32
  let v113 : BitVec 32 := Scalar.subi c5_i32_42 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
def k0_cond7 : BitVec 1 :=
  let c6_i32_45 : BitVec 32 := 6#32
  let c0_i32_46 : BitVec 32 := 0#32
  let v45 : BitVec 1 := Scalar.cmpi .sge c6_i32_45 c0_i32_46
  let c6_i32_47 : BitVec 32 := 6#32
  let c60_i32_48 : BitVec 32 := 60#32
  let v46 : BitVec 1 := Scalar.cmpi .slt c6_i32_47 c60_i32_48
  let v47 : BitVec 1 := Scalar.andi v45 v46
  let v48 : BitVec 32 := Scalar.extui v47
  let c0_i32_50 : BitVec 32 := 0#32
  let v49 : BitVec 1 := Scalar.cmpi .ne v48 c0_i32_50
  v49

def k0_mult13 : BitVec 32 :=
  let c6_i32_49 : BitVec 32 := 6#32
  let c0_i32_96 : BitVec 32 := 0#32
  let v113 : BitVec 32 := Scalar.subi c6_i32_49 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  v133
def k0_mult14 : BitVec 32 :=
  let c6_i32_49 : BitVec 32 := 6#32
  let c0_i32_96 : BitVec 32 := 0#32
  let v113 : BitVec 32 := Scalar.subi c6_i32_49 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c512_i32_105 : BitVec 32 := 512#32
  let v135 : BitVec 32 := Scalar.muli v130 c512_i32_105
  v135
def k0_off19 : Fin 1 → Nat :=
  let c6_i32 : BitVec 32 := 6#32
  let c8_i32_44 : BitVec 32 := 8#32
  let v44 : BitVec 32 := Scalar.remsi c6_i32 c8_i32_44
  ![v44.toNat]
def k0_off20 : Fin 3 → Nat :=
  let c6_i32 : BitVec 32 := 6#32
  let c8_i32_44 : BitVec 32 := 8#32
  let v44 : BitVec 32 := Scalar.remsi c6_i32 c8_i32_44
  let c0_i32_106 : BitVec 32 := 0#32
  let c0_i32_107 : BitVec 32 := 0#32
  ![v44.toNat, 0, 0]
def k0_off21 : Fin 2 → Nat :=
  let c6_i32_49 : BitVec 32 := 6#32
  let c0_i32_96 : BitVec 32 := 0#32
  let v113 : BitVec 32 := Scalar.subi c6_i32_49 c0_i32_96
  let c0_i32_98 : BitVec 32 := 0#32
  let v115 : BitVec 1 := Scalar.cmpi .sgt v113 c0_i32_98
  let v116 : BitVec 32 := Scalar.extui v115
  let c0_i32_99 : BitVec 32 := 0#32
  let v117 : BitVec 1 := Scalar.cmpi .slt v113 c0_i32_99
  let v118 : BitVec 32 := Scalar.extui v117
  let v119 : BitVec 32 := Scalar.subi v116 v118
  let c5_i32_97 : BitVec 32 := 5#32
  let c0_i32_100 : BitVec 32 := 0#32
  let v120 : BitVec 1 := Scalar.cmpi .sgt c5_i32_97 c0_i32_100
  let v121 : BitVec 32 := Scalar.extui v120
  let c0_i32_101 : BitVec 32 := 0#32
  let v122 : BitVec 1 := Scalar.cmpi .slt c5_i32_97 c0_i32_101
  let v123 : BitVec 32 := Scalar.extui v122
  let v124 : BitVec 32 := Scalar.subi v121 v123
  let v125 : BitVec 1 := Scalar.cmpi .ne v119 v124
  let v126 : BitVec 32 := Scalar.remsi v113 c5_i32_97
  let c0_i32_102 : BitVec 32 := 0#32
  let v127 : BitVec 1 := Scalar.cmpi .ne v126 c0_i32_102
  let v128 : BitVec 1 := Scalar.andi v125 v127
  let v114 : BitVec 32 := Scalar.divsi v113 c5_i32_97
  let c1_i32_103 : BitVec 32 := 1#32
  let v129 : BitVec 32 := Scalar.subi v114 c1_i32_103
  let v130 : BitVec 32 := Scalar.select v128 v129 v114
  let c5_i32_104 : BitVec 32 := 5#32
  let v131 : BitVec 32 := Scalar.muli v130 c5_i32_104
  let v132 : BitVec 32 := Scalar.subi v113 v131
  let c6144_i32 : BitVec 32 := 6144#32
  let v133 : BitVec 32 := Scalar.muli v132 c6144_i32
  let v134 : BitVec 32 := v133
  let c512_i32_105 : BitVec 32 := 512#32
  let v135 : BitVec 32 := Scalar.muli v130 c512_i32_105
  let v136 : BitVec 32 := v135
  ![v134.toNat, v136.toNat]
@[reducible] def k0_t1_loop : Scf.Loop 32 :=
  let c0_i32_62 : BitVec 32 := 0#32
  let c12_i32 : BitVec 32 := 12#32
  let v72 : BitVec 32 := Scalar.addi c0_i32_62 c12_i32
  let c1_i32_63 : BitVec 32 := 1#32
  ⟨c0_i32_62, v72, c1_i32_63⟩
def k0_cond8 (k0_t1 : Fin k0_t1_loop.trips) : BitVec 1 :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c0_i32_105 : BitVec 32 := 0#32
  let v122 : BitVec 1 := Scalar.cmpi .sge v120 c0_i32_105
  let c60_i32_106 : BitVec 32 := 60#32
  let v123 : BitVec 1 := Scalar.cmpi .slt v120 c60_i32_106
  let v124 : BitVec 1 := Scalar.andi v122 v123
  let v125 : BitVec 32 := Scalar.extui v124
  let c0_i32_107 : BitVec 32 := 0#32
  let v126 : BitVec 1 := Scalar.cmpi .ne v125 c0_i32_107
  v126

def k0_mult15 (k0_t1 : Fin k0_t1_loop.trips) : BitVec 32 :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c0_i32_235 : BitVec 32 := 0#32
  let v346 : BitVec 32 := Scalar.subi v120 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  v366
def k0_mult16 (k0_t1 : Fin k0_t1_loop.trips) : BitVec 32 :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c0_i32_235 : BitVec 32 := 0#32
  let v346 : BitVec 32 := Scalar.subi v120 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c512_i32_245 : BitVec 32 := 512#32
  let v368 : BitVec 32 := Scalar.muli v363 c512_i32_245
  v368
def k0_off22 (k0_t1 : Fin k0_t1_loop.trips) : Fin 1 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c8_i32_104 : BitVec 32 := 8#32
  let v121 : BitVec 32 := Scalar.remsi v120 c8_i32_104
  ![v121.toNat]
def k0_off23 (k0_t1 : Fin k0_t1_loop.trips) : Fin 3 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c8_i32_104 : BitVec 32 := 8#32
  let v121 : BitVec 32 := Scalar.remsi v120 c8_i32_104
  let c0_i32_246 : BitVec 32 := 0#32
  let c0_i32_247 : BitVec 32 := 0#32
  ![v121.toNat, 0, 0]
def k0_off24 (k0_t1 : Fin k0_t1_loop.trips) : Fin 2 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let c0_i32_100 : BitVec 32 := 0#32
  let v117 : BitVec 32 := Scalar.addi v116 c0_i32_100
  let c1_i32_102 : BitVec 32 := 1#32
  let v119 : BitVec 32 := Scalar.subi v117 c1_i32_102
  let c8_i32_103 : BitVec 32 := 8#32
  let v120 : BitVec 32 := Scalar.addi v119 c8_i32_103
  let c0_i32_235 : BitVec 32 := 0#32
  let v346 : BitVec 32 := Scalar.subi v120 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  let v367 : BitVec 32 := v366
  let c512_i32_245 : BitVec 32 := 512#32
  let v368 : BitVec 32 := Scalar.muli v363 c512_i32_245
  let v369 : BitVec 32 := v368
  ![v367.toNat, v369.toNat]
def k0_mult17 : BitVec 32 :=
  let c0_i32_108 : BitVec 32 := 0#32
  c0_i32_108
def k0_mult18 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_109 : BitVec 32 := 512#32
  let v128 : BitVec 32 := Scalar.muli v114 c512_i32_109
  v128
def k0_off25 (k0_t1 : Fin k0_t1_loop.trips) (c0_i32_100 : BitVec 32) : Fin 1 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let v117 : BitVec 32 := Scalar.addi v116 c0_i32_100
  let c8_i32_101 : BitVec 32 := 8#32
  let v118 : BitVec 32 := Scalar.remsi v117 c8_i32_101
  ![v118.toNat]
def k0_off26 (k0_t1 : Fin k0_t1_loop.trips) (c0_i32_100 : BitVec 32) : Fin 3 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let v117 : BitVec 32 := Scalar.addi v116 c0_i32_100
  let c8_i32_101 : BitVec 32 := 8#32
  let v118 : BitVec 32 := Scalar.remsi v117 c8_i32_101
  let c0_i32_110 : BitVec 32 := 0#32
  let c0_i32_111 : BitVec 32 := 0#32
  ![v118.toNat, 0, 0]
def k0_off27 (k0_t1 : Fin k0_t1_loop.trips) : Fin 2 → Nat :=
  let c0_i32_108 : BitVec 32 := 0#32
  let v127 : BitVec 32 := c0_i32_108
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_109 : BitVec 32 := 512#32
  let v128 : BitVec 32 := Scalar.muli v114 c512_i32_109
  let v129 : BitVec 32 := v128
  ![0, v129.toNat]
def k0_off28 (k0_t1 : Fin k0_t1_loop.trips) (c0_i32_100 : BitVec 32) : Fin 3 → Nat :=
  let c0_i32_99 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_98 : BitVec 32 := 5#32
  let v115 : BitVec 32 := Scalar.muli v114 c5_i32_98
  let v116 : BitVec 32 := Scalar.addi c0_i32_99 v115
  let v117 : BitVec 32 := Scalar.addi v116 c0_i32_100
  let c8_i32_101 : BitVec 32 := 8#32
  let v118 : BitVec 32 := Scalar.remsi v117 c8_i32_101
  let v136 : Index := Scalar.indexCast v118
  let c0_114 : Index := 0#32
  let c0_115 : Index := 0#32
  ![v136.toNat, 0, 0]
def k0_cond9 (k0_t1 : Fin k0_t1_loop.trips) : BitVec 1 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c1_i32_119 : BitVec 32 := 1#32
  let v143 : BitVec 1 := Scalar.cmpi .sge v114 c1_i32_119
  let v144 : BitVec 32 := Scalar.extui v143
  let c0_i32_120 : BitVec 32 := 0#32
  let v145 : BitVec 1 := Scalar.cmpi .ne v144 c0_i32_120
  v145

def k0_mult19 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c1_i32_235 : BitVec 32 := 1#32
  let v346 : BitVec 32 := Scalar.subi v114 c1_i32_235
  let c512_i32_237 : BitVec 32 := 512#32
  let v348 : BitVec 32 := Scalar.muli v346 c512_i32_237
  v348
def k0_off29 (k0_t1 : Fin k0_t1_loop.trips) : Fin 1 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c1_i32_235 : BitVec 32 := 1#32
  let v346 : BitVec 32 := Scalar.subi v114 c1_i32_235
  let c4_i32_236 : BitVec 32 := 4#32
  let v347 : BitVec 32 := Scalar.remsi v346 c4_i32_236
  ![v347.toNat]
def k0_off30 (k0_t1 : Fin k0_t1_loop.trips) : Fin 2 → Nat :=
  let c0_i32_238 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c1_i32_235 : BitVec 32 := 1#32
  let v346 : BitVec 32 := Scalar.subi v114 c1_i32_235
  let c512_i32_237 : BitVec 32 := 512#32
  let v348 : BitVec 32 := Scalar.muli v346 c512_i32_237
  let v349 : BitVec 32 := v348
  ![0, v349.toNat]
def k0_off31 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c1_i32_235 : BitVec 32 := 1#32
  let v346 : BitVec 32 := Scalar.subi v114 c1_i32_235
  let c4_i32_236 : BitVec 32 := 4#32
  let v347 : BitVec 32 := Scalar.remsi v346 c4_i32_236
  let c0_i32_239 : BitVec 32 := 0#32
  let c0_i32_240 : BitVec 32 := 0#32
  ![v347.toNat, 0, 0]
def k0_cond10 (k0_t1 : Fin k0_t1_loop.trips) : BitVec 1 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_121 : BitVec 32 := 4#32
  let v146 : BitVec 1 := Scalar.cmpi .sge v114 c4_i32_121
  let v147 : BitVec 32 := Scalar.extui v146
  let c0_i32_122 : BitVec 32 := 0#32
  let v148 : BitVec 1 := Scalar.cmpi .ne v147 c0_i32_122
  v148

def k0_mult20 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_235 : BitVec 32 := 4#32
  let v346 : BitVec 32 := Scalar.subi v114 c4_i32_235
  let c512_i32_237 : BitVec 32 := 512#32
  let v348 : BitVec 32 := Scalar.muli v346 c512_i32_237
  v348
def k0_off32 (k0_t1 : Fin k0_t1_loop.trips) : Fin 1 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_235 : BitVec 32 := 4#32
  let v346 : BitVec 32 := Scalar.subi v114 c4_i32_235
  let c4_i32_236 : BitVec 32 := 4#32
  let v347 : BitVec 32 := Scalar.remsi v346 c4_i32_236
  ![v347.toNat]
def k0_off33 (k0_t1 : Fin k0_t1_loop.trips) : Fin 2 → Nat :=
  let c0_i32_238 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_235 : BitVec 32 := 4#32
  let v346 : BitVec 32 := Scalar.subi v114 c4_i32_235
  let c512_i32_237 : BitVec 32 := 512#32
  let v348 : BitVec 32 := Scalar.muli v346 c512_i32_237
  let v349 : BitVec 32 := v348
  ![0, v349.toNat]
def k0_off34 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_235 : BitVec 32 := 4#32
  let v346 : BitVec 32 := Scalar.subi v114 c4_i32_235
  let c4_i32_236 : BitVec 32 := 4#32
  let v347 : BitVec 32 := Scalar.remsi v346 c4_i32_236
  let c0_i32_239 : BitVec 32 := 0#32
  let c0_i32_240 : BitVec 32 := 0#32
  ![v347.toNat, 0, 0]
def k0_cond11 (k0_t1 : Fin k0_t1_loop.trips) : BitVec 1 :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c0_i32_130 : BitVec 32 := 0#32
  let v156 : BitVec 1 := Scalar.cmpi .sge v154 c0_i32_130
  let c60_i32_131 : BitVec 32 := 60#32
  let v157 : BitVec 1 := Scalar.cmpi .slt v154 c60_i32_131
  let v158 : BitVec 1 := Scalar.andi v156 v157
  let v159 : BitVec 32 := Scalar.extui v158
  let c0_i32_132 : BitVec 32 := 0#32
  let v160 : BitVec 1 := Scalar.cmpi .ne v159 c0_i32_132
  v160

def k0_mult21 (k0_t1 : Fin k0_t1_loop.trips) : BitVec 32 :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c0_i32_235 : BitVec 32 := 0#32
  let v346 : BitVec 32 := Scalar.subi v154 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  v366
def k0_mult22 (k0_t1 : Fin k0_t1_loop.trips) : BitVec 32 :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c0_i32_235 : BitVec 32 := 0#32
  let v346 : BitVec 32 := Scalar.subi v154 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c512_i32_245 : BitVec 32 := 512#32
  let v368 : BitVec 32 := Scalar.muli v363 c512_i32_245
  v368
def k0_off35 (k0_t1 : Fin k0_t1_loop.trips) : Fin 1 → Nat :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c8_i32_129 : BitVec 32 := 8#32
  let v155 : BitVec 32 := Scalar.remsi v154 c8_i32_129
  ![v155.toNat]
def k0_off36 (k0_t1 : Fin k0_t1_loop.trips) : Fin 3 → Nat :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c8_i32_129 : BitVec 32 := 8#32
  let v155 : BitVec 32 := Scalar.remsi v154 c8_i32_129
  let c0_i32_246 : BitVec 32 := 0#32
  let c0_i32_247 : BitVec 32 := 0#32
  ![v155.toNat, 0, 0]
def k0_off37 (k0_t1 : Fin k0_t1_loop.trips) : Fin 2 → Nat :=
  let c0_i32_124 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_123 : BitVec 32 := 5#32
  let v149 : BitVec 32 := Scalar.muli v114 c5_i32_123
  let v150 : BitVec 32 := Scalar.addi c0_i32_124 v149
  let c1_i32_125 : BitVec 32 := 1#32
  let v151 : BitVec 32 := Scalar.addi v150 c1_i32_125
  let c1_i32_127 : BitVec 32 := 1#32
  let v153 : BitVec 32 := Scalar.subi v151 c1_i32_127
  let c8_i32_128 : BitVec 32 := 8#32
  let v154 : BitVec 32 := Scalar.addi v153 c8_i32_128
  let c0_i32_235 : BitVec 32 := 0#32
  let v346 : BitVec 32 := Scalar.subi v154 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  let v367 : BitVec 32 := v366
  let c512_i32_245 : BitVec 32 := 512#32
  let v368 : BitVec 32 := Scalar.muli v363 c512_i32_245
  let v369 : BitVec 32 := v368
  ![v367.toNat, v369.toNat]
def k0_mult23 : BitVec 32 :=
  let c6144_i32 : BitVec 32 := 6144#32
  c6144_i32
def k0_mult24 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_133 : BitVec 32 := 512#32
  let v162 : BitVec 32 := Scalar.muli v114 c512_i32_133
  v162
def k0_off38 (k0_t1 : Fin k0_t1_loop.trips) : Fin 2 → Nat :=
  let c6144_i32 : BitVec 32 := 6144#32
  let v161 : BitVec 32 := c6144_i32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_133 : BitVec 32 := 512#32
  let v162 : BitVec 32 := Scalar.muli v114 c512_i32_133
  let v163 : BitVec 32 := v162
  ![6144, v163.toNat]
def k0_cond12 (k0_t1 : Fin k0_t1_loop.trips) : BitVec 1 :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c0_i32_151 : BitVec 32 := 0#32
  let v186 : BitVec 1 := Scalar.cmpi .sge v184 c0_i32_151
  let c60_i32_152 : BitVec 32 := 60#32
  let v187 : BitVec 1 := Scalar.cmpi .slt v184 c60_i32_152
  let v188 : BitVec 1 := Scalar.andi v186 v187
  let v189 : BitVec 32 := Scalar.extui v188
  let c0_i32_153 : BitVec 32 := 0#32
  let v190 : BitVec 1 := Scalar.cmpi .ne v189 c0_i32_153
  v190

def k0_mult25 (k0_t1 : Fin k0_t1_loop.trips) : BitVec 32 :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c0_i32_235 : BitVec 32 := 0#32
  let v346 : BitVec 32 := Scalar.subi v184 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  v366
def k0_mult26 (k0_t1 : Fin k0_t1_loop.trips) : BitVec 32 :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c0_i32_235 : BitVec 32 := 0#32
  let v346 : BitVec 32 := Scalar.subi v184 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c512_i32_245 : BitVec 32 := 512#32
  let v368 : BitVec 32 := Scalar.muli v363 c512_i32_245
  v368
def k0_off39 (k0_t1 : Fin k0_t1_loop.trips) : Fin 1 → Nat :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c8_i32_150 : BitVec 32 := 8#32
  let v185 : BitVec 32 := Scalar.remsi v184 c8_i32_150
  ![v185.toNat]
def k0_off40 (k0_t1 : Fin k0_t1_loop.trips) : Fin 3 → Nat :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c8_i32_150 : BitVec 32 := 8#32
  let v185 : BitVec 32 := Scalar.remsi v184 c8_i32_150
  let c0_i32_246 : BitVec 32 := 0#32
  let c0_i32_247 : BitVec 32 := 0#32
  ![v185.toNat, 0, 0]
def k0_off41 (k0_t1 : Fin k0_t1_loop.trips) : Fin 2 → Nat :=
  let c0_i32_145 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_144 : BitVec 32 := 5#32
  let v179 : BitVec 32 := Scalar.muli v114 c5_i32_144
  let v180 : BitVec 32 := Scalar.addi c0_i32_145 v179
  let c2_i32_146 : BitVec 32 := 2#32
  let v181 : BitVec 32 := Scalar.addi v180 c2_i32_146
  let c1_i32_148 : BitVec 32 := 1#32
  let v183 : BitVec 32 := Scalar.subi v181 c1_i32_148
  let c8_i32_149 : BitVec 32 := 8#32
  let v184 : BitVec 32 := Scalar.addi v183 c8_i32_149
  let c0_i32_235 : BitVec 32 := 0#32
  let v346 : BitVec 32 := Scalar.subi v184 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  let v367 : BitVec 32 := v366
  let c512_i32_245 : BitVec 32 := 512#32
  let v368 : BitVec 32 := Scalar.muli v363 c512_i32_245
  let v369 : BitVec 32 := v368
  ![v367.toNat, v369.toNat]
def k0_mult27 : BitVec 32 :=
  let c12288_i32 : BitVec 32 := 12288#32
  c12288_i32
def k0_mult28 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_154 : BitVec 32 := 512#32
  let v192 : BitVec 32 := Scalar.muli v114 c512_i32_154
  v192
def k0_off42 (k0_t1 : Fin k0_t1_loop.trips) : Fin 2 → Nat :=
  let c12288_i32 : BitVec 32 := 12288#32
  let v191 : BitVec 32 := c12288_i32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_154 : BitVec 32 := 512#32
  let v192 : BitVec 32 := Scalar.muli v114 c512_i32_154
  let v193 : BitVec 32 := v192
  ![12288, v193.toNat]
def k0_cond13 (k0_t1 : Fin k0_t1_loop.trips) : BitVec 1 :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c0_i32_172 : BitVec 32 := 0#32
  let v216 : BitVec 1 := Scalar.cmpi .sge v214 c0_i32_172
  let c60_i32_173 : BitVec 32 := 60#32
  let v217 : BitVec 1 := Scalar.cmpi .slt v214 c60_i32_173
  let v218 : BitVec 1 := Scalar.andi v216 v217
  let v219 : BitVec 32 := Scalar.extui v218
  let c0_i32_174 : BitVec 32 := 0#32
  let v220 : BitVec 1 := Scalar.cmpi .ne v219 c0_i32_174
  v220

def k0_mult29 (k0_t1 : Fin k0_t1_loop.trips) : BitVec 32 :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c0_i32_235 : BitVec 32 := 0#32
  let v346 : BitVec 32 := Scalar.subi v214 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  v366
def k0_mult30 (k0_t1 : Fin k0_t1_loop.trips) : BitVec 32 :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c0_i32_235 : BitVec 32 := 0#32
  let v346 : BitVec 32 := Scalar.subi v214 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c512_i32_245 : BitVec 32 := 512#32
  let v368 : BitVec 32 := Scalar.muli v363 c512_i32_245
  v368
def k0_off43 (k0_t1 : Fin k0_t1_loop.trips) : Fin 1 → Nat :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c8_i32_171 : BitVec 32 := 8#32
  let v215 : BitVec 32 := Scalar.remsi v214 c8_i32_171
  ![v215.toNat]
def k0_off44 (k0_t1 : Fin k0_t1_loop.trips) : Fin 3 → Nat :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c8_i32_171 : BitVec 32 := 8#32
  let v215 : BitVec 32 := Scalar.remsi v214 c8_i32_171
  let c0_i32_246 : BitVec 32 := 0#32
  let c0_i32_247 : BitVec 32 := 0#32
  ![v215.toNat, 0, 0]
def k0_off45 (k0_t1 : Fin k0_t1_loop.trips) : Fin 2 → Nat :=
  let c0_i32_166 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_165 : BitVec 32 := 5#32
  let v209 : BitVec 32 := Scalar.muli v114 c5_i32_165
  let v210 : BitVec 32 := Scalar.addi c0_i32_166 v209
  let c3_i32_167 : BitVec 32 := 3#32
  let v211 : BitVec 32 := Scalar.addi v210 c3_i32_167
  let c1_i32_169 : BitVec 32 := 1#32
  let v213 : BitVec 32 := Scalar.subi v211 c1_i32_169
  let c8_i32_170 : BitVec 32 := 8#32
  let v214 : BitVec 32 := Scalar.addi v213 c8_i32_170
  let c0_i32_235 : BitVec 32 := 0#32
  let v346 : BitVec 32 := Scalar.subi v214 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  let v367 : BitVec 32 := v366
  let c512_i32_245 : BitVec 32 := 512#32
  let v368 : BitVec 32 := Scalar.muli v363 c512_i32_245
  let v369 : BitVec 32 := v368
  ![v367.toNat, v369.toNat]
def k0_mult31 : BitVec 32 :=
  let c18432_i32 : BitVec 32 := 18432#32
  c18432_i32
def k0_mult32 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_175 : BitVec 32 := 512#32
  let v222 : BitVec 32 := Scalar.muli v114 c512_i32_175
  v222
def k0_off46 (k0_t1 : Fin k0_t1_loop.trips) : Fin 2 → Nat :=
  let c18432_i32 : BitVec 32 := 18432#32
  let v221 : BitVec 32 := c18432_i32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_175 : BitVec 32 := 512#32
  let v222 : BitVec 32 := Scalar.muli v114 c512_i32_175
  let v223 : BitVec 32 := v222
  ![18432, v223.toNat]
def k0_cond14 (k0_t1 : Fin k0_t1_loop.trips) : BitVec 1 :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c0_i32_193 : BitVec 32 := 0#32
  let v246 : BitVec 1 := Scalar.cmpi .sge v244 c0_i32_193
  let c60_i32_194 : BitVec 32 := 60#32
  let v247 : BitVec 1 := Scalar.cmpi .slt v244 c60_i32_194
  let v248 : BitVec 1 := Scalar.andi v246 v247
  let v249 : BitVec 32 := Scalar.extui v248
  let c0_i32_195 : BitVec 32 := 0#32
  let v250 : BitVec 1 := Scalar.cmpi .ne v249 c0_i32_195
  v250

def k0_mult33 (k0_t1 : Fin k0_t1_loop.trips) : BitVec 32 :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c0_i32_235 : BitVec 32 := 0#32
  let v346 : BitVec 32 := Scalar.subi v244 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  v366
def k0_mult34 (k0_t1 : Fin k0_t1_loop.trips) : BitVec 32 :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c0_i32_235 : BitVec 32 := 0#32
  let v346 : BitVec 32 := Scalar.subi v244 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c512_i32_245 : BitVec 32 := 512#32
  let v368 : BitVec 32 := Scalar.muli v363 c512_i32_245
  v368
def k0_off47 (k0_t1 : Fin k0_t1_loop.trips) : Fin 1 → Nat :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c8_i32_192 : BitVec 32 := 8#32
  let v245 : BitVec 32 := Scalar.remsi v244 c8_i32_192
  ![v245.toNat]
def k0_off48 (k0_t1 : Fin k0_t1_loop.trips) : Fin 3 → Nat :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c8_i32_192 : BitVec 32 := 8#32
  let v245 : BitVec 32 := Scalar.remsi v244 c8_i32_192
  let c0_i32_246 : BitVec 32 := 0#32
  let c0_i32_247 : BitVec 32 := 0#32
  ![v245.toNat, 0, 0]
def k0_off49 (k0_t1 : Fin k0_t1_loop.trips) : Fin 2 → Nat :=
  let c0_i32_187 : BitVec 32 := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c5_i32_186 : BitVec 32 := 5#32
  let v239 : BitVec 32 := Scalar.muli v114 c5_i32_186
  let v240 : BitVec 32 := Scalar.addi c0_i32_187 v239
  let c4_i32_188 : BitVec 32 := 4#32
  let v241 : BitVec 32 := Scalar.addi v240 c4_i32_188
  let c1_i32_190 : BitVec 32 := 1#32
  let v243 : BitVec 32 := Scalar.subi v241 c1_i32_190
  let c8_i32_191 : BitVec 32 := 8#32
  let v244 : BitVec 32 := Scalar.addi v243 c8_i32_191
  let c0_i32_235 : BitVec 32 := 0#32
  let v346 : BitVec 32 := Scalar.subi v244 c0_i32_235
  let c0_i32_237 : BitVec 32 := 0#32
  let v348 : BitVec 1 := Scalar.cmpi .sgt v346 c0_i32_237
  let v349 : BitVec 32 := Scalar.extui v348
  let c0_i32_238 : BitVec 32 := 0#32
  let v350 : BitVec 1 := Scalar.cmpi .slt v346 c0_i32_238
  let v351 : BitVec 32 := Scalar.extui v350
  let v352 : BitVec 32 := Scalar.subi v349 v351
  let c5_i32_236 : BitVec 32 := 5#32
  let c0_i32_239 : BitVec 32 := 0#32
  let v353 : BitVec 1 := Scalar.cmpi .sgt c5_i32_236 c0_i32_239
  let v354 : BitVec 32 := Scalar.extui v353
  let c0_i32_240 : BitVec 32 := 0#32
  let v355 : BitVec 1 := Scalar.cmpi .slt c5_i32_236 c0_i32_240
  let v356 : BitVec 32 := Scalar.extui v355
  let v357 : BitVec 32 := Scalar.subi v354 v356
  let v358 : BitVec 1 := Scalar.cmpi .ne v352 v357
  let v359 : BitVec 32 := Scalar.remsi v346 c5_i32_236
  let c0_i32_241 : BitVec 32 := 0#32
  let v360 : BitVec 1 := Scalar.cmpi .ne v359 c0_i32_241
  let v361 : BitVec 1 := Scalar.andi v358 v360
  let v347 : BitVec 32 := Scalar.divsi v346 c5_i32_236
  let c1_i32_242 : BitVec 32 := 1#32
  let v362 : BitVec 32 := Scalar.subi v347 c1_i32_242
  let v363 : BitVec 32 := Scalar.select v361 v362 v347
  let c5_i32_243 : BitVec 32 := 5#32
  let v364 : BitVec 32 := Scalar.muli v363 c5_i32_243
  let v365 : BitVec 32 := Scalar.subi v346 v364
  let c6144_i32_244 : BitVec 32 := 6144#32
  let v366 : BitVec 32 := Scalar.muli v365 c6144_i32_244
  let v367 : BitVec 32 := v366
  let c512_i32_245 : BitVec 32 := 512#32
  let v368 : BitVec 32 := Scalar.muli v363 c512_i32_245
  let v369 : BitVec 32 := v368
  ![v367.toNat, v369.toNat]
def k0_mult35 : BitVec 32 :=
  let c24576_i32 : BitVec 32 := 24576#32
  c24576_i32
def k0_mult36 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_196 : BitVec 32 := 512#32
  let v252 : BitVec 32 := Scalar.muli v114 c512_i32_196
  v252
def k0_off50 (k0_t1 : Fin k0_t1_loop.trips) : Fin 2 → Nat :=
  let c24576_i32 : BitVec 32 := 24576#32
  let v251 : BitVec 32 := c24576_i32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_196 : BitVec 32 := 512#32
  let v252 : BitVec 32 := Scalar.muli v114 c512_i32_196
  let v253 : BitVec 32 := v252
  ![24576, v253.toNat]
def k0_mult37 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_205 : BitVec 32 := 512#32
  let v266 : BitVec 32 := Scalar.muli v114 c512_i32_205
  let c0_i32_206 : BitVec 32 := 0#32
  let v267 : BitVec 32 := Scalar.addi v266 c0_i32_206
  v267
def k0_off51 (k0_t1 : Fin k0_t1_loop.trips) (c0_i32_206 : BitVec 32) : Fin 2 → Nat :=
  let c0_207 : Index := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_205 : BitVec 32 := 512#32
  let v266 : BitVec 32 := Scalar.muli v114 c512_i32_205
  let v267 : BitVec 32 := Scalar.addi v266 c0_i32_206
  let v268 : BitVec 32 := v267
  let v269 : Index := Scalar.indexCast v268
  ![0, v269.toNat]
def k0_off52 (k0_t1 : Fin k0_t1_loop.trips) (c0_i32_206 : BitVec 32) : Fin 2 → Nat :=
  let c0_210 : Index := 0#32
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_205 : BitVec 32 := 512#32
  let v266 : BitVec 32 := Scalar.muli v114 c512_i32_205
  let v267 : BitVec 32 := Scalar.addi v266 c0_i32_206
  let v268 : BitVec 32 := v267
  let v275 : Index := Scalar.indexCast v268
  ![0, v275.toNat]
def k0_off53 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_211 : BitVec 32 := 4#32
  let v281 : BitVec 32 := Scalar.remsi v114 c4_i32_211
  let v282 : Index := Scalar.indexCast v281
  let c0_212 : Index := 0#32
  let c0_213 : Index := 0#32
  ![v282.toNat, 0, 0]
def k0_mult38 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_214 : BitVec 32 := 512#32
  let v286 : BitVec 32 := Scalar.muli v114 c512_i32_214
  let c128_i32 : BitVec 32 := 128#32
  let v287 : BitVec 32 := Scalar.addi v286 c128_i32
  v287
def k0_off54 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_219 : BitVec 32 := 4#32
  let v301 : BitVec 32 := Scalar.remsi v114 c4_i32_219
  let v302 : Index := Scalar.indexCast v301
  let c0_220 : Index := 0#32
  let c128 : Index := 128#32
  ![v302.toNat, 0, 128]
def k0_mult39 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_221 : BitVec 32 := 512#32
  let v306 : BitVec 32 := Scalar.muli v114 c512_i32_221
  let c256_i32 : BitVec 32 := 256#32
  let v307 : BitVec 32 := Scalar.addi v306 c256_i32
  v307
def k0_off55 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_226 : BitVec 32 := 4#32
  let v321 : BitVec 32 := Scalar.remsi v114 c4_i32_226
  let v322 : Index := Scalar.indexCast v321
  let c0_227 : Index := 0#32
  let c256 : Index := 256#32
  ![v322.toNat, 0, 256]
def k0_mult40 (k0_t1 : Fin k0_t1_loop.trips) : BitVec 32 :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c512_i32_228 : BitVec 32 := 512#32
  let v326 : BitVec 32 := Scalar.muli v114 c512_i32_228
  let c384_i32 : BitVec 32 := 384#32
  let v327 : BitVec 32 := Scalar.addi v326 c384_i32
  v327
def k0_off56 (k0_t1 : Fin k0_t1_loop.trips) : Fin 3 → Nat :=
  let c0_i32_97 : BitVec 32 := 0#32
  let c0_i32_62 : BitVec 32 := 0#32
  let c1_i32_63 : BitVec 32 := 1#32
  let arg18 : BitVec 32 := Scf.iv c0_i32_62 c1_i32_63 k0_t1
  let c1_i32_96 : BitVec 32 := 1#32
  let v113 : BitVec 32 := Scalar.muli arg18 c1_i32_96
  let v114 : BitVec 32 := Scalar.addi c0_i32_97 v113
  let c4_i32_233 : BitVec 32 := 4#32
  let v341 : BitVec 32 := Scalar.remsi v114 c4_i32_233
  let v342 : Index := Scalar.indexCast v341
  let c0_234 : Index := 0#32
  let c384 : Index := 384#32
  ![v342.toNat, 0, 384]
def k0_mult41 : BitVec 32 :=
  let c11_i32_66 : BitVec 32 := 11#32
  let c512_i32 : BitVec 32 := 512#32
  let v74 : BitVec 32 := Scalar.muli c11_i32_66 c512_i32
  v74
def k0_off57 (c11_i32 : BitVec 32) : Fin 1 → Nat :=
  let c4_i32_65 : BitVec 32 := 4#32
  let v73 : BitVec 32 := Scalar.remsi c11_i32 c4_i32_65
  ![v73.toNat]
def k0_off58 (c11_i32_66 : BitVec 32) : Fin 2 → Nat :=
  let c0_i32_67 : BitVec 32 := 0#32
  let c512_i32 : BitVec 32 := 512#32
  let v74 : BitVec 32 := Scalar.muli c11_i32_66 c512_i32
  let v75 : BitVec 32 := v74
  ![0, v75.toNat]
def k0_off59 (c11_i32 : BitVec 32) : Fin 3 → Nat :=
  let c4_i32_65 : BitVec 32 := 4#32
  let v73 : BitVec 32 := Scalar.remsi c11_i32 c4_i32_65
  let c0_i32_68 : BitVec 32 := 0#32
  let c0_i32_69 : BitVec 32 := 0#32
  ![v73.toNat, 0, 0]
def k0_mult42 : BitVec 32 :=
  let c8_i32_72 : BitVec 32 := 8#32
  let c512_i32_73 : BitVec 32 := 512#32
  let v82 : BitVec 32 := Scalar.muli c8_i32_72 c512_i32_73
  v82
def k0_mult43 : BitVec 32 :=
  let c9_i32_78 : BitVec 32 := 9#32
  let c512_i32_79 : BitVec 32 := 512#32
  let v90 : BitVec 32 := Scalar.muli c9_i32_78 c512_i32_79
  v90
def k0_mult44 : BitVec 32 :=
  let c10_i32_84 : BitVec 32 := 10#32
  let c512_i32_85 : BitVec 32 := 512#32
  let v98 : BitVec 32 := Scalar.muli c10_i32_84 c512_i32_85
  v98
def k0_mult45 : BitVec 32 :=
  let c11_i32_91 : BitVec 32 := 11#32
  let c512_i32_92 : BitVec 32 := 512#32
  let v106 : BitVec 32 := Scalar.muli c11_i32_91 c512_i32_92
  v106
-- ==== ReferenceIdeal.lean ====
abbrev S112x1x6144 : Shape := ⟨3, ![112, 1, 6144]⟩
abbrev S112x1x30720 : Shape := ⟨3, ![112, 1, 30720]⟩
abbrev S112x1 : Shape := ⟨2, ![112, 1]⟩
abbrev S30720x6144 : Shape := ⟨2, ![30720, 6144]⟩
abbrev S6144 : Shape := ⟨1, ![6144]⟩
abbrev S112x6144 : Shape := ⟨2, ![112, 6144]⟩
abbrev S112x30720 : Shape := ⟨2, ![112, 30720]⟩
abbrev S1x6144 : Shape := ⟨2, ![1, 6144]⟩

abbrev nBuf : Space → Nat
  | .hbm => 9
  | .vmem => 6
  | .smem => 0
  | _ => 0

abbrev bufTy : (tb : Table) → Fin (tcTables nBuf tb) → BufTy
  | .hbm, ⟨0, _⟩ => ⟨S112x1x6144, .bf16⟩
  | .hbm, ⟨1, _⟩ => ⟨S112x1x30720, .fp8e4m3⟩
  | .hbm, ⟨2, _⟩ => ⟨S112x1, .f32⟩
  | .hbm, ⟨3, _⟩ => ⟨S30720x6144, .fp8e4m3⟩
  | .hbm, ⟨4, _⟩ => ⟨S6144, .f32⟩
  | .hbm, ⟨5, _⟩ => ⟨S112x6144, .bf16⟩
  | .hbm, ⟨6, _⟩ => ⟨S112x30720, .fp8e4m3⟩
  | .hbm, ⟨7, _⟩ => ⟨S1x6144, .f32⟩
  | .hbm, ⟨8, _⟩ => ⟨S112x6144, .bf16⟩
  | .local _ .vmem, ⟨0, _⟩ => ⟨S112x6144, .bf16⟩
  | .local _ .vmem, ⟨1, _⟩ => ⟨S112x30720, .fp8e4m3⟩
  | .local _ .vmem, ⟨2, _⟩ => ⟨S112x1, .f32⟩
  | .local _ .vmem, ⟨3, _⟩ => ⟨S30720x6144, .fp8e4m3⟩
  | .local _ .vmem, ⟨4, _⟩ => ⟨S1x6144, .f32⟩
  | .local _ .vmem, ⟨5, _⟩ => ⟨S112x6144, .bf16⟩
  | _, _ => ⟨S112x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S112x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x30720 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30720x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proj.lean ====
abbrev S112x1x6144 : Shape := ⟨3, ![112, 1, 6144]⟩
abbrev S112x1 : Shape := ⟨2, ![112, 1]⟩
abbrev S6144x55552 : Shape := ⟨2, ![6144, 55552]⟩
abbrev S55552 : Shape := ⟨1, ![55552]⟩
abbrev S112x6144 : Shape := ⟨2, ![112, 6144]⟩
abbrev S1x55552 : Shape := ⟨2, ![1, 55552]⟩
abbrev S112x49152 : Shape := ⟨2, ![112, 49152]⟩
abbrev S8x6144x512 : Shape := ⟨3, ![8, 6144, 512]⟩
abbrev S128x6144 : Shape := ⟨2, ![128, 6144]⟩
abbrev S4x112x512 : Shape := ⟨3, ![4, 112, 512]⟩
abbrev S112x128 : Shape := ⟨2, ![112, 128]⟩
abbrev S8 : Shape := ⟨1, ![8]⟩
abbrev S3 : Shape := ⟨1, ![3]⟩
abbrev S4 : Shape := ⟨1, ![4]⟩
abbrev S1 : Shape := ⟨1, ![1]⟩
abbrev S_ : Shape := ⟨0, ![]⟩
abbrev S1x6144x256 : Shape := ⟨3, ![1, 6144, 256]⟩
abbrev S6144x256 : Shape := ⟨2, ![6144, 256]⟩
abbrev S16x6144 : Shape := ⟨2, ![16, 6144]⟩
abbrev S112x256 : Shape := ⟨2, ![112, 256]⟩
abbrev S1x112x256 : Shape := ⟨3, ![1, 112, 256]⟩
abbrev S1x6144x512 : Shape := ⟨3, ![1, 6144, 512]⟩
abbrev S6144x512 : Shape := ⟨2, ![6144, 512]⟩
abbrev S128x512 : Shape := ⟨2, ![128, 512]⟩
abbrev S1x128 : Shape := ⟨2, ![1, 128]⟩
abbrev S1x112x128 : Shape := ⟨3, ![1, 112, 128]⟩

abbrev nBuf : Space → Nat
  | .hbm => 7
  | .vmem => 7
  | .smem => 0
  | _ => 0

abbrev bufTy : (tb : Table) → Fin (tcTables nBuf tb) → BufTy
  | .hbm, ⟨0, _⟩ => ⟨S112x1x6144, .fp8e4m3⟩
  | .hbm, ⟨1, _⟩ => ⟨S112x1, .f32⟩
  | .hbm, ⟨2, _⟩ => ⟨S6144x55552, .fp8e4m3⟩
  | .hbm, ⟨3, _⟩ => ⟨S55552, .f32⟩
  | .hbm, ⟨4, _⟩ => ⟨S112x6144, .fp8e4m3⟩
  | .hbm, ⟨5, _⟩ => ⟨S1x55552, .f32⟩
  | .hbm, ⟨6, _⟩ => ⟨S112x49152, .bf16⟩
  | .local _ .vmem, ⟨0, _⟩ => ⟨S8x6144x512, .fp8e4m3⟩
  | .local _ .vmem, ⟨1, _⟩ => ⟨S112x6144, .fp8e4m3⟩
  | .local _ .vmem, ⟨2, _⟩ => ⟨S112x1, .f32⟩
  | .local _ .vmem, ⟨3, _⟩ => ⟨S1x55552, .f32⟩
  | .local _ .vmem, ⟨4, _⟩ => ⟨S128x6144, .fp8e4m3⟩
  | .local _ .vmem, ⟨5, _⟩ => ⟨S4x112x512, .bf16⟩
  | .local _ .vmem, ⟨6, _⟩ => ⟨S112x128, .f32⟩
  | _, _ => ⟨S112x1x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

def k0_cond1 : BitVec 1 :=
  let c0_i32_1 : BitVec 32 := 0#32
  let c0_i32_2 : BitVec 32 := 0#32
  let v7 : BitVec 1 := Scalar.cmpi .sge c0_i32_1 c0_i32_2
  let c0_i32_3 : BitVec 32 := 0#32
  let c96_i32 : BitVec 32 := 96#32
  let v8 : BitVec 1 := Scalar.cmpi .slt c0_i32_3 c96_i32
  let v9 : BitVec 1 := Scalar.andi v7 v8
  let v10 : BitVec 32 := Scalar.extui v9
  let c0_i32_5 : BitVec 32 := 0#32
  let v11 : BitVec 1 := Scalar.cmpi .ne v10 c0_i32_5
  v11

def k0_mult1 : BitVec 32 :=
  let c6400_i32 : BitVec 32 := 6400#32
  let c0_i32_4 : BitVec 32 := 0#32
  let c0_i32_123 : BitVec 32 := 0#32
  let v154 : BitVec 32 := Scalar.subi c0_i32_4 c0_i32_123
  let c256_i32_124 : BitVec 32 := 256#32
  let v155 : BitVec 32 := Scalar.muli v154 c256_i32_124
  let v156 : BitVec 32 := Scalar.addi c6400_i32 v155
  v156
def k0_off1 : Fin 1 → Nat :=
  let c0_i32_0 : BitVec 32 := 0#32
  let c8_i32 : BitVec 32 := 8#32
  let v6 : BitVec 32 := Scalar.remsi c0_i32_0 c8_i32
  ![v6.toNat]
def k0_off2 : Fin 3 → Nat :=
  let c0_i32_0 : BitVec 32 := 0#32
  let c8_i32 : BitVec 32 := 8#32
  let v6 : BitVec 32 := Scalar.remsi c0_i32_0 c8_i32
  let c0_i32_125 : BitVec 32 := 0#32
  let c0_i32_126 : BitVec 32 := 0#32
  ![v6.toNat, 0, 0]
def k0_off3 (c6400_i32 : BitVec 32) : Fin 2 → Nat :=
  let c0_i32_127 : BitVec 32 := 0#32
  let c0_i32_4 : BitVec 32 := 0#32
  let c0_i32_123 : BitVec 32 := 0#32
  let v154 : BitVec 32 := Scalar.subi c0_i32_4 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult2 : BitVec 32 :=
  let c30976_i32 : BitVec 32 := 30976#32
  let c0_i32_4 : BitVec 32 := 0#32
  let c0_i32_123 : BitVec 32 := 0#32
  let v154 : BitVec 32 := Scalar.subi c0_i32_4 c0_i32_123
  let c256_i32_128 : BitVec 32 := 256#32
  let v163 : BitVec 32 := Scalar.muli v154 c256_i32_128
  let v164 : BitVec 32 := Scalar.addi c30976_i32 v163
  v164
def k0_off4 : Fin 3 → Nat :=
  let c0_i32_0 : BitVec 32 := 0#32
  let c8_i32 : BitVec 32 := 8#32
  let v6 : BitVec 32 := Scalar.remsi c0_i32_0 c8_i32
  let c0_i32_129 : BitVec 32 := 0#32
  let c256_i32_130 : BitVec 32 := 256#32
  ![v6.toNat, 0, 256]
def k0_cond2 : BitVec 1 :=
  let c1_i32_8 : BitVec 32 := 1#32
  let c0_i32_9 : BitVec 32 := 0#32
  let v13 : BitVec 1 := Scalar.cmpi .sge c1_i32_8 c0_i32_9
  let c1_i32_10 : BitVec 32 := 1#32
  let c96_i32_11 : BitVec 32 := 96#32
  let v14 : BitVec 1 := Scalar.cmpi .slt c1_i32_10 c96_i32_11
  let v15 : BitVec 1 := Scalar.andi v13 v14
  let v16 : BitVec 32 := Scalar.extui v15
  let c0_i32_13 : BitVec 32 := 0#32
  let v17 : BitVec 1 := Scalar.cmpi .ne v16 c0_i32_13
  v17

def k0_mult3 : BitVec 32 :=
  let c6400_i32 : BitVec 32 := 6400#32
  let c1_i32_12 : BitVec 32 := 1#32
  let c0_i32_123 : BitVec 32 := 0#32
  let v154 : BitVec 32 := Scalar.subi c1_i32_12 c0_i32_123
  let c256_i32_124 : BitVec 32 := 256#32
  let v155 : BitVec 32 := Scalar.muli v154 c256_i32_124
  let v156 : BitVec 32 := Scalar.addi c6400_i32 v155
  v156
def k0_off5 : Fin 1 → Nat :=
  let c1_i32_6 : BitVec 32 := 1#32
  let c8_i32_7 : BitVec 32 := 8#32
  let v12 : BitVec 32 := Scalar.remsi c1_i32_6 c8_i32_7
  ![v12.toNat]
def k0_off6 : Fin 3 → Nat :=
  let c1_i32_6 : BitVec 32 := 1#32
  let c8_i32_7 : BitVec 32 := 8#32
  let v12 : BitVec 32 := Scalar.remsi c1_i32_6 c8_i32_7
  let c0_i32_125 : BitVec 32 := 0#32
  let c0_i32_126 : BitVec 32 := 0#32
  ![v12.toNat, 0, 0]
def k0_off7 (c6400_i32 : BitVec 32) : Fin 2 → Nat :=
  let c0_i32_127 : BitVec 32 := 0#32
  let c1_i32_12 : BitVec 32 := 1#32
  let c0_i32_123 : BitVec 32 := 0#32
  let v154 : BitVec 32 := Scalar.subi c1_i32_12 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult4 : BitVec 32 :=
  let c30976_i32 : BitVec 32 := 30976#32
  let c1_i32_12 : BitVec 32 := 1#32
  let c0_i32_123 : BitVec 32 := 0#32
  let v154 : BitVec 32 := Scalar.subi c1_i32_12 c0_i32_123
  let c256_i32_128 : BitVec 32 := 256#32
  let v163 : BitVec 32 := Scalar.muli v154 c256_i32_128
  let v164 : BitVec 32 := Scalar.addi c30976_i32 v163
  v164
def k0_off8 : Fin 3 → Nat :=
  let c1_i32_6 : BitVec 32 := 1#32
  let c8_i32_7 : BitVec 32 := 8#32
  let v12 : BitVec 32 := Scalar.remsi c1_i32_6 c8_i32_7
  let c0_i32_129 : BitVec 32 := 0#32
  let c256_i32_130 : BitVec 32 := 256#32
  ![v12.toNat, 0, 256]
def k0_cond3 : BitVec 1 :=
  let c2_i32_16 : BitVec 32 := 2#32
  let c0_i32_17 : BitVec 32 := 0#32
  let v19 : BitVec 1 := Scalar.cmpi .sge c2_i32_16 c0_i32_17
  let c2_i32_18 : BitVec 32 := 2#32
  let c96_i32_19 : BitVec 32 := 96#32
  let v20 : BitVec 1 := Scalar.cmpi .slt c2_i32_18 c96_i32_19
  let v21 : BitVec 1 := Scalar.andi v19 v20
  let v22 : BitVec 32 := Scalar.extui v21
  let c0_i32_21 : BitVec 32 := 0#32
  let v23 : BitVec 1 := Scalar.cmpi .ne v22 c0_i32_21
  v23

def k0_mult5 : BitVec 32 :=
  let c6400_i32 : BitVec 32 := 6400#32
  let c2_i32_20 : BitVec 32 := 2#32
  let c0_i32_123 : BitVec 32 := 0#32
  let v154 : BitVec 32 := Scalar.subi c2_i32_20 c0_i32_123
  let c256_i32_124 : BitVec 32 := 256#32
  let v155 : BitVec 32 := Scalar.muli v154 c256_i32_124
  let v156 : BitVec 32 := Scalar.addi c6400_i32 v155
  v156
def k0_off9 : Fin 1 → Nat :=
  let c2_i32_14 : BitVec 32 := 2#32
  let c8_i32_15 : BitVec 32 := 8#32
  let v18 : BitVec 32 := Scalar.remsi c2_i32_14 c8_i32_15
  ![v18.toNat]
def k0_off10 : Fin 3 → Nat :=
  let c2_i32_14 : BitVec 32 := 2#32
  let c8_i32_15 : BitVec 32 := 8#32
  let v18 : BitVec 32 := Scalar.remsi c2_i32_14 c8_i32_15
  let c0_i32_125 : BitVec 32 := 0#32
  let c0_i32_126 : BitVec 32 := 0#32
  ![v18.toNat, 0, 0]
def k0_off11 (c6400_i32 : BitVec 32) : Fin 2 → Nat :=
  let c0_i32_127 : BitVec 32 := 0#32
  let c2_i32_20 : BitVec 32 := 2#32
  let c0_i32_123 : BitVec 32 := 0#32
  let v154 : BitVec 32 := Scalar.subi c2_i32_20 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult6 : BitVec 32 :=
  let c30976_i32 : BitVec 32 := 30976#32
  let c2_i32_20 : BitVec 32 := 2#32
  let c0_i32_123 : BitVec 32 := 0#32
  let v154 : BitVec 32 := Scalar.subi c2_i32_20 c0_i32_123
  let c256_i32_128 : BitVec 32 := 256#32
  let v163 : BitVec 32 := Scalar.muli v154 c256_i32_128
  let v164 : BitVec 32 := Scalar.addi c30976_i32 v163
  v164
def k0_off12 : Fin 3 → Nat :=
  let c2_i32_14 : BitVec 32 := 2#32
  let c8_i32_15 : BitVec 32 := 8#32
  let v18 : BitVec 32 := Scalar.remsi c2_i32_14 c8_i32_15
  let c0_i32_129 : BitVec 32 := 0#32
  let c256_i32_130 : BitVec 32 := 256#32
  ![v18.toNat, 0, 256]
def k0_cond4 : BitVec 1 :=
  let c3_i32_23 : BitVec 32 := 3#32
  let c0_i32_24 : BitVec 32 := 0#32
  let v25 : BitVec 1 := Scalar.cmpi .sge c3_i32_23 c0_i32_24
  let c3_i32_25 : BitVec 32 := 3#32
  let c96_i32_26 : BitVec 32 := 96#32
  let v26 : BitVec 1 := Scalar.cmpi .slt c3_i32_25 c96_i32_26
  let v27 : BitVec 1 := Scalar.andi v25 v26
  let v28 : BitVec 32 := Scalar.extui v27
  let c0_i32_28 : BitVec 32 := 0#32
  let v29 : BitVec 1 := Scalar.cmpi .ne v28 c0_i32_28
  v29

def k0_mult7 : BitVec 32 :=
  let c6400_i32 : BitVec 32 := 6400#32
  let c3_i32_27 : BitVec 32 := 3#32
  let c0_i32_123 : BitVec 32 := 0#32
  let v154 : BitVec 32 := Scalar.subi c3_i32_27 c0_i32_123
  let c256_i32_124 : BitVec 32 := 256#32
  let v155 : BitVec 32 := Scalar.muli v154 c256_i32_124
  let v156 : BitVec 32 := Scalar.addi c6400_i32 v155
  v156
def k0_off13 : Fin 1 → Nat :=
  let c3_i32 : BitVec 32 := 3#32
  let c8_i32_22 : BitVec 32 := 8#32
  let v24 : BitVec 32 := Scalar.remsi c3_i32 c8_i32_22
  ![v24.toNat]
def k0_off14 : Fin 3 → Nat :=
  let c3_i32 : BitVec 32 := 3#32
  let c8_i32_22 : BitVec 32 := 8#32
  let v24 : BitVec 32 := Scalar.remsi c3_i32 c8_i32_22
  let c0_i32_125 : BitVec 32 := 0#32
  let c0_i32_126 : BitVec 32 := 0#32
  ![v24.toNat, 0, 0]
def k0_off15 (c6400_i32 : BitVec 32) : Fin 2 → Nat :=
  let c0_i32_127 : BitVec 32 := 0#32
  let c3_i32_27 : BitVec 32 := 3#32
  let c0_i32_123 : BitVec 32 := 0#32
  let v154 : BitVec 32 := Scalar.subi c3_i32_27 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult8 : BitVec 32 :=
  let c30976_i32 : BitVec 32 := 30976#32
  let c3_i32_27 : BitVec 32 := 3#32
  let c0_i32_123 : BitVec 32 := 0#32
  let v154 : BitVec 32 := Scalar.subi c3_i32_27 c0_i32_123
  let c256_i32_128 : BitVec 32 := 256#32
  let v163 : BitVec 32 := Scalar.muli v154 c256_i32_128
  let v164 : BitVec 32 := Scalar.addi c30976_i32 v163
  v164
def k0_off16 : Fin 3 → Nat :=
  let c3_i32 : BitVec 32 := 3#32
  let c8_i32_22 : BitVec 32 := 8#32
  let v24 : BitVec 32 := Scalar.remsi c3_i32 c8_i32_22
  let c0_i32_129 : BitVec 32 := 0#32
  let c256_i32_130 : BitVec 32 := 256#32
  ![v24.toNat, 0, 256]
def k0_cond5 : BitVec 1 :=
  let c4_i32_30 : BitVec 32 := 4#32
  let c0_i32_31 : BitVec 32 := 0#32
  let v31 : BitVec 1 := Scalar.cmpi .sge c4_i32_30 c0_i32_31
  let c4_i32_32 : BitVec 32 := 4#32
  let c96_i32_33 : BitVec 32 := 96#32
  let v32 : BitVec 1 := Scalar.cmpi .slt c4_i32_32 c96_i32_33
  let v33 : BitVec 1 := Scalar.andi v31 v32
  let v34 : BitVec 32 := Scalar.extui v33
  let c0_i32_35 : BitVec 32 := 0#32
  let v35 : BitVec 1 := Scalar.cmpi .ne v34 c0_i32_35
  v35

def k0_mult9 : BitVec 32 :=
  let c6400_i32 : BitVec 32 := 6400#32
  let c4_i32_34 : BitVec 32 := 4#32
  let c0_i32_123 : BitVec 32 := 0#32
  let v154 : BitVec 32 := Scalar.subi c4_i32_34 c0_i32_123
  let c256_i32_124 : BitVec 32 := 256#32
  let v155 : BitVec 32 := Scalar.muli v154 c256_i32_124
  let v156 : BitVec 32 := Scalar.addi c6400_i32 v155
  v156
def k0_off17 : Fin 1 → Nat :=
  let c4_i32 : BitVec 32 := 4#32
  let c8_i32_29 : BitVec 32 := 8#32
  let v30 : BitVec 32 := Scalar.remsi c4_i32 c8_i32_29
  ![v30.toNat]
def k0_off18 : Fin 3 → Nat :=
  let c4_i32 : BitVec 32 := 4#32
  let c8_i32_29 : BitVec 32 := 8#32
  let v30 : BitVec 32 := Scalar.remsi c4_i32 c8_i32_29
  let c0_i32_125 : BitVec 32 := 0#32
  let c0_i32_126 : BitVec 32 := 0#32
  ![v30.toNat, 0, 0]
def k0_off19 (c6400_i32 : BitVec 32) : Fin 2 → Nat :=
  let c0_i32_127 : BitVec 32 := 0#32
  let c4_i32_34 : BitVec 32 := 4#32
  let c0_i32_123 : BitVec 32 := 0#32
  let v154 : BitVec 32 := Scalar.subi c4_i32_34 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult10 : BitVec 32 :=
  let c30976_i32 : BitVec 32 := 30976#32
  let c4_i32_34 : BitVec 32 := 4#32
  let c0_i32_123 : BitVec 32 := 0#32
  let v154 : BitVec 32 := Scalar.subi c4_i32_34 c0_i32_123
  let c256_i32_128 : BitVec 32 := 256#32
  let v163 : BitVec 32 := Scalar.muli v154 c256_i32_128
  let v164 : BitVec 32 := Scalar.addi c30976_i32 v163
  v164
def k0_off20 : Fin 3 → Nat :=
  let c4_i32 : BitVec 32 := 4#32
  let c8_i32_29 : BitVec 32 := 8#32
  let v30 : BitVec 32 := Scalar.remsi c4_i32 c8_i32_29
  let c0_i32_129 : BitVec 32 := 0#32
  let c256_i32_130 : BitVec 32 := 256#32
  ![v30.toNat, 0, 256]
def k0_cond6 : BitVec 1 :=
  let c5_i32_37 : BitVec 32 := 5#32
  let c0_i32_38 : BitVec 32 := 0#32
  let v37 : BitVec 1 := Scalar.cmpi .sge c5_i32_37 c0_i32_38
  let c5_i32_39 : BitVec 32 := 5#32
  let c96_i32_40 : BitVec 32 := 96#32
  let v38 : BitVec 1 := Scalar.cmpi .slt c5_i32_39 c96_i32_40
  let v39 : BitVec 1 := Scalar.andi v37 v38
  let v40 : BitVec 32 := Scalar.extui v39
  let c0_i32_42 : BitVec 32 := 0#32
  let v41 : BitVec 1 := Scalar.cmpi .ne v40 c0_i32_42
  v41

def k0_mult11 : BitVec 32 :=
  let c6400_i32 : BitVec 32 := 6400#32
  let c5_i32_41 : BitVec 32 := 5#32
  let c0_i32_123 : BitVec 32 := 0#32
  let v154 : BitVec 32 := Scalar.subi c5_i32_41 c0_i32_123
  let c256_i32_124 : BitVec 32 := 256#32
  let v155 : BitVec 32 := Scalar.muli v154 c256_i32_124
  let v156 : BitVec 32 := Scalar.addi c6400_i32 v155
  v156
def k0_off21 : Fin 1 → Nat :=
  let c5_i32 : BitVec 32 := 5#32
  let c8_i32_36 : BitVec 32 := 8#32
  let v36 : BitVec 32 := Scalar.remsi c5_i32 c8_i32_36
  ![v36.toNat]
def k0_off22 : Fin 3 → Nat :=
  let c5_i32 : BitVec 32 := 5#32
  let c8_i32_36 : BitVec 32 := 8#32
  let v36 : BitVec 32 := Scalar.remsi c5_i32 c8_i32_36
  let c0_i32_125 : BitVec 32 := 0#32
  let c0_i32_126 : BitVec 32 := 0#32
  ![v36.toNat, 0, 0]
def k0_off23 (c6400_i32 : BitVec 32) : Fin 2 → Nat :=
  let c0_i32_127 : BitVec 32 := 0#32
  let c5_i32_41 : BitVec 32 := 5#32
  let c0_i32_123 : BitVec 32 := 0#32
  let v154 : BitVec 32 := Scalar.subi c5_i32_41 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult12 : BitVec 32 :=
  let c30976_i32 : BitVec 32 := 30976#32
  let c5_i32_41 : BitVec 32 := 5#32
  let c0_i32_123 : BitVec 32 := 0#32
  let v154 : BitVec 32 := Scalar.subi c5_i32_41 c0_i32_123
  let c256_i32_128 : BitVec 32 := 256#32
  let v163 : BitVec 32 := Scalar.muli v154 c256_i32_128
  let v164 : BitVec 32 := Scalar.addi c30976_i32 v163
  v164
def k0_off24 : Fin 3 → Nat :=
  let c5_i32 : BitVec 32 := 5#32
  let c8_i32_36 : BitVec 32 := 8#32
  let v36 : BitVec 32 := Scalar.remsi c5_i32 c8_i32_36
  let c0_i32_129 : BitVec 32 := 0#32
  let c256_i32_130 : BitVec 32 := 256#32
  ![v36.toNat, 0, 256]
def k0_cond7 : BitVec 1 :=
  let c6_i32_44 : BitVec 32 := 6#32
  let c0_i32_45 : BitVec 32 := 0#32
  let v43 : BitVec 1 := Scalar.cmpi .sge c6_i32_44 c0_i32_45
  let c6_i32_46 : BitVec 32 := 6#32
  let c96_i32_47 : BitVec 32 := 96#32
  let v44 : BitVec 1 := Scalar.cmpi .slt c6_i32_46 c96_i32_47
  let v45 : BitVec 1 := Scalar.andi v43 v44
  let v46 : BitVec 32 := Scalar.extui v45
  let c0_i32_49 : BitVec 32 := 0#32
  let v47 : BitVec 1 := Scalar.cmpi .ne v46 c0_i32_49
  v47

def k0_mult13 : BitVec 32 :=
  let c6400_i32 : BitVec 32 := 6400#32
  let c6_i32_48 : BitVec 32 := 6#32
  let c0_i32_123 : BitVec 32 := 0#32
  let v154 : BitVec 32 := Scalar.subi c6_i32_48 c0_i32_123
  let c256_i32_124 : BitVec 32 := 256#32
  let v155 : BitVec 32 := Scalar.muli v154 c256_i32_124
  let v156 : BitVec 32 := Scalar.addi c6400_i32 v155
  v156
def k0_off25 : Fin 1 → Nat :=
  let c6_i32 : BitVec 32 := 6#32
  let c8_i32_43 : BitVec 32 := 8#32
  let v42 : BitVec 32 := Scalar.remsi c6_i32 c8_i32_43
  ![v42.toNat]
def k0_off26 : Fin 3 → Nat :=
  let c6_i32 : BitVec 32 := 6#32
  let c8_i32_43 : BitVec 32 := 8#32
  let v42 : BitVec 32 := Scalar.remsi c6_i32 c8_i32_43
  let c0_i32_125 : BitVec 32 := 0#32
  let c0_i32_126 : BitVec 32 := 0#32
  ![v42.toNat, 0, 0]
def k0_off27 (c6400_i32 : BitVec 32) : Fin 2 → Nat :=
  let c0_i32_127 : BitVec 32 := 0#32
  let c6_i32_48 : BitVec 32 := 6#32
  let c0_i32_123 : BitVec 32 := 0#32
  let v154 : BitVec 32 := Scalar.subi c6_i32_48 c0_i32_123
  let c256_i32_124 : BitVec 32 := 256#32
  let v155 : BitVec 32 := Scalar.muli v154 c256_i32_124
  let v156 : BitVec 32 := Scalar.addi c6400_i32 v155
  let v157 : BitVec 32 := v156
  ![0, v157.toNat]
def k0_mult14 : BitVec 32 :=
  let c30976_i32 : BitVec 32 := 30976#32
  let c6_i32_48 : BitVec 32 := 6#32
  let c0_i32_123 : BitVec 32 := 0#32
  let v154 : BitVec 32 := Scalar.subi c6_i32_48 c0_i32_123
  let c256_i32_128 : BitVec 32 := 256#32
  let v163 : BitVec 32 := Scalar.muli v154 c256_i32_128
  let v164 : BitVec 32 := Scalar.addi c30976_i32 v163
  v164
def k0_off28 : Fin 3 → Nat :=
  let c6_i32 : BitVec 32 := 6#32
  let c8_i32_43 : BitVec 32 := 8#32
  let v42 : BitVec 32 := Scalar.remsi c6_i32 c8_i32_43
  let c0_i32_129 : BitVec 32 := 0#32
  let c256_i32_130 : BitVec 32 := 256#32
  ![v42.toNat, 0, 256]
@[reducible] def k0_t1_loop : Scf.Loop 32 :=
  let c0_i32_60 : BitVec 32 := 0#32
  let c96_i32_61 : BitVec 32 := 96#32
  let v68 : BitVec 32 := Scalar.addi c0_i32_60 c96_i32_61
  let c1_i32_62 : BitVec 32 := 1#32
  ⟨c0_i32_60, v68, c1_i32_62⟩
def k0_cond8 (k0_t1 : Fin k0_t1_loop.trips) : BitVec 1 :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c0_i32_130 : BitVec 32 := 0#32
  let v161 : BitVec 1 := Scalar.cmpi .sge v159 c0_i32_130
  let c96_i32_131 : BitVec 32 := 96#32
  let v162 : BitVec 1 := Scalar.cmpi .slt v159 c96_i32_131
  let v163 : BitVec 1 := Scalar.andi v161 v162
  let v164 : BitVec 32 := Scalar.extui v163
  let c0_i32_132 : BitVec 32 := 0#32
  let v165 : BitVec 1 := Scalar.cmpi .ne v164 c0_i32_132
  v165

def k0_mult15 (k0_t1 : Fin k0_t1_loop.trips) : BitVec 32 :=
  let c6400_i32_188 : BitVec 32 := 6400#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c0_i32_186 : BitVec 32 := 0#32
  let v265 : BitVec 32 := Scalar.subi v159 c0_i32_186
  let c256_i32_187 : BitVec 32 := 256#32
  let v266 : BitVec 32 := Scalar.muli v265 c256_i32_187
  let v267 : BitVec 32 := Scalar.addi c6400_i32_188 v266
  v267
def k0_off29 (k0_t1 : Fin k0_t1_loop.trips) : Fin 1 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c8_i32_129 : BitVec 32 := 8#32
  let v160 : BitVec 32 := Scalar.remsi v159 c8_i32_129
  ![v160.toNat]
def k0_off30 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c8_i32_129 : BitVec 32 := 8#32
  let v160 : BitVec 32 := Scalar.remsi v159 c8_i32_129
  let c0_i32_189 : BitVec 32 := 0#32
  let c0_i32_190 : BitVec 32 := 0#32
  ![v160.toNat, 0, 0]
def k0_off31 (k0_t1 : Fin k0_t1_loop.trips) (c6400_i32_188 : BitVec 32) : Fin 2 → Nat :=
  let c0_i32_191 : BitVec 32 := 0#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c0_i32_186 : BitVec 32 := 0#32
  let v265 : BitVec 32 := Scalar.subi v159 c0_i32_186
  let c256_i32_187 : BitVec 32 := 256#32
  let v266 : BitVec 32 := Scalar.muli v265 c256_i32_187
  let v267 : BitVec 32 := Scalar.addi c6400_i32_188 v266
  let v268 : BitVec 32 := v267
  ![0, v268.toNat]
def k0_mult16 (k0_t1 : Fin k0_t1_loop.trips) : BitVec 32 :=
  let c30976_i32_193 : BitVec 32 := 30976#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c0_i32_186 : BitVec 32 := 0#32
  let v265 : BitVec 32 := Scalar.subi v159 c0_i32_186
  let c256_i32_192 : BitVec 32 := 256#32
  let v274 : BitVec 32 := Scalar.muli v265 c256_i32_192
  let v275 : BitVec 32 := Scalar.addi c30976_i32_193 v274
  v275
def k0_off32 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_127 : BitVec 32 := 1#32
  let v158 : BitVec 32 := Scalar.subi v156 c1_i32_127
  let c8_i32_128 : BitVec 32 := 8#32
  let v159 : BitVec 32 := Scalar.addi v158 c8_i32_128
  let c8_i32_129 : BitVec 32 := 8#32
  let v160 : BitVec 32 := Scalar.remsi v159 c8_i32_129
  let c0_i32_194 : BitVec 32 := 0#32
  let c256_i32_195 : BitVec 32 := 256#32
  ![v160.toNat, 0, 256]
def k0_cond9 (k0_t1 : Fin k0_t1_loop.trips) : BitVec 1 :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c0_i32_133 : BitVec 32 := 0#32
  let v166 : BitVec 1 := Scalar.cmpi .sgt v156 c0_i32_133
  let v167 : BitVec 32 := Scalar.extui v166
  let c0_i32_134 : BitVec 32 := 0#32
  let v168 : BitVec 1 := Scalar.cmpi .ne v167 c0_i32_134
  v168

def k0_mult17 (k0_t1 : Fin k0_t1_loop.trips) : BitVec 32 :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c0_i32_188 : BitVec 32 := 0#32
  let v267 : BitVec 32 := Scalar.subi v265 c0_i32_188
  let c256_i32_189 : BitVec 32 := 256#32
  let v268 : BitVec 32 := Scalar.muli v267 c256_i32_189
  v268
def k0_off33 (k0_t1 : Fin k0_t1_loop.trips) : Fin 1 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c4_i32_187 : BitVec 32 := 4#32
  let v266 : BitVec 32 := Scalar.remsi v265 c4_i32_187
  ![v266.toNat]
def k0_off34 (k0_t1 : Fin k0_t1_loop.trips) : Fin 2 → Nat :=
  let c0_i32_192 : BitVec 32 := 0#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c0_i32_188 : BitVec 32 := 0#32
  let v267 : BitVec 32 := Scalar.subi v265 c0_i32_188
  let c256_i32_189 : BitVec 32 := 256#32
  let v268 : BitVec 32 := Scalar.muli v267 c256_i32_189
  let v271 : BitVec 32 := v268
  ![0, v271.toNat]
def k0_off35 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c4_i32_187 : BitVec 32 := 4#32
  let v266 : BitVec 32 := Scalar.remsi v265 c4_i32_187
  let c0_i32_193 : BitVec 32 := 0#32
  let c0_i32_194 : BitVec 32 := 0#32
  ![v266.toNat, 0, 0]
def k0_mult18 (k0_t1 : Fin k0_t1_loop.trips) : BitVec 32 :=
  let c24576_i32_191 : BitVec 32 := 24576#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c0_i32_188 : BitVec 32 := 0#32
  let v267 : BitVec 32 := Scalar.subi v265 c0_i32_188
  let c256_i32_190 : BitVec 32 := 256#32
  let v269 : BitVec 32 := Scalar.muli v267 c256_i32_190
  let v270 : BitVec 32 := Scalar.addi c24576_i32_191 v269
  v270
def k0_off36 (k0_t1 : Fin k0_t1_loop.trips) : Fin 2 → Nat :=
  let c0_i32_195 : BitVec 32 := 0#32
  let c24576_i32_191 : BitVec 32 := 24576#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c0_i32_188 : BitVec 32 := 0#32
  let v267 : BitVec 32 := Scalar.subi v265 c0_i32_188
  let c256_i32_190 : BitVec 32 := 256#32
  let v269 : BitVec 32 := Scalar.muli v267 c256_i32_190
  let v270 : BitVec 32 := Scalar.addi c24576_i32_191 v269
  let v277 : BitVec 32 := v270
  ![0, v277.toNat]
def k0_off37 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c1_i32_186 : BitVec 32 := 1#32
  let v265 : BitVec 32 := Scalar.subi v156 c1_i32_186
  let c4_i32_187 : BitVec 32 := 4#32
  let v266 : BitVec 32 := Scalar.remsi v265 c4_i32_187
  let c0_i32_196 : BitVec 32 := 0#32
  let c256_i32_197 : BitVec 32 := 256#32
  ![v266.toNat, 0, 256]
def k0_cond10 (k0_t1 : Fin k0_t1_loop.trips) : BitVec 1 :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_135 : BitVec 32 := 4#32
  let v169 : BitVec 1 := Scalar.cmpi .sge v156 c4_i32_135
  let v170 : BitVec 32 := Scalar.extui v169
  let c0_i32_136 : BitVec 32 := 0#32
  let v171 : BitVec 1 := Scalar.cmpi .ne v170 c0_i32_136
  v171

def k0_mult19 (k0_t1 : Fin k0_t1_loop.trips) : BitVec 32 :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c0_i32_188 : BitVec 32 := 0#32
  let v267 : BitVec 32 := Scalar.subi v265 c0_i32_188
  let c256_i32_189 : BitVec 32 := 256#32
  let v268 : BitVec 32 := Scalar.muli v267 c256_i32_189
  v268
def k0_off38 (k0_t1 : Fin k0_t1_loop.trips) : Fin 1 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c4_i32_187 : BitVec 32 := 4#32
  let v266 : BitVec 32 := Scalar.remsi v265 c4_i32_187
  ![v266.toNat]
def k0_off39 (k0_t1 : Fin k0_t1_loop.trips) : Fin 2 → Nat :=
  let c0_i32_192 : BitVec 32 := 0#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c0_i32_188 : BitVec 32 := 0#32
  let v267 : BitVec 32 := Scalar.subi v265 c0_i32_188
  let c256_i32_189 : BitVec 32 := 256#32
  let v268 : BitVec 32 := Scalar.muli v267 c256_i32_189
  let v271 : BitVec 32 := v268
  ![0, v271.toNat]
def k0_off40 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c4_i32_187 : BitVec 32 := 4#32
  let v266 : BitVec 32 := Scalar.remsi v265 c4_i32_187
  let c0_i32_193 : BitVec 32 := 0#32
  let c0_i32_194 : BitVec 32 := 0#32
  ![v266.toNat, 0, 0]
def k0_mult20 (k0_t1 : Fin k0_t1_loop.trips) : BitVec 32 :=
  let c24576_i32_191 : BitVec 32 := 24576#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c0_i32_188 : BitVec 32 := 0#32
  let v267 : BitVec 32 := Scalar.subi v265 c0_i32_188
  let c256_i32_190 : BitVec 32 := 256#32
  let v269 : BitVec 32 := Scalar.muli v267 c256_i32_190
  let v270 : BitVec 32 := Scalar.addi c24576_i32_191 v269
  v270
def k0_off41 (k0_t1 : Fin k0_t1_loop.trips) : Fin 2 → Nat :=
  let c0_i32_195 : BitVec 32 := 0#32
  let c24576_i32_191 : BitVec 32 := 24576#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c0_i32_188 : BitVec 32 := 0#32
  let v267 : BitVec 32 := Scalar.subi v265 c0_i32_188
  let c256_i32_190 : BitVec 32 := 256#32
  let v269 : BitVec 32 := Scalar.muli v267 c256_i32_190
  let v270 : BitVec 32 := Scalar.addi c24576_i32_191 v269
  let v277 : BitVec 32 := v270
  ![0, v277.toNat]
def k0_off42 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_186 : BitVec 32 := 4#32
  let v265 : BitVec 32 := Scalar.subi v156 c4_i32_186
  let c4_i32_187 : BitVec 32 := 4#32
  let v266 : BitVec 32 := Scalar.remsi v265 c4_i32_187
  let c0_i32_196 : BitVec 32 := 0#32
  let c256_i32_197 : BitVec 32 := 256#32
  ![v266.toNat, 0, 256]
def k0_mult21 (k0_t1 : Fin k0_t1_loop.trips) : BitVec 32 :=
  let c6400_i32 : BitVec 32 := 6400#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_137 : BitVec 32 := 256#32
  let v172 : BitVec 32 := Scalar.muli v155 c256_i32_137
  let v173 : BitVec 32 := Scalar.addi c6400_i32 v172
  v173
def k0_off43 (k0_t1 : Fin k0_t1_loop.trips) : Fin 1 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c8_i32_126 : BitVec 32 := 8#32
  let v157 : BitVec 32 := Scalar.remsi v156 c8_i32_126
  ![v157.toNat]
def k0_off44 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c8_i32_126 : BitVec 32 := 8#32
  let v157 : BitVec 32 := Scalar.remsi v156 c8_i32_126
  let c0_i32_138 : BitVec 32 := 0#32
  let c0_i32_139 : BitVec 32 := 0#32
  ![v157.toNat, 0, 0]
def k0_off45 (k0_t1 : Fin k0_t1_loop.trips) (c6400_i32 : BitVec 32) : Fin 2 → Nat :=
  let c0_i32_140 : BitVec 32 := 0#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_137 : BitVec 32 := 256#32
  let v172 : BitVec 32 := Scalar.muli v155 c256_i32_137
  let v173 : BitVec 32 := Scalar.addi c6400_i32 v172
  let v174 : BitVec 32 := v173
  ![0, v174.toNat]
def k0_mult22 (k0_t1 : Fin k0_t1_loop.trips) : BitVec 32 :=
  let c30976_i32 : BitVec 32 := 30976#32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_141 : BitVec 32 := 256#32
  let v180 : BitVec 32 := Scalar.muli v155 c256_i32_141
  let v181 : BitVec 32 := Scalar.addi c30976_i32 v180
  v181
def k0_off46 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c8_i32_126 : BitVec 32 := 8#32
  let v157 : BitVec 32 := Scalar.remsi v156 c8_i32_126
  let c0_i32_142 : BitVec 32 := 0#32
  let c256_i32_143 : BitVec 32 := 256#32
  ![v157.toNat, 0, 256]
def k0_off47 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c8_i32_126 : BitVec 32 := 8#32
  let v157 : BitVec 32 := Scalar.remsi v156 c8_i32_126
  let v189 : Index := Scalar.indexCast v157
  let c0_147 : Index := 0#32
  let c0_148 : Index := 0#32
  ![v189.toNat, 0, 0]
def k0_mult23 (k0_t1 : Fin k0_t1_loop.trips) : BitVec 32 :=
  let v_true : BitVec 1 := 1#1
  let c6400_i32_150 : BitVec 32 := 6400#32
  let c30720_i32 : BitVec 32 := 30720#32
  let v193 : BitVec 32 := Scalar.select v_true c6400_i32_150 c30720_i32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_151 : BitVec 32 := 256#32
  let v194 : BitVec 32 := Scalar.muli v155 c256_i32_151
  let v195 : BitVec 32 := Scalar.addi v193 v194
  let c0_i32_152 : BitVec 32 := 0#32
  let v196 : BitVec 32 := Scalar.addi v195 c0_i32_152
  v196
def k0_off48 (k0_t1 : Fin k0_t1_loop.trips) (v_true : BitVec 1) (c0_i32_152 : BitVec 32) : Fin 2 → Nat :=
  let c0_153 : Index := 0#32
  let c6400_i32_150 : BitVec 32 := 6400#32
  let c30720_i32 : BitVec 32 := 30720#32
  let v193 : BitVec 32 := Scalar.select v_true c6400_i32_150 c30720_i32
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_151 : BitVec 32 := 256#32
  let v194 : BitVec 32 := Scalar.muli v155 c256_i32_151
  let v195 : BitVec 32 := Scalar.addi v193 v194
  let v196 : BitVec 32 := Scalar.addi v195 c0_i32_152
  let v197 : BitVec 32 := v196
  let v198 : Index := Scalar.indexCast v197
  ![0, v198.toNat]
def k0_off48_at (r : Fin 4) : BitVec 1 × BitVec 32 :=
  if r.val < 2 then
    if r.val < 1 then
      (1#1, 0#32)
    else
      (1#1, 128#32)
  else
    if r.val < 3 then
      (0#1, 256#32)
    else
      (0#1, 384#32)
def k0_mult24 (k0_t1 : Fin k0_t1_loop.trips) : BitVec 32 :=
  let true_156 : BitVec 1 := 1#1
  let c6400_i32_157 : BitVec 32 := 6400#32
  let c30720_i32_158 : BitVec 32 := 30720#32
  let v206 : BitVec 32 := Scalar.select true_156 c6400_i32_157 c30720_i32_158
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_159 : BitVec 32 := 256#32
  let v207 : BitVec 32 := Scalar.muli v155 c256_i32_159
  let v208 : BitVec 32 := Scalar.addi v206 v207
  let c128_i32 : BitVec 32 := 128#32
  let v209 : BitVec 32 := Scalar.addi v208 c128_i32
  v209
def k0_mult25 (k0_t1 : Fin k0_t1_loop.trips) : BitVec 32 :=
  let v_false : BitVec 1 := 0#1
  let c6400_i32_163 : BitVec 32 := 6400#32
  let c30720_i32_164 : BitVec 32 := 30720#32
  let v219 : BitVec 32 := Scalar.select v_false c6400_i32_163 c30720_i32_164
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_165 : BitVec 32 := 256#32
  let v220 : BitVec 32 := Scalar.muli v155 c256_i32_165
  let v221 : BitVec 32 := Scalar.addi v219 v220
  let c256_i32_166 : BitVec 32 := 256#32
  let v222 : BitVec 32 := Scalar.addi v221 c256_i32_166
  v222
def k0_mult26 (k0_t1 : Fin k0_t1_loop.trips) : BitVec 32 :=
  let false_170 : BitVec 1 := 0#1
  let c6400_i32_171 : BitVec 32 := 6400#32
  let c30720_i32_172 : BitVec 32 := 30720#32
  let v232 : BitVec 32 := Scalar.select false_170 c6400_i32_171 c30720_i32_172
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c256_i32_173 : BitVec 32 := 256#32
  let v233 : BitVec 32 := Scalar.muli v155 c256_i32_173
  let v234 : BitVec 32 := Scalar.addi v232 v233
  let c384_i32 : BitVec 32 := 384#32
  let v235 : BitVec 32 := Scalar.addi v234 c384_i32
  v235
def k0_off49 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_177 : BitVec 32 := 4#32
  let v245 : BitVec 32 := Scalar.remsi v156 c4_i32_177
  let v246 : Index := Scalar.indexCast v245
  let c0_178 : Index := 0#32
  let c0_179 : Index := 0#32
  ![v246.toNat, 0, 0]
def k0_off50 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_180 : BitVec 32 := 4#32
  let v250 : BitVec 32 := Scalar.remsi v156 c4_i32_180
  let v251 : Index := Scalar.indexCast v250
  let c0_181 : Index := 0#32
  let c128 : Index := 128#32
  ![v251.toNat, 0, 128]
def k0_off51 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_182 : BitVec 32 := 4#32
  let v255 : BitVec 32 := Scalar.remsi v156 c4_i32_182
  let v256 : Index := Scalar.indexCast v255
  let c0_183 : Index := 0#32
  let c256 : Index := 256#32
  ![v256.toNat, 0, 256]
def k0_off52 (k0_t1 : Fin k0_t1_loop.trips) : Fin 3 → Nat :=
  let c0_i32_124 : BitVec 32 := 0#32
  let c0_i32_60 : BitVec 32 := 0#32
  let c1_i32_62 : BitVec 32 := 1#32
  let arg15 : BitVec 32 := Scf.iv c0_i32_60 c1_i32_62 k0_t1
  let c1_i32_123 : BitVec 32 := 1#32
  let v154 : BitVec 32 := Scalar.muli arg15 c1_i32_123
  let v155 : BitVec 32 := Scalar.addi c0_i32_124 v154
  let c0_i32_125 : BitVec 32 := 0#32
  let v156 : BitVec 32 := Scalar.addi v155 c0_i32_125
  let c4_i32_184 : BitVec 32 := 4#32
  let v260 : BitVec 32 := Scalar.remsi v156 c4_i32_184
  let v261 : Index := Scalar.indexCast v260
  let c0_185 : Index := 0#32
  let c384 : Index := 384#32
  ![v261.toNat, 0, 384]
def k0_mult27 : BitVec 32 :=
  let c95_i32_65 : BitVec 32 := 95#32
  let c0_i32_66 : BitVec 32 := 0#32
  let v70 : BitVec 32 := Scalar.subi c95_i32_65 c0_i32_66
  let c256_i32 : BitVec 32 := 256#32
  let v71 : BitVec 32 := Scalar.muli v70 c256_i32
  v71
def k0_off53 (c95_i32 : BitVec 32) : Fin 1 → Nat :=
  let c4_i32_64 : BitVec 32 := 4#32
  let v69 : BitVec 32 := Scalar.remsi c95_i32 c4_i32_64
  ![v69.toNat]
def k0_off54 (c95_i32_65 : BitVec 32) : Fin 2 → Nat :=
  let c0_i32_68 : BitVec 32 := 0#32
  let c0_i32_66 : BitVec 32 := 0#32
  let v70 : BitVec 32 := Scalar.subi c95_i32_65 c0_i32_66
  let c256_i32 : BitVec 32 := 256#32
  let v71 : BitVec 32 := Scalar.muli v70 c256_i32
  let v74 : BitVec 32 := v71
  ![0, v74.toNat]
def k0_off55 (c95_i32 : BitVec 32) : Fin 3 → Nat :=
  let c4_i32_64 : BitVec 32 := 4#32
  let v69 : BitVec 32 := Scalar.remsi c95_i32 c4_i32_64
  let c0_i32_69 : BitVec 32 := 0#32
  let c0_i32_70 : BitVec 32 := 0#32
  ![v69.toNat, 0, 0]
def k0_mult28 : BitVec 32 :=
  let c24576_i32 : BitVec 32 := 24576#32
  let c95_i32_65 : BitVec 32 := 95#32
  let c0_i32_66 : BitVec 32 := 0#32
  let v70 : BitVec 32 := Scalar.subi c95_i32_65 c0_i32_66
  let c256_i32_67 : BitVec 32 := 256#32
  let v72 : BitVec 32 := Scalar.muli v70 c256_i32_67
  let v73 : BitVec 32 := Scalar.addi c24576_i32 v72
  v73
def k0_off56 (c95_i32_65 : BitVec 32) : Fin 2 → Nat :=
  let c0_i32_71 : BitVec 32 := 0#32
  let c24576_i32 : BitVec 32 := 24576#32
  let c0_i32_66 : BitVec 32 := 0#32
  let v70 : BitVec 32 := Scalar.subi c95_i32_65 c0_i32_66
  let c256_i32_67 : BitVec 32 := 256#32
  let v72 : BitVec 32 := Scalar.muli v70 c256_i32_67
  let v73 : BitVec 32 := Scalar.addi c24576_i32 v72
  let v80 : BitVec 32 := v73
  ![0, v80.toNat]
def k0_off57 (c95_i32 : BitVec 32) : Fin 3 → Nat :=
  let c4_i32_64 : BitVec 32 := 4#32
  let v69 : BitVec 32 := Scalar.remsi c95_i32 c4_i32_64
  let c0_i32_72 : BitVec 32 := 0#32
  let c256_i32_73 : BitVec 32 := 256#32
  ![v69.toNat, 0, 256]
def k0_mult29 : BitVec 32 :=
  let c92_i32_75 : BitVec 32 := 92#32
  let c0_i32_76 : BitVec 32 := 0#32
  let v87 : BitVec 32 := Scalar.subi c92_i32_75 c0_i32_76
  let c256_i32_77 : BitVec 32 := 256#32
  let v88 : BitVec 32 := Scalar.muli v87 c256_i32_77
  v88
def k0_mult30 : BitVec 32 :=
  let c24576_i32_79 : BitVec 32 := 24576#32
  let c92_i32_75 : BitVec 32 := 92#32
  let c0_i32_76 : BitVec 32 := 0#32
  let v87 : BitVec 32 := Scalar.subi c92_i32_75 c0_i32_76
  let c256_i32_78 : BitVec 32 := 256#32
  let v89 : BitVec 32 := Scalar.muli v87 c256_i32_78
  let v90 : BitVec 32 := Scalar.addi c24576_i32_79 v89
  v90
def k0_mult31 : BitVec 32 :=
  let c93_i32_87 : BitVec 32 := 93#32
  let c0_i32_88 : BitVec 32 := 0#32
  let v104 : BitVec 32 := Scalar.subi c93_i32_87 c0_i32_88
  let c256_i32_89 : BitVec 32 := 256#32
  let v105 : BitVec 32 := Scalar.muli v104 c256_i32_89
  v105
def k0_mult32 : BitVec 32 :=
  let c24576_i32_91 : BitVec 32 := 24576#32
  let c93_i32_87 : BitVec 32 := 93#32
  let c0_i32_88 : BitVec 32 := 0#32
  let v104 : BitVec 32 := Scalar.subi c93_i32_87 c0_i32_88
  let c256_i32_90 : BitVec 32 := 256#32
  let v106 : BitVec 32 := Scalar.muli v104 c256_i32_90
  let v107 : BitVec 32 := Scalar.addi c24576_i32_91 v106
  v107
def k0_mult33 : BitVec 32 :=
  let c94_i32_99 : BitVec 32 := 94#32
  let c0_i32_100 : BitVec 32 := 0#32
  let v121 : BitVec 32 := Scalar.subi c94_i32_99 c0_i32_100
  let c256_i32_101 : BitVec 32 := 256#32
  let v122 : BitVec 32 := Scalar.muli v121 c256_i32_101
  v122
def k0_mult34 : BitVec 32 :=
  let c24576_i32_103 : BitVec 32 := 24576#32
  let c94_i32_99 : BitVec 32 := 94#32
  let c0_i32_100 : BitVec 32 := 0#32
  let v121 : BitVec 32 := Scalar.subi c94_i32_99 c0_i32_100
  let c256_i32_102 : BitVec 32 := 256#32
  let v123 : BitVec 32 := Scalar.muli v121 c256_i32_102
  let v124 : BitVec 32 := Scalar.addi c24576_i32_103 v123
  v124
def k0_mult35 : BitVec 32 :=
  let c95_i32_112 : BitVec 32 := 95#32
  let c0_i32_113 : BitVec 32 := 0#32
  let v138 : BitVec 32 := Scalar.subi c95_i32_112 c0_i32_113
  let c256_i32_114 : BitVec 32 := 256#32
  let v139 : BitVec 32 := Scalar.muli v138 c256_i32_114
  v139
def k0_mult36 : BitVec 32 :=
  let c24576_i32_116 : BitVec 32 := 24576#32
  let c95_i32_112 : BitVec 32 := 95#32
  let c0_i32_113 : BitVec 32 := 0#32
  let v138 : BitVec 32 := Scalar.subi c95_i32_112 c0_i32_113
  let c256_i32_115 : BitVec 32 := 256#32
  let v140 : BitVec 32 := Scalar.muli v138 c256_i32_115
  let v141 : BitVec 32 := Scalar.addi c24576_i32_116 v140
  v141
-- ==== ProjReferenceIdeal.lean ====
abbrev S112x1x6144 : Shape := ⟨3, ![112, 1, 6144]⟩
abbrev S112x1 : Shape := ⟨2, ![112, 1]⟩
abbrev S6144x55552 : Shape := ⟨2, ![6144, 55552]⟩
abbrev S55552 : Shape := ⟨1, ![55552]⟩
abbrev S112x6144 : Shape := ⟨2, ![112, 6144]⟩
abbrev S1x55552 : Shape := ⟨2, ![1, 55552]⟩
abbrev S112x49152 : Shape := ⟨2, ![112, 49152]⟩
abbrev S112x55552 : Shape := ⟨2, ![112, 55552]⟩

abbrev nBuf : Space → Nat
  | .hbm => 7
  | .vmem => 5
  | .smem => 0
  | _ => 0

abbrev bufTy : (tb : Table) → Fin (tcTables nBuf tb) → BufTy
  | .hbm, ⟨0, _⟩ => ⟨S112x1x6144, .fp8e4m3⟩
  | .hbm, ⟨1, _⟩ => ⟨S112x1, .f32⟩
  | .hbm, ⟨2, _⟩ => ⟨S6144x55552, .fp8e4m3⟩
  | .hbm, ⟨3, _⟩ => ⟨S55552, .f32⟩
  | .hbm, ⟨4, _⟩ => ⟨S112x6144, .fp8e4m3⟩
  | .hbm, ⟨5, _⟩ => ⟨S1x55552, .f32⟩
  | .hbm, ⟨6, _⟩ => ⟨S112x49152, .bf16⟩
  | .local _ .vmem, ⟨0, _⟩ => ⟨S112x6144, .fp8e4m3⟩
  | .local _ .vmem, ⟨1, _⟩ => ⟨S112x1, .f32⟩
  | .local _ .vmem, ⟨2, _⟩ => ⟨S6144x55552, .fp8e4m3⟩
  | .local _ .vmem, ⟨3, _⟩ => ⟨S1x55552, .f32⟩
  | .local _ .vmem, ⟨4, _⟩ => ⟨S112x49152, .bf16⟩
  | _, _ => ⟨S112x1x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S112x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x55552 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x55552 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x49152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KI.Names.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

/-! # The kernel's windows by name

The output projection moves the weights in sixty blocks of 6144 rows by 512 columns (`wblk`), item `t` through
slot `t % 8` of the weight ring (`rslot`) on the ring's semaphore `t % 8` (`rsem`); it writes the result in twelve
blocks of 512 columns (`yblk`), block `n` through slot `n % 4` of the staging buffer (`yslot`) on semaphore
`n % 4` (`ysem`). Here each window the printed body slices gets that name, and each printed condition its meaning. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The whole arrays and buffers -/

abbrev xM : Memref sig .tc .hbm S112x6144 .bf16 := Memref.whole main_v0
abbrev cM : Memref sig .tc .hbm S112x30720 .fp8e4m3 := Memref.whole main_v1
abbrev sM : Memref sig .tc .hbm S112x1 .f32 := Memref.whole main_arg2
abbrev wM : Memref sig .tc .hbm S30720x6144 .fp8e4m3 := Memref.whole main_arg3
abbrev wsM : Memref sig .tc .hbm S1x6144 .f32 := Memref.whole main_v2
abbrev yM : Memref sig .tc .hbm S112x6144 .bf16 := Memref.whole main_v3
abbrev ringM : Memref sig .tc .vmem S8x6144x512 .fp8e4m3 := Memref.whole cc0_scratch0
abbrev xbM : Memref sig .tc .vmem S112x6144 .bf16 := Memref.whole cc0_scratch1
abbrev acbM : Memref sig .tc .vmem S112x30720 .fp8e4m3 := Memref.whole cc0_scratch2
abbrev ascM : Memref sig .tc .vmem S112x1 .f32 := Memref.whole cc0_scratch3
abbrev wsoM : Memref sig .tc .vmem S1x6144 .f32 := Memref.whole cc0_scratch4
abbrev aqM : Memref sig .tc .vmem S128x30720 .fp8e4m3 := Memref.whole cc0_scratch5
abbrev stM : Memref sig .tc .vmem S4x112x512 .bf16 := Memref.whole cc0_scratch6
abbrev asbM : Memref sig .tc .vmem S112x128 .f32 := Memref.whole cc0_scratch7
abbrev accM : Memref sig .tc .vmem S128x512 .f32 := Memref.whole cc0_scratch8

/-! ## Block, slot and semaphore windows -/

abbrev wOff (t : Fin 60) : Fin 2 → Nat := ![t.val % 5 * 6144, t.val / 5 * 512]
theorem wOff_inb (t : Fin 60) : ∀ a, wOff t a + S6144x512.size a ≤ S30720x6144.size a := by
  have := t.isLt; intro a; fin_cases a
  · show t.val % 5 * 6144 + 6144 ≤ 30720; omega
  · show t.val / 5 * 512 + 512 ≤ 6144; omega
abbrev slotOff (s : Fin 8) : Fin 3 → Nat := ![s.val, 0, 0]
theorem slotOff_inb (s : Fin 8) : ∀ a, slotOff s a + S1x6144x512.size a ≤ S8x6144x512.size a := by
  have := s.isLt; intro a; fin_cases a
  · show s.val + 1 ≤ 8; omega
  · show 0 + 6144 ≤ 6144; omega
  · show 0 + 512 ≤ 512; omega
abbrev semOff (s : Fin 8) : Fin 1 → Nat := ![s.val]
theorem semOff_inb (s : Fin 8) : ∀ a, semOff s a + S1.size a ≤ S8.size a := by
  have := s.isLt; intro a; fin_cases a; show s.val + 1 ≤ 8; omega
abbrev yOff (b : Fin 12) : Fin 2 → Nat := ![0, b.val * 512]
theorem yOff_inb (b : Fin 12) : ∀ a, yOff b a + S112x512.size a ≤ S112x6144.size a := by
  have := b.isLt; intro a; fin_cases a
  · show 0 + 112 ≤ 112; omega
  · show b.val * 512 + 512 ≤ 6144; omega
abbrev stOff (s : Fin 4) : Fin 3 → Nat := ![s.val, 0, 0]
theorem stOff_inb (s : Fin 4) : ∀ a, stOff s a + S1x112x512.size a ≤ S4x112x512.size a := by
  have := s.isLt; intro a; fin_cases a
  · show s.val + 1 ≤ 4; omega
  · show 0 + 112 ≤ 112; omega
  · show 0 + 512 ≤ 512; omega
abbrev qemOff (s : Fin 4) : Fin 1 → Nat := ![s.val]
theorem qemOff_inb (s : Fin 4) : ∀ a, qemOff s a + S1.size a ≤ S4.size a := by
  have := s.isLt; intro a; fin_cases a; show s.val + 1 ≤ 4; omega

/-- Item `t` of the weights: rows `(t % 5) * 6144 …`, columns `(t / 5) * 512 …`. -/
def wblk (t : Fin 60) : Memref sig .tc .hbm S6144x512 .fp8e4m3 :=
  wM.slice (Rect.unit (s := S30720x6144) (wOff t) S6144x512.size (wOff_inb t)) (fun _ => rfl)
/-- Slot `s` of the weight ring. -/
def rslot (s : Fin 8) : Memref sig .tc .vmem S6144x512 .fp8e4m3 :=
  (ringM.slice (Rect.unit (s := S8x6144x512) (slotOff s) S1x6144x512.size (slotOff_inb s)) (fun _ => rfl)).squeeze S6144x512 squeezes_S1x6144x512_S6144x512
/-- Slot `s`'s semaphore. -/
def rsem (s : Fin 8) : DmaSems sig S_ := (cc0_scratch9.slice (Rect.unit (s := S8) (semOff s) S1.size (semOff_inb s))).squeeze S_ squeezes_S1_S_
/-- Columns `512 b …` of the result. -/
def yblk (b : Fin 12) : Memref sig .tc .hbm S112x512 .bf16 :=
  yM.slice (Rect.unit (s := S112x6144) (yOff b) S112x512.size (yOff_inb b)) (fun _ => rfl)
/-- Slot `s` of the staging buffer. -/
def yslot (s : Fin 4) : Memref sig .tc .vmem S112x512 .bf16 :=
  (stM.slice (Rect.unit (s := S4x112x512) (stOff s) S1x112x512.size (stOff_inb s)) (fun _ => rfl)).squeeze S112x512 squeezes_S1x112x512_S112x512
/-- Staging slot `s`'s semaphore. -/
def ysem (s : Fin 4) : DmaSems sig S_ := (cc0_scratch11.slice (Rect.unit (s := S4) (qemOff s) S1.size (qemOff_inb s))).squeeze S_ squeezes_S1_S_
/-- The four small inputs' semaphores. -/
def isem (s : Fin 4) : DmaSems sig S_ := (cc0_scratch10.slice (Rect.unit (s := S4) (qemOff s) S1.size (qemOff_inb s))).squeeze S_ squeezes_S1_S_

instance (s : Fin 8) : ClosedOff (slotOff s) := ⟨slotOff s, rfl⟩
instance (t : Fin 60) : ClosedOff (wOff t) := ⟨wOff t, rfl⟩
instance (s : Fin 4) : ClosedOff (stOff s) := ⟨stOff s, rfl⟩
instance (b : Fin 12) : ClosedOff (yOff b) := ⟨yOff b, rfl⟩

theorem rsem_congr {off : Fin 1 → Nat} {s : Fin 8} (e : off = semOff s) (hh) :
    (cc0_scratch9.slice (Rect.unit (s := S8) off S1.size hh)).squeeze S_ squeezes_S1_S_ = rsem s :=
  congrArg (fun A : DmaSems sig S1 => A.squeeze S_ squeezes_S1_S_) (SemArray.slice_unit_congr _ e _ _)
theorem ysem_congr {off : Fin 1 → Nat} {s : Fin 4} (e : off = qemOff s) (hh) :
    (cc0_scratch11.slice (Rect.unit (s := S4) off S1.size hh)).squeeze S_ squeezes_S1_S_ = ysem s :=
  congrArg (fun A : DmaSems sig S1 => A.squeeze S_ squeezes_S1_S_) (SemArray.slice_unit_congr _ e _ _)
theorem isem_congr {off : Fin 1 → Nat} {s : Fin 4} (e : off = qemOff s) (hh) :
    (cc0_scratch10.slice (Rect.unit (s := S4) off S1.size hh)).squeeze S_ squeezes_S1_S_ = isem s :=
  congrArg (fun A : DmaSems sig S1 => A.squeeze S_ squeezes_S1_S_) (SemArray.slice_unit_congr _ e _ _)
theorem rslot_congr {off : Fin 3 → Nat} {s : Fin 8} (e : off = slotOff s) (hh hs) :
    (ringM.slice (Rect.unit (s := S8x6144x512) off S1x6144x512.size hh) hs).squeeze S6144x512 squeezes_S1x6144x512_S6144x512 = rslot s :=
  congrArg (fun M : Memref sig .tc .vmem S1x6144x512 .fp8e4m3 => M.squeeze S6144x512 squeezes_S1x6144x512_S6144x512) (Memref.slice_unit_congr _ e _ _ _ _)
theorem yslot_congr {off : Fin 3 → Nat} {s : Fin 4} (e : off = stOff s) (hh hs) :
    (stM.slice (Rect.unit (s := S4x112x512) off S1x112x512.size hh) hs).squeeze S112x512 squeezes_S1x112x512_S112x512 = yslot s :=
  congrArg (fun M : Memref sig .tc .vmem S1x112x512 .bf16 => M.squeeze S112x512 squeezes_S1x112x512_S112x512) (Memref.slice_unit_congr _ e _ _ _ _)
theorem wblk_congr {off : Fin 2 → Nat} {t : Fin 60} (e : off = wOff t) (hh hs) :
    wM.slice (Rect.unit (s := S30720x6144) off S6144x512.size hh) hs = wblk t := Memref.slice_unit_congr _ e _ _ _ (fun _ => rfl)
theorem yblk_congr {off : Fin 2 → Nat} {b : Fin 12} (e : off = yOff b) (hh hs) :
    yM.slice (Rect.unit (s := S112x6144) off S112x512.size hh) hs = yblk b := Memref.slice_unit_congr _ e _ _ _ (fun _ => rfl)

/-! ## Before the loop: the small inputs' semaphores, items 0 … 6 -/

@[sl_canon] theorem isemL0 (hh) : (cc0_scratch10.slice (Rect.unit (s := S4) (![0]) S1.size hh)).squeeze S_ squeezes_S1_S_ = isem 0 := isem_congr (by decide) _
@[sl_canon] theorem isemL1 (hh) : (cc0_scratch10.slice (Rect.unit (s := S4) (![1]) S1.size hh)).squeeze S_ squeezes_S1_S_ = isem 1 := isem_congr (by decide) _
@[sl_canon] theorem isemL2 (hh) : (cc0_scratch10.slice (Rect.unit (s := S4) (![2]) S1.size hh)).squeeze S_ squeezes_S1_S_ = isem 2 := isem_congr (by decide) _
@[sl_canon] theorem isemL3 (hh) : (cc0_scratch10.slice (Rect.unit (s := S4) (![3]) S1.size hh)).squeeze S_ squeezes_S1_S_ = isem 3 := isem_congr (by decide) _
theorem cond1 : k0_cond1 = 1#1 := by decide
@[sl_canon] theorem psem0 (hh) : (cc0_scratch9.slice (Rect.unit (s := S8) (k0_off1) S1.size hh)).squeeze S_ squeezes_S1_S_ = rsem 0 := rsem_congr (by decide) _
@[sl_canon] theorem pslot0 (hh hs) : (ringM.slice (Rect.unit (s := S8x6144x512) (k0_off2) S1x6144x512.size hh) hs).squeeze S6144x512 squeezes_S1x6144x512_S6144x512 = rslot 0 := rslot_congr (by decide) _ _
@[sl_canon] theorem pblk0 (hh hs) : wM.slice (Rect.unit (s := S30720x6144) (k0_off3) S6144x512.size hh) hs = wblk 0 := wblk_congr (by decide) _ _
theorem cond2 : k0_cond2 = 1#1 := by decide
@[sl_canon] theorem psem1 (hh) : (cc0_scratch9.slice (Rect.unit (s := S8) (k0_off4) S1.size hh)).squeeze S_ squeezes_S1_S_ = rsem 1 := rsem_congr (by decide) _
@[sl_canon] theorem pslot1 (hh hs) : (ringM.slice (Rect.unit (s := S8x6144x512) (k0_off5) S1x6144x512.size hh) hs).squeeze S6144x512 squeezes_S1x6144x512_S6144x512 = rslot 1 := rslot_congr (by decide) _ _
@[sl_canon] theorem pblk1 (hh hs) : wM.slice (Rect.unit (s := S30720x6144) (k0_off6) S6144x512.size hh) hs = wblk 1 := wblk_congr (by decide) _ _
theorem cond3 : k0_cond3 = 1#1 := by decide
@[sl_canon] theorem psem2 (hh) : (cc0_scratch9.slice (Rect.unit (s := S8) (k0_off7) S1.size hh)).squeeze S_ squeezes_S1_S_ = rsem 2 := rsem_congr (by decide) _
@[sl_canon] theorem pslot2 (hh hs) : (ringM.slice (Rect.unit (s := S8x6144x512) (k0_off8) S1x6144x512.size hh) hs).squeeze S6144x512 squeezes_S1x6144x512_S6144x512 = rslot 2 := rslot_congr (by decide) _ _
@[sl_canon] theorem pblk2 (hh hs) : wM.slice (Rect.unit (s := S30720x6144) (k0_off9) S6144x512.size hh) hs = wblk 2 := wblk_congr (by decide) _ _
theorem cond4 : k0_cond4 = 1#1 := by decide
@[sl_canon] theorem psem3 (hh) : (cc0_scratch9.slice (Rect.unit (s := S8) (k0_off10) S1.size hh)).squeeze S_ squeezes_S1_S_ = rsem 3 := rsem_congr (by decide) _
@[sl_canon] theorem pslot3 (hh hs) : (ringM.slice (Rect.unit (s := S8x6144x512) (k0_off11) S1x6144x512.size hh) hs).squeeze S6144x512 squeezes_S1x6144x512_S6144x512 = rslot 3 := rslot_congr (by decide) _ _
@[sl_canon] theorem pblk3 (hh hs) : wM.slice (Rect.unit (s := S30720x6144) (k0_off12) S6144x512.size hh) hs = wblk 3 := wblk_congr (by decide) _ _
theorem cond5 : k0_cond5 = 1#1 := by decide
@[sl_canon] theorem psem4 (hh) : (cc0_scratch9.slice (Rect.unit (s := S8) (k0_off13) S1.size hh)).squeeze S_ squeezes_S1_S_ = rsem 4 := rsem_congr (by decide) _
@[sl_canon] theorem pslot4 (hh hs) : (ringM.slice (Rect.unit (s := S8x6144x512) (k0_off14) S1x6144x512.size hh) hs).squeeze S6144x512 squeezes_S1x6144x512_S6144x512 = rslot 4 := rslot_congr (by decide) _ _
@[sl_canon] theorem pblk4 (hh hs) : wM.slice (Rect.unit (s := S30720x6144) (k0_off15) S6144x512.size hh) hs = wblk 4 := wblk_congr (by decide) _ _
theorem cond6 : k0_cond6 = 1#1 := by decide
@[sl_canon] theorem psem5 (hh) : (cc0_scratch9.slice (Rect.unit (s := S8) (k0_off16) S1.size hh)).squeeze S_ squeezes_S1_S_ = rsem 5 := rsem_congr (by decide) _
@[sl_canon] theorem pslot5 (hh hs) : (ringM.slice (Rect.unit (s := S8x6144x512) (k0_off17) S1x6144x512.size hh) hs).squeeze S6144x512 squeezes_S1x6144x512_S6144x512 = rslot 5 := rslot_congr (by decide) _ _
@[sl_canon] theorem pblk5 (hh hs) : wM.slice (Rect.unit (s := S30720x6144) (k0_off18) S6144x512.size hh) hs = wblk 5 := wblk_congr (by decide) _ _
theorem cond7 : k0_cond7 = 1#1 := by decide
@[sl_canon] theorem psem6 (hh) : (cc0_scratch9.slice (Rect.unit (s := S8) (k0_off19) S1.size hh)).squeeze S_ squeezes_S1_S_ = rsem 6 := rsem_congr (by decide) _
@[sl_canon] theorem pslot6 (hh hs) : (ringM.slice (Rect.unit (s := S8x6144x512) (k0_off20) S1x6144x512.size hh) hs).squeeze S6144x512 squeezes_S1x6144x512_S6144x512 = rslot 6 := rslot_congr (by decide) _ _
@[sl_canon] theorem pblk6 (hh hs) : wM.slice (Rect.unit (s := S30720x6144) (k0_off21) S6144x512.size hh) hs = wblk 6 := wblk_congr (by decide) _ _

/-! ## Trip `k`: the conditions -/

theorem cond8_iff : ∀ (k : Fin k0_t1_loop.trips), k0_cond8 k = 1#1 ↔ 5 * k.val + 7 < 60 := by decide +kernel
theorem cond9_iff : ∀ (k : Fin k0_t1_loop.trips), k0_cond9 k = 1#1 ↔ 1 ≤ k.val := by decide +kernel
theorem cond10_iff : ∀ (k : Fin k0_t1_loop.trips), k0_cond10 k = 1#1 ↔ 4 ≤ k.val := by decide +kernel
theorem cond11_iff : ∀ (k : Fin k0_t1_loop.trips), k0_cond11 k = 1#1 ↔ 5 * k.val + 8 < 60 := by decide +kernel
theorem cond12_iff : ∀ (k : Fin k0_t1_loop.trips), k0_cond12 k = 1#1 ↔ 5 * k.val + 9 < 60 := by decide +kernel
theorem cond13_iff : ∀ (k : Fin k0_t1_loop.trips), k0_cond13 k = 1#1 ↔ 5 * k.val + 10 < 60 := by decide +kernel
theorem cond14_iff : ∀ (k : Fin k0_t1_loop.trips), k0_cond14 k = 1#1 ↔ 5 * k.val + 11 < 60 := by decide +kernel
theorem trips_eq : k0_t1_loop.trips = 12 := by decide +kernel
theorem trip_lt (k : Fin k0_t1_loop.trips) : k.val < 12 := lt_of_lt_of_eq k.isLt trips_eq

/-! ## Trip `k`: the windows in closed form

Item `5 k + j` is waited and read at step `j`; item `5 k + 7 + j` is issued there into the slot of item `5 k + j - 1`. -/

theorem off22_eq : ∀ (k : Fin k0_t1_loop.trips), k0_off22 k = semOff (Ring.sl 8 (5 * k.val + 7)) := by decide +kernel
theorem off23_eq : ∀ (k : Fin k0_t1_loop.trips), k0_off23 k = slotOff (Ring.sl 8 (5 * k.val + 7)) := by decide +kernel
theorem off24_eq : ∀ (k : Fin k0_t1_loop.trips), 5 * k.val + 7 < 60 → k0_off24 k = wOff (Ring.bk 60 (5 * k.val + 7)) := by decide +kernel
@[sl_canon] theorem rsemI0 (k : Fin k0_t1_loop.trips) (hh) : (cc0_scratch9.slice (Rect.unit (s := S8) (k0_off22 k) S1.size hh)).squeeze S_ squeezes_S1_S_ = rsem (Ring.sl 8 (5 * k.val + 7)) := rsem_congr (off22_eq k) _
@[sl_canon] theorem rslotI0 (k : Fin k0_t1_loop.trips) (hh hs) : (ringM.slice (Rect.unit (s := S8x6144x512) (k0_off23 k) S1x6144x512.size hh) hs).squeeze S6144x512 squeezes_S1x6144x512_S6144x512 = rslot (Ring.sl 8 (5 * k.val + 7)) := rslot_congr (off23_eq k) _ _
@[sl_canon] theorem wblkI0 (k : Fin k0_t1_loop.trips) (hk : 5 * k.val + 7 < 60) (hh hs) : wM.slice (Rect.unit (s := S30720x6144) (k0_off24 k) S6144x512.size hh) hs = wblk (Ring.bk 60 (5 * k.val + 7)) := wblk_congr (off24_eq k hk) _ _
theorem off25_eq0 : ∀ (k : Fin k0_t1_loop.trips), k0_off25 k 0#32 = semOff (Ring.sl 8 (5 * k.val)) := by decide +kernel
theorem off26_eq0 : ∀ (k : Fin k0_t1_loop.trips), k0_off26 k 0#32 = slotOff (Ring.sl 8 (5 * k.val)) := by decide +kernel
theorem off28_eq0 : ∀ (k : Fin k0_t1_loop.trips), k0_off28 k 0#32 = slotOff (Ring.sl 8 (5 * k.val)) := by decide +kernel
theorem off27_eq : ∀ (k : Fin k0_t1_loop.trips), k0_off27 k = wOff (Ring.bk 60 (5 * k.val)) := by decide +kernel
@[sl_canon] theorem rsemW0 (k : Fin k0_t1_loop.trips) (hh) : (cc0_scratch9.slice (Rect.unit (s := S8) (k0_off25 k 0#32) S1.size hh)).squeeze S_ squeezes_S1_S_ = rsem (Ring.sl 8 (5 * k.val)) := rsem_congr (off25_eq0 k) _
@[sl_canon] theorem rslotW0 (k : Fin k0_t1_loop.trips) (hh hs) : (ringM.slice (Rect.unit (s := S8x6144x512) (k0_off26 k 0#32) S1x6144x512.size hh) hs).squeeze S6144x512 squeezes_S1x6144x512_S6144x512 = rslot (Ring.sl 8 (5 * k.val)) := rslot_congr (off26_eq0 k) _ _
@[sl_canon] theorem wblkW0 (k : Fin k0_t1_loop.trips) (hh hs) : wM.slice (Rect.unit (s := S30720x6144) (k0_off27 k) S6144x512.size hh) hs = wblk (Ring.bk 60 (5 * k.val)) := wblk_congr (off27_eq k) _ _
instance (k : Fin k0_t1_loop.trips) : ClosedOff (k0_off28 k 0#32) := ⟨slotOff (Ring.sl 8 (5 * k.val)), off28_eq0 k⟩
theorem off35_eq : ∀ (k : Fin k0_t1_loop.trips), k0_off35 k = semOff (Ring.sl 8 (5 * k.val)) := by decide +kernel
theorem off36_eq : ∀ (k : Fin k0_t1_loop.trips), k0_off36 k = slotOff (Ring.sl 8 (5 * k.val)) := by decide +kernel
theorem off37_eq : ∀ (k : Fin k0_t1_loop.trips), 5 * k.val + 8 < 60 → k0_off37 k = wOff (Ring.bk 60 (5 * k.val + 8)) := by decide +kernel
@[sl_canon] theorem rsemI1 (k : Fin k0_t1_loop.trips) (hh) : (cc0_scratch9.slice (Rect.unit (s := S8) (k0_off35 k) S1.size hh)).squeeze S_ squeezes_S1_S_ = rsem (Ring.sl 8 (5 * k.val)) := rsem_congr (off35_eq k) _
@[sl_canon] theorem rslotI1 (k : Fin k0_t1_loop.trips) (hh hs) : (ringM.slice (Rect.unit (s := S8x6144x512) (k0_off36 k) S1x6144x512.size hh) hs).squeeze S6144x512 squeezes_S1x6144x512_S6144x512 = rslot (Ring.sl 8 (5 * k.val)) := rslot_congr (off36_eq k) _ _
@[sl_canon] theorem wblkI1 (k : Fin k0_t1_loop.trips) (hk : 5 * k.val + 8 < 60) (hh hs) : wM.slice (Rect.unit (s := S30720x6144) (k0_off37 k) S6144x512.size hh) hs = wblk (Ring.bk 60 (5 * k.val + 8)) := wblk_congr (off37_eq k hk) _ _
theorem off25_eq1 : ∀ (k : Fin k0_t1_loop.trips), k0_off25 k 1#32 = semOff (Ring.sl 8 (5 * k.val + 1)) := by decide +kernel
theorem off26_eq1 : ∀ (k : Fin k0_t1_loop.trips), k0_off26 k 1#32 = slotOff (Ring.sl 8 (5 * k.val + 1)) := by decide +kernel
theorem off28_eq1 : ∀ (k : Fin k0_t1_loop.trips), k0_off28 k 1#32 = slotOff (Ring.sl 8 (5 * k.val + 1)) := by decide +kernel
theorem off38_eq : ∀ (k : Fin k0_t1_loop.trips), k0_off38 k = wOff (Ring.bk 60 (5 * k.val + 1)) := by decide +kernel
@[sl_canon] theorem rsemW1 (k : Fin k0_t1_loop.trips) (hh) : (cc0_scratch9.slice (Rect.unit (s := S8) (k0_off25 k 1#32) S1.size hh)).squeeze S_ squeezes_S1_S_ = rsem (Ring.sl 8 (5 * k.val + 1)) := rsem_congr (off25_eq1 k) _
@[sl_canon] theorem rslotW1 (k : Fin k0_t1_loop.trips) (hh hs) : (ringM.slice (Rect.unit (s := S8x6144x512) (k0_off26 k 1#32) S1x6144x512.size hh) hs).squeeze S6144x512 squeezes_S1x6144x512_S6144x512 = rslot (Ring.sl 8 (5 * k.val + 1)) := rslot_congr (off26_eq1 k) _ _
@[sl_canon] theorem wblkW1 (k : Fin k0_t1_loop.trips) (hh hs) : wM.slice (Rect.unit (s := S30720x6144) (k0_off38 k) S6144x512.size hh) hs = wblk (Ring.bk 60 (5 * k.val + 1)) := wblk_congr (off38_eq k) _ _
instance (k : Fin k0_t1_loop.trips) : ClosedOff (k0_off28 k 1#32) := ⟨slotOff (Ring.sl 8 (5 * k.val + 1)), off28_eq1 k⟩
theorem off39_eq : ∀ (k : Fin k0_t1_loop.trips), k0_off39 k = semOff (Ring.sl 8 (5 * k.val + 1)) := by decide +kernel
theorem off40_eq : ∀ (k : Fin k0_t1_loop.trips), k0_off40 k = slotOff (Ring.sl 8 (5 * k.val + 1)) := by decide +kernel
theorem off41_eq : ∀ (k : Fin k0_t1_loop.trips), 5 * k.val + 9 < 60 → k0_off41 k = wOff (Ring.bk 60 (5 * k.val + 9)) := by decide +kernel
@[sl_canon] theorem rsemI2 (k : Fin k0_t1_loop.trips) (hh) : (cc0_scratch9.slice (Rect.unit (s := S8) (k0_off39 k) S1.size hh)).squeeze S_ squeezes_S1_S_ = rsem (Ring.sl 8 (5 * k.val + 1)) := rsem_congr (off39_eq k) _
@[sl_canon] theorem rslotI2 (k : Fin k0_t1_loop.trips) (hh hs) : (ringM.slice (Rect.unit (s := S8x6144x512) (k0_off40 k) S1x6144x512.size hh) hs).squeeze S6144x512 squeezes_S1x6144x512_S6144x512 = rslot (Ring.sl 8 (5 * k.val + 1)) := rslot_congr (off40_eq k) _ _
@[sl_canon] theorem wblkI2 (k : Fin k0_t1_loop.trips) (hk : 5 * k.val + 9 < 60) (hh hs) : wM.slice (Rect.unit (s := S30720x6144) (k0_off41 k) S6144x512.size hh) hs = wblk (Ring.bk 60 (5 * k.val + 9)) := wblk_congr (off41_eq k hk) _ _
theorem off25_eq2 : ∀ (k : Fin k0_t1_loop.trips), k0_off25 k 2#32 = semOff (Ring.sl 8 (5 * k.val + 2)) := by decide +kernel
theorem off26_eq2 : ∀ (k : Fin k0_t1_loop.trips), k0_off26 k 2#32 = slotOff (Ring.sl 8 (5 * k.val + 2)) := by decide +kernel
theorem off28_eq2 : ∀ (k : Fin k0_t1_loop.trips), k0_off28 k 2#32 = slotOff (Ring.sl 8 (5 * k.val + 2)) := by decide +kernel
theorem off42_eq : ∀ (k : Fin k0_t1_loop.trips), k0_off42 k = wOff (Ring.bk 60 (5 * k.val + 2)) := by decide +kernel
@[sl_canon] theorem rsemW2 (k : Fin k0_t1_loop.trips) (hh) : (cc0_scratch9.slice (Rect.unit (s := S8) (k0_off25 k 2#32) S1.size hh)).squeeze S_ squeezes_S1_S_ = rsem (Ring.sl 8 (5 * k.val + 2)) := rsem_congr (off25_eq2 k) _
@[sl_canon] theorem rslotW2 (k : Fin k0_t1_loop.trips) (hh hs) : (ringM.slice (Rect.unit (s := S8x6144x512) (k0_off26 k 2#32) S1x6144x512.size hh) hs).squeeze S6144x512 squeezes_S1x6144x512_S6144x512 = rslot (Ring.sl 8 (5 * k.val + 2)) := rslot_congr (off26_eq2 k) _ _
@[sl_canon] theorem wblkW2 (k : Fin k0_t1_loop.trips) (hh hs) : wM.slice (Rect.unit (s := S30720x6144) (k0_off42 k) S6144x512.size hh) hs = wblk (Ring.bk 60 (5 * k.val + 2)) := wblk_congr (off42_eq k) _ _
instance (k : Fin k0_t1_loop.trips) : ClosedOff (k0_off28 k 2#32) := ⟨slotOff (Ring.sl 8 (5 * k.val + 2)), off28_eq2 k⟩
theorem off43_eq : ∀ (k : Fin k0_t1_loop.trips), k0_off43 k = semOff (Ring.sl 8 (5 * k.val + 2)) := by decide +kernel
theorem off44_eq : ∀ (k : Fin k0_t1_loop.trips), k0_off44 k = slotOff (Ring.sl 8 (5 * k.val + 2)) := by decide +kernel
theorem off45_eq : ∀ (k : Fin k0_t1_loop.trips), 5 * k.val + 10 < 60 → k0_off45 k = wOff (Ring.bk 60 (5 * k.val + 10)) := by decide +kernel
@[sl_canon] theorem rsemI3 (k : Fin k0_t1_loop.trips) (hh) : (cc0_scratch9.slice (Rect.unit (s := S8) (k0_off43 k) S1.size hh)).squeeze S_ squeezes_S1_S_ = rsem (Ring.sl 8 (5 * k.val + 2)) := rsem_congr (off43_eq k) _
@[sl_canon] theorem rslotI3 (k : Fin k0_t1_loop.trips) (hh hs) : (ringM.slice (Rect.unit (s := S8x6144x512) (k0_off44 k) S1x6144x512.size hh) hs).squeeze S6144x512 squeezes_S1x6144x512_S6144x512 = rslot (Ring.sl 8 (5 * k.val + 2)) := rslot_congr (off44_eq k) _ _
@[sl_canon] theorem wblkI3 (k : Fin k0_t1_loop.trips) (hk : 5 * k.val + 10 < 60) (hh hs) : wM.slice (Rect.unit (s := S30720x6144) (k0_off45 k) S6144x512.size hh) hs = wblk (Ring.bk 60 (5 * k.val + 10)) := wblk_congr (off45_eq k hk) _ _
theorem off25_eq3 : ∀ (k : Fin k0_t1_loop.trips), k0_off25 k 3#32 = semOff (Ring.sl 8 (5 * k.val + 3)) := by decide +kernel
theorem off26_eq3 : ∀ (k : Fin k0_t1_loop.trips), k0_off26 k 3#32 = slotOff (Ring.sl 8 (5 * k.val + 3)) := by decide +kernel
theorem off28_eq3 : ∀ (k : Fin k0_t1_loop.trips), k0_off28 k 3#32 = slotOff (Ring.sl 8 (5 * k.val + 3)) := by decide +kernel
theorem off46_eq : ∀ (k : Fin k0_t1_loop.trips), k0_off46 k = wOff (Ring.bk 60 (5 * k.val + 3)) := by decide +kernel
@[sl_canon] theorem rsemW3 (k : Fin k0_t1_loop.trips) (hh) : (cc0_scratch9.slice (Rect.unit (s := S8) (k0_off25 k 3#32) S1.size hh)).squeeze S_ squeezes_S1_S_ = rsem (Ring.sl 8 (5 * k.val + 3)) := rsem_congr (off25_eq3 k) _
@[sl_canon] theorem rslotW3 (k : Fin k0_t1_loop.trips) (hh hs) : (ringM.slice (Rect.unit (s := S8x6144x512) (k0_off26 k 3#32) S1x6144x512.size hh) hs).squeeze S6144x512 squeezes_S1x6144x512_S6144x512 = rslot (Ring.sl 8 (5 * k.val + 3)) := rslot_congr (off26_eq3 k) _ _
@[sl_canon] theorem wblkW3 (k : Fin k0_t1_loop.trips) (hh hs) : wM.slice (Rect.unit (s := S30720x6144) (k0_off46 k) S6144x512.size hh) hs = wblk (Ring.bk 60 (5 * k.val + 3)) := wblk_congr (off46_eq k) _ _
instance (k : Fin k0_t1_loop.trips) : ClosedOff (k0_off28 k 3#32) := ⟨slotOff (Ring.sl 8 (5 * k.val + 3)), off28_eq3 k⟩
theorem off47_eq : ∀ (k : Fin k0_t1_loop.trips), k0_off47 k = semOff (Ring.sl 8 (5 * k.val + 3)) := by decide +kernel
theorem off48_eq : ∀ (k : Fin k0_t1_loop.trips), k0_off48 k = slotOff (Ring.sl 8 (5 * k.val + 3)) := by decide +kernel
theorem off49_eq : ∀ (k : Fin k0_t1_loop.trips), 5 * k.val + 11 < 60 → k0_off49 k = wOff (Ring.bk 60 (5 * k.val + 11)) := by decide +kernel
@[sl_canon] theorem rsemI4 (k : Fin k0_t1_loop.trips) (hh) : (cc0_scratch9.slice (Rect.unit (s := S8) (k0_off47 k) S1.size hh)).squeeze S_ squeezes_S1_S_ = rsem (Ring.sl 8 (5 * k.val + 3)) := rsem_congr (off47_eq k) _
@[sl_canon] theorem rslotI4 (k : Fin k0_t1_loop.trips) (hh hs) : (ringM.slice (Rect.unit (s := S8x6144x512) (k0_off48 k) S1x6144x512.size hh) hs).squeeze S6144x512 squeezes_S1x6144x512_S6144x512 = rslot (Ring.sl 8 (5 * k.val + 3)) := rslot_congr (off48_eq k) _ _
@[sl_canon] theorem wblkI4 (k : Fin k0_t1_loop.trips) (hk : 5 * k.val + 11 < 60) (hh hs) : wM.slice (Rect.unit (s := S30720x6144) (k0_off49 k) S6144x512.size hh) hs = wblk (Ring.bk 60 (5 * k.val + 11)) := wblk_congr (off49_eq k hk) _ _
theorem off25_eq4 : ∀ (k : Fin k0_t1_loop.trips), k0_off25 k 4#32 = semOff (Ring.sl 8 (5 * k.val + 4)) := by decide +kernel
theorem off26_eq4 : ∀ (k : Fin k0_t1_loop.trips), k0_off26 k 4#32 = slotOff (Ring.sl 8 (5 * k.val + 4)) := by decide +kernel
theorem off28_eq4 : ∀ (k : Fin k0_t1_loop.trips), k0_off28 k 4#32 = slotOff (Ring.sl 8 (5 * k.val + 4)) := by decide +kernel
theorem off50_eq : ∀ (k : Fin k0_t1_loop.trips), k0_off50 k = wOff (Ring.bk 60 (5 * k.val + 4)) := by decide +kernel
@[sl_canon] theorem rsemW4 (k : Fin k0_t1_loop.trips) (hh) : (cc0_scratch9.slice (Rect.unit (s := S8) (k0_off25 k 4#32) S1.size hh)).squeeze S_ squeezes_S1_S_ = rsem (Ring.sl 8 (5 * k.val + 4)) := rsem_congr (off25_eq4 k) _
@[sl_canon] theorem rslotW4 (k : Fin k0_t1_loop.trips) (hh hs) : (ringM.slice (Rect.unit (s := S8x6144x512) (k0_off26 k 4#32) S1x6144x512.size hh) hs).squeeze S6144x512 squeezes_S1x6144x512_S6144x512 = rslot (Ring.sl 8 (5 * k.val + 4)) := rslot_congr (off26_eq4 k) _ _
@[sl_canon] theorem wblkW4 (k : Fin k0_t1_loop.trips) (hh hs) : wM.slice (Rect.unit (s := S30720x6144) (k0_off50 k) S6144x512.size hh) hs = wblk (Ring.bk 60 (5 * k.val + 4)) := wblk_congr (off50_eq k) _ _
instance (k : Fin k0_t1_loop.trips) : ClosedOff (k0_off28 k 4#32) := ⟨slotOff (Ring.sl 8 (5 * k.val + 4)), off28_eq4 k⟩

/-! ## Trip `k`: the result's blocks `k - 1` (issued) and `k - 4` (waited), the staging slot -/

theorem off29_eq : ∀ (k : Fin k0_t1_loop.trips), 1 ≤ k.val → k0_off29 k = qemOff (Ring.sl 4 (k.val - 1)) := by decide +kernel
theorem off30_eq : ∀ (k : Fin k0_t1_loop.trips), 1 ≤ k.val → k0_off30 k = yOff (Ring.bk 12 (k.val - 1)) := by decide +kernel
theorem off31_eq : ∀ (k : Fin k0_t1_loop.trips), 1 ≤ k.val → k0_off31 k = stOff (Ring.sl 4 (k.val - 1)) := by decide +kernel
@[sl_canon] theorem ysemT1 (k : Fin k0_t1_loop.trips) (hk : 1 ≤ k.val) (hh) : (cc0_scratch11.slice (Rect.unit (s := S4) (k0_off29 k) S1.size hh)).squeeze S_ squeezes_S1_S_ = ysem (Ring.sl 4 (k.val - 1)) := ysem_congr (off29_eq k hk) _
@[sl_canon] theorem yblkT1 (k : Fin k0_t1_loop.trips) (hk : 1 ≤ k.val) (hh hs) : yM.slice (Rect.unit (s := S112x6144) (k0_off30 k) S112x512.size hh) hs = yblk (Ring.bk 12 (k.val - 1)) := yblk_congr (off30_eq k hk) _ _
@[sl_canon] theorem yslotT1 (k : Fin k0_t1_loop.trips) (hk : 1 ≤ k.val) (hh hs) : (stM.slice (Rect.unit (s := S4x112x512) (k0_off31 k) S1x112x512.size hh) hs).squeeze S112x512 squeezes_S1x112x512_S112x512 = yslot (Ring.sl 4 (k.val - 1)) := yslot_congr (off31_eq k hk) _ _
theorem off32_eq : ∀ (k : Fin k0_t1_loop.trips), 4 ≤ k.val → k0_off32 k = qemOff (Ring.sl 4 (k.val)) := by decide +kernel
theorem off33_eq : ∀ (k : Fin k0_t1_loop.trips), 4 ≤ k.val → k0_off33 k = yOff (Ring.bk 12 (k.val - 4)) := by decide +kernel
theorem off34_eq : ∀ (k : Fin k0_t1_loop.trips), 4 ≤ k.val → k0_off34 k = stOff (Ring.sl 4 (k.val)) := by decide +kernel
@[sl_canon] theorem ysemT4 (k : Fin k0_t1_loop.trips) (hk : 4 ≤ k.val) (hh) : (cc0_scratch11.slice (Rect.unit (s := S4) (k0_off32 k) S1.size hh)).squeeze S_ squeezes_S1_S_ = ysem (Ring.sl 4 (k.val)) := ysem_congr (off32_eq k hk) _
@[sl_canon] theorem yblkT4 (k : Fin k0_t1_loop.trips) (hk : 4 ≤ k.val) (hh hs) : yM.slice (Rect.unit (s := S112x6144) (k0_off33 k) S112x512.size hh) hs = yblk (Ring.bk 12 (k.val - 4)) := yblk_congr (off33_eq k hk) _ _
@[sl_canon] theorem yslotT4 (k : Fin k0_t1_loop.trips) (hk : 4 ≤ k.val) (hh hs) : (stM.slice (Rect.unit (s := S4x112x512) (k0_off34 k) S1x112x512.size hh) hs).squeeze S112x512 squeezes_S1x112x512_S112x512 = yslot (Ring.sl 4 (k.val)) := yslot_congr (off34_eq k hk) _ _

/-- The four column tiles of staging slot `s`. -/
abbrev tileOff (s : Fin 4) (r : Nat) : Fin 3 → Nat := ![s.val, 0, 128 * r]
instance (s : Fin 4) (r : Nat) : ClosedOff (tileOff s r) := ⟨tileOff s r, rfl⟩
abbrev xOff (k r : Nat) : Fin 2 → Nat := ![0, 512 * k + 128 * r]

theorem off53_eq : ∀ (k : Fin k0_t1_loop.trips), k0_off53 k = tileOff (Ring.sl 4 k.val) 0 := by decide +kernel
instance (k : Fin k0_t1_loop.trips) : ClosedOff (k0_off53 k) := ⟨tileOff (Ring.sl 4 k.val) 0, off53_eq k⟩
theorem off51_eq0 : ∀ (k : Fin k0_t1_loop.trips), k0_off51 k 0#32 = xOff k.val 0 := by decide +kernel
instance (k : Fin k0_t1_loop.trips) : ClosedOff (k0_off51 k 0#32) := ⟨xOff k.val 0, off51_eq0 k⟩
theorem off52_eq0 : ∀ (k : Fin k0_t1_loop.trips), k0_off52 k 0#32 = xOff k.val 0 := by decide +kernel
instance (k : Fin k0_t1_loop.trips) : ClosedOff (k0_off52 k 0#32) := ⟨xOff k.val 0, off52_eq0 k⟩
theorem off54_eq : ∀ (k : Fin k0_t1_loop.trips), k0_off54 k = tileOff (Ring.sl 4 k.val) 1 := by decide +kernel
instance (k : Fin k0_t1_loop.trips) : ClosedOff (k0_off54 k) := ⟨tileOff (Ring.sl 4 k.val) 1, off54_eq k⟩
theorem off51_eq1 : ∀ (k : Fin k0_t1_loop.trips), k0_off51 k 128#32 = xOff k.val 1 := by decide +kernel
instance (k : Fin k0_t1_loop.trips) : ClosedOff (k0_off51 k 128#32) := ⟨xOff k.val 1, off51_eq1 k⟩
theorem off52_eq1 : ∀ (k : Fin k0_t1_loop.trips), k0_off52 k 128#32 = xOff k.val 1 := by decide +kernel
instance (k : Fin k0_t1_loop.trips) : ClosedOff (k0_off52 k 128#32) := ⟨xOff k.val 1, off52_eq1 k⟩
theorem off55_eq : ∀ (k : Fin k0_t1_loop.trips), k0_off55 k = tileOff (Ring.sl 4 k.val) 2 := by decide +kernel
instance (k : Fin k0_t1_loop.trips) : ClosedOff (k0_off55 k) := ⟨tileOff (Ring.sl 4 k.val) 2, off55_eq k⟩
theorem off51_eq2 : ∀ (k : Fin k0_t1_loop.trips), k0_off51 k 256#32 = xOff k.val 2 := by decide +kernel
instance (k : Fin k0_t1_loop.trips) : ClosedOff (k0_off51 k 256#32) := ⟨xOff k.val 2, off51_eq2 k⟩
theorem off52_eq2 : ∀ (k : Fin k0_t1_loop.trips), k0_off52 k 256#32 = xOff k.val 2 := by decide +kernel
instance (k : Fin k0_t1_loop.trips) : ClosedOff (k0_off52 k 256#32) := ⟨xOff k.val 2, off52_eq2 k⟩
theorem off56_eq : ∀ (k : Fin k0_t1_loop.trips), k0_off56 k = tileOff (Ring.sl 4 k.val) 3 := by decide +kernel
instance (k : Fin k0_t1_loop.trips) : ClosedOff (k0_off56 k) := ⟨tileOff (Ring.sl 4 k.val) 3, off56_eq k⟩
theorem off51_eq3 : ∀ (k : Fin k0_t1_loop.trips), k0_off51 k 384#32 = xOff k.val 3 := by decide +kernel
instance (k : Fin k0_t1_loop.trips) : ClosedOff (k0_off51 k 384#32) := ⟨xOff k.val 3, off51_eq3 k⟩
theorem off52_eq3 : ∀ (k : Fin k0_t1_loop.trips), k0_off52 k 384#32 = xOff k.val 3 := by decide +kernel
instance (k : Fin k0_t1_loop.trips) : ClosedOff (k0_off52 k 384#32) := ⟨xOff k.val 3, off52_eq3 k⟩

/-! ## After the loop: block 11 issued, blocks 8 … 11 waited -/

@[sl_canon] theorem ysemE8 (hh) : (cc0_scratch11.slice (Rect.unit (s := S4) (k0_off57 8#32) S1.size hh)).squeeze S_ squeezes_S1_S_ = ysem 0 := ysem_congr (by decide +kernel) _
@[sl_canon] theorem yblkE8 (hh hs) : yM.slice (Rect.unit (s := S112x6144) (k0_off58 8#32) S112x512.size hh) hs = yblk 8 := yblk_congr (by decide +kernel) _ _
@[sl_canon] theorem yslotE8 (hh hs) : (stM.slice (Rect.unit (s := S4x112x512) (k0_off59 8#32) S1x112x512.size hh) hs).squeeze S112x512 squeezes_S1x112x512_S112x512 = yslot 0 := yslot_congr (by decide +kernel) _ _
@[sl_canon] theorem ysemE9 (hh) : (cc0_scratch11.slice (Rect.unit (s := S4) (k0_off57 9#32) S1.size hh)).squeeze S_ squeezes_S1_S_ = ysem 1 := ysem_congr (by decide +kernel) _
@[sl_canon] theorem yblkE9 (hh hs) : yM.slice (Rect.unit (s := S112x6144) (k0_off58 9#32) S112x512.size hh) hs = yblk 9 := yblk_congr (by decide +kernel) _ _
@[sl_canon] theorem yslotE9 (hh hs) : (stM.slice (Rect.unit (s := S4x112x512) (k0_off59 9#32) S1x112x512.size hh) hs).squeeze S112x512 squeezes_S1x112x512_S112x512 = yslot 1 := yslot_congr (by decide +kernel) _ _
@[sl_canon] theorem ysemE10 (hh) : (cc0_scratch11.slice (Rect.unit (s := S4) (k0_off57 10#32) S1.size hh)).squeeze S_ squeezes_S1_S_ = ysem 2 := ysem_congr (by decide +kernel) _
@[sl_canon] theorem yblkE10 (hh hs) : yM.slice (Rect.unit (s := S112x6144) (k0_off58 10#32) S112x512.size hh) hs = yblk 10 := yblk_congr (by decide +kernel) _ _
@[sl_canon] theorem yslotE10 (hh hs) : (stM.slice (Rect.unit (s := S4x112x512) (k0_off59 10#32) S1x112x512.size hh) hs).squeeze S112x512 squeezes_S1x112x512_S112x512 = yslot 2 := yslot_congr (by decide +kernel) _ _
@[sl_canon] theorem ysemE11 (hh) : (cc0_scratch11.slice (Rect.unit (s := S4) (k0_off57 11#32) S1.size hh)).squeeze S_ squeezes_S1_S_ = ysem 3 := ysem_congr (by decide +kernel) _
@[sl_canon] theorem yblkE11 (hh hs) : yM.slice (Rect.unit (s := S112x6144) (k0_off58 11#32) S112x512.size hh) hs = yblk 11 := yblk_congr (by decide +kernel) _ _
@[sl_canon] theorem yslotE11 (hh hs) : (stM.slice (Rect.unit (s := S4x112x512) (k0_off59 11#32) S1x112x512.size hh) hs).squeeze S112x512 squeezes_S1x112x512_S112x512 = yslot 3 := yslot_congr (by decide +kernel) _ _

end Cert.Proof.KI
-- ==== Proof.KI.Pieces.lean ====
module

public import proofs.«01_k».proof.Proof.KI.Names

/-! # What the loop holds

A block of the weights at home, a ring slot, a ring slot in flight; the same for the result's blocks. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's tokens beside the copies' counters. -/
abbrev UU := UR sig nD τ × Counters
local notation "𝕄" => MT nD τ sig Unit (Elt F) ℕ UU ℕ

abbrev 𝒱₀ : Variants := Variants.none

/-! ## Items of the weights -/

section Items
variable (c : Dev nD) (XW : Buf (Elt F) (wM.view.loc (c : Thread nD τ)))

abbrev rcell (s : Fin 8) : sProp 𝕄 := semVal ((c : Thread nD τ), SemLoc.dma (rsem s).sem) 0
abbrev rheld (s : Fin 8) (f : Buf (Elt F) ((rslot s).view.loc (c : Thread nD τ))) : sProp 𝕄 :=
  (rslot s).view.loc (c : Thread nD τ) ↦[(rslot s).view.set]{fullShare} f
/-- Item `t` at home. -/
abbrev whome (t : Fin 60) : sProp 𝕄 := (wblk t).view.loc (c : Thread nD τ) ↦[(wblk t).view.set]{fullShare} XW
/-- Item `t` as the words its copy moves. -/
abbrev wload (t : Fin 60) : S6144x512.Idx → Elt F .fp8e4m3 := ReadAs.same.apply ((wblk t).view.read (Elt F) XW)
/-- Slot `s` after item `t` landed over `f`. -/
abbrev rlanded (s : Fin 8) (t : Fin 60) (f : Buf (Elt F) ((rslot s).view.loc (c : Thread nD τ))) : Buf (Elt F) ((rslot s).view.loc (c : Thread nD τ)) :=
  (rslot s).view.writes (Elt F) f [⟨Rect.whole S6144x512, wload c XW t⟩]
abbrev NW : ℕ := 98304
/-- Slot `s` in flight with item `t`, issued over `f`. -/
abbrev rflight (s : Fin 8) (t : Fin 60) (f : Buf (Elt F) ((rslot s).view.loc (c : Thread nD τ))) : sProp 𝕄 :=
  Transfers.Flight countersEmb (c : Thread nD τ) (SemLoc.dma (rsem s).sem) () NW iprop(rheld c s (rlanded c XW s t f) ∗ whome c XW t)
/-- Slot `s` in flight with item `t`; -/
abbrev rinflAt (s : Fin 8) (t : Fin 60) : sProp 𝕄 := iprop(∃ f, rflight c XW s t f)
/-- slot `s` free. -/
abbrev rfreeAt (s : Fin 8) : sProp 𝕄 := iprop(rcell c s ∗ ∃ f, rheld (F := F) c s f)
/-- The items at home when the `L` items from `p` on are in flight. -/
abbrev whomes (L p : ℕ) : sProp 𝕄 := bigSep (Ring.homeSet (NB := 60) L p) (whome c XW)

theorem whomes_out (L p : ℕ) (h : p + L < 60) : whomes c XW L p = iprop(whome c XW (Ring.bk 60 (p + L)) ∗ whomes c XW (L + 1) p) := by
  have e : Ring.homeSet (NB := 60) L p = insert (Ring.bk 60 (p + L)) (Ring.homeSet (L + 1) p) := by
    ext b; rw [Finset.mem_insert, Ring.mem_homeSet, Ring.mem_homeSet, Fin.ext_iff, Ring.bk_val h]; omega
  have hn : Ring.bk 60 (p + L) ∉ Ring.homeSet (NB := 60) (L + 1) p := by
    rw [Ring.mem_homeSet, Ring.bk_val h]; omega
  unfold whomes
  rw [e, bigSep_insert hn]
  rfl
theorem whomes_back (L p : ℕ) (h : p < 60) : whomes c XW L (p + 1) = iprop(whome c XW (Ring.bk 60 p) ∗ whomes c XW (L + 1) p) := by
  have e : Ring.homeSet (NB := 60) L (p + 1) = insert (Ring.bk 60 p) (Ring.homeSet (L + 1) p) := by
    ext b; rw [Finset.mem_insert, Ring.mem_homeSet, Ring.mem_homeSet, Fin.ext_iff, Ring.bk_val h]; omega
  have hn : Ring.bk 60 p ∉ Ring.homeSet (NB := 60) (L + 1) p := by
    rw [Ring.mem_homeSet, Ring.bk_val h]; omega
  unfold whomes
  rw [e, bigSep_insert hn]
  rfl
theorem whomes_clip (L L' p : ℕ) (h : 60 ≤ p + L) (h' : 60 ≤ p + L') : whomes c XW L p = whomes c XW L' p := by
  have e : Ring.homeSet (NB := 60) L p = Ring.homeSet L' p := by
    ext b; rw [Ring.mem_homeSet, Ring.mem_homeSet]; have := b.isLt; omega
  unfold whomes
  rw [e]
end Items

/-! ## Blocks of the result -/

section Blocks
variable (c : Dev nD)

abbrev ycell (s : Fin 4) : sProp 𝕄 := semVal ((c : Thread nD τ), SemLoc.dma (ysem s).sem) 0
abbrev yheld (s : Fin 4) (f : Buf (Elt F) ((yslot s).view.loc (c : Thread nD τ))) : sProp 𝕄 :=
  (yslot s).view.loc (c : Thread nD τ) ↦[(yslot s).view.set]{fullShare} f
abbrev yhome (b : Fin 12) (g : Buf (Elt F) ((yblk b).view.loc (c : Thread nD τ))) : sProp 𝕄 :=
  (yblk b).view.loc (c : Thread nD τ) ↦[(yblk b).view.set]{fullShare} g
/-- Staging slot `s`, read as a block. -/
abbrev yread (s : Fin 4) (f : Buf (Elt F) ((yslot s).view.loc (c : Thread nD τ))) : S112x512.Idx → Elt F .bf16 := ReadAs.same.apply ((yslot s).view.read (Elt F) f)
abbrev ylanded (s : Fin 4) (b : Fin 12) (f : Buf (Elt F) ((yslot s).view.loc (c : Thread nD τ))) (g : Buf (Elt F) ((yblk b).view.loc (c : Thread nD τ))) :
    Buf (Elt F) ((yblk b).view.loc (c : Thread nD τ)) :=
  (yblk b).view.writes (Elt F) g [⟨Rect.whole S112x512, yread c s f⟩]
abbrev NY : ℕ := 3584
abbrev yflight (s : Fin 4) (b : Fin 12) (f : Buf (Elt F) ((yslot s).view.loc (c : Thread nD τ))) (g : Buf (Elt F) ((yblk b).view.loc (c : Thread nD τ))) : sProp 𝕄 :=
  Transfers.Flight countersEmb (c : Thread nD τ) (SemLoc.dma (ysem s).sem) () NY iprop(yhome c b (ylanded c s b f g) ∗ yheld c s f)
/-- Staging slot `s` held at `f`, its semaphore at rest. -/
abbrev yfullAt (s : Fin 4) (f : Buf (Elt F) ((yslot s).view.loc (c : Thread nD τ))) : sProp 𝕄 := iprop(ycell c s ∗ yheld c s f)
end Blocks

/-! ## What stays -/

section Still
variable (c : Dev nD) (XB : Buf (Elt F) (xbM.view.loc (c : Thread nD τ))) (AQ : Buf (Elt F) (aqM.view.loc (c : Thread nD τ)))
  (AS : Buf (Elt F) (asbM.view.loc (c : Thread nD τ))) (WS : Buf (Elt F) (wsoM.view.loc (c : Thread nD τ)))

/-- The buffers a trip only reads, the accumulator, the core's dues. -/
abbrev still : sProp 𝕄 := iprop(
  (aqM.view.loc (c : Thread nD τ) ↦[aqM.view.set]{fullShare} AQ) ∗ (xbM.view.loc (c : Thread nD τ) ↦[xbM.view.set]{fullShare} XB)
  ∗ (asbM.view.loc (c : Thread nD τ) ↦[asbM.view.set]{fullShare} AS) ∗ (wsoM.view.loc (c : Thread nD τ) ↦[wsoM.view.set]{fullShare} WS)
  ∗ (∃ f, accM.view.loc (c : Thread nD τ) ↦[accM.view.set]{fullShare} f) ∗ (∃ W, owes (c : Thread nD τ) 0 W))
end Still

end Cert.Proof.KI
-- ==== Proof.KI.Values.lean ====
module

public import proofs.«01_k».proof.Proof.KI.Pieces

/-! # What one trip computes

Trip `k` multiplies the codes with the five weight blocks of column block `k`, one after the other, adding the
products up in the accumulator (`sum0` … `sum4`), and stores the block's four column tiles into staging slot
`k % 4` (`stW`). -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (XW : Buf (Elt F) (wM.view.loc (c : Thread nD τ)))
  (XB : Buf (Elt F) (xbM.view.loc (c : Thread nD τ))) (AQ : Buf (Elt F) (aqM.view.loc (c : Thread nD τ)))
  (AS : Buf (Elt F) (asbM.view.loc (c : Thread nD τ))) (WS : Buf (Elt F) (wsoM.view.loc (c : Thread nD τ)))

/-- Weight block 0 of column block `k`, as the trip loads it from its ring slot. -/
abbrev wAt0 (k : Fin k0_t1_loop.trips) : Vec F S1x6144x512 .fp8e4m3 :=
  View.readAt (Elt F) ringM.view (Rect.unit (s := S8x6144x512) (k0_off28 k 0#32) S1x6144x512.size (k0_off28_inb k 0)).toLoadRect
    ((rslot (Ring.sl 8 (5 * k.val))).view.writes (Elt F) (rslot (Ring.sl 8 (5 * k.val))).view.junk [⟨Rect.whole S6144x512, wload c XW (Ring.bk 60 (5 * k.val))⟩])
/-- Columns 0 … of the codes. -/
abbrev aAt0 : Vec F S128x6144 .fp8e4m3 :=
  View.readAt (Elt F) aqM.view (Rect.unit (s := S128x30720) ![0, 0] S128x6144.size inb_S128x30720_S128x6144_0_0).toLoadRect AQ

/-- Weight block 1 of column block `k`, as the trip loads it from its ring slot. -/
abbrev wAt1 (k : Fin k0_t1_loop.trips) : Vec F S1x6144x512 .fp8e4m3 :=
  View.readAt (Elt F) ringM.view (Rect.unit (s := S8x6144x512) (k0_off28 k 1#32) S1x6144x512.size (k0_off28_inb k 1)).toLoadRect
    ((rslot (Ring.sl 8 (5 * k.val + 1))).view.writes (Elt F) (rslot (Ring.sl 8 (5 * k.val + 1))).view.junk [⟨Rect.whole S6144x512, wload c XW (Ring.bk 60 (5 * k.val + 1))⟩])
/-- Columns 6144 … of the codes. -/
abbrev aAt1 : Vec F S128x6144 .fp8e4m3 :=
  View.readAt (Elt F) aqM.view (Rect.unit (s := S128x30720) ![0, 6144] S128x6144.size inb_S128x30720_S128x6144_0_6144).toLoadRect AQ

/-- Weight block 2 of column block `k`, as the trip loads it from its ring slot. -/
abbrev wAt2 (k : Fin k0_t1_loop.trips) : Vec F S1x6144x512 .fp8e4m3 :=
  View.readAt (Elt F) ringM.view (Rect.unit (s := S8x6144x512) (k0_off28 k 2#32) S1x6144x512.size (k0_off28_inb k 2)).toLoadRect
    ((rslot (Ring.sl 8 (5 * k.val + 2))).view.writes (Elt F) (rslot (Ring.sl 8 (5 * k.val + 2))).view.junk [⟨Rect.whole S6144x512, wload c XW (Ring.bk 60 (5 * k.val + 2))⟩])
/-- Columns 12288 … of the codes. -/
abbrev aAt2 : Vec F S128x6144 .fp8e4m3 :=
  View.readAt (Elt F) aqM.view (Rect.unit (s := S128x30720) ![0, 12288] S128x6144.size inb_S128x30720_S128x6144_0_12288).toLoadRect AQ

/-- Weight block 3 of column block `k`, as the trip loads it from its ring slot. -/
abbrev wAt3 (k : Fin k0_t1_loop.trips) : Vec F S1x6144x512 .fp8e4m3 :=
  View.readAt (Elt F) ringM.view (Rect.unit (s := S8x6144x512) (k0_off28 k 3#32) S1x6144x512.size (k0_off28_inb k 3)).toLoadRect
    ((rslot (Ring.sl 8 (5 * k.val + 3))).view.writes (Elt F) (rslot (Ring.sl 8 (5 * k.val + 3))).view.junk [⟨Rect.whole S6144x512, wload c XW (Ring.bk 60 (5 * k.val + 3))⟩])
/-- Columns 18432 … of the codes. -/
abbrev aAt3 : Vec F S128x6144 .fp8e4m3 :=
  View.readAt (Elt F) aqM.view (Rect.unit (s := S128x30720) ![0, 18432] S128x6144.size inb_S128x30720_S128x6144_0_18432).toLoadRect AQ

/-- Weight block 4 of column block `k`, as the trip loads it from its ring slot. -/
abbrev wAt4 (k : Fin k0_t1_loop.trips) : Vec F S1x6144x512 .fp8e4m3 :=
  View.readAt (Elt F) ringM.view (Rect.unit (s := S8x6144x512) (k0_off28 k 4#32) S1x6144x512.size (k0_off28_inb k 4)).toLoadRect
    ((rslot (Ring.sl 8 (5 * k.val + 4))).view.writes (Elt F) (rslot (Ring.sl 8 (5 * k.val + 4))).view.junk [⟨Rect.whole S6144x512, wload c XW (Ring.bk 60 (5 * k.val + 4))⟩])
/-- Columns 24576 … of the codes. -/
abbrev aAt4 : Vec F S128x6144 .fp8e4m3 :=
  View.readAt (Elt F) aqM.view (Rect.unit (s := S128x30720) ![0, 24576] S128x6144.size inb_S128x30720_S128x6144_0_24576).toLoadRect AQ

abbrev accR : Rect S128x512 := Rect.unit (s := S128x512) ![0, 0] S128x512.size inb_S128x512_S128x512_0_0
def pc0 (k : Fin k0_t1_loop.trips) : List (View.Piece (Elt F) S128x512 .f32) := [⟨Rect.unit (s := S128x512) ![0, 0] S128x512.size inb_S128x512_S128x512_0_0, k0_pay1 (aAt0 c AQ) (wAt0 c XW k)⟩]
def pc1 (k : Fin k0_t1_loop.trips) : List (View.Piece (Elt F) S128x512 .f32) :=
  ⟨Rect.unit (s := S128x512) ![0, 0] S128x512.size inb_S128x512_S128x512_0_0, k0_pay3 (k0_pay2 (aAt1 c AQ) (wAt1 c XW k) (accM.view.readCov (pc0 c XW AQ k) (Rect.unit (s := S128x512) ![0, 0] S128x512.size inb_S128x512_S128x512_0_0).toLoadRect))⟩ :: pc0 c XW AQ k
def pc2 (k : Fin k0_t1_loop.trips) : List (View.Piece (Elt F) S128x512 .f32) :=
  ⟨Rect.unit (s := S128x512) ![0, 0] S128x512.size inb_S128x512_S128x512_0_0, k0_pay4 (aAt2 c AQ) (wAt2 c XW k) (accM.view.readCov (pc1 c XW AQ k) (Rect.unit (s := S128x512) ![0, 0] S128x512.size inb_S128x512_S128x512_0_0).toLoadRect)⟩ :: pc1 c XW AQ k
def pc3 (k : Fin k0_t1_loop.trips) : List (View.Piece (Elt F) S128x512 .f32) :=
  ⟨Rect.unit (s := S128x512) ![0, 0] S128x512.size inb_S128x512_S128x512_0_0, k0_pay5 (aAt3 c AQ) (wAt3 c XW k) (accM.view.readCov (pc2 c XW AQ k) (Rect.unit (s := S128x512) ![0, 0] S128x512.size inb_S128x512_S128x512_0_0).toLoadRect)⟩ :: pc2 c XW AQ k
/-- The block's whole product, as the body's last step computes it. -/
def prodAt (k : Fin k0_t1_loop.trips) : FVec F S128x512 .f32 :=
  k0_pay6 (aAt4 c AQ) (wAt4 c XW k) (accM.view.readCov (pc3 c XW AQ k) (Rect.unit (s := S128x512) ![0, 0] S128x512.size inb_S128x512_S128x512_0_0).toLoadRect)

abbrev xAt0 (k : Fin k0_t1_loop.trips) : Vec F S112x128 .bf16 := View.readAt (Elt F) xbM.view (Rect.unit (s := S112x6144) (k0_off51 k 0#32) S112x128.size (k0_off51_inb k 0)).toLoadRect XB
abbrev wsAt0 (k : Fin k0_t1_loop.trips) : Vec F S1x128 .f32 := View.readAt (Elt F) wsoM.view (Rect.unit (s := S1x6144) (k0_off52 k 0#32) S1x128.size (k0_off52_inb k 0)).toLoadRect WS
abbrev xAt1 (k : Fin k0_t1_loop.trips) : Vec F S112x128 .bf16 := View.readAt (Elt F) xbM.view (Rect.unit (s := S112x6144) (k0_off51 k 128#32) S112x128.size (k0_off51_inb k 1)).toLoadRect XB
abbrev wsAt1 (k : Fin k0_t1_loop.trips) : Vec F S1x128 .f32 := View.readAt (Elt F) wsoM.view (Rect.unit (s := S1x6144) (k0_off52 k 128#32) S1x128.size (k0_off52_inb k 1)).toLoadRect WS
abbrev xAt2 (k : Fin k0_t1_loop.trips) : Vec F S112x128 .bf16 := View.readAt (Elt F) xbM.view (Rect.unit (s := S112x6144) (k0_off51 k 256#32) S112x128.size (k0_off51_inb k 2)).toLoadRect XB
abbrev wsAt2 (k : Fin k0_t1_loop.trips) : Vec F S1x128 .f32 := View.readAt (Elt F) wsoM.view (Rect.unit (s := S1x6144) (k0_off52 k 256#32) S1x128.size (k0_off52_inb k 2)).toLoadRect WS
abbrev xAt3 (k : Fin k0_t1_loop.trips) : Vec F S112x128 .bf16 := View.readAt (Elt F) xbM.view (Rect.unit (s := S112x6144) (k0_off51 k 384#32) S112x128.size (k0_off51_inb k 3)).toLoadRect XB
abbrev wsAt3 (k : Fin k0_t1_loop.trips) : Vec F S1x128 .f32 := View.readAt (Elt F) wsoM.view (Rect.unit (s := S1x6144) (k0_off52 k 384#32) S1x128.size (k0_off52_inb k 3)).toLoadRect WS
abbrev sAt : Vec F S112x128 .f32 := View.readAt (Elt F) asbM.view (Rect.unit (s := S112x128) ![0, 0] S112x128.size inb_S112x128_S112x128_0_0).toLoadRect AS
/-- The four tiles stored. -/
def tile0 (k : Fin k0_t1_loop.trips) : FVec F S1x112x128 .bf16 := k0_pay9 (k0_pay7 (xAt0 c XB k)) (k0_pay8 (aAt4 c AQ) (wAt4 c XW k) (accM.view.readCov (pc3 c XW AQ k) (Rect.unit (s := S128x512) ![0, 0] S128x512.size inb_S128x512_S128x512_0_0).toLoadRect)) (sAt c AS) (wsAt0 c WS k)
def tile1 (k : Fin k0_t1_loop.trips) : FVec F S1x112x128 .bf16 := k0_pay10 (prodAt c XW AQ k) (xAt1 c XB k) (sAt c AS) (wsAt1 c WS k)
def tile2 (k : Fin k0_t1_loop.trips) : FVec F S1x112x128 .bf16 := k0_pay15 (k0_pay11 (xAt2 c XB k)) (k0_pay12 (prodAt c XW AQ k)) (sAt c AS) (wsAt2 c WS k)
def tile3 (k : Fin k0_t1_loop.trips) : FVec F S1x112x128 .bf16 := k0_pay16 (prodAt c XW AQ k) (xAt3 c XB k) (sAt c AS) (wsAt3 c WS k)

def stW0 (k : Fin k0_t1_loop.trips) (f : Buf (Elt F) ((yslot (Ring.sl 4 k.val)).view.loc (c : Thread nD τ))) : Buf (Elt F) ((yslot (Ring.sl 4 k.val)).view.loc (c : Thread nD τ)) :=
  View.write (Elt F) (stM.access (Rect.unit (s := S4x112x512) (k0_off53 k) S1x112x128.size (k0_off53_inb k))) f (tile0 c XW XB AQ AS WS k) Finset.univ
def stW1 (k : Fin k0_t1_loop.trips) (f : Buf (Elt F) ((yslot (Ring.sl 4 k.val)).view.loc (c : Thread nD τ))) : Buf (Elt F) ((yslot (Ring.sl 4 k.val)).view.loc (c : Thread nD τ)) :=
  View.write (Elt F) (stM.access (Rect.unit (s := S4x112x512) (k0_off54 k) S1x112x128.size (k0_off54_inb k))) (stW0 c XW XB AQ AS WS k f) (tile1 c XW XB AQ AS WS k) Finset.univ
def stW2 (k : Fin k0_t1_loop.trips) (f : Buf (Elt F) ((yslot (Ring.sl 4 k.val)).view.loc (c : Thread nD τ))) : Buf (Elt F) ((yslot (Ring.sl 4 k.val)).view.loc (c : Thread nD τ)) :=
  View.write (Elt F) (stM.access (Rect.unit (s := S4x112x512) (k0_off55 k) S1x112x128.size (k0_off55_inb k))) (stW1 c XW XB AQ AS WS k f) (tile2 c XW XB AQ AS WS k) Finset.univ
def stW3 (k : Fin k0_t1_loop.trips) (f : Buf (Elt F) ((yslot (Ring.sl 4 k.val)).view.loc (c : Thread nD τ))) : Buf (Elt F) ((yslot (Ring.sl 4 k.val)).view.loc (c : Thread nD τ)) :=
  View.write (Elt F) (stM.access (Rect.unit (s := S4x112x512) (k0_off56 k) S1x112x128.size (k0_off56_inb k))) (stW2 c XW XB AQ AS WS k f) (tile3 c XW XB AQ AS WS k) Finset.univ

end
end Cert.Proof.KI
-- ==== Proof.KI.Trip.lean ====
module

public import proofs.«01_k».proof.Proof.KI.Values

/-! # One trip of the loop

Each is one run of the trip at a symbolic `k`, by which copies it starts and waits: items of the weights are issued
as long as there are any (all five up to trip 9, three at trip 10, none at trip 11); a block of the result is issued
from trip 1 on and one is waited from trip 4 on. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (XW : Buf (Elt F) (wM.view.loc (c : Thread nD τ)))
  (XB : Buf (Elt F) (xbM.view.loc (c : Thread nD τ))) (AQ : Buf (Elt F) (aqM.view.loc (c : Thread nD τ)))
  (AS : Buf (Elt F) (asbM.view.loc (c : Thread nD τ))) (WS : Buf (Elt F) (wsoM.view.loc (c : Thread nD τ)))

/-- The body's trip at the call's own arrays and buffers. -/
abbrev tripG (k : Fin k0_t1_loop.trips) : Prog (TpuEff nD τ sig (Elt F) Λ₀ .tc) PUnit :=
  k0_t1_body (F := F) xM (Memref.isWhole_whole _) cM (Memref.isWhole_whole _) sM (Memref.isWhole_whole _) wM (Memref.isWhole_whole _) wsM (Memref.isWhole_whole _) yM (Memref.isWhole_whole _)
    ringM (Memref.isWhole_whole _) xbM (Memref.isWhole_whole _) acbM (Memref.isWhole_whole _) ascM (Memref.isWhole_whole _) wsoM (Memref.isWhole_whole _) aqM (Memref.isWhole_whole _) stM (Memref.isWhole_whole _) asbM (Memref.isWhole_whole _) accM (Memref.isWhole_whole _)
    cc0_scratch9 cc0_scratch10 cc0_scratch11 6#32 k ()

/-- A slot in flight over its last load, as a run leaves it: both loads as one stack of writes. -/
theorem rflight_after (s : Fin 8) (t t' : Fin 60) :
    rflight c XW s t' ((rslot s).view.writes (Elt F) (rslot s).view.junk [⟨Rect.whole S6144x512, wload c XW t⟩])
      = Transfers.Flight countersEmb (c : Thread nD τ) (SemLoc.dma (rsem s).sem) () NW iprop(
          rheld c s ((rslot s).view.writes (Elt F) (rslot s).view.junk [⟨Rect.whole S6144x512, wload c XW t'⟩, ⟨Rect.whole S6144x512, wload c XW t⟩]) ∗ whome c XW t') := by
  simp only [rflight, rlanded, View.writes]

set_option maxHeartbeats 4000000 in
/-- Trip 0: five items issued; no block of the result yet. -/
theorem trip_first (k : Fin k0_t1_loop.trips) (h0 : k.val = 0)
    (f4 : Buf (Elt F) ((yslot (Ring.sl 4 k.val)).view.loc (c : Thread nD τ))) :
    iprop(still c XB AQ AS WS
      ∗ rinflAt c XW (Ring.sl 8 (5 * k.val)) (Ring.bk 60 (5 * k.val))
      ∗ rinflAt c XW (Ring.sl 8 (5 * k.val + 1)) (Ring.bk 60 (5 * k.val + 1))
      ∗ rinflAt c XW (Ring.sl 8 (5 * k.val + 2)) (Ring.bk 60 (5 * k.val + 2))
      ∗ rinflAt c XW (Ring.sl 8 (5 * k.val + 3)) (Ring.bk 60 (5 * k.val + 3))
      ∗ rinflAt c XW (Ring.sl 8 (5 * k.val + 4)) (Ring.bk 60 (5 * k.val + 4))
      ∗ rfreeAt c (Ring.sl 8 (5 * k.val + 7))
      ∗ whome c XW (Ring.bk 60 (5 * k.val + 7))
      ∗ whome c XW (Ring.bk 60 (5 * k.val + 8))
      ∗ whome c XW (Ring.bk 60 (5 * k.val + 9))
      ∗ whome c XW (Ring.bk 60 (5 * k.val + 10))
      ∗ whome c XW (Ring.bk 60 (5 * k.val + 11))
      ∗ yfullAt c (Ring.sl 4 k.val) f4)
    ⊢ wp frame (wpE (defs₀ (F := F)) 𝒱₀ (c : Thread nD τ) none) Set.univ (tripG (F := F) k) (fun _ => iprop(still c XB AQ AS WS
      ∗ rinflAt c XW (Ring.sl 8 (5 * k.val + 7)) (Ring.bk 60 (5 * k.val + 7))
      ∗ rinflAt c XW (Ring.sl 8 (5 * k.val)) (Ring.bk 60 (5 * k.val + 8))
      ∗ rinflAt c XW (Ring.sl 8 (5 * k.val + 1)) (Ring.bk 60 (5 * k.val + 9))
      ∗ rinflAt c XW (Ring.sl 8 (5 * k.val + 2)) (Ring.bk 60 (5 * k.val + 10))
      ∗ rinflAt c XW (Ring.sl 8 (5 * k.val + 3)) (Ring.bk 60 (5 * k.val + 11))
      ∗ rfreeAt c (Ring.sl 8 (5 * k.val + 4))
      ∗ whome c XW (Ring.bk 60 (5 * k.val))
      ∗ whome c XW (Ring.bk 60 (5 * k.val + 1))
      ∗ whome c XW (Ring.bk 60 (5 * k.val + 2))
      ∗ whome c XW (Ring.bk 60 (5 * k.val + 3))
      ∗ whome c XW (Ring.bk 60 (5 * k.val + 4))
      ∗ yfullAt c (Ring.sl 4 k.val) (stW3 c XW XB AQ AS WS k f4))) := by
  have h8 : k0_cond8 k = 1#1 := (cond8_iff k).mpr (by omega)
  have i0 : 5 * k.val + 7 < 60 := by omega
  have h11 : k0_cond11 k = 1#1 := (cond11_iff k).mpr (by omega)
  have i1 : 5 * k.val + 8 < 60 := by omega
  have h12 : k0_cond12 k = 1#1 := (cond12_iff k).mpr (by omega)
  have i2 : 5 * k.val + 9 < 60 := by omega
  have h13 : k0_cond13 k = 1#1 := (cond13_iff k).mpr (by omega)
  have i3 : 5 * k.val + 10 < 60 := by omega
  have h14 : k0_cond14 k = 1#1 := (cond14_iff k).mpr (by omega)
  have i4 : 5 * k.val + 11 < 60 := by omega
  have h9 : ¬ k0_cond9 k = 1#1 := fun e => absurd ((cond9_iff k).mp e) (by omega)
  have h10 : ¬ k0_cond10 k = 1#1 := fun e => absurd ((cond10_iff k).mp e) (by omega)
  iintro ⟨⟨Haq, Hxb, Has, Hws, ⟨%fa, Hacc⟩, ⟨%W, HW⟩⟩, ⟨%f0, HF0⟩, ⟨%f1, HF1⟩, ⟨%f2, HF2⟩, ⟨%f3, HF3⟩, ⟨%f4, HF4⟩, ⟨Hc7, ⟨%f7, Hs7⟩⟩, HI0, HI1, HI2, HI3, HI4, ⟨HY4, HY4_src⟩⟩
  delta tripG
  sl_unfold [k0_t1_body]
  sl_exec
  sl_step
  isplitl [Haq Hxb Has Hws Hacc HW]
  · isplitl [Haq]; · iexact Haq
    isplitl [Hxb]; · iexact Hxb
    isplitl [Has]; · iexact Has
    isplitl [Hws]; · iexact Hws
    isplitl [Hacc]; · iexists _; iexact Hacc
    iexists _; iexact HW
  isplitl [Hc7]
  · iexists f7
    iexact Hc7
  isplitl [HF0]
  · iexists ((rslot (Ring.sl 8 (5 * k.val))).view.writes (Elt F) (rslot (Ring.sl 8 (5 * k.val))).view.junk [⟨Rect.whole S6144x512, wload c XW (Ring.bk 60 (5 * k.val))⟩])
    irw [rflight_after]
    iexact HF0
  isplitl [HF1]
  · iexists ((rslot (Ring.sl 8 (5 * k.val + 1))).view.writes (Elt F) (rslot (Ring.sl 8 (5 * k.val + 1))).view.junk [⟨Rect.whole S6144x512, wload c XW (Ring.bk 60 (5 * k.val + 1))⟩])
    irw [rflight_after]
    iexact HF1
  isplitl [HF2]
  · iexists ((rslot (Ring.sl 8 (5 * k.val + 2))).view.writes (Elt F) (rslot (Ring.sl 8 (5 * k.val + 2))).view.junk [⟨Rect.whole S6144x512, wload c XW (Ring.bk 60 (5 * k.val + 2))⟩])
    irw [rflight_after]
    iexact HF2
  isplitl [HF3]
  · iexists ((rslot (Ring.sl 8 (5 * k.val + 3))).view.writes (Elt F) (rslot (Ring.sl 8 (5 * k.val + 3))).view.junk [⟨Rect.whole S6144x512, wload c XW (Ring.bk 60 (5 * k.val + 3))⟩])
    irw [rflight_after]
    iexact HF3
  isplitl [HF4 HF4_dst]
  · isplitl [HF4]; · iexact HF4
    iexists _; iexact HF4_dst
  isplitl [HF0_src]
  · iexact HF0_src
  isplitl [HF1_src]
  · iexact HF1_src
  isplitl [HF2_src]
  · iexact HF2_src
  isplitl [HF3_src]
  · iexact HF3_src
  isplitl [HF4_src]
  · iexact HF4_src
  isplitl [HY4]; · iexact HY4
  iexact HY4_src

set_option maxHeartbeats 4000000 in
/-- Trips 1 … 3: five items issued, block `k - 1` issued. -/
theorem trip_early (k : Fin k0_t1_loop.trips) (h1 : 1 ≤ k.val) (h3 : k.val ≤ 3)
    (fy : Buf (Elt F) ((yslot (Ring.sl 4 (k.val - 1))).view.loc (c : Thread nD τ))) (gy : Buf (Elt F) ((yblk (Ring.bk 12 (k.val - 1))).view.loc (c : Thread nD τ)))
    (f4 : Buf (Elt F) ((yslot (Ring.sl 4 k.val)).view.loc (c : Thread nD τ))) :
    iprop(still c XB AQ AS WS
      ∗ rinflAt c XW (Ring.sl 8 (5 * k.val)) (Ring.bk 60 (5 * k.val))
      ∗ rinflAt c XW (Ring.sl 8 (5 * k.val + 1)) (Ring.bk 60 (5 * k.val + 1))
      ∗ rinflAt c XW (Ring.sl 8 (5 * k.val + 2)) (Ring.bk 60 (5 * k.val + 2))
      ∗ rinflAt c XW (Ring.sl 8 (5 * k.val + 3)) (Ring.bk 60 (5 * k.val + 3))
      ∗ rinflAt c XW (Ring.sl 8 (5 * k.val + 4)) (Ring.bk 60 (5 * k.val + 4))
      ∗ rfreeAt c (Ring.sl 8 (5 * k.val + 7))
      ∗ whome c XW (Ring.bk 60 (5 * k.val + 7))
      ∗ whome c XW (Ring.bk 60 (5 * k.val + 8))
      ∗ whome c XW (Ring.bk 60 (5 * k.val + 9))
      ∗ whome c XW (Ring.bk 60 (5 * k.val + 10))
      ∗ whome c XW (Ring.bk 60 (5 * k.val + 11))
      ∗ (yfullAt c (Ring.sl 4 (k.val - 1)) fy ∗ yhome c (Ring.bk 12 (k.val - 1)) gy)
      ∗ yfullAt c (Ring.sl 4 k.val) f4)
    ⊢ wp frame (wpE (defs₀ (F := F)) 𝒱₀ (c : Thread nD τ) none) Set.univ (tripG (F := F) k) (fun _ => iprop(still c XB AQ AS WS
      ∗ rinflAt c XW (Ring.sl 8 (5 * k.val + 7)) (Ring.bk 60 (5 * k.val + 7))
      ∗ rinflAt c XW (Ring.sl 8 (5 * k.val)) (Ring.bk 60 (5 * k.val + 8))
      ∗ rinflAt c XW (Ring.sl 8 (5 * k.val + 1)) (Ring.bk 60 (5 * k.val + 9))
      ∗ rinflAt c XW (Ring.sl 8 (5 * k.val + 2)) (Ring.bk 60 (5 * k.val + 10))
      ∗ rinflAt c XW (Ring.sl 8 (5 * k.val + 3)) (Ring.bk 60 (5 * k.val + 11))
      ∗ rfreeAt c (Ring.sl 8 (5 * k.val + 4))
      ∗ whome c XW (Ring.bk 60 (5 * k.val))
      ∗ whome c XW (Ring.bk 60 (5 * k.val + 1))
      ∗ whome c XW (Ring.bk 60 (5 * k.val + 2))
      ∗ whome c XW (Ring.bk 60 (5 * k.val + 3))
      ∗ whome c XW (Ring.bk 60 (5 * k.val + 4))
      ∗ yflight c (Ring.sl 4 (k.val - 1)) (Ring.bk 12 (k.val - 1)) fy gy
      ∗ yfullAt c (Ring.sl 4 k.val) (stW3 c XW XB AQ AS WS k f4))) := by
  have h8 : k0_cond8 k = 1#1 := (cond8_iff k).mpr (by omega)
  have i0 : 5 * k.val + 7 < 60 := by omega
  have h11 : k0_cond11 k = 1#1 := (cond11_iff k).mpr (by omega)
  have i1 : 5 * k.val + 8 < 60 := by omega
  have h12 : k0_cond12 k = 1#1 := (cond12_iff k).mpr (by omega)
  have i2 : 5 * k.val + 9 < 60 := by omega
  have h13 : k0_cond13 k = 1#1 := (cond13_iff k).mpr (by omega)
  have i3 : 5 * k.val + 10 < 60 := by omega
  have h14 : k0_cond14 k = 1#1 := (cond14_iff k).mpr (by omega)
  have i4 : 5 * k.val + 11 < 60 := by omega
  have h9 : k0_cond9 k = 1#1 := (cond9_iff k).mpr (by omega)
  have y1 : 1 ≤ k.val := by omega
  have h10 : ¬ k0_cond10 k = 1#1 := fun e => absurd ((cond10_iff k).mp e) (by omega)
  iintro ⟨⟨Haq, Hxb, Has, Hws, ⟨%fa, Hacc⟩, ⟨%W, HW⟩⟩, ⟨%f0, HF0⟩, ⟨%f1, HF1⟩, ⟨%f2, HF2⟩, ⟨%f3, HF3⟩, ⟨%f4, HF4⟩, ⟨Hc7, ⟨%f7, Hs7⟩⟩, HI0, HI1, HI2, HI3, HI4, ⟨⟨Hyc, Hyh⟩, Hyb⟩, ⟨HY4, HY4_src⟩⟩
  delta tripG
  sl_unfold [k0_t1_body]
  sl_exec
  sl_step
  isplitl [Haq Hxb Has Hws Hacc HW]
  · isplitl [Haq]; · iexact Haq
    isplitl [Hxb]; · iexact Hxb
    isplitl [Has]; · iexact Has
    isplitl [Hws]; · iexact Hws
    isplitl [Hacc]; · iexists _; iexact Hacc
    iexists _; iexact HW
  isplitl [Hc7]
  · iexists f7
    iexact Hc7
  isplitl [HF0]
  · iexists ((rslot (Ring.sl 8 (5 * k.val))).view.writes (Elt F) (rslot (Ring.sl 8 (5 * k.val))).view.junk [⟨Rect.whole S6144x512, wload c XW (Ring.bk 60 (5 * k.val))⟩])
    irw [rflight_after]
    iexact HF0
  isplitl [HF1]
  · iexists ((rslot (Ring.sl 8 (5 * k.val + 1))).view.writes (Elt F) (rslot (Ring.sl 8 (5 * k.val + 1))).view.junk [⟨Rect.whole S6144x512, wload c XW (Ring.bk 60 (5 * k.val + 1))⟩])
    irw [rflight_after]
    iexact HF1
  isplitl [HF2]
  · iexists ((rslot (Ring.sl 8 (5 * k.val + 2))).view.writes (Elt F) (rslot (Ring.sl 8 (5 * k.val + 2))).view.junk [⟨Rect.whole S6144x512, wload c XW (Ring.bk 60 (5 * k.val + 2))⟩])
    irw [rflight_after]
    iexact HF2
  isplitl [HF3]
  · iexists ((rslot (Ring.sl 8 (5 * k.val + 3))).view.writes (Elt F) (rslot (Ring.sl 8 (5 * k.val + 3))).view.junk [⟨Rect.whole S6144x512, wload c XW (Ring.bk 60 (5 * k.val + 3))⟩])
    irw [rflight_after]
    iexact HF3
  isplitl [HF4 HF4_dst]
  · isplitl [HF4]; · iexact HF4
    iexists _; iexact HF4_dst
  isplitl [HF0_src]
  · iexact HF0_src
  isplitl [HF1_src]
  · iexact HF1_src
  isplitl [HF2_src]
  · iexact HF2_src
  isplitl [HF3_src]
  · iexact HF3_src
  isplitl [HF4_src]
  · iexact HF4_src
  isplitl [Hyc]
  · iexact Hyc
  isplitl [HY4]; · iexact HY4
  iexact HY4_src

set_option maxHeartbeats 4000000 in
/-- Trips 4 … 9: five items issued, block `k - 1` issued, block `k - 4` waited. -/
theorem trip_mid (k : Fin k0_t1_loop.trips) (h4 : 4 ≤ k.val) (h9 : k.val ≤ 9)
    (fy : Buf (Elt F) ((yslot (Ring.sl 4 (k.val - 1))).view.loc (c : Thread nD τ))) (gy : Buf (Elt F) ((yblk (Ring.bk 12 (k.val - 1))).view.loc (c : Thread nD τ)))
    (f4 : Buf (Elt F) ((yslot (Ring.sl 4 k.val)).view.loc (c : Thread nD τ))) (g4 : Buf (Elt F) ((yblk (Ring.bk 12 (k.val - 4))).view.loc (c : Thread nD τ))) :
    iprop(still c XB AQ AS WS
      ∗ rinflAt c XW (Ring.sl 8 (5 * k.val)) (Ring.bk 60 (5 * k.val))
      ∗ rinflAt c XW (Ring.sl 8 (5 * k.val + 1)) (Ring.bk 60 (5 * k.val + 1))
      ∗ rinflAt c XW (Ring.sl 8 (5 * k.val + 2)) (Ring.bk 60 (5 * k.val + 2))
      ∗ rinflAt c XW (Ring.sl 8 (5 * k.val + 3)) (Ring.bk 60 (5 * k.val + 3))
      ∗ rinflAt c XW (Ring.sl 8 (5 * k.val + 4)) (Ring.bk 60 (5 * k.val + 4))
      ∗ rfreeAt c (Ring.sl 8 (5 * k.val + 7))
      ∗ whome c XW (Ring.bk 60 (5 * k.val + 7))
      ∗ whome c XW (Ring.bk 60 (5 * k.val + 8))
      ∗ whome c XW (Ring.bk 60 (5 * k.val + 9))
      ∗ whome c XW (Ring.bk 60 (5 * k.val + 10))
      ∗ whome c XW (Ring.bk 60 (5 * k.val + 11))
      ∗ (yfullAt c (Ring.sl 4 (k.val - 1)) fy ∗ yhome c (Ring.bk 12 (k.val - 1)) gy)
      ∗ yflight c (Ring.sl 4 k.val) (Ring.bk 12 (k.val - 4)) f4 g4)
    ⊢ wp frame (wpE (defs₀ (F := F)) 𝒱₀ (c : Thread nD τ) none) Set.univ (tripG (F := F) k) (fun _ => iprop(still c XB AQ AS WS
      ∗ rinflAt c XW (Ring.sl 8 (5 * k.val + 7)) (Ring.bk 60 (5 * k.val + 7))
      ∗ rinflAt c XW (Ring.sl 8 (5 * k.val)) (Ring.bk 60 (5 * k.val + 8))
      ∗ rinflAt c XW (Ring.sl 8 (5 * k.val + 1)) (Ring.bk 60 (5 * k.val + 9))
      ∗ rinflAt c XW (Ring.sl 8 (5 * k.val + 2)) (Ring.bk 60 (5 * k.val + 10))
      ∗ rinflAt c XW (Ring.sl 8 (5 * k.val + 3)) (Ring.bk 60 (5 * k.val + 11))
      ∗ rfreeAt c (Ring.sl 8 (5 * k.val + 4))
      ∗ whome c XW (Ring.bk 60 (5 * k.val))
      ∗ whome c XW (Ring.bk 60 (5 * k.val + 1))
      ∗ whome c XW (Ring.bk 60 (5 * k.val + 2))
      ∗ whome c XW (Ring.bk 60 (5 * k.val + 3))
      ∗ whome c XW (Ring.bk 60 (5 * k.val + 4))
      ∗ yflight c (Ring.sl 4 (k.val - 1)) (Ring.bk 12 (k.val - 1)) fy gy
      ∗ yhome c (Ring.bk 12 (k.val - 4)) (ylanded c (Ring.sl 4 k.val) (Ring.bk 12 (k.val - 4)) f4 g4)
      ∗ yfullAt c (Ring.sl 4 k.val) (stW3 c XW XB AQ AS WS k f4))) := by
  have h8 : k0_cond8 k = 1#1 := (cond8_iff k).mpr (by omega)
  have i0 : 5 * k.val + 7 < 60 := by omega
  have h11 : k0_cond11 k = 1#1 := (cond11_iff k).mpr (by omega)
  have i1 : 5 * k.val + 8 < 60 := by omega
  have h12 : k0_cond12 k = 1#1 := (cond12_iff k).mpr (by omega)
  have i2 : 5 * k.val + 9 < 60 := by omega
  have h13 : k0_cond13 k = 1#1 := (cond13_iff k).mpr (by omega)
  have i3 : 5 * k.val + 10 < 60 := by omega
  have h14 : k0_cond14 k = 1#1 := (cond14_iff k).mpr (by omega)
  have i4 : 5 * k.val + 11 < 60 := by omega
  have h9 : k0_cond9 k = 1#1 := (cond9_iff k).mpr (by omega)
  have y1 : 1 ≤ k.val := by omega
  have h10 : k0_cond10 k = 1#1 := (cond10_iff k).mpr (by omega)
  have y4 : 4 ≤ k.val := by omega
  iintro ⟨⟨Haq, Hxb, Has, Hws, ⟨%fa, Hacc⟩, ⟨%W, HW⟩⟩, ⟨%f0, HF0⟩, ⟨%f1, HF1⟩, ⟨%f2, HF2⟩, ⟨%f3, HF3⟩, ⟨%f4, HF4⟩, ⟨Hc7, ⟨%f7, Hs7⟩⟩, HI0, HI1, HI2, HI3, HI4, ⟨⟨Hyc, Hyh⟩, Hyb⟩, HY4⟩
  delta tripG
  sl_unfold [k0_t1_body]
  sl_exec
  sl_step
  isplitl [Haq Hxb Has Hws Hacc HW]
  · isplitl [Haq]; · iexact Haq
    isplitl [Hxb]; · iexact Hxb
    isplitl [Has]; · iexact Has
    isplitl [Hws]; · iexact Hws
    isplitl [Hacc]; · iexists _; iexact Hacc
    iexists _; iexact HW
  isplitl [Hc7]
  · iexists f7
    iexact Hc7
  isplitl [HF0]
  · iexists ((rslot (Ring.sl 8 (5 * k.val))).view.writes (Elt F) (rslot (Ring.sl 8 (5 * k.val))).view.junk [⟨Rect.whole S6144x512, wload c XW (Ring.bk 60 (5 * k.val))⟩])
    irw [rflight_after]
    iexact HF0
  isplitl [HF1]
  · iexists ((rslot (Ring.sl 8 (5 * k.val + 1))).view.writes (Elt F) (rslot (Ring.sl 8 (5 * k.val + 1))).view.junk [⟨Rect.whole S6144x512, wload c XW (Ring.bk 60 (5 * k.val + 1))⟩])
    irw [rflight_after]
    iexact HF1
  isplitl [HF2]
  · iexists ((rslot (Ring.sl 8 (5 * k.val + 2))).view.writes (Elt F) (rslot (Ring.sl 8 (5 * k.val + 2))).view.junk [⟨Rect.whole S6144x512, wload c XW (Ring.bk 60 (5 * k.val + 2))⟩])
    irw [rflight_after]
    iexact HF2
  isplitl [HF3]
  · iexists ((rslot (Ring.sl 8 (5 * k.val + 3))).view.writes (Elt F) (rslot (Ring.sl 8 (5 * k.val + 3))).view.junk [⟨Rect.whole S6144x512, wload c XW (Ring.bk 60 (5 * k.val + 3))⟩])
    irw [rflight_after]
    iexact HF3
  isplitl [HF4 HF4_dst]
  · isplitl [HF4]; · iexact HF4
    iexists _; iexact HF4_dst
  isplitl [HF0_src]
  · iexact HF0_src
  isplitl [HF1_src]
  · iexact HF1_src
  isplitl [HF2_src]
  · iexact HF2_src
  isplitl [HF3_src]
  · iexact HF3_src
  isplitl [HF4_src]
  · iexact HF4_src
  isplitl [Hyc]
  · iexact Hyc
  isplitl [HY4_dst]
  · iexact HY4_dst
  isplitl [HY4]; · iexact HY4
  iexact HY4_src

set_option maxHeartbeats 4000000 in
/-- Trip 10: the last three items issued. -/
theorem trip_ten (k : Fin k0_t1_loop.trips) (h10 : k.val = 10)
    (fy : Buf (Elt F) ((yslot (Ring.sl 4 (k.val - 1))).view.loc (c : Thread nD τ))) (gy : Buf (Elt F) ((yblk (Ring.bk 12 (k.val - 1))).view.loc (c : Thread nD τ)))
    (f4 : Buf (Elt F) ((yslot (Ring.sl 4 k.val)).view.loc (c : Thread nD τ))) (g4 : Buf (Elt F) ((yblk (Ring.bk 12 (k.val - 4))).view.loc (c : Thread nD τ))) :
    iprop(still c XB AQ AS WS
      ∗ rinflAt c XW (Ring.sl 8 (5 * k.val)) (Ring.bk 60 (5 * k.val))
      ∗ rinflAt c XW (Ring.sl 8 (5 * k.val + 1)) (Ring.bk 60 (5 * k.val + 1))
      ∗ rinflAt c XW (Ring.sl 8 (5 * k.val + 2)) (Ring.bk 60 (5 * k.val + 2))
      ∗ rinflAt c XW (Ring.sl 8 (5 * k.val + 3)) (Ring.bk 60 (5 * k.val + 3))
      ∗ rinflAt c XW (Ring.sl 8 (5 * k.val + 4)) (Ring.bk 60 (5 * k.val + 4))
      ∗ rfreeAt c (Ring.sl 8 (5 * k.val + 7))
      ∗ whome c XW (Ring.bk 60 (5 * k.val + 7))
      ∗ whome c XW (Ring.bk 60 (5 * k.val + 8))
      ∗ whome c XW (Ring.bk 60 (5 * k.val + 9))
      ∗ (yfullAt c (Ring.sl 4 (k.val - 1)) fy ∗ yhome c (Ring.bk 12 (k.val - 1)) gy)
      ∗ yflight c (Ring.sl 4 k.val) (Ring.bk 12 (k.val - 4)) f4 g4)
    ⊢ wp frame (wpE (defs₀ (F := F)) 𝒱₀ (c : Thread nD τ) none) Set.univ (tripG (F := F) k) (fun _ => iprop(still c XB AQ AS WS
      ∗ rinflAt c XW (Ring.sl 8 (5 * k.val + 7)) (Ring.bk 60 (5 * k.val + 7))
      ∗ rinflAt c XW (Ring.sl 8 (5 * k.val)) (Ring.bk 60 (5 * k.val + 8))
      ∗ rinflAt c XW (Ring.sl 8 (5 * k.val + 1)) (Ring.bk 60 (5 * k.val + 9))
      ∗ rfreeAt c (Ring.sl 8 (5 * k.val + 2))
      ∗ rfreeAt c (Ring.sl 8 (5 * k.val + 3))
      ∗ rfreeAt c (Ring.sl 8 (5 * k.val + 4))
      ∗ whome c XW (Ring.bk 60 (5 * k.val))
      ∗ whome c XW (Ring.bk 60 (5 * k.val + 1))
      ∗ whome c XW (Ring.bk 60 (5 * k.val + 2))
      ∗ whome c XW (Ring.bk 60 (5 * k.val + 3))
      ∗ whome c XW (Ring.bk 60 (5 * k.val + 4))
      ∗ yflight c (Ring.sl 4 (k.val - 1)) (Ring.bk 12 (k.val - 1)) fy gy
      ∗ yhome c (Ring.bk 12 (k.val - 4)) (ylanded c (Ring.sl 4 k.val) (Ring.bk 12 (k.val - 4)) f4 g4)
      ∗ yfullAt c (Ring.sl 4 k.val) (stW3 c XW XB AQ AS WS k f4))) := by
  have h8 : k0_cond8 k = 1#1 := (cond8_iff k).mpr (by omega)
  have i0 : 5 * k.val + 7 < 60 := by omega
  have h11 : k0_cond11 k = 1#1 := (cond11_iff k).mpr (by omega)
  have i1 : 5 * k.val + 8 < 60 := by omega
  have h12 : k0_cond12 k = 1#1 := (cond12_iff k).mpr (by omega)
  have i2 : 5 * k.val + 9 < 60 := by omega
  have h13 : ¬ k0_cond13 k = 1#1 := fun e => absurd ((cond13_iff k).mp e) (by omega)
  have h14 : ¬ k0_cond14 k = 1#1 := fun e => absurd ((cond14_iff k).mp e) (by omega)
  have h9 : k0_cond9 k = 1#1 := (cond9_iff k).mpr (by omega)
  have y1 : 1 ≤ k.val := by omega
  have h10 : k0_cond10 k = 1#1 := (cond10_iff k).mpr (by omega)
  have y4 : 4 ≤ k.val := by omega
  iintro ⟨⟨Haq, Hxb, Has, Hws, ⟨%fa, Hacc⟩, ⟨%W, HW⟩⟩, ⟨%f0, HF0⟩, ⟨%f1, HF1⟩, ⟨%f2, HF2⟩, ⟨%f3, HF3⟩, ⟨%f4, HF4⟩, ⟨Hc7, ⟨%f7, Hs7⟩⟩, HI0, HI1, HI2, ⟨⟨Hyc, Hyh⟩, Hyb⟩, HY4⟩
  delta tripG
  sl_unfold [k0_t1_body]
  sl_exec
  sl_step
  isplitl [Haq Hxb Has Hws Hacc HW]
  · isplitl [Haq]; · iexact Haq
    isplitl [Hxb]; · iexact Hxb
    isplitl [Has]; · iexact Has
    isplitl [Hws]; · iexact Hws
    isplitl [Hacc]; · iexists _; iexact Hacc
    iexists _; iexact HW
  isplitl [Hc7]
  · iexists f7
    iexact Hc7
  isplitl [HF0]
  · iexists ((rslot (Ring.sl 8 (5 * k.val))).view.writes (Elt F) (rslot (Ring.sl 8 (5 * k.val))).view.junk [⟨Rect.whole S6144x512, wload c XW (Ring.bk 60 (5 * k.val))⟩])
    irw [rflight_after]
    iexact HF0
  isplitl [HF1]
  · iexists ((rslot (Ring.sl 8 (5 * k.val + 1))).view.writes (Elt F) (rslot (Ring.sl 8 (5 * k.val + 1))).view.junk [⟨Rect.whole S6144x512, wload c XW (Ring.bk 60 (5 * k.val + 1))⟩])
    irw [rflight_after]
    iexact HF1
  isplitl [HF2 HF2_dst]
  · isplitl [HF2]; · iexact HF2
    iexists _; iexact HF2_dst
  isplitl [HF3 HF3_dst]
  · isplitl [HF3]; · iexact HF3
    iexists _; iexact HF3_dst
  isplitl [HF4 HF4_dst]
  · isplitl [HF4]; · iexact HF4
    iexists _; iexact HF4_dst
  isplitl [HF0_src]
  · iexact HF0_src
  isplitl [HF1_src]
  · iexact HF1_src
  isplitl [HF2_src]
  · iexact HF2_src
  isplitl [HF3_src]
  · iexact HF3_src
  isplitl [HF4_src]
  · iexact HF4_src
  isplitl [Hyc]
  · iexact Hyc
  isplitl [HY4_dst]
  · iexact HY4_dst
  isplitl [HY4]; · iexact HY4
  iexact HY4_src

set_option maxHeartbeats 4000000 in
/-- Trip 11: no item left to issue. -/
theorem trip_last (k : Fin k0_t1_loop.trips) (h11 : k.val = 11)
    (fy : Buf (Elt F) ((yslot (Ring.sl 4 (k.val - 1))).view.loc (c : Thread nD τ))) (gy : Buf (Elt F) ((yblk (Ring.bk 12 (k.val - 1))).view.loc (c : Thread nD τ)))
    (f4 : Buf (Elt F) ((yslot (Ring.sl 4 k.val)).view.loc (c : Thread nD τ))) (g4 : Buf (Elt F) ((yblk (Ring.bk 12 (k.val - 4))).view.loc (c : Thread nD τ))) :
    iprop(still c XB AQ AS WS
      ∗ rinflAt c XW (Ring.sl 8 (5 * k.val)) (Ring.bk 60 (5 * k.val))
      ∗ rinflAt c XW (Ring.sl 8 (5 * k.val + 1)) (Ring.bk 60 (5 * k.val + 1))
      ∗ rinflAt c XW (Ring.sl 8 (5 * k.val + 2)) (Ring.bk 60 (5 * k.val + 2))
      ∗ rinflAt c XW (Ring.sl 8 (5 * k.val + 3)) (Ring.bk 60 (5 * k.val + 3))
      ∗ rinflAt c XW (Ring.sl 8 (5 * k.val + 4)) (Ring.bk 60 (5 * k.val + 4))
      ∗ (yfullAt c (Ring.sl 4 (k.val - 1)) fy ∗ yhome c (Ring.bk 12 (k.val - 1)) gy)
      ∗ yflight c (Ring.sl 4 k.val) (Ring.bk 12 (k.val - 4)) f4 g4)
    ⊢ wp frame (wpE (defs₀ (F := F)) 𝒱₀ (c : Thread nD τ) none) Set.univ (tripG (F := F) k) (fun _ => iprop(still c XB AQ AS WS
      ∗ rfreeAt c (Ring.sl 8 (5 * k.val))
      ∗ rfreeAt c (Ring.sl 8 (5 * k.val + 1))
      ∗ rfreeAt c (Ring.sl 8 (5 * k.val + 2))
      ∗ rfreeAt c (Ring.sl 8 (5 * k.val + 3))
      ∗ rfreeAt c (Ring.sl 8 (5 * k.val + 4))
      ∗ whome c XW (Ring.bk 60 (5 * k.val))
      ∗ whome c XW (Ring.bk 60 (5 * k.val + 1))
      ∗ whome c XW (Ring.bk 60 (5 * k.val + 2))
      ∗ whome c XW (Ring.bk 60 (5 * k.val + 3))
      ∗ whome c XW (Ring.bk 60 (5 * k.val + 4))
      ∗ yflight c (Ring.sl 4 (k.val - 1)) (Ring.bk 12 (k.val - 1)) fy gy
      ∗ yhome c (Ring.bk 12 (k.val - 4)) (ylanded c (Ring.sl 4 k.val) (Ring.bk 12 (k.val - 4)) f4 g4)
      ∗ yfullAt c (Ring.sl 4 k.val) (stW3 c XW XB AQ AS WS k f4))) := by
  have h8 : ¬ k0_cond8 k = 1#1 := fun e => absurd ((cond8_iff k).mp e) (by omega)
  have h11 : ¬ k0_cond11 k = 1#1 := fun e => absurd ((cond11_iff k).mp e) (by omega)
  have h12 : ¬ k0_cond12 k = 1#1 := fun e => absurd ((cond12_iff k).mp e) (by omega)
  have h13 : ¬ k0_cond13 k = 1#1 := fun e => absurd ((cond13_iff k).mp e) (by omega)
  have h14 : ¬ k0_cond14 k = 1#1 := fun e => absurd ((cond14_iff k).mp e) (by omega)
  have h9 : k0_cond9 k = 1#1 := (cond9_iff k).mpr (by omega)
  have y1 : 1 ≤ k.val := by omega
  have h10 : k0_cond10 k = 1#1 := (cond10_iff k).mpr (by omega)
  have y4 : 4 ≤ k.val := by omega
  iintro ⟨⟨Haq, Hxb, Has, Hws, ⟨%fa, Hacc⟩, ⟨%W, HW⟩⟩, ⟨%f0, HF0⟩, ⟨%f1, HF1⟩, ⟨%f2, HF2⟩, ⟨%f3, HF3⟩, ⟨%f4, HF4⟩, ⟨⟨Hyc, Hyh⟩, Hyb⟩, HY4⟩
  delta tripG
  sl_unfold [k0_t1_body]
  sl_exec
  sl_step
  isplitl [Haq Hxb Has Hws Hacc HW]
  · isplitl [Haq]; · iexact Haq
    isplitl [Hxb]; · iexact Hxb
    isplitl [Has]; · iexact Has
    isplitl [Hws]; · iexact Hws
    isplitl [Hacc]; · iexists _; iexact Hacc
    iexists _; iexact HW
  isplitl [HF0 HF0_dst]
  · isplitl [HF0]; · iexact HF0
    iexists _; iexact HF0_dst
  isplitl [HF1 HF1_dst]
  · isplitl [HF1]; · iexact HF1
    iexists _; iexact HF1_dst
  isplitl [HF2 HF2_dst]
  · isplitl [HF2]; · iexact HF2
    iexists _; iexact HF2_dst
  isplitl [HF3 HF3_dst]
  · isplitl [HF3]; · iexact HF3
    iexists _; iexact HF3_dst
  isplitl [HF4 HF4_dst]
  · isplitl [HF4]; · iexact HF4
    iexists _; iexact HF4_dst
  isplitl [HF0_src]
  · iexact HF0_src
  isplitl [HF1_src]
  · iexact HF1_src
  isplitl [HF2_src]
  · iexact HF2_src
  isplitl [HF3_src]
  · iexact HF3_src
  isplitl [HF4_src]
  · iexact HF4_src
  isplitl [Hyc]
  · iexact Hyc
  isplitl [HY4_dst]
  · iexact HY4_dst
  isplitl [HY4]; · iexact HY4
  iexact HY4_src

end
end Cert.Proof.KI
-- ==== Proof.KI.Loop.lean ====
module

public import proofs.«01_k».proof.Proof.KI.Trip

/-! # The loop's invariant

Before trip `k`: the eight ring slots by role (`rrole`: item `p` in flight, or free), the weights' items at home
(`whomes`), the four staging slots by role (`yrole`: free, holding block `p - 4`, or that block in flight), the blocks of
the result not yet issued (`ytodo`) and those landed (`ydone`). `Yok b u`: the words `u` are what trip `b` stores. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (XW : Buf (Elt F) (wM.view.loc (c : Thread nD τ)))
  (XB : Buf (Elt F) (xbM.view.loc (c : Thread nD τ))) (AQ : Buf (Elt F) (aqM.view.loc (c : Thread nD τ)))
  (AS : Buf (Elt F) (asbM.view.loc (c : Thread nD τ))) (WS : Buf (Elt F) (wsoM.view.loc (c : Thread nD τ)))

omit [FloatOps F] in
theorem entails_of_eq {P Q : sProp 𝕄} (e : P = Q) : P ⊢ Q := e ▸ .rfl

/-- The words `u` are those trip `b` stores for block `b`. -/
def Yok (b : Fin 12) (u : S112x512.Idx → Elt F .bf16) : Prop :=
  ∃ (k : Fin k0_t1_loop.trips) (f : Buf (Elt F) ((yslot (Ring.sl 4 k.val)).view.loc (c : Thread nD τ))),
    k.val = b.val ∧ u = yread c (Ring.sl 4 k.val) (stW3 c XW XB AQ AS WS k f)

/-! ## Roles -/

/-- The ring slot of item `p` before trip `k`. -/
def rrole (k p : ℕ) : sProp 𝕄 :=
  if p < 5 * k + 7 ∧ p < 60 then rinflAt c XW (Ring.sl 8 p) (Ring.bk 60 p) else rfreeAt (F := F) c (Ring.sl 8 p)

theorem rrole_infl (k p : ℕ) (h : p < 5 * k + 7) (h' : p < 60) : rrole c XW k p = rinflAt c XW (Ring.sl 8 p) (Ring.bk 60 p) := if_pos ⟨h, h'⟩
theorem rrole_free (k p : ℕ) (h : ¬ (p < 5 * k + 7 ∧ p < 60)) : rrole c XW k p = rfreeAt (F := F) c (Ring.sl 8 p) := if_neg h
theorem infl_out (k p : ℕ) (h : p < 5 * k + 7) (h' : p < 60) : rrole c XW k p ⊢ rinflAt c XW (Ring.sl 8 p) (Ring.bk 60 p) :=
  entails_of_eq (rrole_infl c XW k p h h')
theorem free_out (k p : ℕ) (h : ¬ (p < 5 * k + 7 ∧ p < 60)) : rrole c XW k p ⊢ rfreeAt (F := F) c (Ring.sl 8 p) :=
  entails_of_eq (rrole_free c XW k p h)
theorem infl_in0 (k p q : ℕ) (e : p = q) (h : p < 5 * k + 7) (h' : p < 60) : rinflAt c XW (Ring.sl 8 q) (Ring.bk 60 q) ⊢ rrole c XW k p := by
  subst e; exact entails_of_eq (rrole_infl c XW k p h h').symm
theorem infl_in (k p q t : ℕ) (e : p = q + 8) (et : t = q + 8) (h : p < 5 * k + 7) (h' : p < 60) : rinflAt c XW (Ring.sl 8 q) (Ring.bk 60 t) ⊢ rrole c XW k p := by
  subst e; subst et
  rw [rrole_infl c XW k (q + 8) h h', Ring.sl_add 8 q]
theorem free_in (k p q : ℕ) (e : p = q + 8) (h : ¬ (p < 5 * k + 7 ∧ p < 60)) : rfreeAt (F := F) c (Ring.sl 8 q) ⊢ rrole c XW k p := by
  subst e
  rw [rrole_free c XW k (q + 8) h, Ring.sl_add 8 q]
theorem role_same (k k' p q : ℕ) (e : p = q) (h : (q < 5 * k + 7 ∧ q < 60) ↔ (q < 5 * k' + 7 ∧ q < 60)) : rrole c XW k q ⊢ rrole c XW k' p := by
  subst e; unfold rrole; rw [if_congr h rfl rfl]

/-- Staging slot `s` holding block `b`; -/
def yfullB (s : Fin 4) (b : Fin 12) : sProp 𝕄 := iprop(ycell c s ∗ ∃ f, yheld c s f ∗ ⌜Yok c XW XB AQ AS WS b (yread c s f)⌝)
/-- block `b` in flight from slot `s`; -/
def yinflB (s : Fin 4) (b : Fin 12) : sProp 𝕄 := iprop(∃ f g, yflight c s b f g ∗ ⌜Yok c XW XB AQ AS WS b (yread c s f)⌝)
/-- slot `s` free; -/
def yfreeB (s : Fin 4) : sProp 𝕄 := iprop(∃ f, yfullAt (F := F) c s f)
/-- block `b` of the result landed; -/
def ydone1 (b : Fin 12) : sProp 𝕄 := iprop(∃ g, yhome c b g ∗ ⌜Yok c XW XB AQ AS WS b ((yblk b).view.read (Elt F) g)⌝)
/-- block `b` not yet issued. -/
def ytodo1 (b : Fin 12) : sProp 𝕄 := iprop(∃ g, yhome (F := F) c b g)
/-- The staging slot of block `p - 4` (none for `p < 4`) before trip `k`. -/
def yrole (k p : ℕ) : sProp 𝕄 :=
  if p < 4 then yfreeB (F := F) c (Ring.sl 4 p)
  else if p = k + 3 then yfullB c XW XB AQ AS WS (Ring.sl 4 p) (Ring.bk 12 (p - 4)) else yinflB c XW XB AQ AS WS (Ring.sl 4 p) (Ring.bk 12 (p - 4))

theorem yrole_free (k p : ℕ) (h : p < 4) : yrole c XW XB AQ AS WS k p = yfreeB (F := F) c (Ring.sl 4 p) := if_pos h
theorem yrole_full (k p : ℕ) (h : ¬ p < 4) (e : p = k + 3) : yrole c XW XB AQ AS WS k p = yfullB c XW XB AQ AS WS (Ring.sl 4 p) (Ring.bk 12 (p - 4)) := by
  unfold yrole; rw [if_neg h, if_pos e]
theorem yrole_infl (k p : ℕ) (h : ¬ p < 4) (e : ¬ p = k + 3) : yrole c XW XB AQ AS WS k p = yinflB c XW XB AQ AS WS (Ring.sl 4 p) (Ring.bk 12 (p - 4)) := by
  unfold yrole; rw [if_neg h, if_neg e]
theorem yfull_out (k : ℕ) (h : 1 ≤ k) : yrole c XW XB AQ AS WS k (k + 3) ⊢ yfullB c XW XB AQ AS WS (Ring.sl 4 (k - 1)) (Ring.bk 12 (k - 1)) := by
  rw [yrole_full c XW XB AQ AS WS k (k + 3) (by omega) rfl]
  obtain ⟨n, rfl⟩ : ∃ n, k = n + 1 := ⟨k - 1, by omega⟩
  rw [show n + 1 + 3 = n + 4 from rfl, Ring.sl_add 4 n]; exact .rfl
theorem yinfl_in (k : ℕ) (h : 1 ≤ k) : yinflB c XW XB AQ AS WS (Ring.sl 4 (k - 1)) (Ring.bk 12 (k - 1)) ⊢ yrole c XW XB AQ AS WS (k + 1) (k + 3) := by
  rw [yrole_infl c XW XB AQ AS WS (k + 1) (k + 3) (by omega) (by omega)]
  obtain ⟨n, rfl⟩ : ∃ n, k = n + 1 := ⟨k - 1, by omega⟩
  rw [show n + 1 + 3 = n + 4 from rfl, Ring.sl_add 4 n]; exact .rfl
theorem yfull_in (k : ℕ) : yfullB c XW XB AQ AS WS (Ring.sl 4 k) (Ring.bk 12 k) ⊢ yrole c XW XB AQ AS WS (k + 1) (k + 1 + 3) := by
  rw [yrole_full c XW XB AQ AS WS (k + 1) (k + 1 + 3) (by omega) rfl, show k + 1 + 3 = k + 4 from rfl, Ring.sl_add 4 k]; exact .rfl
theorem yrole_same (k p : ℕ) (h : p ≠ k + 3) (h' : p ≠ k + 1 + 3) : yrole c XW XB AQ AS WS k p ⊢ yrole c XW XB AQ AS WS (k + 1) p := by
  unfold yrole; rw [if_neg h, if_neg h']
theorem yrole_first : yrole c XW XB AQ AS WS 0 3 ⊢ yrole c XW XB AQ AS WS 1 3 := by
  unfold yrole; rw [if_pos (by decide), if_pos (by decide)]

/-! ## Blocks of the result -/

def ytodo (k : ℕ) : sProp 𝕄 := bigSep (Finset.univ.filter fun b : Fin 12 => k ≤ b.val + 1) (ytodo1 (F := F) c)
def ydone (k : ℕ) : sProp 𝕄 := bigSep (Finset.univ.filter fun b : Fin 12 => b.val + 4 < k) (ydone1 c XW XB AQ AS WS)

theorem ytodo_zero : ytodo (F := F) c 0 ⊢ ytodo (F := F) c 1 := by
  have e : (Finset.univ.filter fun b : Fin 12 => 0 ≤ b.val + 1) = (Finset.univ.filter fun b : Fin 12 => 1 ≤ b.val + 1) := by decide
  unfold ytodo; rw [e]
theorem ytodo_out (k : ℕ) (h : 1 ≤ k) (h' : k ≤ 12) : ytodo (F := F) c k ⊢ iprop(ytodo1 (F := F) c (Ring.bk 12 (k - 1)) ∗ ytodo (F := F) c (k + 1)) := by
  have hb : (Ring.bk 12 (k - 1)).val = k - 1 := Ring.bk_val (show k - 1 < 12 by omega)
  have e : (Finset.univ.filter fun b : Fin 12 => k ≤ b.val + 1) = insert (Ring.bk 12 (k - 1)) (Finset.univ.filter fun b : Fin 12 => k + 1 ≤ b.val + 1) := by
    ext b; simp only [Finset.mem_insert, Finset.mem_filter, Finset.mem_univ, true_and, Fin.ext_iff, hb]; omega
  have hn : Ring.bk 12 (k - 1) ∉ (Finset.univ.filter fun b : Fin 12 => k + 1 ≤ b.val + 1) := by
    simp only [Finset.mem_filter, Finset.mem_univ, true_and, hb]; omega
  unfold ytodo; rw [e, bigSep_insert hn]; exact .rfl
theorem ydone_small (k : ℕ) (h : k < 4) : ydone c XW XB AQ AS WS k ⊢ ydone c XW XB AQ AS WS (k + 1) := by
  have e : (Finset.univ.filter fun b : Fin 12 => b.val + 4 < k) = (Finset.univ.filter fun b : Fin 12 => b.val + 4 < k + 1) := by
    ext b; simp only [Finset.mem_filter, Finset.mem_univ, true_and]; omega
  unfold ydone; rw [e]
theorem ydone_in (k : ℕ) (h : 4 ≤ k) (h' : k < 16) : iprop(ydone1 c XW XB AQ AS WS (Ring.bk 12 (k - 4)) ∗ ydone c XW XB AQ AS WS k) ⊢ ydone c XW XB AQ AS WS (k + 1) := by
  have hb : (Ring.bk 12 (k - 4)).val = k - 4 := Ring.bk_val (show k - 4 < 12 by omega)
  have e : (Finset.univ.filter fun b : Fin 12 => b.val + 4 < k + 1) = insert (Ring.bk 12 (k - 4)) (Finset.univ.filter fun b : Fin 12 => b.val + 4 < k) := by
    ext b; simp only [Finset.mem_insert, Finset.mem_filter, Finset.mem_univ, true_and, Fin.ext_iff, hb]; omega
  have hn : Ring.bk 12 (k - 4) ∉ (Finset.univ.filter fun b : Fin 12 => b.val + 4 < k) := by
    simp only [Finset.mem_filter, Finset.mem_univ, true_and, hb]; omega
  unfold ydone; rw [e, bigSep_insert hn]; exact .rfl
/-- A landed block, read back. -/
theorem ydone1_of (s : Fin 4) (b : Fin 12) (f g) (h : Yok c XW XB AQ AS WS b (yread c s f)) : yhome c b (ylanded c s b f g) ⊢ ydone1 c XW XB AQ AS WS b := by
  unfold ydone1
  iintro H
  iexists (ylanded c s b f g)
  isplitl [H]; · iexact H
  ipureintro
  rw [View.read_writes_whole]
  exact h

/-! ## Items of the weights -/

theorem homes_take5 (k : ℕ) (h : k ≤ 9) : whomes c XW 7 (5 * k) ⊢ iprop(whome c XW (Ring.bk 60 (5 * k + 7)) ∗ whome c XW (Ring.bk 60 (5 * k + 8)) ∗ whome c XW (Ring.bk 60 (5 * k + 9))
    ∗ whome c XW (Ring.bk 60 (5 * k + 10)) ∗ whome c XW (Ring.bk 60 (5 * k + 11)) ∗ whomes c XW 12 (5 * k)) := by
  rw [whomes_out c XW 7 (5 * k) (by omega), whomes_out c XW 8 (5 * k) (by omega), whomes_out c XW 9 (5 * k) (by omega), whomes_out c XW 10 (5 * k) (by omega), whomes_out c XW 11 (5 * k) (by omega)]
theorem homes_take3 (k : ℕ) (h : k = 10) : whomes c XW 7 (5 * k) ⊢ iprop(whome c XW (Ring.bk 60 (5 * k + 7)) ∗ whome c XW (Ring.bk 60 (5 * k + 8)) ∗ whome c XW (Ring.bk 60 (5 * k + 9))
    ∗ whomes c XW 12 (5 * k)) := by
  rw [whomes_out c XW 7 (5 * k) (by omega), whomes_out c XW 8 (5 * k) (by omega), whomes_out c XW 9 (5 * k) (by omega), whomes_clip c XW 10 12 (5 * k) (by omega) (by omega)]
theorem homes_take0 (k : ℕ) (h : k = 11) : whomes c XW 7 (5 * k) ⊢ whomes c XW 12 (5 * k) := by
  rw [whomes_clip c XW 7 12 (5 * k) (by omega) (by omega)]
theorem homes_give (k : ℕ) (h : k ≤ 11) : iprop(whome c XW (Ring.bk 60 (5 * k)) ∗ whome c XW (Ring.bk 60 (5 * k + 1)) ∗ whome c XW (Ring.bk 60 (5 * k + 2)) ∗ whome c XW (Ring.bk 60 (5 * k + 3))
    ∗ whome c XW (Ring.bk 60 (5 * k + 4)) ∗ whomes c XW 12 (5 * k)) ⊢ whomes c XW 7 (5 * (k + 1)) := by
  rw [show 5 * (k + 1) = 5 * k + 4 + 1 by omega, whomes_back c XW 7 (5 * k + 4) (by omega), whomes_back c XW 8 (5 * k + 3) (by omega), whomes_back c XW 9 (5 * k + 2) (by omega),
    whomes_back c XW 10 (5 * k + 1) (by omega), whomes_back c XW 11 (5 * k) (by omega)]
  iintro ⟨H0, H1, H2, H3, H4, H⟩
  isplitl [H4]; · iexact H4
  isplitl [H3]; · iexact H3
  isplitl [H2]; · iexact H2
  isplitl [H1]; · iexact H1
  isplitl [H0]; · iexact H0
  iexact H

/-! ## The invariant -/

/-- What the body holds before trip `k`. -/
def invAt (k : ℕ) : sProp 𝕄 :=
  iprop(still c XB AQ AS WS
    ∗ (rrole c XW k (5 * k + 0) ∗ rrole c XW k (5 * k + 1) ∗ rrole c XW k (5 * k + 2) ∗ rrole c XW k (5 * k + 3) ∗ rrole c XW k (5 * k + 4) ∗ rrole c XW k (5 * k + 5) ∗ rrole c XW k (5 * k + 6) ∗ rrole c XW k (5 * k + 7))
    ∗ whomes c XW 7 (5 * k)
    ∗ (yrole c XW XB AQ AS WS k k ∗ yrole c XW XB AQ AS WS k (k + 1) ∗ yrole c XW XB AQ AS WS k (k + 2) ∗ yrole c XW XB AQ AS WS k (k + 3))
    ∗ ytodo (F := F) c k ∗ ydone c XW XB AQ AS WS k)

theorem step_first (k : Fin k0_t1_loop.trips) (h0 : k.val = 0) :
    invAt c XW XB AQ AS WS k.val ⊢ wp frame (wpE (defs₀ (F := F)) 𝒱₀ (c : Thread nD τ) none) Set.univ (tripG (F := F) k) (fun _ => invAt c XW XB AQ AS WS (k.val + 1)) := by
  unfold invAt
  iintro ⟨Hst, ⟨R0, R1, R2, R3, R4, R5, R6, R7⟩, Hh, ⟨Y0, Y1, Y2, Y3⟩, Ht, Hd⟩
  ihave F0 := (infl_out c XW k.val (5 * k.val) (by omega) (by omega)) $$ R0
  ihave F1 := (infl_out c XW k.val (5 * k.val + 1) (by omega) (by omega)) $$ R1
  ihave F2 := (infl_out c XW k.val (5 * k.val + 2) (by omega) (by omega)) $$ R2
  ihave F3 := (infl_out c XW k.val (5 * k.val + 3) (by omega) (by omega)) $$ R3
  ihave F4 := (infl_out c XW k.val (5 * k.val + 4) (by omega) (by omega)) $$ R4
  ihave F7 := (free_out c XW k.val (5 * k.val + 7) (by omega)) $$ R7
  ihave Hh' := (homes_take5 c XW k.val (by omega)) $$ Hh
  icases Hh' with ⟨I0, I1, I2, I3, I4, Hr⟩
  have ek : k.val = 0 := h0
  ihave Y0' := (entails_of_eq (yrole_free c XW XB AQ AS WS k.val k.val (by omega))) $$ Y0
  unfold yfreeB
  icases Y0' with ⟨%f4, Y4⟩
  iapply (wp_wand_r Idealize.ShloMosaic.frame (wpE (defs₀ (F := F)) 𝒱₀ (c : Thread nD τ) none) Set.univ)
  isplitl [Hst F0 F1 F2 F3 F4 F7 I0 I1 I2 I3 I4 Y4]
  · iapply (trip_first c XW XB AQ AS WS k h0 f4)
    isplitl [Hst]; · iexact Hst
    isplitl [F0]; · iexact F0
    isplitl [F1]; · iexact F1
    isplitl [F2]; · iexact F2
    isplitl [F3]; · iexact F3
    isplitl [F4]; · iexact F4
    isplitl [F7]; · iexact F7
    isplitl [I0]; · iexact I0
    isplitl [I1]; · iexact I1
    isplitl [I2]; · iexact I2
    isplitl [I3]; · iexact I3
    isplitl [I4]; · iexact I4
    iexact Y4
  · iintro %_ ⟨Hst, G7, G8, G9, G10, G11, E4, W0, W1, W2, W3, W4, ⟨Yc2, Yh2⟩⟩
    isplitl [Hst]; · iexact Hst
    isplitl [R5 R6 G7 G8 G9 G10 G11 E4]
    · isplitl [R5]; · iapply (role_same c XW k.val (k.val + 1) (5 * (k.val + 1) + 0) (5 * k.val + 5) (by omega) (by omega)); iexact R5
      isplitl [R6]; · iapply (role_same c XW k.val (k.val + 1) (5 * (k.val + 1) + 1) (5 * k.val + 6) (by omega) (by omega)); iexact R6
      isplitl [G7]; · iapply (infl_in0 c XW (k.val + 1) (5 * (k.val + 1) + 2) (5 * k.val + 7) (by omega) (by omega) (by omega)); iexact G7
      isplitl [G8]; · iapply (infl_in c XW (k.val + 1) (5 * (k.val + 1) + 3) (5 * k.val) (5 * k.val + 8) (by omega) (by omega) (by omega) (by omega)); iexact G8
      isplitl [G9]; · iapply (infl_in c XW (k.val + 1) (5 * (k.val + 1) + 4) (5 * k.val + 1) (5 * k.val + 9) (by omega) (by omega) (by omega) (by omega)); iexact G9
      isplitl [G10]; · iapply (infl_in c XW (k.val + 1) (5 * (k.val + 1) + 5) (5 * k.val + 2) (5 * k.val + 10) (by omega) (by omega) (by omega) (by omega)); iexact G10
      isplitl [G11]; · iapply (infl_in c XW (k.val + 1) (5 * (k.val + 1) + 6) (5 * k.val + 3) (5 * k.val + 11) (by omega) (by omega) (by omega) (by omega)); iexact G11
      iapply (free_in c XW (k.val + 1) (5 * (k.val + 1) + 7) (5 * k.val + 4) (by omega) (by omega)); iexact E4
    isplitl [W0 W1 W2 W3 W4 Hr]
    · iapply (homes_give c XW k.val (by omega))
      isplitl [W0]; · iexact W0
      isplitl [W1]; · iexact W1
      isplitl [W2]; · iexact W2
      isplitl [W3]; · iexact W3
      isplitl [W4]; · iexact W4
      iexact Hr
    isplitl [Y1 Y2 Y3 Yc2 Yh2]
    · isplitl [Y1]; · iapply (yrole_same c XW XB AQ AS WS k.val (k.val + 1) (by omega) (by omega)); iexact Y1
      isplitl [Y2]; · iapply (yrole_same c XW XB AQ AS WS k.val (k.val + 2) (by omega) (by omega)); iexact Y2
      isplitl [Y3]; · rw [ek]; iapply (yrole_first c XW XB AQ AS WS); iexact Y3
      iapply (yfull_in c XW XB AQ AS WS k.val); unfold yfullB
      isplitl [Yc2]; · iexact Yc2
      iexists (stW3 c XW XB AQ AS WS k f4); isplitl [Yh2]; · iexact Yh2
      ipureintro; exact ⟨k, f4, (Ring.bk_val (show k.val < 12 by omega)).symm, rfl⟩
    isplitl [Ht]
    · rw [ek]; iapply (ytodo_zero c); iexact Ht
    iapply (ydone_small c XW XB AQ AS WS k.val (by omega)); iexact Hd

theorem step_early (k : Fin k0_t1_loop.trips) (h1 : 1 ≤ k.val) (h3 : k.val ≤ 3) :
    invAt c XW XB AQ AS WS k.val ⊢ wp frame (wpE (defs₀ (F := F)) 𝒱₀ (c : Thread nD τ) none) Set.univ (tripG (F := F) k) (fun _ => invAt c XW XB AQ AS WS (k.val + 1)) := by
  unfold invAt
  iintro ⟨Hst, ⟨R0, R1, R2, R3, R4, R5, R6, R7⟩, Hh, ⟨Y0, Y1, Y2, Y3⟩, Ht, Hd⟩
  ihave F0 := (infl_out c XW k.val (5 * k.val) (by omega) (by omega)) $$ R0
  ihave F1 := (infl_out c XW k.val (5 * k.val + 1) (by omega) (by omega)) $$ R1
  ihave F2 := (infl_out c XW k.val (5 * k.val + 2) (by omega) (by omega)) $$ R2
  ihave F3 := (infl_out c XW k.val (5 * k.val + 3) (by omega) (by omega)) $$ R3
  ihave F4 := (infl_out c XW k.val (5 * k.val + 4) (by omega) (by omega)) $$ R4
  ihave F7 := (free_out c XW k.val (5 * k.val + 7) (by omega)) $$ R7
  ihave Hh' := (homes_take5 c XW k.val (by omega)) $$ Hh
  icases Hh' with ⟨I0, I1, I2, I3, I4, Hr⟩
  ihave Y3' := (yfull_out c XW XB AQ AS WS k.val (by omega)) $$ Y3
  unfold yfullB
  icases Y3' with ⟨Yc, ⟨%fy, Yh, %hy⟩⟩
  ihave Ht' := (ytodo_out c k.val (by omega) (by omega)) $$ Ht
  unfold ytodo1
  icases Ht' with ⟨⟨%gy, Yb⟩, Ht⟩
  ihave Y0' := (entails_of_eq (yrole_free c XW XB AQ AS WS k.val k.val (by omega))) $$ Y0
  unfold yfreeB
  icases Y0' with ⟨%f4, Y4⟩
  iapply (wp_wand_r Idealize.ShloMosaic.frame (wpE (defs₀ (F := F)) 𝒱₀ (c : Thread nD τ) none) Set.univ)
  isplitl [Hst F0 F1 F2 F3 F4 F7 I0 I1 I2 I3 I4 Yc Yh Yb Y4]
  · iapply (trip_early c XW XB AQ AS WS k h1 h3 fy gy f4)
    isplitl [Hst]; · iexact Hst
    isplitl [F0]; · iexact F0
    isplitl [F1]; · iexact F1
    isplitl [F2]; · iexact F2
    isplitl [F3]; · iexact F3
    isplitl [F4]; · iexact F4
    isplitl [F7]; · iexact F7
    isplitl [I0]; · iexact I0
    isplitl [I1]; · iexact I1
    isplitl [I2]; · iexact I2
    isplitl [I3]; · iexact I3
    isplitl [I4]; · iexact I4
    isplitl [Yc Yh Yb]
    · isplitl [Yc Yh]
      · isplitl [Yc]; · iexact Yc
        iexact Yh
      iexact Yb
    iexact Y4
  · iintro %_ ⟨Hst, G7, G8, G9, G10, G11, E4, W0, W1, W2, W3, W4, Yf, ⟨Yc2, Yh2⟩⟩
    isplitl [Hst]; · iexact Hst
    isplitl [R5 R6 G7 G8 G9 G10 G11 E4]
    · isplitl [R5]; · iapply (role_same c XW k.val (k.val + 1) (5 * (k.val + 1) + 0) (5 * k.val + 5) (by omega) (by omega)); iexact R5
      isplitl [R6]; · iapply (role_same c XW k.val (k.val + 1) (5 * (k.val + 1) + 1) (5 * k.val + 6) (by omega) (by omega)); iexact R6
      isplitl [G7]; · iapply (infl_in0 c XW (k.val + 1) (5 * (k.val + 1) + 2) (5 * k.val + 7) (by omega) (by omega) (by omega)); iexact G7
      isplitl [G8]; · iapply (infl_in c XW (k.val + 1) (5 * (k.val + 1) + 3) (5 * k.val) (5 * k.val + 8) (by omega) (by omega) (by omega) (by omega)); iexact G8
      isplitl [G9]; · iapply (infl_in c XW (k.val + 1) (5 * (k.val + 1) + 4) (5 * k.val + 1) (5 * k.val + 9) (by omega) (by omega) (by omega) (by omega)); iexact G9
      isplitl [G10]; · iapply (infl_in c XW (k.val + 1) (5 * (k.val + 1) + 5) (5 * k.val + 2) (5 * k.val + 10) (by omega) (by omega) (by omega) (by omega)); iexact G10
      isplitl [G11]; · iapply (infl_in c XW (k.val + 1) (5 * (k.val + 1) + 6) (5 * k.val + 3) (5 * k.val + 11) (by omega) (by omega) (by omega) (by omega)); iexact G11
      iapply (free_in c XW (k.val + 1) (5 * (k.val + 1) + 7) (5 * k.val + 4) (by omega) (by omega)); iexact E4
    isplitl [W0 W1 W2 W3 W4 Hr]
    · iapply (homes_give c XW k.val (by omega))
      isplitl [W0]; · iexact W0
      isplitl [W1]; · iexact W1
      isplitl [W2]; · iexact W2
      isplitl [W3]; · iexact W3
      isplitl [W4]; · iexact W4
      iexact Hr
    isplitl [Y1 Y2 Yf Yc2 Yh2]
    · isplitl [Y1]; · iapply (yrole_same c XW XB AQ AS WS k.val (k.val + 1) (by omega) (by omega)); iexact Y1
      isplitl [Y2]; · iapply (yrole_same c XW XB AQ AS WS k.val (k.val + 2) (by omega) (by omega)); iexact Y2
      isplitl [Yf]
      · iapply (yinfl_in c XW XB AQ AS WS k.val (by omega)); unfold yinflB; iexists fy, gy; isplitl [Yf]; · iexact Yf
        ipureintro; exact hy
      iapply (yfull_in c XW XB AQ AS WS k.val); unfold yfullB
      isplitl [Yc2]; · iexact Yc2
      iexists (stW3 c XW XB AQ AS WS k f4); isplitl [Yh2]; · iexact Yh2
      ipureintro; exact ⟨k, f4, (Ring.bk_val (show k.val < 12 by omega)).symm, rfl⟩
    isplitl [Ht]
    · iexact Ht
    iapply (ydone_small c XW XB AQ AS WS k.val (by omega)); iexact Hd

theorem step_mid (k : Fin k0_t1_loop.trips) (h4k : 4 ≤ k.val) (h9 : k.val ≤ 9) :
    invAt c XW XB AQ AS WS k.val ⊢ wp frame (wpE (defs₀ (F := F)) 𝒱₀ (c : Thread nD τ) none) Set.univ (tripG (F := F) k) (fun _ => invAt c XW XB AQ AS WS (k.val + 1)) := by
  unfold invAt
  iintro ⟨Hst, ⟨R0, R1, R2, R3, R4, R5, R6, R7⟩, Hh, ⟨Y0, Y1, Y2, Y3⟩, Ht, Hd⟩
  ihave F0 := (infl_out c XW k.val (5 * k.val) (by omega) (by omega)) $$ R0
  ihave F1 := (infl_out c XW k.val (5 * k.val + 1) (by omega) (by omega)) $$ R1
  ihave F2 := (infl_out c XW k.val (5 * k.val + 2) (by omega) (by omega)) $$ R2
  ihave F3 := (infl_out c XW k.val (5 * k.val + 3) (by omega) (by omega)) $$ R3
  ihave F4 := (infl_out c XW k.val (5 * k.val + 4) (by omega) (by omega)) $$ R4
  ihave F7 := (free_out c XW k.val (5 * k.val + 7) (by omega)) $$ R7
  ihave Hh' := (homes_take5 c XW k.val (by omega)) $$ Hh
  icases Hh' with ⟨I0, I1, I2, I3, I4, Hr⟩
  ihave Y3' := (yfull_out c XW XB AQ AS WS k.val (by omega)) $$ Y3
  unfold yfullB
  icases Y3' with ⟨Yc, ⟨%fy, Yh, %hy⟩⟩
  ihave Ht' := (ytodo_out c k.val (by omega) (by omega)) $$ Ht
  unfold ytodo1
  icases Ht' with ⟨⟨%gy, Yb⟩, Ht⟩
  ihave Y0' := (entails_of_eq (yrole_infl c XW XB AQ AS WS k.val k.val (by omega) (by omega))) $$ Y0
  unfold yinflB
  icases Y0' with ⟨%f4, %g4, Y4, %h4⟩
  iapply (wp_wand_r Idealize.ShloMosaic.frame (wpE (defs₀ (F := F)) 𝒱₀ (c : Thread nD τ) none) Set.univ)
  isplitl [Hst F0 F1 F2 F3 F4 F7 I0 I1 I2 I3 I4 Yc Yh Yb Y4]
  · iapply (trip_mid c XW XB AQ AS WS k h4k h9 fy gy f4 g4)
    isplitl [Hst]; · iexact Hst
    isplitl [F0]; · iexact F0
    isplitl [F1]; · iexact F1
    isplitl [F2]; · iexact F2
    isplitl [F3]; · iexact F3
    isplitl [F4]; · iexact F4
    isplitl [F7]; · iexact F7
    isplitl [I0]; · iexact I0
    isplitl [I1]; · iexact I1
    isplitl [I2]; · iexact I2
    isplitl [I3]; · iexact I3
    isplitl [I4]; · iexact I4
    isplitl [Yc Yh Yb]
    · isplitl [Yc Yh]
      · isplitl [Yc]; · iexact Yc
        iexact Yh
      iexact Yb
    iexact Y4
  · iintro %_ ⟨Hst, G7, G8, G9, G10, G11, E4, W0, W1, W2, W3, W4, Yf, Yd, ⟨Yc2, Yh2⟩⟩
    isplitl [Hst]; · iexact Hst
    isplitl [R5 R6 G7 G8 G9 G10 G11 E4]
    · isplitl [R5]; · iapply (role_same c XW k.val (k.val + 1) (5 * (k.val + 1) + 0) (5 * k.val + 5) (by omega) (by omega)); iexact R5
      isplitl [R6]; · iapply (role_same c XW k.val (k.val + 1) (5 * (k.val + 1) + 1) (5 * k.val + 6) (by omega) (by omega)); iexact R6
      isplitl [G7]; · iapply (infl_in0 c XW (k.val + 1) (5 * (k.val + 1) + 2) (5 * k.val + 7) (by omega) (by omega) (by omega)); iexact G7
      isplitl [G8]; · iapply (infl_in c XW (k.val + 1) (5 * (k.val + 1) + 3) (5 * k.val) (5 * k.val + 8) (by omega) (by omega) (by omega) (by omega)); iexact G8
      isplitl [G9]; · iapply (infl_in c XW (k.val + 1) (5 * (k.val + 1) + 4) (5 * k.val + 1) (5 * k.val + 9) (by omega) (by omega) (by omega) (by omega)); iexact G9
      isplitl [G10]; · iapply (infl_in c XW (k.val + 1) (5 * (k.val + 1) + 5) (5 * k.val + 2) (5 * k.val + 10) (by omega) (by omega) (by omega) (by omega)); iexact G10
      isplitl [G11]; · iapply (infl_in c XW (k.val + 1) (5 * (k.val + 1) + 6) (5 * k.val + 3) (5 * k.val + 11) (by omega) (by omega) (by omega) (by omega)); iexact G11
      iapply (free_in c XW (k.val + 1) (5 * (k.val + 1) + 7) (5 * k.val + 4) (by omega) (by omega)); iexact E4
    isplitl [W0 W1 W2 W3 W4 Hr]
    · iapply (homes_give c XW k.val (by omega))
      isplitl [W0]; · iexact W0
      isplitl [W1]; · iexact W1
      isplitl [W2]; · iexact W2
      isplitl [W3]; · iexact W3
      isplitl [W4]; · iexact W4
      iexact Hr
    isplitl [Y1 Y2 Yf Yc2 Yh2]
    · isplitl [Y1]; · iapply (yrole_same c XW XB AQ AS WS k.val (k.val + 1) (by omega) (by omega)); iexact Y1
      isplitl [Y2]; · iapply (yrole_same c XW XB AQ AS WS k.val (k.val + 2) (by omega) (by omega)); iexact Y2
      isplitl [Yf]
      · iapply (yinfl_in c XW XB AQ AS WS k.val (by omega)); unfold yinflB; iexists fy, gy; isplitl [Yf]; · iexact Yf
        ipureintro; exact hy
      iapply (yfull_in c XW XB AQ AS WS k.val); unfold yfullB
      isplitl [Yc2]; · iexact Yc2
      iexists (stW3 c XW XB AQ AS WS k f4); isplitl [Yh2]; · iexact Yh2
      ipureintro; exact ⟨k, f4, (Ring.bk_val (show k.val < 12 by omega)).symm, rfl⟩
    isplitl [Ht]
    · iexact Ht
    iapply (ydone_in c XW XB AQ AS WS k.val (by omega) (by omega))
    isplitl [Yd]; · iapply (ydone1_of c XW XB AQ AS WS (Ring.sl 4 k.val) (Ring.bk 12 (k.val - 4)) f4 g4 h4); iexact Yd
    iexact Hd

theorem step_ten (k : Fin k0_t1_loop.trips) (h10 : k.val = 10) :
    invAt c XW XB AQ AS WS k.val ⊢ wp frame (wpE (defs₀ (F := F)) 𝒱₀ (c : Thread nD τ) none) Set.univ (tripG (F := F) k) (fun _ => invAt c XW XB AQ AS WS (k.val + 1)) := by
  unfold invAt
  iintro ⟨Hst, ⟨R0, R1, R2, R3, R4, R5, R6, R7⟩, Hh, ⟨Y0, Y1, Y2, Y3⟩, Ht, Hd⟩
  ihave F0 := (infl_out c XW k.val (5 * k.val) (by omega) (by omega)) $$ R0
  ihave F1 := (infl_out c XW k.val (5 * k.val + 1) (by omega) (by omega)) $$ R1
  ihave F2 := (infl_out c XW k.val (5 * k.val + 2) (by omega) (by omega)) $$ R2
  ihave F3 := (infl_out c XW k.val (5 * k.val + 3) (by omega) (by omega)) $$ R3
  ihave F4 := (infl_out c XW k.val (5 * k.val + 4) (by omega) (by omega)) $$ R4
  ihave F7 := (free_out c XW k.val (5 * k.val + 7) (by omega)) $$ R7
  ihave Hh' := (homes_take3 c XW k.val (by omega)) $$ Hh
  icases Hh' with ⟨I0, I1, I2, Hr⟩
  ihave Y3' := (yfull_out c XW XB AQ AS WS k.val (by omega)) $$ Y3
  unfold yfullB
  icases Y3' with ⟨Yc, ⟨%fy, Yh, %hy⟩⟩
  ihave Ht' := (ytodo_out c k.val (by omega) (by omega)) $$ Ht
  unfold ytodo1
  icases Ht' with ⟨⟨%gy, Yb⟩, Ht⟩
  ihave Y0' := (entails_of_eq (yrole_infl c XW XB AQ AS WS k.val k.val (by omega) (by omega))) $$ Y0
  unfold yinflB
  icases Y0' with ⟨%f4, %g4, Y4, %h4⟩
  iapply (wp_wand_r Idealize.ShloMosaic.frame (wpE (defs₀ (F := F)) 𝒱₀ (c : Thread nD τ) none) Set.univ)
  isplitl [Hst F0 F1 F2 F3 F4 F7 I0 I1 I2 Yc Yh Yb Y4]
  · iapply (trip_ten c XW XB AQ AS WS k h10 fy gy f4 g4)
    isplitl [Hst]; · iexact Hst
    isplitl [F0]; · iexact F0
    isplitl [F1]; · iexact F1
    isplitl [F2]; · iexact F2
    isplitl [F3]; · iexact F3
    isplitl [F4]; · iexact F4
    isplitl [F7]; · iexact F7
    isplitl [I0]; · iexact I0
    isplitl [I1]; · iexact I1
    isplitl [I2]; · iexact I2
    isplitl [Yc Yh Yb]
    · isplitl [Yc Yh]
      · isplitl [Yc]; · iexact Yc
        iexact Yh
      iexact Yb
    iexact Y4
  · iintro %_ ⟨Hst, G7, G8, G9, E2, E3, E4, W0, W1, W2, W3, W4, Yf, Yd, ⟨Yc2, Yh2⟩⟩
    isplitl [Hst]; · iexact Hst
    isplitl [R5 R6 G7 G8 G9 E2 E3 E4]
    · isplitl [R5]; · iapply (role_same c XW k.val (k.val + 1) (5 * (k.val + 1) + 0) (5 * k.val + 5) (by omega) (by omega)); iexact R5
      isplitl [R6]; · iapply (role_same c XW k.val (k.val + 1) (5 * (k.val + 1) + 1) (5 * k.val + 6) (by omega) (by omega)); iexact R6
      isplitl [G7]; · iapply (infl_in0 c XW (k.val + 1) (5 * (k.val + 1) + 2) (5 * k.val + 7) (by omega) (by omega) (by omega)); iexact G7
      isplitl [G8]; · iapply (infl_in c XW (k.val + 1) (5 * (k.val + 1) + 3) (5 * k.val) (5 * k.val + 8) (by omega) (by omega) (by omega) (by omega)); iexact G8
      isplitl [G9]; · iapply (infl_in c XW (k.val + 1) (5 * (k.val + 1) + 4) (5 * k.val + 1) (5 * k.val + 9) (by omega) (by omega) (by omega) (by omega)); iexact G9
      isplitl [E2]; · iapply (free_in c XW (k.val + 1) (5 * (k.val + 1) + 5) (5 * k.val + 2) (by omega) (by omega)); iexact E2
      isplitl [E3]; · iapply (free_in c XW (k.val + 1) (5 * (k.val + 1) + 6) (5 * k.val + 3) (by omega) (by omega)); iexact E3
      iapply (free_in c XW (k.val + 1) (5 * (k.val + 1) + 7) (5 * k.val + 4) (by omega) (by omega)); iexact E4
    isplitl [W0 W1 W2 W3 W4 Hr]
    · iapply (homes_give c XW k.val (by omega))
      isplitl [W0]; · iexact W0
      isplitl [W1]; · iexact W1
      isplitl [W2]; · iexact W2
      isplitl [W3]; · iexact W3
      isplitl [W4]; · iexact W4
      iexact Hr
    isplitl [Y1 Y2 Yf Yc2 Yh2]
    · isplitl [Y1]; · iapply (yrole_same c XW XB AQ AS WS k.val (k.val + 1) (by omega) (by omega)); iexact Y1
      isplitl [Y2]; · iapply (yrole_same c XW XB AQ AS WS k.val (k.val + 2) (by omega) (by omega)); iexact Y2
      isplitl [Yf]
      · iapply (yinfl_in c XW XB AQ AS WS k.val (by omega)); unfold yinflB; iexists fy, gy; isplitl [Yf]; · iexact Yf
        ipureintro; exact hy
      iapply (yfull_in c XW XB AQ AS WS k.val); unfold yfullB
      isplitl [Yc2]; · iexact Yc2
      iexists (stW3 c XW XB AQ AS WS k f4); isplitl [Yh2]; · iexact Yh2
      ipureintro; exact ⟨k, f4, (Ring.bk_val (show k.val < 12 by omega)).symm, rfl⟩
    isplitl [Ht]
    · iexact Ht
    iapply (ydone_in c XW XB AQ AS WS k.val (by omega) (by omega))
    isplitl [Yd]; · iapply (ydone1_of c XW XB AQ AS WS (Ring.sl 4 k.val) (Ring.bk 12 (k.val - 4)) f4 g4 h4); iexact Yd
    iexact Hd

theorem step_last (k : Fin k0_t1_loop.trips) (h11 : k.val = 11) :
    invAt c XW XB AQ AS WS k.val ⊢ wp frame (wpE (defs₀ (F := F)) 𝒱₀ (c : Thread nD τ) none) Set.univ (tripG (F := F) k) (fun _ => invAt c XW XB AQ AS WS (k.val + 1)) := by
  unfold invAt
  iintro ⟨Hst, ⟨R0, R1, R2, R3, R4, R5, R6, R7⟩, Hh, ⟨Y0, Y1, Y2, Y3⟩, Ht, Hd⟩
  ihave F0 := (infl_out c XW k.val (5 * k.val) (by omega) (by omega)) $$ R0
  ihave F1 := (infl_out c XW k.val (5 * k.val + 1) (by omega) (by omega)) $$ R1
  ihave F2 := (infl_out c XW k.val (5 * k.val + 2) (by omega) (by omega)) $$ R2
  ihave F3 := (infl_out c XW k.val (5 * k.val + 3) (by omega) (by omega)) $$ R3
  ihave F4 := (infl_out c XW k.val (5 * k.val + 4) (by omega) (by omega)) $$ R4
  ihave Hh' := (homes_take0 c XW k.val (by omega)) $$ Hh
  ihave Y3' := (yfull_out c XW XB AQ AS WS k.val (by omega)) $$ Y3
  unfold yfullB
  icases Y3' with ⟨Yc, ⟨%fy, Yh, %hy⟩⟩
  ihave Ht' := (ytodo_out c k.val (by omega) (by omega)) $$ Ht
  unfold ytodo1
  icases Ht' with ⟨⟨%gy, Yb⟩, Ht⟩
  ihave Y0' := (entails_of_eq (yrole_infl c XW XB AQ AS WS k.val k.val (by omega) (by omega))) $$ Y0
  unfold yinflB
  icases Y0' with ⟨%f4, %g4, Y4, %h4⟩
  iapply (wp_wand_r Idealize.ShloMosaic.frame (wpE (defs₀ (F := F)) 𝒱₀ (c : Thread nD τ) none) Set.univ)
  isplitl [Hst F0 F1 F2 F3 F4 Yc Yh Yb Y4]
  · iapply (trip_last c XW XB AQ AS WS k h11 fy gy f4 g4)
    isplitl [Hst]; · iexact Hst
    isplitl [F0]; · iexact F0
    isplitl [F1]; · iexact F1
    isplitl [F2]; · iexact F2
    isplitl [F3]; · iexact F3
    isplitl [F4]; · iexact F4
    isplitl [Yc Yh Yb]
    · isplitl [Yc Yh]
      · isplitl [Yc]; · iexact Yc
        iexact Yh
      iexact Yb
    iexact Y4
  · iintro %_ ⟨Hst, E0, E1, E2, E3, E4, W0, W1, W2, W3, W4, Yf, Yd, ⟨Yc2, Yh2⟩⟩
    isplitl [Hst]; · iexact Hst
    isplitl [R5 R6 E0 E1 E2 E3 E4 R7]
    · isplitl [R5]; · iapply (role_same c XW k.val (k.val + 1) (5 * (k.val + 1) + 0) (5 * k.val + 5) (by omega) (by omega)); iexact R5
      isplitl [R6]; · iapply (role_same c XW k.val (k.val + 1) (5 * (k.val + 1) + 1) (5 * k.val + 6) (by omega) (by omega)); iexact R6
      isplitl [R7]; · iapply (role_same c XW k.val (k.val + 1) (5 * (k.val + 1) + 2) (5 * k.val + 7) (by omega) (by omega)); iexact R7
      isplitl [E0]; · iapply (free_in c XW (k.val + 1) (5 * (k.val + 1) + 3) (5 * k.val) (by omega) (by omega)); iexact E0
      isplitl [E1]; · iapply (free_in c XW (k.val + 1) (5 * (k.val + 1) + 4) (5 * k.val + 1) (by omega) (by omega)); iexact E1
      isplitl [E2]; · iapply (free_in c XW (k.val + 1) (5 * (k.val + 1) + 5) (5 * k.val + 2) (by omega) (by omega)); iexact E2
      isplitl [E3]; · iapply (free_in c XW (k.val + 1) (5 * (k.val + 1) + 6) (5 * k.val + 3) (by omega) (by omega)); iexact E3
      iapply (free_in c XW (k.val + 1) (5 * (k.val + 1) + 7) (5 * k.val + 4) (by omega) (by omega)); iexact E4
    isplitl [W0 W1 W2 W3 W4 Hh']
    · iapply (homes_give c XW k.val (by omega))
      isplitl [W0]; · iexact W0
      isplitl [W1]; · iexact W1
      isplitl [W2]; · iexact W2
      isplitl [W3]; · iexact W3
      isplitl [W4]; · iexact W4
      iexact Hh'
    isplitl [Y1 Y2 Yf Yc2 Yh2]
    · isplitl [Y1]; · iapply (yrole_same c XW XB AQ AS WS k.val (k.val + 1) (by omega) (by omega)); iexact Y1
      isplitl [Y2]; · iapply (yrole_same c XW XB AQ AS WS k.val (k.val + 2) (by omega) (by omega)); iexact Y2
      isplitl [Yf]
      · iapply (yinfl_in c XW XB AQ AS WS k.val (by omega)); unfold yinflB; iexists fy, gy; isplitl [Yf]; · iexact Yf
        ipureintro; exact hy
      iapply (yfull_in c XW XB AQ AS WS k.val); unfold yfullB
      isplitl [Yc2]; · iexact Yc2
      iexists (stW3 c XW XB AQ AS WS k f4); isplitl [Yh2]; · iexact Yh2
      ipureintro; exact ⟨k, f4, (Ring.bk_val (show k.val < 12 by omega)).symm, rfl⟩
    isplitl [Ht]
    · iexact Ht
    iapply (ydone_in c XW XB AQ AS WS k.val (by omega) (by omega))
    isplitl [Yd]; · iapply (ydone1_of c XW XB AQ AS WS (Ring.sl 4 k.val) (Ring.bk 12 (k.val - 4)) f4 g4 h4); iexact Yd
    iexact Hd

/-- One trip, whichever it is. -/
theorem step_all (k : Fin k0_t1_loop.trips) :
    invAt c XW XB AQ AS WS k.val ⊢ wp frame (wpE (defs₀ (F := F)) 𝒱₀ (c : Thread nD τ) none) Set.univ (tripG (F := F) k) (fun _ => invAt c XW XB AQ AS WS (k.val + 1)) := by
  have h12 := trip_lt k
  by_cases h0 : k.val = 0
  · exact step_first c XW XB AQ AS WS k h0
  by_cases h3 : k.val ≤ 3
  · exact step_early c XW XB AQ AS WS k (by omega) h3
  by_cases h9 : k.val ≤ 9
  · exact step_mid c XW XB AQ AS WS k (by omega) h9
  by_cases h10 : k.val = 10
  · exact step_ten c XW XB AQ AS WS k h10
  · exact step_last c XW XB AQ AS WS k (by omega)

set_option warn.classDefReducibility false in
/-- The loop's invariant, as its run takes it. -/
@[sl_loop] def loopInv1 : LoopInvTy_k0_t1 (F := F) Unit ℕ UU ℕ 𝒱₀ c none Set.univ
    xM (Memref.isWhole_whole _) cM (Memref.isWhole_whole _) sM (Memref.isWhole_whole _) wM (Memref.isWhole_whole _) wsM (Memref.isWhole_whole _) yM (Memref.isWhole_whole _)
    ringM (Memref.isWhole_whole _) xbM (Memref.isWhole_whole _) acbM (Memref.isWhole_whole _) ascM (Memref.isWhole_whole _) wsoM (Memref.isWhole_whole _) aqM (Memref.isWhole_whole _) stM (Memref.isWhole_whole _) asbM (Memref.isWhole_whole _) accM (Memref.isWhole_whole _)
    cc0_scratch9 cc0_scratch10 cc0_scratch11 6#32 where
  inv k _ := invAt c XW XB AQ AS WS k
  step k _ := by
    iintro H
    iapply (step_all c XW XB AQ AS WS k); iexact H

end
end Cert.Proof.KI
-- ==== Proof.KI.Body.lean ====
module

public import proofs.«01_k».proof.Proof.KI.Loop

/-! # The body

The prologue copies the rows, codes and scales in, issues the first seven items, stores the codes padded to 128 rows and
the scales spread over the lanes; the loop; the epilogue issues the last block and waits for the last four. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD)
  (XX : Buf (Elt F) (xM.view.loc (c : Thread nD τ))) (XC : Buf (Elt F) (cM.view.loc (c : Thread nD τ)))
  (XS : Buf (Elt F) (sM.view.loc (c : Thread nD τ))) (XWS : Buf (Elt F) (wsM.view.loc (c : Thread nD τ))) (XW : Buf (Elt F) (wM.view.loc (c : Thread nD τ)))

/-- The body at the call's own arrays and buffers. -/
abbrev bodyG : Prog (TpuEff nD τ sig (Elt F) Λ₀ .tc) PUnit :=
  cc0_parallel_block_decode xM (Memref.isWhole_whole _) cM (Memref.isWhole_whole _) sM (Memref.isWhole_whole _) wM (Memref.isWhole_whole _) wsM (Memref.isWhole_whole _) yM (Memref.isWhole_whole _)
    ringM (Memref.isWhole_whole _) xbM (Memref.isWhole_whole _) acbM (Memref.isWhole_whole _) ascM (Memref.isWhole_whole _) wsoM (Memref.isWhole_whole _) aqM (Memref.isWhole_whole _) stM (Memref.isWhole_whole _) asbM (Memref.isWhole_whole _) accM (Memref.isWhole_whole _)
    cc0_scratch9 cc0_scratch10 cc0_scratch11

abbrev icell (s : Fin 4) : sProp 𝕄 := semVal ((c : Thread nD τ), SemLoc.dma (isem s).sem) 0

/-- The four operands copied in whole. -/
abbrev smalls : sProp 𝕄 := iprop((xM.view.loc (c : Thread nD τ) ↦[xM.view.set]{fullShare} XX) ∗ (cM.view.loc (c : Thread nD τ) ↦[cM.view.set]{fullShare} XC) ∗ (sM.view.loc (c : Thread nD τ) ↦[sM.view.set]{fullShare} XS) ∗ (wsM.view.loc (c : Thread nD τ) ↦[wsM.view.set]{fullShare} XWS))
/-- The buffers besides the ring and the staging slots, at anything. -/
abbrev bufsAny : sProp 𝕄 := iprop((∃ f, (xbM.view.loc (c : Thread nD τ) ↦[xbM.view.set]{fullShare} f)) ∗ (∃ f, (acbM.view.loc (c : Thread nD τ) ↦[acbM.view.set]{fullShare} f)) ∗ (∃ f, (ascM.view.loc (c : Thread nD τ) ↦[ascM.view.set]{fullShare} f)) ∗ (∃ f, (wsoM.view.loc (c : Thread nD τ) ↦[wsoM.view.set]{fullShare} f)) ∗ (∃ f, (aqM.view.loc (c : Thread nD τ) ↦[aqM.view.set]{fullShare} f)) ∗ (∃ f, (asbM.view.loc (c : Thread nD τ) ↦[asbM.view.set]{fullShare} f)) ∗ (∃ f, (accM.view.loc (c : Thread nD τ) ↦[accM.view.set]{fullShare} f)))
abbrev icells : sProp 𝕄 := iprop(icell (F := F) c 0 ∗ icell (F := F) c 1 ∗ icell (F := F) c 2 ∗ icell (F := F) c 3)
abbrev ringFree : sProp 𝕄 := iprop(rfreeAt (F := F) c 0 ∗ rfreeAt (F := F) c 1 ∗ rfreeAt (F := F) c 2 ∗ rfreeAt (F := F) c 3 ∗ rfreeAt (F := F) c 4 ∗ rfreeAt (F := F) c 5 ∗ rfreeAt (F := F) c 6 ∗ rfreeAt (F := F) c 7)
abbrev stFree : sProp 𝕄 := iprop(yfreeB (F := F) c 0 ∗ yfreeB (F := F) c 1 ∗ yfreeB (F := F) c 2 ∗ yfreeB (F := F) c 3)

/-- What the body is handed; -/
abbrev PRE (W : Waits sig Unit) : sProp 𝕄 := iprop(smalls c XX XC XS XWS ∗ bufsAny c ∗ icells (F := F) c ∗ ringFree (F := F) c ∗ stFree (F := F) c
  ∗ whomes c XW 0 0 ∗ ytodo (F := F) c 0 ∗ owes (c : Thread nD τ) 0 W)

theorem homes_start : whomes c XW 0 0 ⊢ iprop(whome c XW 0 ∗ whome c XW 1 ∗ whome c XW 2 ∗ whome c XW 3 ∗ whome c XW 4 ∗ whome c XW 5 ∗ whome c XW 6 ∗ whomes c XW 7 0) := by
  rw [whomes_out c XW 0 0 (by omega), whomes_out c XW 1 0 (by omega), whomes_out c XW 2 0 (by omega), whomes_out c XW 3 0 (by omega), whomes_out c XW 4 0 (by omega),
    whomes_out c XW 5 0 (by omega), whomes_out c XW 6 0 (by omega)]
  exact .rfl

/-- What the loop finds in the buffers it reads: the rows, -/
def XBv : Buf (Elt F) (xbM.view.loc (c : Thread nD τ)) := xbM.view.writes (Elt F) xbM.view.junk [⟨Rect.whole S112x6144, ReadAs.same.apply (xM.view.read (Elt F) XX)⟩]
/-- the codes (padded), -/
def AQv : Buf (Elt F) (aqM.view.loc (c : Thread nD τ)) := aqM.view.writes (Elt F) aqM.view.junk
  [⟨Rect.unit (s := S128x30720) ![0, 0] S128x30720.size inb_S128x30720_S128x30720_0_0, k0_pay13 (View.readAt (Elt F) acbM.view (Rect.unit (s := S112x30720) ![0, 0] S112x30720.size inb_S112x30720_S112x30720_0_0).toLoadRect
    (acbM.view.writes (Elt F) acbM.view.junk [⟨Rect.whole S112x30720, ReadAs.same.apply (cM.view.read (Elt F) XC)⟩]))⟩]
/-- the rows' scales (spread), -/
def ASv : Buf (Elt F) (asbM.view.loc (c : Thread nD τ)) := asbM.view.writes (Elt F) asbM.view.junk
  [⟨Rect.unit (s := S112x128) ![0, 0] S112x128.size inb_S112x128_S112x128_0_0, k0_pay14 (View.readAt (Elt F) ascM.view (Rect.unit (s := S112x1) ![0, 0] S112x1.size inb_S112x1_S112x1_0_0).toLoadRect
    (ascM.view.writes (Elt F) ascM.view.junk [⟨Rect.whole S112x1, ReadAs.same.apply (sM.view.read (Elt F) XS)⟩]))⟩]
/-- the columns' scales. -/
def WSv : Buf (Elt F) (wsoM.view.loc (c : Thread nD τ)) := wsoM.view.writes (Elt F) wsoM.view.junk [⟨Rect.whole S1x6144, ReadAs.same.apply (wsM.view.read (Elt F) XWS)⟩]

abbrev INV (k : ℕ) : sProp 𝕄 := invAt c XW (XBv c XX) (AQv c XC) (ASv c XS) (WSv c XWS) k

theorem homes_end : whomes c XW 7 (5 * 12) ⊢ whomes c XW 0 0 := by
  have e : Ring.homeSet (NB := 60) 7 (5 * 12) = Ring.homeSet 0 0 := by
    ext b; rw [Ring.mem_homeSet, Ring.mem_homeSet]; have := b.isLt; omega
  unfold whomes
  rw [e]

/-- What the body hands back. -/
abbrev POST : sProp 𝕄 := iprop(smalls c XX XC XS XWS ∗ bufsAny c ∗ icells (F := F) c ∗ ringFree (F := F) c ∗ stFree (F := F) c
  ∗ whomes c XW 0 0 ∗ bigSep Finset.univ (ydone1 c XW (XBv c XX) (AQv c XC) (ASv c XS) (WSv c XWS)) ∗ (∃ W, owes (c : Thread nD τ) 0 W))

theorem ydone_all (XB AQ AS WS) : ydone c XW XB AQ AS WS (12 + 1 + 1 + 1 + 1) ⊢ bigSep Finset.univ (ydone1 c XW XB AQ AS WS) := by
  have e : (Finset.univ.filter fun b : Fin 12 => b.val + 4 < 12 + 1 + 1 + 1 + 1) = Finset.univ := by decide
  unfold ydone; rw [e]

theorem slR0 : rrole c XW 12 (5 * 12 + 0) ⊢ rfreeAt (F := F) c 4 := (free_out c XW 12 (5 * 12 + 0) (by omega)).trans (entails_of_eq (congrArg (rfreeAt (F := F) c) (show Ring.sl 8 (5 * 12 + 0) = 4 from by decide)))
theorem slR1 : rrole c XW 12 (5 * 12 + 1) ⊢ rfreeAt (F := F) c 5 := (free_out c XW 12 (5 * 12 + 1) (by omega)).trans (entails_of_eq (congrArg (rfreeAt (F := F) c) (show Ring.sl 8 (5 * 12 + 1) = 5 from by decide)))
theorem slR2 : rrole c XW 12 (5 * 12 + 2) ⊢ rfreeAt (F := F) c 6 := (free_out c XW 12 (5 * 12 + 2) (by omega)).trans (entails_of_eq (congrArg (rfreeAt (F := F) c) (show Ring.sl 8 (5 * 12 + 2) = 6 from by decide)))
theorem slR3 : rrole c XW 12 (5 * 12 + 3) ⊢ rfreeAt (F := F) c 7 := (free_out c XW 12 (5 * 12 + 3) (by omega)).trans (entails_of_eq (congrArg (rfreeAt (F := F) c) (show Ring.sl 8 (5 * 12 + 3) = 7 from by decide)))
theorem slR4 : rrole c XW 12 (5 * 12 + 4) ⊢ rfreeAt (F := F) c 0 := (free_out c XW 12 (5 * 12 + 4) (by omega)).trans (entails_of_eq (congrArg (rfreeAt (F := F) c) (show Ring.sl 8 (5 * 12 + 4) = 0 from by decide)))
theorem slR5 : rrole c XW 12 (5 * 12 + 5) ⊢ rfreeAt (F := F) c 1 := (free_out c XW 12 (5 * 12 + 5) (by omega)).trans (entails_of_eq (congrArg (rfreeAt (F := F) c) (show Ring.sl 8 (5 * 12 + 5) = 1 from by decide)))
theorem slR6 : rrole c XW 12 (5 * 12 + 6) ⊢ rfreeAt (F := F) c 2 := (free_out c XW 12 (5 * 12 + 6) (by omega)).trans (entails_of_eq (congrArg (rfreeAt (F := F) c) (show Ring.sl 8 (5 * 12 + 6) = 2 from by decide)))
theorem slR7 : rrole c XW 12 (5 * 12 + 7) ⊢ rfreeAt (F := F) c 3 := (free_out c XW 12 (5 * 12 + 7) (by omega)).trans (entails_of_eq (congrArg (rfreeAt (F := F) c) (show Ring.sl 8 (5 * 12 + 7) = 3 from by decide)))
theorem slY0 (XB AQ AS WS) : yrole c XW XB AQ AS WS 12 (12 + 0) ⊢ yinflB c XW XB AQ AS WS 0 8 :=
  (entails_of_eq (yrole_infl c XW XB AQ AS WS 12 (12 + 0) (by omega) (by omega))).trans
    (entails_of_eq (congrArg₂ (yinflB c XW XB AQ AS WS) (show Ring.sl 4 (12 + 0) = 0 from by decide) (show Ring.bk 12 (12 + 0 - 4) = 8 from by decide)))
theorem slY1 (XB AQ AS WS) : yrole c XW XB AQ AS WS 12 (12 + 1) ⊢ yinflB c XW XB AQ AS WS 1 9 :=
  (entails_of_eq (yrole_infl c XW XB AQ AS WS 12 (12 + 1) (by omega) (by omega))).trans
    (entails_of_eq (congrArg₂ (yinflB c XW XB AQ AS WS) (show Ring.sl 4 (12 + 1) = 1 from by decide) (show Ring.bk 12 (12 + 1 - 4) = 9 from by decide)))
theorem slY2 (XB AQ AS WS) : yrole c XW XB AQ AS WS 12 (12 + 2) ⊢ yinflB c XW XB AQ AS WS 2 10 :=
  (entails_of_eq (yrole_infl c XW XB AQ AS WS 12 (12 + 2) (by omega) (by omega))).trans
    (entails_of_eq (congrArg₂ (yinflB c XW XB AQ AS WS) (show Ring.sl 4 (12 + 2) = 2 from by decide) (show Ring.bk 12 (12 + 2 - 4) = 10 from by decide)))
theorem slY3 (XB AQ AS WS) : yrole c XW XB AQ AS WS 12 (12 + 3) ⊢ yfullB c XW XB AQ AS WS 3 11 :=
  (entails_of_eq (yrole_full c XW XB AQ AS WS 12 (12 + 3) (by omega) (by omega))).trans
    (entails_of_eq (congrArg₂ (yfullB c XW XB AQ AS WS) (show Ring.sl 4 (12 + 3) = 3 from by decide) (show Ring.bk 12 (12 + 3 - 4) = 11 from by decide)))
theorem slT : ytodo (F := F) c 12 ⊢ iprop(ytodo1 (F := F) c 11 ∗ ytodo (F := F) c 13) :=
  (ytodo_out c 12 (by omega) (by omega)).trans (entails_of_eq (by rw [show Ring.bk 12 (12 - 1) = 11 from by decide]))
theorem inflP (p : ℕ) (s : Fin 8) (t : Fin 60) (h : p < 7) (es : Ring.sl 8 p = s) (et : Ring.bk 60 p = t) : rinflAt c XW s t ⊢ rrole c XW 0 p := by
  subst es; subst et; exact entails_of_eq (rrole_infl c XW 0 p (by omega) (by omega)).symm
theorem freeP : rfreeAt (F := F) c 7 ⊢ rrole c XW 0 (5 * 0 + 7) :=
  entails_of_eq ((rrole_free c XW 0 (5 * 0 + 7) (by omega)).trans (by rw [show Ring.sl 8 (5 * 0 + 7) = 7 from by decide])).symm
theorem freeY (XB AQ AS WS) (p : ℕ) (s : Fin 4) (h : p < 4) (es : Ring.sl 4 p = s) : yfreeB (F := F) c s ⊢ yrole c XW XB AQ AS WS 0 p := by
  subst es; exact entails_of_eq (yrole_free c XW XB AQ AS WS 0 p h).symm
theorem done0 (XB AQ AS WS) : (BI.emp : sProp 𝕄) ⊢ ydone c XW XB AQ AS WS 0 := by
  have e : (Finset.univ.filter fun b : Fin 12 => b.val + 4 < 0) = ∅ := by decide
  unfold ydone; rw [e, bigSep_empty]

set_option maxHeartbeats 4000000 in
/-- The prologue: from what the body is handed to the loop at trip 0, the rest of the body after it. -/
theorem bodyRun (W) (Q : PUnit → sProp 𝕄) :
    iprop(PRE c XX XC XS XWS XW W ∗ (POST c XX XC XS XWS XW -∗ Q ⟨⟩)) ⊢ wp frame (wpE (defs₀ (F := F)) 𝒱₀ (c : Thread nD τ) none) Set.univ (bodyG (F := F)) Q := by
  have c1 := cond1
  have c2 := cond2
  have c3 := cond3
  have c4 := cond4
  have c5 := cond5
  have c6 := cond6
  have c7 := cond7
  iintro ⟨⟨⟨Hx, Hc, Hs, Hw⟩, ⟨⟨%bxb, Bxb⟩, ⟨%bacb, Bacb⟩, ⟨%basc, Basc⟩, ⟨%bwso, Bwso⟩, ⟨%baq, Baq⟩, ⟨%basb, Basb⟩, ⟨%bacc, Bacc⟩⟩, ⟨I0, I1, I2, I3⟩,
    ⟨⟨C0, ⟨%f0, S0⟩⟩, ⟨C1, ⟨%f1, S1⟩⟩, ⟨C2, ⟨%f2, S2⟩⟩, ⟨C3, ⟨%f3, S3⟩⟩, ⟨C4, ⟨%f4, S4⟩⟩, ⟨C5, ⟨%f5, S5⟩⟩, ⟨C6, ⟨%f6, S6⟩⟩, ⟨C7, ⟨%f7, S7⟩⟩⟩, ⟨Y0, Y1, Y2, Y3⟩, Hh, Ht, HW⟩, Hk⟩
  ihave Hh' := (homes_start c XW) $$ Hh
  icases Hh' with ⟨H0, H1, H2, H3, H4, H5, H6, Hh⟩
  sl_exec
  sl_for (fun k _ => INV c XX XC XS XWS XW k) $$ [Baq Basb Bacc Bxb Bwso C0 C1 C2 C3 C4 C5 C6 C7 S7 Y0 Y1 Y2 Y3 Ht Hh HW]
  · intro k acc
    exact step_all c XW (XBv c XX) (AQv c XC) (ASv c XS) (WSv c XWS) k
  · unfold INV invAt
    isplitl [Baq Basb Bacc Bxb Bwso HW]
    · isplitl [Baq]; · iexact Baq
      isplitl [Bxb]; · iexact Bxb
      isplitl [Basb]; · iexact Basb
      isplitl [Bwso]; · iexact Bwso
      isplitl [Bacc]; · iexists _; iexact Bacc
      iexists _; iexact HW
    isplitl [C0 C1 C2 C3 C4 C5 C6 C7 S7]
    · isplitl [C0]; · iapply (inflP c XW (5 * 0 + 0) 0 0 (by omega) (by decide) (by decide)); iexists f0; iexact C0
      isplitl [C1]; · iapply (inflP c XW (5 * 0 + 1) 1 1 (by omega) (by decide) (by decide)); iexists f1; iexact C1
      isplitl [C2]; · iapply (inflP c XW (5 * 0 + 2) 2 2 (by omega) (by decide) (by decide)); iexists f2; iexact C2
      isplitl [C3]; · iapply (inflP c XW (5 * 0 + 3) 3 3 (by omega) (by decide) (by decide)); iexists f3; iexact C3
      isplitl [C4]; · iapply (inflP c XW (5 * 0 + 4) 4 4 (by omega) (by decide) (by decide)); iexists f4; iexact C4
      isplitl [C5]; · iapply (inflP c XW (5 * 0 + 5) 5 5 (by omega) (by decide) (by decide)); iexists f5; iexact C5
      isplitl [C6]; · iapply (inflP c XW (5 * 0 + 6) 6 6 (by omega) (by decide) (by decide)); iexists f6; iexact C6
      iapply (freeP c XW); isplitl [C7]; · iexact C7
      iexists f7; iexact S7
    isplitl [Hh]; · iexact Hh
    isplitl [Y0 Y1 Y2 Y3]
    · isplitl [Y0]; · iapply (freeY c XW (XBv c XX) (AQv c XC) (ASv c XS) (WSv c XWS) 0 0 (by omega) (by decide)); iexact Y0
      isplitl [Y1]; · iapply (freeY c XW (XBv c XX) (AQv c XC) (ASv c XS) (WSv c XWS) (0 + 1) 1 (by omega) (by decide)); iexact Y1
      isplitl [Y2]; · iapply (freeY c XW (XBv c XX) (AQv c XC) (ASv c XS) (WSv c XWS) (0 + 2) 2 (by omega) (by decide)); iexact Y2
      iapply (freeY c XW (XBv c XX) (AQv c XC) (ASv c XS) (WSv c XWS) (0 + 3) 3 (by omega) (by decide)); iexact Y3
    isplitl [Ht]; · iexact Ht
    iapply (done0 c XW (XBv c XX) (AQv c XC) (ASv c XS) (WSv c XWS)); iempintro
  rw [show Scf.trips k0_t1_loop.lb k0_t1_loop.ub k0_t1_loop.st = 12 from trips_eq]
  unfold INV invAt
  iintro %acc ⟨⟨Baq, Bxb, Basb, Bwso, ⟨%bacc', Bacc⟩, ⟨%W', HW⟩⟩, ⟨R0, R1, R2, R3, R4, R5, R6, R7⟩, Hh, ⟨Y0, Y1, Y2, Y3⟩, Ht, Hd⟩
  ihave Y0' := (slY0 c XW (XBv c XX) (AQv c XC) (ASv c XS) (WSv c XWS)) $$ Y0
  ihave Y1' := (slY1 c XW (XBv c XX) (AQv c XC) (ASv c XS) (WSv c XWS)) $$ Y1
  ihave Y2' := (slY2 c XW (XBv c XX) (AQv c XC) (ASv c XS) (WSv c XWS)) $$ Y2
  ihave Y3' := (slY3 c XW (XBv c XX) (AQv c XC) (ASv c XS) (WSv c XWS)) $$ Y3
  ihave Ht' := (slT c) $$ Ht
  unfold yinflB yfullB ytodo1
  icases Y0' with ⟨%y0, %g0, Y0, %h0⟩
  icases Y1' with ⟨%y1, %g1, Y1, %h1⟩
  icases Y2' with ⟨%y2, %g2, Y2, %h2⟩
  icases Y3' with ⟨Yc, ⟨%y3, Yh, %h3⟩⟩
  icases Ht' with ⟨⟨%g3, Yb⟩, Ht⟩
  sl_exec
  sl_step
  iapply Hk
  isplitl [Hx Hc Hs Hw]
  · isplitl [Hx]; · iexact Hx
    isplitl [Hc]; · iexact Hc
    isplitl [Hs]; · iexact Hs
    iexact Hw
  isplitl [Bxb Bacb Basc Bwso Baq Basb Bacc]
  · isplitl [Bxb]; · iexists _; iexact Bxb
    isplitl [Bacb]; · iexists _; iexact Bacb
    isplitl [Basc]; · iexists _; iexact Basc
    isplitl [Bwso]; · iexists _; iexact Bwso
    isplitl [Baq]; · iexists _; iexact Baq
    isplitl [Basb]; · iexists _; iexact Basb
    iexists _; iexact Bacc
  isplitl [I0 I1 I2 I3]
  · isplitl [I0]; · iexact I0
    isplitl [I1]; · iexact I1
    isplitl [I2]; · iexact I2
    iexact I3
  isplitl [R0 R1 R2 R3 R4 R5 R6 R7]
  · isplitl [R4]; · iapply (slR4 c XW); iexact R4
    isplitl [R5]; · iapply (slR5 c XW); iexact R5
    isplitl [R6]; · iapply (slR6 c XW); iexact R6
    isplitl [R7]; · iapply (slR7 c XW); iexact R7
    isplitl [R0]; · iapply (slR0 c XW); iexact R0
    isplitl [R1]; · iapply (slR1 c XW); iexact R1
    isplitl [R2]; · iapply (slR2 c XW); iexact R2
    iapply (slR3 c XW); iexact R3
  isplitl [Y0 Y0_src Y1 Y1_src Y2 Y2_src Yc Yh]
  · isplitl [Y0 Y0_src]
    · unfold yfreeB; iexists y0; isplitl [Y0]; · iexact Y0
      iexact Y0_src
    isplitl [Y1 Y1_src]
    · unfold yfreeB; iexists y1; isplitl [Y1]; · iexact Y1
      iexact Y1_src
    isplitl [Y2 Y2_src]
    · unfold yfreeB; iexists y2; isplitl [Y2]; · iexact Y2
      iexact Y2_src
    unfold yfreeB; iexists y3; isplitl [Yc]; · iexact Yc
    iexact Yh
  isplitl [Hh]; · iapply (homes_end c XW); iexact Hh
  isplitl [Hd Y0_dst Y1_dst Y2_dst Yb]
  · iapply (ydone_all c XW (XBv c XX) (AQv c XC) (ASv c XS) (WSv c XWS))
    iapply (ydone_in c XW (XBv c XX) (AQv c XC) (ASv c XS) (WSv c XWS) (12 + 1 + 1 + 1) (by omega) (by omega))
    isplitl [Yb]; · iapply (ydone1_of c XW (XBv c XX) (AQv c XC) (ASv c XS) (WSv c XWS) 3 11 y3 g3 h3); iexact Yb
    iapply (ydone_in c XW (XBv c XX) (AQv c XC) (ASv c XS) (WSv c XWS) (12 + 1 + 1) (by omega) (by omega))
    isplitl [Y2_dst]; · iapply (ydone1_of c XW (XBv c XX) (AQv c XC) (ASv c XS) (WSv c XWS) 2 10 y2 g2 h2); iexact Y2_dst
    iapply (ydone_in c XW (XBv c XX) (AQv c XC) (ASv c XS) (WSv c XWS) (12 + 1) (by omega) (by omega))
    isplitl [Y1_dst]; · iapply (ydone1_of c XW (XBv c XX) (AQv c XC) (ASv c XS) (WSv c XWS) 1 9 y1 g1 h1); iexact Y1_dst
    iapply (ydone_in c XW (XBv c XX) (AQv c XC) (ASv c XS) (WSv c XWS) 12 (by omega) (by omega))
    isplitl [Y0_dst]; · iapply (ydone1_of c XW (XBv c XX) (AQv c XC) (ASv c XS) (WSv c XWS) 0 8 y0 g0 h0); iexact Y0_dst
    iexact Hd
  iexists _; iexact HW

end
end Cert.Proof.KI
-- ==== Proof.KI.Launch.lean ====
module

public import proofs.«01_k».proof.Proof.KI.Body
public import proofs.«01_k».proof.Proof.Gen.KernelIdeal.Launch
public import proofs.«01_k».proof.Proof.Gen.KernelIdeal.Frame
public import Idealize.ShloMosaic.Lib.Pipeline.KitQuiescent

/-! # The launch

The call's operands and buffers, cut into the items, slots and blocks the body's run takes; the run of the whole program:
every buffer of the arguments as at launch, every counter at zero, and each block of the result as the trip of its number
stores it (`Yok`). -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Semaphores -/

abbrev osem : Fin 16 → SemLoc sig := ![.dma (rsem 0).sem, .dma (rsem 1).sem, .dma (rsem 2).sem, .dma (rsem 3).sem, .dma (rsem 4).sem, .dma (rsem 5).sem, .dma (rsem 6).sem, .dma (rsem 7).sem, .dma (isem 0).sem, .dma (isem 1).sem, .dma (isem 2).sem, .dma (isem 3).sem, .dma (ysem 0).sem, .dma (ysem 1).sem, .dma (ysem 2).sem, .dma (ysem 3).sem]
theorem ownSemFacts : Pipeline.OwnSemFacts cfg0.spec osem := by decide

/-! ## Element sets -/

abbrev RB (b : Fin 8) : Finset S8x6144x512.Idx := (Rect.unit (s := S8x6144x512) (slotOff b) S1x6144x512.size (slotOff_inb b)).set
omit [FloatOps F] in
theorem RB_set (b : Fin 8) : (rslot b : Memref sig .tc .vmem _ _).view.set = RB b := (View.set_reshape _ _).trans (View.set_slice_whole _ _)
theorem mem_RB (b : Fin 8) (y : S8x6144x512.Idx) : y ∈ RB b ↔ (y 0).val = b.val := by
  rw [Rect.mem_set_unit]
  have h1 : (y 1).val < 6144 := (y 1).isLt
  have h2 : (y 2).val < 512 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 6144; omega
    · show 0 ≤ (y 2).val ∧ (y 2).val < 0 + 512; omega
theorem RB_disjoint : ∀ b b' : Fin 8, b ≠ b' → Disjoint (RB b) (RB b') := by
  intro b b' hne; rw [Finset.disjoint_left]; intro y hy hy'; rw [mem_RB] at hy hy'; exact hne (Fin.ext (by omega))
theorem RB_cover : (Finset.univ : Finset (Fin 8)).biUnion RB = Finset.univ := by
  ext y; simp only [Finset.mem_biUnion, Finset.mem_univ, true_and, iff_true]
  exact ⟨(y 0).cast (by decide), by rw [mem_RB]; rfl⟩

abbrev SB (b : Fin 4) : Finset S4x112x512.Idx := (Rect.unit (s := S4x112x512) (stOff b) S1x112x512.size (stOff_inb b)).set
omit [FloatOps F] in
theorem SB_set (b : Fin 4) : (yslot b : Memref sig .tc .vmem _ _).view.set = SB b := (View.set_reshape _ _).trans (View.set_slice_whole _ _)
theorem mem_SB (b : Fin 4) (y : S4x112x512.Idx) : y ∈ SB b ↔ (y 0).val = b.val := by
  rw [Rect.mem_set_unit]
  have h1 : (y 1).val < 112 := (y 1).isLt
  have h2 : (y 2).val < 512 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 112; omega
    · show 0 ≤ (y 2).val ∧ (y 2).val < 0 + 512; omega
theorem SB_disjoint : ∀ b b' : Fin 4, b ≠ b' → Disjoint (SB b) (SB b') := by
  intro b b' hne; rw [Finset.disjoint_left]; intro y hy hy'; rw [mem_SB] at hy hy'; exact hne (Fin.ext (by omega))
theorem SB_cover : (Finset.univ : Finset (Fin 4)).biUnion SB = Finset.univ := by
  ext y; simp only [Finset.mem_biUnion, Finset.mem_univ, true_and, iff_true]
  exact ⟨(y 0).cast (by decide), by rw [mem_SB]; rfl⟩

abbrev YB (b : Fin 12) : Finset S112x6144.Idx := (Rect.unit (s := S112x6144) (yOff b) S112x512.size (yOff_inb b)).set
omit [FloatOps F] in
theorem YB_set (b : Fin 12) : (yblk b : Memref sig .tc .hbm _ _).view.set = YB b := (View.set_slice_whole _ _)
theorem mem_YB (b : Fin 12) (y : S112x6144.Idx) : y ∈ YB b ↔ (y 1).val / 512 = b.val := by
  rw [Rect.mem_set_unit]
  have h0 : (y 0).val < 112 := (y 0).isLt
  constructor
  · intro H; have a0 : b.val * 512 ≤ (y 1).val ∧ (y 1).val < b.val * 512 + 512 := H 1; omega
  · intro H i; fin_cases i
    · show 0 ≤ (y 0).val ∧ (y 0).val < 0 + 112; omega
    · show b.val * 512 ≤ (y 1).val ∧ (y 1).val < b.val * 512 + 512; omega
theorem YB_disjoint : ∀ b b' : Fin 12, b ≠ b' → Disjoint (YB b) (YB b') := by
  intro b b' hne; rw [Finset.disjoint_left]; intro y hy hy'; rw [mem_YB] at hy hy'; exact hne (Fin.ext (by omega))
theorem YB_cover : (Finset.univ : Finset (Fin 12)).biUnion YB = Finset.univ := by
  ext y; simp only [Finset.mem_biUnion, Finset.mem_univ, true_and, iff_true]
  have h1 : (y 1).val < 6144 := (y 1).isLt
  exact ⟨⟨(y 1).val / 512, by omega⟩, by rw [mem_YB]⟩

abbrev WB (b : Fin 60) : Finset S30720x6144.Idx := (Rect.unit (s := S30720x6144) (wOff b) S6144x512.size (wOff_inb b)).set
omit [FloatOps F] in
theorem WB_set (b : Fin 60) : (wblk b : Memref sig .tc .hbm _ _).view.set = WB b := (View.set_slice_whole _ _)
theorem mem_WB (b : Fin 60) (y : S30720x6144.Idx) : y ∈ WB b ↔ (y 0).val / 6144 = b.val % 5 ∧ (y 1).val / 512 = b.val / 5 := by
  rw [Rect.mem_set_unit]
  have h0 : (y 0).val < 30720 := (y 0).isLt
  constructor
  · intro H
    have a0 : b.val % 5 * 6144 ≤ (y 0).val ∧ (y 0).val < b.val % 5 * 6144 + 6144 := H 0
    have a1 : b.val / 5 * 512 ≤ (y 1).val ∧ (y 1).val < b.val / 5 * 512 + 512 := H 1
    omega
  · intro H i; fin_cases i
    · show b.val % 5 * 6144 ≤ (y 0).val ∧ (y 0).val < b.val % 5 * 6144 + 6144; omega
    · show b.val / 5 * 512 ≤ (y 1).val ∧ (y 1).val < b.val / 5 * 512 + 512; omega
theorem WB_disjoint : ∀ b b' : Fin 60, b ≠ b' → Disjoint (WB b) (WB b') := by
  intro b b' hne; rw [Finset.disjoint_left]; intro y hy hy'; rw [mem_WB] at hy hy'; exact hne (Fin.ext (by omega))
theorem WB_cover : (Finset.univ : Finset (Fin 60)).biUnion WB = Finset.univ := by
  ext y; simp only [Finset.mem_biUnion, Finset.mem_univ, true_and, iff_true]
  have h0 : (y 0).val < 30720 := (y 0).isLt
  have h1 : (y 1).val < 6144 := (y 1).isLt
  exact ⟨⟨(y 1).val / 512 * 5 + (y 0).val / 6144, by omega⟩, by rw [mem_WB]; constructor <;> dsimp only <;> omega⟩

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

omit [FloatOps F] in
/-- A whole buffer through its own view. -/
theorem whole_eq (c : Dev nD) (b : Ref sig .tc) (f : Buf (Elt F) ((c : Thread nD τ).loc b)) :
    (((c : Thread nD τ).loc b) ↦{fullShare} f : sProp 𝕄) = (((Memref.whole b).view.loc (c : Thread nD τ)) ↦[(Memref.whole b).view.set]{fullShare} f) := by
  rw [show (Memref.whole b).view.set = Finset.univ from View.set_whole b]

/-- The weights whole are their items at home. -/
theorem w_eq (c : Dev nD) (XW : Buf (Elt F) (wM.view.loc (c : Thread nD τ))) :
    (((c : Thread nD τ).loc main_arg3) ↦{fullShare} XW : sProp 𝕄) = whomes c XW 0 0 := by
  have e : Ring.homeSet (NB := 60) 0 0 = Finset.univ := by
    ext b; rw [Ring.mem_homeSet]; simp
  unfold whomes; rw [e, Ring.pointsTo_blocks (ℓ := (c : Thread nD τ).loc main_arg3) WB WB_disjoint WB_cover]
  exact bigSep_congr fun b _ => by rw [← WB_set]; rfl
/-- The result's array cut into its blocks; -/
theorem y_split (c : Dev nD) (f : Buf (Elt F) ((c : Thread nD τ).loc main_v3)) :
    (((c : Thread nD τ).loc main_v3) ↦{fullShare} f : sProp 𝕄) ⊢ ytodo (F := F) c 0 := by
  have e : (Finset.univ.filter fun b : Fin 12 => 0 ≤ b.val + 1) = Finset.univ := by decide
  unfold ytodo; rw [e, Ring.pointsTo_blocks (ℓ := (c : Thread nD τ).loc main_v3) YB YB_disjoint YB_cover]
  refine bigSep_mono fun b _ => ?_
  show (((c : Thread nD τ).loc main_v3) ↦[YB b]{fullShare} f : sProp 𝕄) ⊢ iprop(∃ g, yhome c b g)
  iintro H
  iexists f
  iapply (entails_of_eq (show (((c : Thread nD τ).loc main_v3) ↦[YB b]{fullShare} f : sProp 𝕄) = yhome c b f from by rw [← YB_set]; rfl)); iexact H
/-- and joined, each block as stored. -/
theorem y_join (c : Dev nD) (XW XB AQ AS WS) :
    bigSep Finset.univ (ydone1 c XW XB AQ AS WS) ⊢ (iprop(∃ f : Buf (Elt F) ((c : Thread nD τ).loc main_v3), (((c : Thread nD τ).loc main_v3) ↦{fullShare} f)
      ∗ ⌜∀ b : Fin 12, Yok c XW XB AQ AS WS b ((yblk b).view.read (Elt F) f)⌝) : sProp 𝕄) := by
  have e : ∀ b ∈ (Finset.univ : Finset (Fin 12)), ydone1 c XW XB AQ AS WS b
      ⊢ (iprop(∃ f : Buf (Elt F) ((c : Thread nD τ).loc main_v3), ⌜Yok c XW XB AQ AS WS b ((yblk b).view.read (Elt F) f)⌝ ∗ (((c : Thread nD τ).loc main_v3) ↦[YB b]{fullShare} f)) : sProp 𝕄) := fun b _ => by
    show iprop(∃ g, yhome c b g ∗ ⌜Yok c XW XB AQ AS WS b ((yblk b).view.read (Elt F) g)⌝) ⊢ (iprop(∃ f : Buf (Elt F) ((c : Thread nD τ).loc main_v3), ⌜Yok c XW XB AQ AS WS b ((yblk b).view.read (Elt F) f)⌝ ∗ (((c : Thread nD τ).loc main_v3) ↦[YB b]{fullShare} f)) : sProp 𝕄)
    iintro ⟨%g, H, %h⟩
    iexists g
    isplitr
    · ipureintro; exact h
    iapply (entails_of_eq (show yhome c b g = (((c : Thread nD τ).loc main_v3) ↦[YB b]{fullShare} g : sProp 𝕄) from by rw [← YB_set]; rfl)); iexact H
  refine (bigSep_mono e).trans ?_
  haveI : Nonempty (Buf (Elt F) ((c : Thread nD τ).loc main_v3)) := ⟨yM.view.junk⟩
  refine (Idealize.SL.BI.bigSep_exists_pi Finset.univ (fun b (f : Buf (Elt F) ((c : Thread nD τ).loc main_v3)) => (iprop(⌜Yok c XW XB AQ AS WS b ((yblk b).view.read (Elt F) f)⌝ ∗ (((c : Thread nD τ).loc main_v3) ↦[YB b]{fullShare} f)) : sProp 𝕄))).trans ?_
  iintro ⟨%fs, H⟩
  ihave H' := (Idealize.SL.BI.bigSep_pure_sep Finset.univ (fun b => Yok c XW XB AQ AS WS b ((yblk b).view.read (Elt F) (fs b))) (fun b => ((((c : Thread nD τ).loc main_v3) ↦[YB b]{fullShare} (fs b)) : sProp 𝕄))) $$ H
  icases H' with ⟨%hp, H⟩
  ihave J := (pointsTo_biUnion_join Finset.univ YB fs (yM.view.junk) (fun b _ b' _ h => YB_disjoint b b' h)) $$ H
  icases J with ⟨%g, %hg, H⟩
  iexists g
  isplitl [H]
  · iapply (entails_of_eq (show (((c : Thread nD τ).loc main_v3) ↦[Finset.univ.biUnion YB]{fullShare} g : sProp 𝕄) = (((c : Thread nD τ).loc main_v3) ↦{fullShare} g) from by rw [YB_cover])); iexact H
  ipureintro
  intro b
  have hr : (yblk b).view.read (Elt F) g = (yblk b).view.read (Elt F) (fs b) := View.read_congr fun i hi => hg b (Finset.mem_univ b) i (by rw [← YB_set]; exact hi)
  rw [hr]; exact hp b (Finset.mem_univ b)

omit [FloatOps F] in
theorem ring_at (c : Dev nD) (s : Fin 8) (f) : rheld c s f = (((c : Thread nD τ).loc cc0_scratch0) ↦[RB s]{fullShare} f : sProp 𝕄) :=
  congrArg (fun S => (_ ↦[S]{fullShare} f : sProp 𝕄)) (RB_set s)
/-- The buffer whole is its slots, and back. -/
theorem ring_split (c : Dev nD) : iprop(∃ f : Buf (Elt F) ((c : Thread nD τ).loc cc0_scratch0), ((c : Thread nD τ).loc cc0_scratch0) ↦{fullShare} f)
      ⊢ (iprop((∃ f, rheld c 0 f) ∗ (∃ f, rheld c 1 f) ∗ (∃ f, rheld c 2 f) ∗ (∃ f, rheld c 3 f) ∗ (∃ f, rheld c 4 f) ∗ (∃ f, rheld c 5 f) ∗ (∃ f, rheld c 6 f) ∗ (∃ f, rheld c 7 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch0) RB RB_disjoint RB_cover f).trans (bigSep_fin8 _))) $$ H
  icases H2 with ⟨H0, H1, H2, H3, H4, H5, H6, H7⟩
  isplitl [H0]
  · iexists f; iapply (entails_of_eq (ring_at c 0 f).symm); iexact H0
  isplitl [H1]
  · iexists f; iapply (entails_of_eq (ring_at c 1 f).symm); iexact H1
  isplitl [H2]
  · iexists f; iapply (entails_of_eq (ring_at c 2 f).symm); iexact H2
  isplitl [H3]
  · iexists f; iapply (entails_of_eq (ring_at c 3 f).symm); iexact H3
  isplitl [H4]
  · iexists f; iapply (entails_of_eq (ring_at c 4 f).symm); iexact H4
  isplitl [H5]
  · iexists f; iapply (entails_of_eq (ring_at c 5 f).symm); iexact H5
  isplitl [H6]
  · iexists f; iapply (entails_of_eq (ring_at c 6 f).symm); iexact H6
  iexists f; iapply (entails_of_eq (ring_at c 7 f).symm); iexact H7
theorem ring_join (c : Dev nD) : (iprop((∃ f, rheld c 0 f) ∗ (∃ f, rheld c 1 f) ∗ (∃ f, rheld c 2 f) ∗ (∃ f, rheld c 3 f) ∗ (∃ f, rheld c 4 f) ∗ (∃ f, rheld c 5 f) ∗ (∃ f, rheld c 6 f) ∗ (∃ f, rheld c 7 f)) : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch0) RB RB_disjoint RB_cover f0)
  irw [bigSep_fin8]
  isplitl [H0]
  · iexists f0; iapply (entails_of_eq (ring_at c 0 f0)); iexact H0
  isplitl [H1]
  · iexists f1; iapply (entails_of_eq (ring_at c 1 f1)); iexact H1
  isplitl [H2]
  · iexists f2; iapply (entails_of_eq (ring_at c 2 f2)); iexact H2
  isplitl [H3]
  · iexists f3; iapply (entails_of_eq (ring_at c 3 f3)); iexact H3
  isplitl [H4]
  · iexists f4; iapply (entails_of_eq (ring_at c 4 f4)); iexact H4
  isplitl [H5]
  · iexists f5; iapply (entails_of_eq (ring_at c 5 f5)); iexact H5
  isplitl [H6]
  · iexists f6; iapply (entails_of_eq (ring_at c 6 f6)); iexact H6
  iexists f7; iapply (entails_of_eq (ring_at c 7 f7)); iexact H7

omit [FloatOps F] in
theorem stage_at (c : Dev nD) (s : Fin 4) (f) : yheld c s f = (((c : Thread nD τ).loc cc0_scratch6) ↦[SB s]{fullShare} f : sProp 𝕄) :=
  congrArg (fun S => (_ ↦[S]{fullShare} f : sProp 𝕄)) (SB_set s)
/-- The buffer whole is its slots, and back. -/
theorem stage_split (c : Dev nD) : iprop(∃ f : Buf (Elt F) ((c : Thread nD τ).loc cc0_scratch6), ((c : Thread nD τ).loc cc0_scratch6) ↦{fullShare} f)
      ⊢ (iprop((∃ f, yheld c 0 f) ∗ (∃ f, yheld c 1 f) ∗ (∃ f, yheld c 2 f) ∗ (∃ f, yheld c 3 f)) : sProp 𝕄) := by
  iintro ⟨%f, H⟩
  ihave H2 := (entails_of_eq ((Ring.pointsTo_blocks (Ix := Unit) (Name := ℕ) (U := UU) (Lvl := ℕ) (q := fullShare) (ℓ := (c : Thread nD τ).loc cc0_scratch6) SB SB_disjoint SB_cover f).trans (bigSep_fin4 _))) $$ H
  icases H2 with ⟨H0, H1, H2, H3⟩
  isplitl [H0]
  · iexists f; iapply (entails_of_eq (stage_at c 0 f).symm); iexact H0
  isplitl [H1]
  · iexists f; iapply (entails_of_eq (stage_at c 1 f).symm); iexact H1
  isplitl [H2]
  · iexists f; iapply (entails_of_eq (stage_at c 2 f).symm); iexact H2
  iexists f; iapply (entails_of_eq (stage_at c 3 f).symm); iexact H3
theorem stage_join (c : Dev nD) : (iprop((∃ f, yheld c 0 f) ∗ (∃ f, yheld c 1 f) ∗ (∃ f, yheld c 2 f) ∗ (∃ f, yheld c 3 f)) : sProp 𝕄)
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch6) SB SB_disjoint SB_cover f0)
  irw [bigSep_fin4]
  isplitl [H0]
  · iexists f0; iapply (entails_of_eq (stage_at c 0 f0)); iexact H0
  isplitl [H1]
  · iexists f1; iapply (entails_of_eq (stage_at c 1 f1)); iexact H1
  isplitl [H2]
  · iexists f2; iapply (entails_of_eq (stage_at c 2 f2)); iexact H2
  iexists f3; iapply (entails_of_eq (stage_at c 3 f3)); iexact H3

omit [FloatOps F] in
theorem ownSems0_eq (c : Dev nD) : (Pipeline.ownSems0 (Ix := Unit) (Name := ℕ) (U := UU) (Lvl := ℕ) (Val := Elt F) (τ := τ) osem c : sProp 𝕄)
    = iprop(rcell (F := F) c 0 ∗ rcell (F := F) c 1 ∗ rcell (F := F) c 2 ∗ rcell (F := F) c 3 ∗ rcell (F := F) c 4 ∗ rcell (F := F) c 5 ∗ rcell (F := F) c 6 ∗ rcell (F := F) c 7 ∗ icell (F := F) c 0 ∗ icell (F := F) c 1 ∗ icell (F := F) c 2 ∗ icell (F := F) c 3 ∗ ycell (F := F) c 0 ∗ ycell (F := F) c 1 ∗ ycell (F := F) c 2 ∗ ycell (F := F) c 3) := by
  unfold Pipeline.ownSems0; rw [bigSep_fin16]; rfl

/-! ## The pipeline's proof data -/

abbrev XX (c : Dev nD) : Buf (Elt F) (xM.view.loc (c : Thread nD τ)) := V m c main_v0
abbrev XC (c : Dev nD) : Buf (Elt F) (cM.view.loc (c : Thread nD τ)) := V m c main_v1
abbrev XS (c : Dev nD) : Buf (Elt F) (sM.view.loc (c : Thread nD τ)) := V m c main_arg2
abbrev XW (c : Dev nD) : Buf (Elt F) (wM.view.loc (c : Thread nD τ)) := V m c main_arg3
abbrev XWS (c : Dev nD) : Buf (Elt F) (wsM.view.loc (c : Thread nD τ)) := V m c main_v2
/-- Block `b`'s words are as trip `b` stores them from the call's operands. -/
abbrev YokV (c : Dev nD) : Fin 12 → (S112x512.Idx → Elt F .bf16) → Prop := Yok c (XW m c) (XBv c (XX m c)) (AQv c (XC m c)) (ASv c (XS m c)) (WSv c (XWS m c))

abbrev scratch (c : Dev nD) : sProp 𝕄 := iprop(bufsAny (F := F) c ∗ icells (F := F) c ∗ ringFree (F := F) c ∗ stFree (F := F) c)
/-- What the region holds before its point; -/
def Φ0 (c : Dev nD) : sProp 𝕄 := iprop(smalls c (XX m c) (XC m c) (XS m c) (XWS m c) ∗ scratch (F := F) c ∗ whomes c (XW m c) 0 0 ∗ ytodo (F := F) c 0)
/-- and after it. -/
def Φ1 (c : Dev nD) : sProp 𝕄 := iprop(smalls c (XX m c) (XC m c) (XS m c) (XWS m c) ∗ scratch (F := F) c ∗ whomes c (XW m c) 0 0
  ∗ bigSep Finset.univ (ydone1 c (XW m c) (XBv c (XX m c)) (AQv c (XC m c)) (ASv c (XS m c)) (WSv c (XWS m c))))

def dats (_ : Fin 1) (c : Dev nD) : Dat τ (Elt F) Unit ℕ UU ℕ cfg0 c where
  A w := V m c (Pipeline.arrRef cfg0.spec w)
  after w t := w.elim0
  Φ i := if i.val = 0 then Φ0 m c else Φ1 m c
  q _ := fullShare
  owed _ := 0

theorem Φ_eq (c : Dev nD) (i : Fin (cfg0.N + 1)) : (dats m 0 c).Φ i = if i.val = 0 then Φ0 m c else Φ1 m c := rfl
theorem Φ_first (c : Dev nD) (t : Fin cfg0.N) : (dats m 0 c).Φ t.castSucc = Φ0 m c := by
  have h : t.val = 0 := by have := t.isLt; have e : cfg0.N = 1 := N_0; omega
  rw [Φ_eq]; exact if_pos h
theorem Φ_next (c : Dev nD) (t : Fin cfg0.N) : (dats m 0 c).Φ t.succ = Φ1 m c := by
  rw [Φ_eq, if_neg (show ¬ t.succ.val = 0 from by simp)]
theorem Φ_zero (c : Dev nD) : (dats m 0 c).Φ 0 = Φ0 m c := by
  rw [Φ_eq, if_pos (show (0 : Fin (cfg0.N + 1)).val = 0 from rfl)]
theorem Φ_last (c : Dev nD) : (dats m 0 c).Φ (Fin.last cfg0.N) = Φ1 m c := by
  rw [Φ_eq, if_neg (show ¬ (Fin.last cfg0.N).val = 0 from by have e : cfg0.N = 1 := N_0; rw [Fin.val_last, e]; decide)]
omit [FloatOps F] in
theorem yfreeB_eq (c : Dev nD) (s : Fin 4) : yfreeB (F := F) c s = iprop(∃ f, yfullAt (F := F) c s f) := rfl

theorem defs_tc : (defs₀ (F := F)) .tc cfg0.body = fun a => bodyG (F := F) := rfl
theorem prog_eq (t : Fin cfg0.N) : (defs₀ (F := F)) .tc cfg0.body (cfg0.bodyArgs t (cfg0.slots t)) = bodyG (F := F) :=
  (congrFun defs_tc _).trans rfl

theorem noWin (Φ : Fin cfg0.W → sProp 𝕄) : bigSep Finset.univ Φ = BI.emp := by
  rw [show (Finset.univ : Finset (Fin cfg0.W)) = ∅ from by decide, bigSep_empty]

set_option backward.isDefEq.respectTransparency.types false in
theorem body_obligation (c : Dev nD) : BodyObligation (dats (F := F) m 0 c) (defs₀ (F := F)) 𝒱₀ () Set.univ := fun t => by
  rw [noWin, noWin]
  rw [Φ_first, Φ_next]
  unfold Dat.owesAt Pipeline.owesWithin
  rw [show (dats m 0 c).owed t.castSucc = 0 from rfl, show (dats m 0 c).owed t.succ = 0 from rfl]
  unfold Φ0 Φ1
  iintro ⟨⟨Hs, ⟨Hb, Hi, Hr, Hst⟩, Hw, Hy⟩, ⟨%W, -, HW⟩, -⟩
  sl_rw [prog_eq t]
  iapply (bodyRun c (XX m c) (XC m c) (XS m c) (XWS m c) (XW m c) W)
  isplitl [Hs Hb Hi Hr Hst Hw Hy HW]
  · isplitl [Hs]; · iexact Hs
    isplitl [Hb]; · iexact Hb
    isplitl [Hi]; · iexact Hi
    isplitl [Hr]; · iexact Hr
    isplitl [Hst]; · iexact Hst
    isplitl [Hw]; · iexact Hw
    isplitl [Hy]; · iexact Hy
    iexact HW
  · iintro ⟨Hs, Hb, Hi, Hr, Hst, Hw, Hy, ⟨%W', HW⟩⟩
    isplitl [Hs Hb Hi Hr Hst Hw Hy]
    · isplitl [Hs]; · iexact Hs
      isplitl [Hb Hi Hr Hst]
      · isplitl [Hb]; · iexact Hb
        isplitl [Hi]; · iexact Hi
        isplitl [Hr]; · iexact Hr
        iexact Hst
      isplitl [Hw]; · iexact Hw
      iexact Hy
    isplitl [HW]
    · iexists W'; isplitr; · ipureintro; exact fun _ _ => Or.inl trivial
      iexact HW
    iempintro

/-! ## The run -/

def X0 (c : Dev nD) : sProp 𝕄 := iprop(((((c : Thread nD τ).loc main_v0) ↦{fullShare} V m c main_v0) ∗ (((c : Thread nD τ).loc main_v1) ↦{fullShare} V m c main_v1) ∗ (((c : Thread nD τ).loc main_arg2) ↦{fullShare} V m c main_arg2) ∗ (((c : Thread nD τ).loc main_arg3) ↦{fullShare} V m c main_arg3) ∗ (((c : Thread nD τ).loc main_v2) ↦{fullShare} V m c main_v2) ∗ (((c : Thread nD τ).loc main_v3) ↦{fullShare} V m c main_v3))
  ∗ Pipeline.ownSems0 osem c)
def Y0 (c : Dev nD) : sProp 𝕄 := iprop((((c : Thread nD τ).loc main_arg2) ↦{fullShare} V m c main_arg2) ∗ (((c : Thread nD τ).loc main_arg3) ↦{fullShare} V m c main_arg3)
  ∗ (∃ f : Buf (Elt F) ((c : Thread nD τ).loc main_v3), (((c : Thread nD τ).loc main_v3) ↦{fullShare} f) ∗ ⌜∀ b : Fin 12, YokV m c b ((yblk b).view.read (Elt F) f)⌝))
def Z0 (c : Dev nD) : sProp 𝕄 := iprop((((c : Thread nD τ).loc main_arg0) ↦{fullShare} V m c main_arg0) ∗ (((c : Thread nD τ).loc main_arg1) ↦{fullShare} V m c main_arg1) ∗ (((c : Thread nD τ).loc main_arg4) ↦{fullShare} V m c main_arg4))
def u₀ : UU := (initOf (Pipeline.cells cfgs Cert.KernelIdeal.Gen.cellOf_inj) (Pipeline.launchToks cfgs Cert.KernelIdeal.Gen.cellOf_inj), 1)
/-- What is claimed of core `c`'s memory at the end. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ ∀ b : Fin 12, YokV m c b ((yblk b).view.read (Elt F) (s.mem ((c : Thread nD τ).loc main_v3)))

theorem hin0 (c : Dev nD) : iprop(X0 m c ∗ Pipeline.scopedRest cfg0.spec c) ⊢ Φ0 m c := by
  rw [scopedRest0_eq]
  unfold X0 Φ0; rw [ownSems0_eq, w_eq c (V m c main_arg3)]
  iintro ⟨⟨⟨H0, H1, H2, H3, H4, H5⟩, C0, C1, C2, C3, C4, C5, C6, C7, I0, I1, I2, I3, Y0, Y1, Y2, Y3⟩, S0, B1, B2, B3, B4, B5, S6, B7, B8⟩
  ihave R := (ring_split c) $$ S0
  icases R with ⟨R0, R1, R2, R3, R4, R5, R6, R7⟩
  ihave T := (stage_split c) $$ S6
  icases T with ⟨⟨%t0, T0⟩, ⟨%t1, T1⟩, ⟨%t2, T2⟩, ⟨%t3, T3⟩⟩
  isplitl [H0 H1 H2 H4]
  · isplitl [H0]; · iapply (entails_of_eq (whole_eq c main_v0 _)); iexact H0
    isplitl [H1]; · iapply (entails_of_eq (whole_eq c main_v1 _)); iexact H1
    isplitl [H2]; · iapply (entails_of_eq (whole_eq c main_arg2 _)); iexact H2
    iapply (entails_of_eq (whole_eq c main_v2 _)); iexact H4
  isplitr [H3 H5]
  · isplitl [B1 B2 B3 B4 B5 B7 B8]
    · isplitl [B1]; · icases B1 with ⟨%f, B1⟩; iexists f; iapply (entails_of_eq (whole_eq c cc0_scratch1 f)); iexact B1
      isplitl [B2]; · icases B2 with ⟨%f, B2⟩; iexists f; iapply (entails_of_eq (whole_eq c cc0_scratch2 f)); iexact B2
      isplitl [B3]; · icases B3 with ⟨%f, B3⟩; iexists f; iapply (entails_of_eq (whole_eq c cc0_scratch3 f)); iexact B3
      isplitl [B4]; · icases B4 with ⟨%f, B4⟩; iexists f; iapply (entails_of_eq (whole_eq c cc0_scratch4 f)); iexact B4
      isplitl [B5]; · icases B5 with ⟨%f, B5⟩; iexists f; iapply (entails_of_eq (whole_eq c cc0_scratch5 f)); iexact B5
      isplitl [B7]; · icases B7 with ⟨%f, B7⟩; iexists f; iapply (entails_of_eq (whole_eq c cc0_scratch7 f)); iexact B7
      icases B8 with ⟨%f, B8⟩; iexists f; iapply (entails_of_eq (whole_eq c cc0_scratch8 f)); iexact B8
    isplitl [I0 I1 I2 I3]
    · isplitl [I0]; · iexact I0
      isplitl [I1]; · iexact I1
      isplitl [I2]; · iexact I2
      iexact I3
    isplitl [C0 R0 C1 R1 C2 R2 C3 R3 C4 R4 C5 R5 C6 R6 C7 R7]
    · isplitl [C0 R0]
      · isplitl [C0]; · iexact C0
        iexact R0
      isplitl [C1 R1]
      · isplitl [C1]; · iexact C1
        iexact R1
      isplitl [C2 R2]
      · isplitl [C2]; · iexact C2
        iexact R2
      isplitl [C3 R3]
      · isplitl [C3]; · iexact C3
        iexact R3
      isplitl [C4 R4]
      · isplitl [C4]; · iexact C4
        iexact R4
      isplitl [C5 R5]
      · isplitl [C5]; · iexact C5
        iexact R5
      isplitl [C6 R6]
      · isplitl [C6]; · iexact C6
        iexact R6
      isplitl [C7]; · iexact C7
      iexact R7
    isplitl [Y0 T0]
    · iapply (entails_of_eq (yfreeB_eq c 0).symm); iexists t0; isplitl [Y0]; · iexact Y0
      iexact T0
    isplitl [Y1 T1]
    · iapply (entails_of_eq (yfreeB_eq c 1).symm); iexists t1; isplitl [Y1]; · iexact Y1
      iexact T1
    isplitl [Y2 T2]
    · iapply (entails_of_eq (yfreeB_eq c 2).symm); iexists t2; isplitl [Y2]; · iexact Y2
      iexact T2
    iapply (entails_of_eq (yfreeB_eq c 3).symm); iexists t3; isplitl [Y3]; · iexact Y3
    iexact T3
  isplitl [H3]; · iexact H3
  iapply (y_split c _); iexact H5

theorem hout0 (c : Dev nD) : Φ1 m c ⊢ iprop(Y0 m c ∗ Pipeline.ownSems0 osem c ∗ Pipeline.scopedRest cfg0.spec c) := by
  rw [scopedRest0_eq, ownSems0_eq]
  unfold Y0 Φ1; rw [w_eq c (V m c main_arg3)]
  iintro ⟨⟨H0, H1, H2, H4⟩, ⟨⟨B1, B2, B3, B4, B5, B7, B8⟩, ⟨I0, I1, I2, I3⟩, ⟨⟨C0, R0⟩, ⟨C1, R1⟩, ⟨C2, R2⟩, ⟨C3, R3⟩, ⟨C4, R4⟩, ⟨C5, R5⟩, ⟨C6, R6⟩, ⟨C7, R7⟩⟩, ⟨Q0, Q1, Q2, Q3⟩⟩, H3, Hy⟩
  ihave P0 := (entails_of_eq (yfreeB_eq c 0)) $$ Q0
  icases P0 with ⟨%t0, Y0, T0⟩
  ihave P1 := (entails_of_eq (yfreeB_eq c 1)) $$ Q1
  icases P1 with ⟨%t1, Y1, T1⟩
  ihave P2 := (entails_of_eq (yfreeB_eq c 2)) $$ Q2
  icases P2 with ⟨%t2, Y2, T2⟩
  ihave P3 := (entails_of_eq (yfreeB_eq c 3)) $$ Q3
  icases P3 with ⟨%t3, Y3, T3⟩
  isplitl [H2 H3 Hy]
  · isplitl [H2]; · iapply (entails_of_eq (whole_eq c main_arg2 _).symm); iexact H2
    isplitl [H3]; · iexact H3
    iapply (y_join c (XW m c) (XBv c (XX m c)) (AQv c (XC m c)) (ASv c (XS m c)) (WSv c (XWS m c))); iexact Hy
  isplitl [C0 C1 C2 C3 C4 C5 C6 C7 I0 I1 I2 I3 Y0 Y1 Y2 Y3]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [I0]; · iexact I0
    isplitl [I1]; · iexact I1
    isplitl [I2]; · iexact I2
    isplitl [I3]; · iexact I3
    isplitl [Y0]; · iexact Y0
    isplitl [Y1]; · iexact Y1
    isplitl [Y2]; · iexact Y2
    iexact Y3
  isplitl [R0 R1 R2 R3 R4 R5 R6 R7]
  · iapply (ring_join c)
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [B1]; · icases B1 with ⟨%f, B1⟩; iexists f; iapply (entails_of_eq (whole_eq c cc0_scratch1 f).symm); iexact B1
  isplitl [B2]; · icases B2 with ⟨%f, B2⟩; iexists f; iapply (entails_of_eq (whole_eq c cc0_scratch2 f).symm); iexact B2
  isplitl [B3]; · icases B3 with ⟨%f, B3⟩; iexists f; iapply (entails_of_eq (whole_eq c cc0_scratch3 f).symm); iexact B3
  isplitl [B4]; · icases B4 with ⟨%f, B4⟩; iexists f; iapply (entails_of_eq (whole_eq c cc0_scratch4 f).symm); iexact B4
  isplitl [B5]; · icases B5 with ⟨%f, B5⟩; iexists f; iapply (entails_of_eq (whole_eq c cc0_scratch5 f).symm); iexact B5
  isplitl [T0 T1 T2 T3]
  · iapply (stage_join c)
    isplitl [T0]; · iexists t0; iexact T0
    isplitl [T1]; · iexists t1; iexact T1
    isplitl [T2]; · iexists t2; iexact T2
    iexists t3; iexact T3
  isplitl [B7]; · icases B7 with ⟨%f, B7⟩; iexists f; iapply (entails_of_eq (whole_eq c cc0_scratch7 f).symm); iexact B7
  icases B8 with ⟨%f, B8⟩; iexists f; iapply (entails_of_eq (whole_eq c cc0_scratch8 f).symm); iexact B8

theorem hmain0 : Pipeline.HMain (Ix := Unit) (Name := ℕ) (U := UU) (Lvl := ℕ) cfgs 0 defs₀ 𝒱₀ m (main (F := F)) (V m) :=
  Pipeline.hmain_prefix cfgs 0 defs₀ 𝒱₀ m main hostOps0 hostOps0_sub hostOps0_fresh main_chain

abbrev EP : Emb (UR sig nD τ) 𝕄 := embL

set_option backward.isDefEq.respectTransparency.types false in
/-- For any float values, from any memory with zero counters: every weakly fair execution of @main terminates, and every
    final state is as `QY` says, every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain0 m)
    (hA := fun _ _ => rfl)
    (X := X0 m) (Y := Y0 m) (Z := Z0 m)
    (hX := fun c => by
      rw [unscopedRest0_eq]
      unfold X0 Z0
      iintro ⟨⟨A0, A1, A2, A3, A4, V0, V1, V2, V3⟩, HS, -, -, -⟩; imodintro
      isplitl [A2 A3 V0 V1 V2 V3 HS]
      · isplitl [A2 A3 V0 V1 V2 V3]
        · isplitl [V0]; · iexact V0
          isplitl [V1]; · iexact V1
          isplitl [A2]; · iexact A2
          isplitl [A3]; · iexact A3
          isplitl [V2]; · iexact V2
          iexact V3
        iexact HS
      isplitl [A0]; · iexact A0
      isplitl [A1]; · iexact A1
      iexact A4)
    (hin := fun c => by rw [Φ_zero]; exact hin0 m c)
    (hout := fun c => by rw [Φ_last]; exact hout0 m c)
    (QY := QY m)
    (hY := fun c s' => by
      unfold Y0 Z0
      iintro ⟨⟨A2, A3, ⟨%f, V3, %hf⟩⟩, ⟨A0, A1, A4⟩, HSI⟩
      icombine HSI A0 gives %h0
      icombine HSI A1 gives %h1
      icombine HSI A2 gives %h2
      icombine HSI A3 gives %h3
      icombine HSI A4 gives %h4
      icombine HSI V3 gives %h5
      imodintro
      isplitr
      · ipureintro
        refine ⟨(Buf.eq_of_forall_mem_univ h0).trans (V_main_arg0 m c), (Buf.eq_of_forall_mem_univ h1).trans (V_main_arg1 m c), (Buf.eq_of_forall_mem_univ h2).trans (V_main_arg2 m c),
          (Buf.eq_of_forall_mem_univ h3).trans (V_main_arg3 m c), (Buf.eq_of_forall_mem_univ h4).trans (V_main_arg4 m c), ?_⟩
        rw [Buf.eq_of_forall_mem_univ h5]; exact hf
      iexact HSI)
    (hQ := fun _ hh hz => ⟨fun c => (hh c).2, hz⟩)

end Cert.Proof.KI
-- ==== Proof.KI.MathPay.lean ====
module

public import proofs.«01_k».proof.Proof.KI.Launch
public import Idealize.ShloMosaic.Lib.Pointwise
public import Idealize.ShloMosaic.Lib.VecWindow

/-! # The printed values, read at one element

Over the reals each value the body stores is a sum of products: the partial product a trip adds, the tile it stores,
the codes with their padding rows and the spread scales. -/

@[expose] public section

set_option maxRecDepth 16384

noncomputable section

namespace Cert.Proof.KI

open Cert.KernelIdeal Cert.KernelIdeal.Gen
open Idealize.ShloMosaic

section
variable (a : Vec Ideal S128x6144 .fp8e4m3) (w : Vec Ideal S1x6144x512 .fp8e4m3) (acc : Vec Ideal S128x512 .f32)

/-- One weight block's product, at row `r` and column `j` of the block. -/
def dotAt (r : Fin 128) (j : Fin 512) : EReal := ∑ q : Fin 6144, a (ix2 r q) * w (ix3 0 q j)

theorem pay1_at (r : Fin 128) (j : Fin 512) : k0_pay1 a w (ix2 r j) = dotAt a w r j := by
  pointwise [k0_pay1, dotAt]
theorem pay2_at (r : Fin 128) (j : Fin 512) : k0_pay3 (k0_pay2 a w acc) (ix2 r j) = acc (ix2 r j) + dotAt a w r j := by
  pointwise [k0_pay3, k0_pay2, dotAt]
theorem pay4_at (r : Fin 128) (j : Fin 512) : k0_pay4 a w acc (ix2 r j) = acc (ix2 r j) + dotAt a w r j := by
  pointwise [k0_pay4, dotAt]
theorem pay5_at (r : Fin 128) (j : Fin 512) : k0_pay5 a w acc (ix2 r j) = acc (ix2 r j) + dotAt a w r j := by
  pointwise [k0_pay5, dotAt]
theorem pay6_at (r : Fin 128) (j : Fin 512) : k0_pay6 a w acc (ix2 r j) = acc (ix2 r j) + dotAt a w r j := by
  pointwise [k0_pay6, dotAt]
end

section
variable (p : FVec Ideal S128x512 .f32) (x : Vec Ideal S112x128 .bf16) (s : Vec Ideal S112x128 .f32) (ws : Vec Ideal S1x128 .f32)
/-- One element of the result, from its product, its residual and the two scales. -/
def fin (p x s ws : EReal) : EReal := x + p * s * ws

theorem pay9_at (r : Fin 112) (l : Fin 128) (a : Vec Ideal S128x6144 .fp8e4m3) (w : Vec Ideal S1x6144x512 .fp8e4m3) (acc : Vec Ideal S128x512 .f32) :
    k0_pay9 (k0_pay7 x) (k0_pay8 a w acc) s ws (ix3 0 r l)
      = fin (k0_pay6 a w acc (ix2 ⟨r.val, by omega⟩ ⟨l.val, by omega⟩)) (x (ix2 r l)) (s (ix2 r l)) (ws (ix2 0 l)) := by
  pointwise [k0_pay9, k0_pay7, k0_pay8, fin]
theorem pay10_at (r : Fin 112) (l : Fin 128) :
    k0_pay10 p x s ws (ix3 0 r l) = fin (p (ix2 ⟨r.val, by omega⟩ ⟨128 + l.val, by omega⟩)) (x (ix2 r l)) (s (ix2 r l)) (ws (ix2 0 l)) := by
  pointwise [k0_pay10, fin]
theorem pay15_at (r : Fin 112) (l : Fin 128) :
    k0_pay15 (k0_pay11 x) (k0_pay12 p) s ws (ix3 0 r l) = fin (p (ix2 ⟨r.val, by omega⟩ ⟨256 + l.val, by omega⟩)) (x (ix2 r l)) (s (ix2 r l)) (ws (ix2 0 l)) := by
  pointwise [k0_pay15, k0_pay11, k0_pay12, fin]
theorem pay16_at (r : Fin 112) (l : Fin 128) :
    k0_pay16 p x s ws (ix3 0 r l) = fin (p (ix2 ⟨r.val, by omega⟩ ⟨384 + l.val, by omega⟩)) (x (ix2 r l)) (s (ix2 r l)) (ws (ix2 0 l)) := by
  pointwise [k0_pay16, fin]
theorem pay13_at (v : Vec Ideal S112x30720 .fp8e4m3) (r : Fin 112) (q : Fin 30720) : k0_pay13 v (ix2 ⟨r.val, by omega⟩ q) = v (ix2 r q) := by
  have h := r.isLt
  pointwise [k0_pay13]
theorem pay14_at (v : Vec Ideal S112x1 .f32) (r : Fin 112) (l : Fin 128) : k0_pay14 v (ix2 r l) = v (ix2 r 0) := by
  pointwise [k0_pay14]
end
end Cert.Proof.KI
-- ==== Proof.KI.MathRead.lean ====
module

public import proofs.«01_k».proof.Proof.KI.MathPay

/-! # What the trips load, element by element

Slot and buffer loads give the inputs' own elements: the weight block's rows and columns, the codes' columns, the
residual's and the scales' columns. -/

@[expose] public section

set_option maxRecDepth 16384

noncomputable section

namespace Cert.Proof.KI

open Cert.KernelIdeal Cert.KernelIdeal.Gen
open Idealize.ShloMosaic
open Idealize.ShloMosaic.TcCoe

variable {F : FTy → Type} [FloatOps F] (c : Dev nD)

/-- Where a slot keeps row `q`, column `j` of its item. -/
theorem slot_emb (s : Fin 8) (hh) (q : Fin 6144) (j : Fin 512) :
    (Rect.unit (s := S8x6144x512) (slotOff s) S1x6144x512.size hh).toLoadRect.idx (ix3 0 q j) = (rslot s).view.emb (ix2 q j) := by
  have h0 : Shape.reshapeEquiv squeezes_S1x6144x512_S6144x512.numel_eq (ix2 q j) = (ix3 0 q j : S1x6144x512.Idx) := by
    pointwise
  show _ = (Rect.unit (s := S8x6144x512) (slotOff s) S1x6144x512.size hh).emb (Shape.reshapeEquiv squeezes_S1x6144x512_S6144x512.numel_eq (ix2 q j))
  rw [h0]
  rfl

theorem wload_at (XW : Buf (Elt F) (wM.view.loc (c : Thread nD τ))) (t : Fin 60) (q : Fin 6144) (j : Fin 512) :
    wload c XW t (ix2 q j) = XW (ix2 ⟨t.val % 5 * 6144 + q.val, by omega⟩ ⟨t.val / 5 * 512 + j.val, by omega⟩) := by
  show XW ((wblk t).view.emb (ix2 q j)) = _
  refine congrArg XW (funext fun a => Fin.ext ?_)
  fin_cases a
  · show t.val % 5 * 6144 + 1 * q.val = t.val % 5 * 6144 + q.val; rw [one_mul]
  · show t.val / 5 * 512 + 1 * j.val = t.val / 5 * 512 + j.val; rw [one_mul]

/-- A slot of the ring, loaded at the slot's own offset while it holds an item: the item. -/
theorem slot_at (s : Fin 8) (x : S6144x512.Idx → Elt F .fp8e4m3) (g : Buf (Elt F) ((rslot s).view.loc (c : Thread nD τ)))
    (hg : (rslot s).view.read (Elt F) g = x) (off : Fin 3 → Nat) (e : off = slotOff s) (hh) (q : Fin 6144) (j : Fin 512) :
    View.readAt (Elt F) ringM.view (Rect.unit (s := S8x6144x512) off S1x6144x512.size hh).toLoadRect g (ix3 0 q j) = x (ix2 q j) := by
  subst e
  subst hg
  exact congrArg g (slot_emb s hh q j)

section
variable (XW : Buf (Elt F) (wM.view.loc (c : Thread nD τ))) (k : Fin k0_t1_loop.trips) (q : Fin 6144) (j : Fin 512)
/-- The weights' row `6144 i + q` and column `512 k + j`. -/
def wIx (i : Fin 5) (k : Fin k0_t1_loop.trips) (q : Fin 6144) (j : Fin 512) : S30720x6144.Idx :=
  ix2 ⟨6144 * i.val + q.val, by omega⟩ ⟨512 * k.val + j.val, by have := trip_lt k; omega⟩

theorem wload_ix (i : Fin 5) (n : Nat) (hn : n = 5 * k.val + i.val) : wload c XW (Ring.bk 60 n) (ix2 q j) = XW (wIx i k q j) := by
  rw [wload_at]
  have h := trip_lt k
  have hb : (Ring.bk 60 n).val = n := Ring.bk_val (by omega)
  refine congrArg XW (funext fun a => Fin.ext ?_)
  fin_cases a
  · show (Ring.bk 60 n).val % 5 * 6144 + q.val = 6144 * i.val + q.val; rw [hb]; omega
  · show (Ring.bk 60 n).val / 5 * 512 + j.val = 512 * k.val + j.val; rw [hb]; omega
theorem wAt0_at : wAt0 c XW k (ix3 0 q j) = XW (wIx 0 k q j) := (slot_at c _ _ _ (View.read_writes_whole _ _ _) _ (off28_eq0 k) _ q j).trans (wload_ix c XW k q j 0 _ rfl)
theorem wAt1_at : wAt1 c XW k (ix3 0 q j) = XW (wIx 1 k q j) := (slot_at c _ _ _ (View.read_writes_whole _ _ _) _ (off28_eq1 k) _ q j).trans (wload_ix c XW k q j 1 _ rfl)
theorem wAt2_at : wAt2 c XW k (ix3 0 q j) = XW (wIx 2 k q j) := (slot_at c _ _ _ (View.read_writes_whole _ _ _) _ (off28_eq2 k) _ q j).trans (wload_ix c XW k q j 2 _ rfl)
theorem wAt3_at : wAt3 c XW k (ix3 0 q j) = XW (wIx 3 k q j) := (slot_at c _ _ _ (View.read_writes_whole _ _ _) _ (off28_eq3 k) _ q j).trans (wload_ix c XW k q j 3 _ rfl)
theorem wAt4_at : wAt4 c XW k (ix3 0 q j) = XW (wIx 4 k q j) := (slot_at c _ _ _ (View.read_writes_whole _ _ _) _ (off28_eq4 k) _ q j).trans (wload_ix c XW k q j 4 _ rfl)
end

section
variable (XX : Buf (Elt F) (xM.view.loc (c : Thread nD τ))) (XWS : Buf (Elt F) (wsM.view.loc (c : Thread nD τ)))
theorem XBv_read : xbM.view.read (Elt F) (XBv c XX) = XX := View.read_writes_whole _ _ _
theorem WSv_read : wsoM.view.read (Elt F) (WSv c XWS) = XWS := View.read_writes_whole _ _ _
end

section
variable (k : Fin k0_t1_loop.trips) (r : Fin 112) (l : Fin 128) (B : Buf (Elt F) (xbM.view.loc (c : Thread nD τ))) (W : Buf (Elt F) (wsoM.view.loc (c : Thread nD τ)))
/-- The result's column `512 k + 128 i + l`. -/
def colIx (k : Fin k0_t1_loop.trips) (i : Fin 4) (l : Fin 128) : Fin 6144 := ⟨512 * k.val + 128 * i.val + l.val, by have := trip_lt k; omega⟩
theorem x_at (i : Fin 4) (off : Fin 2 → Nat) (e : off = xOff k.val i.val) (hh) :
    View.readAt (Elt F) xbM.view (Rect.unit (s := S112x6144) off S112x128.size hh).toLoadRect B (ix2 r l) = B (ix2 r (colIx k i l)) := by
  subst e
  show B ((Rect.unit (s := S112x6144) (xOff k.val i.val) S112x128.size hh).toLoadRect.idx (ix2 r l)) = _
  refine congrArg B (funext fun a => Fin.ext ?_)
  fin_cases a
  · show 0 + 1 * r.val = r.val; omega
  · show 512 * k.val + 128 * i.val + 1 * l.val = 512 * k.val + 128 * i.val + l.val; rw [one_mul]
theorem ws_at (i : Fin 4) (off : Fin 2 → Nat) (e : off = xOff k.val i.val) (hh) :
    View.readAt (Elt F) wsoM.view (Rect.unit (s := S1x6144) off S1x128.size hh).toLoadRect W (ix2 0 l) = W (ix2 0 (colIx k i l)) := by
  subst e
  show W ((Rect.unit (s := S1x6144) (xOff k.val i.val) S1x128.size hh).toLoadRect.idx (ix2 0 l)) = _
  refine congrArg W (funext fun a => Fin.ext ?_)
  fin_cases a
  · rfl
  · show 512 * k.val + 128 * i.val + 1 * l.val = 512 * k.val + 128 * i.val + l.val; rw [one_mul]
end
end Cert.Proof.KI
-- ==== Proof.KI.MathProd.lean ====
module

public import proofs.«01_k».proof.Proof.KI.MathRead

/-! # One trip's product and tiles, element by element

Over the reals the accumulated product of a column block is the sum of the five blocks' products, and each stored
tile is the residual plus that product times the two scales. -/

@[expose] public section

set_option maxRecDepth 16384

noncomputable section

namespace Cert.Proof.KI

open Cert.KernelIdeal Cert.KernelIdeal.Gen
open Idealize.ShloMosaic
open Idealize.ShloMosaic.TcCoe

variable (c : Dev nD)

section
variable (XC : Buf (Elt Ideal) (cM.view.loc (c : Thread nD τ))) (XS : Buf (Elt Ideal) (sM.view.loc (c : Thread nD τ)))

/-- The codes, copied into their buffer, read at one element. -/
theorem acb_read : acbM.view.read (Elt Ideal) (acbM.view.writes (Elt Ideal) acbM.view.junk [⟨Rect.whole S112x30720, ReadAs.same.apply (cM.view.read (Elt Ideal) XC)⟩]) = XC := View.read_writes_whole _ _ _
theorem asc_read : ascM.view.read (Elt Ideal) (ascM.view.writes (Elt Ideal) ascM.view.junk [⟨Rect.whole S112x1, ReadAs.same.apply (sM.view.read (Elt Ideal) XS)⟩]) = XS := View.read_writes_whole _ _ _
theorem acb_load (g : Buf (Elt Ideal) (acbM.view.loc (c : Thread nD τ))) (x : S112x30720.Idx → EReal) (hg : acbM.view.read (Elt Ideal) g = x) (hh) (r : Fin 112) (q : Fin 30720) :
    View.readAt (Elt Ideal) acbM.view (Rect.unit (s := S112x30720) ![0, 0] S112x30720.size hh).toLoadRect g (ix2 r q) = x (ix2 r q) := by
  subst hg
  exact congrFun (View.readAt_full acbM.view g hh) (ix2 r q)
theorem asc_load (g : Buf (Elt Ideal) (ascM.view.loc (c : Thread nD τ))) (x : S112x1.Idx → EReal) (hg : ascM.view.read (Elt Ideal) g = x) (hh) (r : Fin 112) :
    View.readAt (Elt Ideal) ascM.view (Rect.unit (s := S112x1) ![0, 0] S112x1.size hh).toLoadRect g (ix2 r 0) = x (ix2 r 0) := by
  subst hg
  exact congrFun (View.readAt_full ascM.view g hh) (ix2 r 0)
theorem AQv_read (r : Fin 112) (q : Fin 30720) : aqM.view.read (Elt Ideal) (AQv c XC) (ix2 ⟨r.val, by omega⟩ q) = XC (ix2 r q) := by
  refine Eq.trans (congrFun (View.read_writes_full _ _ _ _ _) _) ?_
  refine (pay13_at _ r q).trans ?_
  exact acb_load c _ XC (acb_read c XC) _ r q
theorem ASv_read (r : Fin 112) (l : Fin 128) : asbM.view.read (Elt Ideal) (ASv c XS) (ix2 r l) = XS (ix2 r 0) := by
  refine Eq.trans (congrFun (View.read_writes_full _ _ _ _ _) _) ?_
  refine (pay14_at _ r l).trans ?_
  exact asc_load c _ XS (asc_read c XS) _ r

/-- Columns `6144 i …` of the codes, loaded. -/
theorem a_at (i : Fin 5) (off : Fin 2 → Nat) (e : off = ![0, 6144 * i.val]) (hh) (r : Fin 112) (q : Fin 6144) :
    View.readAt (Elt Ideal) aqM.view (Rect.unit (s := S128x30720) off S128x6144.size hh).toLoadRect (AQv c XC) (ix2 ⟨r.val, by omega⟩ q)
      = XC (ix2 r ⟨6144 * i.val + q.val, by omega⟩) := by
  subst e
  refine Eq.trans ?_ (AQv_read c XC r ⟨6144 * i.val + q.val, by omega⟩)
  refine congrArg (aqM.view.read (Elt Ideal) (AQv c XC)) (funext fun a => Fin.ext ?_)
  fin_cases a
  · show 0 + 1 * r.val = r.val; omega
  · show 6144 * i.val + 1 * q.val = 6144 * i.val + q.val; rw [one_mul]
theorem asb_load (g : Buf (Elt Ideal) (asbM.view.loc (c : Thread nD τ))) (hh) (r : Fin 112) (l : Fin 128) :
    View.readAt (Elt Ideal) asbM.view (Rect.unit (s := S112x128) ![0, 0] S112x128.size hh).toLoadRect g (ix2 r l) = asbM.view.read (Elt Ideal) g (ix2 r l) :=
  congrFun (View.readAt_full asbM.view g hh) (ix2 r l)
theorem s_at (hh) (r : Fin 112) (l : Fin 128) :
    View.readAt (Elt Ideal) asbM.view (Rect.unit (s := S112x128) ![0, 0] S112x128.size hh).toLoadRect (ASv c XS) (ix2 r l) = XS (ix2 r 0) :=
  (asb_load c (ASv c XS) hh r l).trans (ASv_read c XS r l)
end

section
variable (XW : Buf (Elt Ideal) (wM.view.loc (c : Thread nD τ))) (XC : Buf (Elt Ideal) (cM.view.loc (c : Thread nD τ)))
  (k : Fin k0_t1_loop.trips) (r : Fin 112) (j : Fin 512)

/-- The product of block `i` of the weights' rows. -/
def part (C : S112x30720.Idx → EReal) (W : S30720x6144.Idx → EReal) (r : Fin 112) (y : Fin 6144) (i : Fin 5) : EReal :=
  ∑ q : Fin 6144, C (ix2 r ⟨6144 * i.val + q.val, by omega⟩) * W (ix2 ⟨6144 * i.val + q.val, by omega⟩ y)

/-- Column `512 k + j`. -/
def colJ (k : Fin k0_t1_loop.trips) (j : Fin 512) : Fin 6144 := ⟨512 * k.val + j.val, by have := trip_lt k; omega⟩

theorem dot0 : dotAt (aAt0 c (AQv c XC)) (wAt0 c XW k) ⟨r.val, by omega⟩ j = part XC XW r (colJ k j) 0 :=
  Finset.sum_congr rfl fun q _ => congrArg₂ (· * ·) (a_at c XC 0 _ rfl _ r q) (wAt0_at c XW k q j)
theorem dot1 : dotAt (aAt1 c (AQv c XC)) (wAt1 c XW k) ⟨r.val, by omega⟩ j = part XC XW r (colJ k j) 1 :=
  Finset.sum_congr rfl fun q _ => congrArg₂ (· * ·) (a_at c XC 1 _ rfl _ r q) (wAt1_at c XW k q j)
theorem dot2 : dotAt (aAt2 c (AQv c XC)) (wAt2 c XW k) ⟨r.val, by omega⟩ j = part XC XW r (colJ k j) 2 :=
  Finset.sum_congr rfl fun q _ => congrArg₂ (· * ·) (a_at c XC 2 _ rfl _ r q) (wAt2_at c XW k q j)
theorem dot3 : dotAt (aAt3 c (AQv c XC)) (wAt3 c XW k) ⟨r.val, by omega⟩ j = part XC XW r (colJ k j) 3 :=
  Finset.sum_congr rfl fun q _ => congrArg₂ (· * ·) (a_at c XC 3 _ rfl _ r q) (wAt3_at c XW k q j)
theorem dot4 : dotAt (aAt4 c (AQv c XC)) (wAt4 c XW k) ⟨r.val, by omega⟩ j = part XC XW r (colJ k j) 4 :=
  Finset.sum_congr rfl fun q _ => congrArg₂ (· * ·) (a_at c XC 4 _ rfl _ r q) (wAt4_at c XW k q j)

theorem acc0 : accM.view.readCov (pc0 c XW (AQv c XC) k) (Rect.unit (s := S128x512) ![0, 0] S128x512.size inb_S128x512_S128x512_0_0).toLoadRect (ix2 ⟨r.val, by omega⟩ j)
    = part XC XW r (colJ k j) 0 :=
  (congrFun (View.readCov_full _ _ _ _ _) _).trans ((pay1_at _ _ _ _).trans (dot0 c XW XC k r j))
theorem acc1 : accM.view.readCov (pc1 c XW (AQv c XC) k) (Rect.unit (s := S128x512) ![0, 0] S128x512.size inb_S128x512_S128x512_0_0).toLoadRect (ix2 ⟨r.val, by omega⟩ j)
    = part XC XW r (colJ k j) 0 + part XC XW r (colJ k j) 1 :=
  (congrFun (View.readCov_full _ _ _ _ _) _).trans ((pay2_at _ _ _ _ _).trans (congrArg₂ (· + ·) (acc0 c XW XC k r j) (dot1 c XW XC k r j)))
theorem acc2 : accM.view.readCov (pc2 c XW (AQv c XC) k) (Rect.unit (s := S128x512) ![0, 0] S128x512.size inb_S128x512_S128x512_0_0).toLoadRect (ix2 ⟨r.val, by omega⟩ j)
    = part XC XW r (colJ k j) 0 + part XC XW r (colJ k j) 1 + part XC XW r (colJ k j) 2 :=
  (congrFun (View.readCov_full _ _ _ _ _) _).trans ((pay4_at _ _ _ _ _).trans (congrArg₂ (· + ·) (acc1 c XW XC k r j) (dot2 c XW XC k r j)))
theorem acc3 : accM.view.readCov (pc3 c XW (AQv c XC) k) (Rect.unit (s := S128x512) ![0, 0] S128x512.size inb_S128x512_S128x512_0_0).toLoadRect (ix2 ⟨r.val, by omega⟩ j)
    = part XC XW r (colJ k j) 0 + part XC XW r (colJ k j) 1 + part XC XW r (colJ k j) 2 + part XC XW r (colJ k j) 3 :=
  (congrFun (View.readCov_full _ _ _ _ _) _).trans ((pay5_at _ _ _ _ _).trans (congrArg₂ (· + ·) (acc2 c XW XC k r j) (dot3 c XW XC k r j)))
theorem prod_at : k0_pay6 (aAt4 c (AQv c XC)) (wAt4 c XW k) (accM.view.readCov (pc3 c XW (AQv c XC) k) (Rect.unit (s := S128x512) ![0, 0] S128x512.size inb_S128x512_S128x512_0_0).toLoadRect) (ix2 ⟨r.val, by omega⟩ j)
    = part XC XW r (colJ k j) 0 + part XC XW r (colJ k j) 1 + part XC XW r (colJ k j) 2 + part XC XW r (colJ k j) 3 + part XC XW r (colJ k j) 4 :=
  (pay6_at _ _ _ _ _).trans (congrArg₂ (· + ·) (acc3 c XW XC k r j) (dot4 c XW XC k r j))

/-- The whole product at row `r` and column `y`. -/
def dotC (C : S112x30720.Idx → EReal) (W : S30720x6144.Idx → EReal) (r : Fin 112) (y : Fin 6144) : EReal :=
  ∑ q : Fin 30720, C (ix2 r q) * W (ix2 q y)

/-- A sum over 30720 entries is the sum of the five sums over 6144. -/
theorem parts_sum (C : S112x30720.Idx → EReal) (W : S30720x6144.Idx → EReal) (y : Fin 6144) :
    part C W r y 0 + part C W r y 1 + part C W r y 2 + part C W r y 3 + part C W r y 4 = dotC C W r y := by
  have h : dotC C W r y = ∑ i : Fin 5, part C W r y i := by
    unfold dotC part
    rw [← (finProdFinEquiv (m := 5) (n := 6144)).sum_comp, Fintype.sum_prod_type]
    refine Finset.sum_congr rfl fun i _ => Finset.sum_congr rfl fun q _ => ?_
    have e : (finProdFinEquiv (m := 5) (n := 6144) (i, q) : Fin 30720) = ⟨6144 * i.val + q.val, by omega⟩ :=
      Fin.ext (by show q.val + 6144 * i.val = 6144 * i.val + q.val; exact Nat.add_comm _ _)
    rw [e]
  rw [h, Fin.sum_univ_five]
end
end Cert.Proof.KI
-- ==== Proof.KI.MathTile.lean ====
module

public import proofs.«01_k».proof.Proof.KI.MathProd

/-! # The result, element by element

Each element of a column block the kernel stores is the residual plus the product times the two scales (`G`). -/

@[expose] public section

set_option maxRecDepth 16384

noncomputable section

namespace Cert.Proof.KI

open Cert.KernelIdeal Cert.KernelIdeal.Gen
open Idealize.ShloMosaic
open Idealize.ShloMosaic.TcCoe

/-- The result the claim names: residual + (codes · weights) · row scale · column scale. -/
def G (X : S112x6144.Idx → EReal) (C : S112x30720.Idx → EReal) (S : S112x1.Idx → EReal) (W : S30720x6144.Idx → EReal) (WS : S1x6144.Idx → EReal) :
    S112x6144.Idx → EReal :=
  fun y => fin (dotC C W (y 0) (y 1)) (X (ix2 (y 0) (y 1))) (S (ix2 (y 0) 0)) (WS (ix2 0 (y 1)))

variable (c : Dev nD)

section
variable (XX : Buf (Elt Ideal) (xM.view.loc (c : Thread nD τ))) (XC : Buf (Elt Ideal) (cM.view.loc (c : Thread nD τ)))
  (XS : Buf (Elt Ideal) (sM.view.loc (c : Thread nD τ))) (XW : Buf (Elt Ideal) (wM.view.loc (c : Thread nD τ)))
  (XWS : Buf (Elt Ideal) (wsM.view.loc (c : Thread nD τ))) (k : Fin k0_t1_loop.trips) (r : Fin 112) (l : Fin 128)

theorem x_ld (B : Buf (Elt Ideal) (xbM.view.loc (c : Thread nD τ))) (X : S112x6144.Idx → EReal) (hB : xbM.view.read (Elt Ideal) B = X)
    (i : Fin 4) (off : Fin 2 → Nat) (e : off = xOff k.val i.val) (hh) :
    View.readAt (Elt Ideal) xbM.view (Rect.unit (s := S112x6144) off S112x128.size hh).toLoadRect B (ix2 r l) = X (ix2 r (colIx k i l)) := by
  subst hB
  exact x_at c k r l B i off e hh
theorem ws_ld (B : Buf (Elt Ideal) (wsoM.view.loc (c : Thread nD τ))) (X : S1x6144.Idx → EReal) (hB : wsoM.view.read (Elt Ideal) B = X)
    (i : Fin 4) (off : Fin 2 → Nat) (e : off = xOff k.val i.val) (hh) :
    View.readAt (Elt Ideal) wsoM.view (Rect.unit (s := S1x6144) off S1x128.size hh).toLoadRect B (ix2 0 l) = X (ix2 0 (colIx k i l)) := by
  subst hB
  exact ws_at c k l B i off e hh

theorem prod_col (i : Fin 4) (j : Fin 512) (hj : j.val = 128 * i.val + l.val) : prodAt c XW (AQv c XC) k (ix2 ⟨r.val, by omega⟩ j) = dotC XC XW r (colIx k i l) := by
  refine (prod_at c XW XC k r j).trans ((parts_sum r XC XW (colJ k j)).trans (congrArg (dotC XC XW r) (Fin.ext ?_)))
  show 512 * k.val + j.val = 512 * k.val + 128 * i.val + l.val
  omega

theorem fin_congr {p p' x x' s s' w w' : EReal} (h1 : p = p') (h2 : x = x') (h3 : s = s') (h4 : w = w') : fin p x s w = fin p' x' s' w' := by
  subst h1 h2 h3 h4; rfl

theorem tile0_at : tile0 c XW (XBv c XX) (AQv c XC) (ASv c XS) (WSv c XWS) k (ix3 0 r l) = G XX XC XS XW XWS (ix2 r (colIx k 0 l)) :=
  (pay9_at _ _ _ r l _ _ _).trans (fin_congr (prod_col c XC XW k r l 0 _ (by show l.val = 128 * 0 + l.val; omega)) (x_ld c k r l _ XX (XBv_read c XX) 0 _ (off51_eq0 k) _) (s_at c XS _ r l) (ws_ld c k l _ XWS (WSv_read c XWS) 0 _ (off52_eq0 k) _))
theorem tile1_at : tile1 c XW (XBv c XX) (AQv c XC) (ASv c XS) (WSv c XWS) k (ix3 0 r l) = G XX XC XS XW XWS (ix2 r (colIx k 1 l)) :=
  (pay10_at _ _ _ _ r l).trans (fin_congr (prod_col c XC XW k r l 1 _ rfl) (x_ld c k r l _ XX (XBv_read c XX) 1 _ (off51_eq1 k) _) (s_at c XS _ r l) (ws_ld c k l _ XWS (WSv_read c XWS) 1 _ (off52_eq1 k) _))
theorem tile2_at : tile2 c XW (XBv c XX) (AQv c XC) (ASv c XS) (WSv c XWS) k (ix3 0 r l) = G XX XC XS XW XWS (ix2 r (colIx k 2 l)) :=
  (pay15_at _ _ _ _ r l).trans (fin_congr (prod_col c XC XW k r l 2 _ rfl) (x_ld c k r l _ XX (XBv_read c XX) 2 _ (off51_eq2 k) _) (s_at c XS _ r l) (ws_ld c k l _ XWS (WSv_read c XWS) 2 _ (off52_eq2 k) _))
theorem tile3_at : tile3 c XW (XBv c XX) (AQv c XC) (ASv c XS) (WSv c XWS) k (ix3 0 r l) = G XX XC XS XW XWS (ix2 r (colIx k 3 l)) :=
  (pay16_at _ _ _ _ r l).trans (fin_congr (prod_col c XC XW k r l 3 _ rfl) (x_ld c k r l _ XX (XBv_read c XX) 3 _ (off51_eq3 k) _) (s_at c XS _ r l) (ws_ld c k l _ XWS (WSv_read c XWS) 3 _ (off52_eq3 k) _))
end

/-! ## The staging slot -/
section
variable (s : Fin 4) (g : Buf (Elt Ideal) ((yslot s).view.loc (c : Thread nD τ)))

/-- Where staging slot `s` keeps row `r`, column `j`. -/
theorem yslot_emb (r : Fin 112) (j : Fin 512) : (yslot s).view.emb (ix2 r j) = (ix3 s r j : S4x112x512.Idx) := by
  have h0 : Shape.reshapeEquiv squeezes_S1x112x512_S112x512.numel_eq (ix2 r j) = (ix3 0 r j : S1x112x512.Idx) := by
    pointwise
  show (Rect.unit (s := S4x112x512) (stOff s) S1x112x512.size (stOff_inb s)).emb (Shape.reshapeEquiv squeezes_S1x112x512_S112x512.numel_eq (ix2 r j)) = _
  rw [h0]
  refine funext fun a => Fin.ext ?_
  fin_cases a
  · show s.val + 1 * 0 = s.val; omega
  · show 0 + 1 * r.val = r.val; omega
  · show 0 + 1 * j.val = j.val; omega
theorem yread_at (r : Fin 112) (j : Fin 512) : yread c s g (ix2 r j) = g (ix3 s r j : S4x112x512.Idx) := congrArg g (yslot_emb s r j)

theorem tile_emb (i : Nat) (hh) (r : Fin 112) (l : Fin 128) (hi : 128 * i + l.val < 512) :
    (stM.access (Rect.unit (s := S4x112x512) (tileOff s i) S1x112x128.size hh)).emb (ix3 0 r l) = (ix3 s r ⟨128 * i + l.val, hi⟩ : S4x112x512.Idx) := by
  refine funext fun a => Fin.ext ?_
  fin_cases a
  · show s.val + 1 * 0 = s.val; omega
  · show 0 + 1 * r.val = r.val; omega
  · show 128 * i + 1 * l.val = 128 * i + l.val; omega

theorem tile_hit (off : Fin 3 → Nat) (i : Nat) (e : off = tileOff s i) (hh) (w : FVec Ideal S1x112x128 .bf16) (r : Fin 112) (l : Fin 128) (j : Fin 512) (hj : j.val = 128 * i + l.val) :
    View.write (Elt Ideal) (stM.access (Rect.unit (s := S4x112x512) off S1x112x128.size hh)) g w Finset.univ (ix3 s r j : S4x112x512.Idx) = w (ix3 0 r l) := by
  subst e
  have hi : 128 * i + l.val < 512 := hj ▸ j.isLt
  have e2 : (ix3 s r j : S4x112x512.Idx) = (stM.access (Rect.unit (s := S4x112x512) (tileOff s i) S1x112x128.size hh)).emb (ix3 0 r l) :=
    (congrArg (fun y : Fin 512 => (ix3 s r y : S4x112x512.Idx)) (Fin.ext hj : j = ⟨128 * i + l.val, hi⟩)).trans (tile_emb s i hh r l hi).symm
  exact (congrArg (View.write (Elt Ideal) (stM.access (Rect.unit (s := S4x112x512) (tileOff s i) S1x112x128.size hh)) g w Finset.univ) e2).trans
    (View.write_emb_of_mem _ _ (Finset.mem_univ _))

theorem tile_miss (off : Fin 3 → Nat) (i : Nat) (e : off = tileOff s i) (hh) (w : FVec Ideal S1x112x128 .bf16) (r : Fin 112) (j : Fin 512) (hj : j.val < 128 * i) :
    View.write (Elt Ideal) (stM.access (Rect.unit (s := S4x112x512) off S1x112x128.size hh)) g w Finset.univ (ix3 s r j : S4x112x512.Idx) = g (ix3 s r j : S4x112x512.Idx) := by
  subst e
  refine View.write_of_not_mem _ _ _ fun hm => ?_
  obtain ⟨y, -, hy⟩ := Finset.mem_map.mp hm
  have h := congrArg (fun z : S4x112x512.Idx => (z 2).val) hy
  have h' : 128 * i + 1 * (y 2).val = j.val := h
  omega
end
end Cert.Proof.KI
-- ==== Proof.KI.MathOut.lean ====
module

public import proofs.«01_k».proof.Proof.KI.MathTile

/-! # The kernel's result

Every element of the result array the kernel leaves is the closed form `G` of the five arguments' arrays. -/

@[expose] public section

set_option maxRecDepth 16384

noncomputable section

namespace Cert.Proof.KI

open Cert.KernelIdeal Cert.KernelIdeal.Gen
open Idealize.ShloMosaic
open Idealize.ShloMosaic.TcCoe

variable (c : Dev nD)

section
variable (XX : Buf (Elt Ideal) (xM.view.loc (c : Thread nD τ))) (XC : Buf (Elt Ideal) (cM.view.loc (c : Thread nD τ)))
  (XS : Buf (Elt Ideal) (sM.view.loc (c : Thread nD τ))) (XW : Buf (Elt Ideal) (wM.view.loc (c : Thread nD τ)))
  (XWS : Buf (Elt Ideal) (wsM.view.loc (c : Thread nD τ))) (k : Fin k0_t1_loop.trips) (r : Fin 112) (l : Fin 128)
  (f : Buf (Elt Ideal) ((yslot (Ring.sl 4 k.val)).view.loc (c : Thread nD τ)))

theorem st_at0 (j : Fin 512) (hj : j.val = 128 * 0 + l.val) :
    stW3 c XW (XBv c XX) (AQv c XC) (ASv c XS) (WSv c XWS) k f (ix3 (Ring.sl 4 k.val) r j : S4x112x512.Idx) = G XX XC XS XW XWS (ix2 r (colIx k 0 l)) :=
  (tile_miss c _ _ _ 3 (off56_eq k) _ _ r j (by omega)).trans
    ((tile_miss c _ _ _ 2 (off55_eq k) _ _ r j (by omega)).trans
      ((tile_miss c _ _ _ 1 (off54_eq k) _ _ r j (by omega)).trans
        ((tile_hit c _ _ _ 0 (off53_eq k) _ _ r l j hj).trans (tile0_at c XX XC XS XW XWS k r l))))
theorem st_at1 (j : Fin 512) (hj : j.val = 128 * 1 + l.val) :
    stW3 c XW (XBv c XX) (AQv c XC) (ASv c XS) (WSv c XWS) k f (ix3 (Ring.sl 4 k.val) r j : S4x112x512.Idx) = G XX XC XS XW XWS (ix2 r (colIx k 1 l)) :=
  (tile_miss c _ _ _ 3 (off56_eq k) _ _ r j (by omega)).trans
    ((tile_miss c _ _ _ 2 (off55_eq k) _ _ r j (by omega)).trans
      ((tile_hit c _ _ _ 1 (off54_eq k) _ _ r l j hj).trans (tile1_at c XX XC XS XW XWS k r l)))
theorem st_at2 (j : Fin 512) (hj : j.val = 128 * 2 + l.val) :
    stW3 c XW (XBv c XX) (AQv c XC) (ASv c XS) (WSv c XWS) k f (ix3 (Ring.sl 4 k.val) r j : S4x112x512.Idx) = G XX XC XS XW XWS (ix2 r (colIx k 2 l)) :=
  (tile_miss c _ _ _ 3 (off56_eq k) _ _ r j (by omega)).trans
    ((tile_hit c _ _ _ 2 (off55_eq k) _ _ r l j hj).trans (tile2_at c XX XC XS XW XWS k r l))
theorem st_at3 (j : Fin 512) (hj : j.val = 128 * 3 + l.val) :
    stW3 c XW (XBv c XX) (AQv c XC) (ASv c XS) (WSv c XWS) k f (ix3 (Ring.sl 4 k.val) r j : S4x112x512.Idx) = G XX XC XS XW XWS (ix2 r (colIx k 3 l)) :=
  (tile_hit c _ _ _ 3 (off56_eq k) _ _ r l j hj).trans (tile3_at c XX XC XS XW XWS k r l)

/-- What trip `k` leaves in its staging slot, whatever the slot held before. -/
theorem st_at (j : Fin 512) :
    stW3 c XW (XBv c XX) (AQv c XC) (ASv c XS) (WSv c XWS) k f (ix3 (Ring.sl 4 k.val) r j : S4x112x512.Idx) = G XX XC XS XW XWS (ix2 r (colJ k j)) := by
  have hj := j.isLt
  have hc : ∀ (i : Fin 4) (l : Fin 128), j.val = 128 * i.val + l.val → colIx k i l = colJ k j := fun i l h =>
    Fin.ext (by show 512 * k.val + 128 * i.val + l.val = 512 * k.val + j.val; omega)
  rcases (by omega : j.val < 128 ∨ (128 ≤ j.val ∧ j.val < 256) ∨ (256 ≤ j.val ∧ j.val < 384) ∨ (384 ≤ j.val ∧ j.val < 512)) with h | h | h | h
  · have e : j.val = 128 * 0 + (⟨j.val, h⟩ : Fin 128).val := by show j.val = 128 * 0 + j.val; omega
    exact (st_at0 c XX XC XS XW XWS k r ⟨j.val, h⟩ f j e).trans (congrArg (fun y => G XX XC XS XW XWS (ix2 r y)) (hc 0 _ e))
  · have e : j.val = 128 * 1 + (⟨j.val - 128, by omega⟩ : Fin 128).val := by show j.val = 128 * 1 + (j.val - 128); omega
    exact (st_at1 c XX XC XS XW XWS k r ⟨j.val - 128, by omega⟩ f j e).trans (congrArg (fun y => G XX XC XS XW XWS (ix2 r y)) (hc 1 _ e))
  · have e : j.val = 128 * 2 + (⟨j.val - 256, by omega⟩ : Fin 128).val := by show j.val = 128 * 2 + (j.val - 256); omega
    exact (st_at2 c XX XC XS XW XWS k r ⟨j.val - 256, by omega⟩ f j e).trans (congrArg (fun y => G XX XC XS XW XWS (ix2 r y)) (hc 2 _ e))
  · have e : j.val = 128 * 3 + (⟨j.val - 384, by omega⟩ : Fin 128).val := by show j.val = 128 * 3 + (j.val - 384); omega
    exact (st_at3 c XX XC XS XW XWS k r ⟨j.val - 384, by omega⟩ f j e).trans (congrArg (fun y => G XX XC XS XW XWS (ix2 r y)) (hc 3 _ e))

theorem Yok_at (b : Fin 12) (u : S112x512.Idx → Elt Ideal .bf16) (h : Yok c XW (XBv c XX) (AQv c XC) (ASv c XS) (WSv c XWS) b u) (j : Fin 512) :
    u (ix2 r j) = G XX XC XS XW XWS (ix2 r ⟨512 * b.val + j.val, by omega⟩) := by
  obtain ⟨k, f, hk, hu⟩ := h
  subst hu
  refine (yread_at c _ _ r j).trans ((st_at c XX XC XS XW XWS k r f j).trans (congrArg (fun y => G XX XC XS XW XWS (ix2 r y)) (Fin.ext ?_)))
  show 512 * k.val + j.val = 512 * b.val + j.val
  omega

/-- All twelve blocks right: the array is `G`. -/
theorem out_eq (Y : Buf (Elt Ideal) ((c : Thread nD τ).loc main_v3))
    (h : ∀ b : Fin 12, Yok c XW (XBv c XX) (AQv c XC) (ASv c XS) (WSv c XWS) b ((yblk b).view.read (Elt Ideal) Y)) : Y = G XX XC XS XW XWS := by
  refine funext fun y => ?_
  have hy := (y 1).isLt
  have hy' : (y 1).val < 6144 := hy
  have hb : (y 1).val / 512 < 12 := by omega
  have hj : (y 1).val % 512 < 512 := by omega
  have h1 := Yok_at c XX XC XS XW XWS (y 0) ⟨(y 1).val / 512, hb⟩ _ (h ⟨(y 1).val / 512, hb⟩) ⟨(y 1).val % 512, hj⟩
  have e1 : (yblk ⟨(y 1).val / 512, hb⟩).view.emb (ix2 (y 0) ⟨(y 1).val % 512, hj⟩) = y := by
    refine funext fun a => Fin.ext ?_
    fin_cases a
    · show 0 + 1 * (y 0).val = (y 0).val; omega
    · show (y 1).val / 512 * 512 + 1 * ((y 1).val % 512) = (y 1).val; omega
  have e2 : (ix2 (y 0) ⟨512 * ((y 1).val / 512) + (y 1).val % 512, by omega⟩ : S112x6144.Idx) = y := by
    refine funext fun a => Fin.ext ?_
    fin_cases a
    · rfl
    · show 512 * ((y 1).val / 512) + (y 1).val % 512 = (y 1).val; omega
  exact (congrArg Y e1).symm.trans (h1.trans (congrArg (G XX XC XS XW XWS) e2))
end
end Cert.Proof.KI
-- ==== Proof.RI.Ref.lean ====
module

public import proofs.«01_k».proof.Proof.KI.MathOut
public import proofs.«01_k».proof.Proof.Gen.ReferenceIdeal.Value
public import Idealize.ShloMosaic.Lib.StableHlo.ReadAt

/-! # The reference's result

The reference runs one point over whole arrays, so its result array is its body's one value: the same closed form `G`. -/

@[expose] public section

set_option maxRecDepth 16384

noncomputable section

namespace Cert.Proof.RI

open Cert.ReferenceIdeal Cert.ReferenceIdeal.Gen
open Idealize.ShloMosaic
open Idealize.ShloMosaic.TcCoe

variable (m : (ℓ : Loc nD τ sig) → Buf (Elt Ideal) ℓ) (c : Dev nD)

theorem pay_at (v0 : Vec Ideal S112x30720 .fp8e4m3) (v2 : Vec Ideal S30720x6144 .fp8e4m3) (v4 : Vec Ideal S112x6144 .bf16) (v7 : Vec Ideal S112x1 .f32) (v10 : Vec Ideal S1x6144 .f32)
    (r : Fin 112) (y : Fin 6144) : k0_pay1 v0 v2 v4 v7 v10 (ix2 r y) = Cert.Proof.KI.G v4 v0 v7 v2 v10 (ix2 r y) := by
  pointwise [k0_pay1, Cert.Proof.KI.G, Cert.Proof.KI.fin, Cert.Proof.KI.dotC]

theorem hz : (![0, 0] : Fin 2 → Nat) = fun _ => 0 := funext fun a => by fin_cases a <;> rfl

theorem out_eq (x0 : Vec Ideal S112x6144 .bf16) (x1 : Vec Ideal S112x30720 .fp8e4m3) (x2 : Vec Ideal S112x1 .f32) (x3 : Vec Ideal S30720x6144 .fp8e4m3) (x4 : Vec Ideal S1x6144 .f32) :
    out0_5 x0 x1 x2 x3 x4 = Cert.Proof.KI.G x0 x1 x2 x3 x4 := by
  unfold out0_5
  rw [View.canon_unit_zero hz]
  funext y
  rw [View.ld_unit_zero hz, View.ld_unit_zero hz, View.ld_unit_zero hz, View.ld_unit_zero hz, View.ld_unit_zero hz]
  idx_vars y
  exact pay_at _ _ _ _ _ _ _

theorem blk0 : iblk m c 0 t0_0 = V m c main_v0 := by
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)
theorem blk1 : iblk m c 1 t0_0 = V m c main_v1 := by
  have hz' : (fun a => win0_1.index t0_0 a * main_v1.ty.shape.size a) = fun _ => 0 := funext fun a => by fin_cases a <;> decide
  exact Memref.read_access_unit_zero (Elt Ideal) main_v1 hz' (fun a => by rw [congrFun hz' a]; simp) (V m c main_v1)
theorem blk2 : iblk m c 2 t0_0 = V m c main_arg2 := by
  have hz' : (fun a => win0_2.index t0_0 a * main_arg2.ty.shape.size a) = fun _ => 0 := funext fun a => by fin_cases a <;> decide
  exact Memref.read_access_unit_zero (Elt Ideal) main_arg2 hz' (fun a => by rw [congrFun hz' a]; simp) (V m c main_arg2)
theorem blk3 : iblk m c 3 t0_0 = V m c main_arg3 := by
  have hz' : (fun a => win0_3.index t0_0 a * main_arg3.ty.shape.size a) = fun _ => 0 := funext fun a => by fin_cases a <;> decide
  exact Memref.read_access_unit_zero (Elt Ideal) main_arg3 hz' (fun a => by rw [congrFun hz' a]; simp) (V m c main_arg3)
theorem blk4 : iblk m c 4 t0_0 = V m c main_v2 := by
  have hz' : (fun a => win0_4.index t0_0 a * main_v2.ty.shape.size a) = fun _ => 0 := funext fun a => by fin_cases a <;> decide
  exact Memref.read_access_unit_zero (Elt Ideal) main_v2 hz' (fun a => by rw [congrFun hz' a]; simp) (V m c main_v2)

/-- The closed form of the reference's own operands. -/
def GR : S112x6144.Idx → EReal := Cert.Proof.KI.G (V m c main_v0) (V m c main_v1) (V m c main_arg2) (V m c main_arg3) (V m c main_v2)

theorem flushed_eq (t : Fin cfg0.N) (hf : (cfg0.win 5).flush t = true) :
    (dats m 0 c).flushed 5 t = ((cfg0.win 5).blk t).view.read (Elt Ideal) (GR m c) := by
  obtain rfl := fin_N0 t
  rw [Value.flushed5, out_eq, blk0, blk1, blk2, blk3, blk4]
  have hz' : (fun a => win0_5.index t0_0 a * main_v3.ty.shape.size a) = fun _ => 0 := funext fun a => by fin_cases a <;> decide
  exact (Memref.read_access_unit_zero (Elt Ideal) main_v3 hz' (fun a => by rw [congrFun hz' a]; simp) (GR m c)).symm

theorem final : (dats m 0 c).arrAt 5 cfg0.N = GR m c :=
  (dats m 0 c).arrAt_eq_of_cover 5 (GR m c) (flushed_eq m c) fun i =>
    ⟨t0_0, flush0_5 t0_0, by
      show i ∈ ((View.whole main_v3).slice (win0_5.rect t0_0)).set
      rw [View.set_slice_whole, Rect.mem_set_unit]
      intro a
      have h0 : (i 0 : Nat) < 112 := (i 0).isLt
      have h1 : (i 1 : Nat) < 6144 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 112 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 6144 from by decide +kernel]; omega⟩

theorem V0 : V m c main_v0 = shapeCast S112x6144 (m ((c : Thread nD τ).loc main_arg0)) shapeCasts_S112x1x6144_S112x6144 := by
  unfold V; after_reads_simp; rfl
theorem V1 : V m c main_v1 = shapeCast S112x30720 (m ((c : Thread nD τ).loc main_arg1)) shapeCasts_S112x1x30720_S112x30720 := by
  unfold V; after_reads_simp; rfl
theorem V2 : V m c main_v2 = shapeCast S1x6144 (m ((c : Thread nD τ).loc main_arg4)) shapeCasts_S6144_S1x6144 := by
  unfold V; after_reads_simp; rfl

end Cert.Proof.RI

namespace Cert.Proof.KI
open Cert.KernelIdeal Cert.KernelIdeal.Gen
open Idealize.ShloMosaic
open Idealize.ShloMosaic.TcCoe
variable (m : (ℓ : Loc nD τ sig) → Buf (Elt Ideal) ℓ) (c : Dev nD)
theorem V0 : V m c main_v0 = shapeCast S112x6144 (m ((c : Thread nD τ).loc main_arg0)) shapeCasts_S112x1x6144_S112x6144 := by
  unfold V; after_reads_simp; rfl
theorem V1 : V m c main_v1 = shapeCast S112x30720 (m ((c : Thread nD τ).loc main_arg1)) shapeCasts_S112x1x30720_S112x30720 := by
  unfold V; after_reads_simp; rfl
theorem V2 : V m c main_v2 = shapeCast S1x6144 (m ((c : Thread nD τ).loc main_arg4)) shapeCasts_S6144_S1x6144 := by
  unfold V; after_reads_simp; rfl
end Cert.Proof.KI
-- ==== Proof.QI.Names.lean ====
module

public import proofs.«01_k».proof.Proof.RI.Ref
public import proofs.«01_k».proof.Defs
public import proofs.«01_k».proof.Proof.Gen.ProjIdeal.Launch
public import proofs.«01_k».proof.Proof.Gen.ProjIdeal.Skeleton
public import proofs.«01_k».proof.Proof.Gen.ProjIdeal.Loops
public import proofs.«01_k».proof.Proof.Gen.ProjIdeal.Points
public import Idealize.ShloMosaic.Lib.Pipeline.KitQuiescent
public import Idealize.ShloMosaic.Lib.Ring
public import Idealize.ShloMosaic.Lib.Tactic

/-! # The gate and up projection's windows by name

The projection moves the gate and up columns of the input weights in ninety-six items. Item `t` is two blocks of 6144
rows by 256 columns, one of the gate columns (`wbL t`) and one of the up columns (`wbU t`); they land side by side in
slot `t % 8` of the weight ring (`rhL`, `rhU`), both on the ring's semaphore `t % 8` (`rsem`). The item's result goes
through slot `t % 4` of the staging buffer (`phL`, `phU`) to two blocks of 256 columns of the result (`pbL`, `pbU`), both on
semaphore `t % 4` (`psem`). Here each window the printed body slices gets that name, and each printed condition its meaning. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The whole arrays and buffers -/

abbrev cM : Memref sig .tc .hbm S112x6144 .fp8e4m3 := Memref.whole main_v0
abbrev sM : Memref sig .tc .hbm S112x1 .f32 := Memref.whole main_arg1
abbrev wM : Memref sig .tc .hbm S6144x55552 .fp8e4m3 := Memref.whole main_arg2
abbrev wsM : Memref sig .tc .hbm S1x55552 .f32 := Memref.whole main_v1
abbrev pM : Memref sig .tc .hbm S112x49152 .bf16 := Memref.whole main_v2
abbrev ringM : Memref sig .tc .vmem S8x6144x512 .fp8e4m3 := Memref.whole cc0_scratch0
abbrev hcbM : Memref sig .tc .vmem S112x6144 .fp8e4m3 := Memref.whole cc0_scratch1
abbrev hscM : Memref sig .tc .vmem S112x1 .f32 := Memref.whole cc0_scratch2
abbrev wsiM : Memref sig .tc .vmem S1x55552 .f32 := Memref.whole cc0_scratch3
abbrev hqM : Memref sig .tc .vmem S128x6144 .fp8e4m3 := Memref.whole cc0_scratch4
abbrev stM : Memref sig .tc .vmem S4x112x512 .bf16 := Memref.whole cc0_scratch5
abbrev hsbM : Memref sig .tc .vmem S112x128 .f32 := Memref.whole cc0_scratch6

/-! ## Block, slot and semaphore windows -/

/-- Block offsets; `n` is the first column of the block's half. -/
abbrev wOff (n : Nat) (t : Fin 96) : Fin 2 → Nat := ![0, n + 256 * t.val]
theorem wOff_inb (n : Nat) (h : n ≤ 30976) (t : Fin 96) : ∀ a, wOff n t a + S6144x256.size a ≤ S6144x55552.size a := by
  have := t.isLt; intro a; fin_cases a
  · show 0 + 6144 ≤ 6144; omega
  · show n + 256 * t.val + 256 ≤ 55552; omega
abbrev pOff (n : Nat) (t : Fin 96) : Fin 2 → Nat := ![0, n + 256 * t.val]
theorem pOff_inb (n : Nat) (h : n ≤ 24576) (t : Fin 96) : ∀ a, pOff n t a + S112x256.size a ≤ S112x49152.size a := by
  have := t.isLt; intro a; fin_cases a
  · show 0 + 112 ≤ 112; omega
  · show n + 256 * t.val + 256 ≤ 49152; omega
abbrev hOff (n : Nat) (s : Fin 8) : Fin 3 → Nat := ![s.val, 0, n]
theorem hOff_inb (n : Nat) (h : n ≤ 256) (s : Fin 8) : ∀ a, hOff n s a + S1x6144x256.size a ≤ S8x6144x512.size a := by
  have := s.isLt; intro a; fin_cases a
  · show s.val + 1 ≤ 8; omega
  · show 0 + 6144 ≤ 6144; omega
  · show n + 256 ≤ 512; omega
abbrev slotOff (s : Fin 8) : Fin 3 → Nat := ![s.val, 0, 0]
theorem slotOff_inb (s : Fin 8) : ∀ a, slotOff s a + S1x6144x512.size a ≤ S8x6144x512.size a := by
  have := s.isLt; intro a; fin_cases a
  · show s.val + 1 ≤ 8; omega
  · show 0 + 6144 ≤ 6144; omega
  · show 0 + 512 ≤ 512; omega
abbrev semOff (s : Fin 8) : Fin 1 → Nat := ![s.val]
theorem semOff_inb (s : Fin 8) : ∀ a, semOff s a + S1.size a ≤ S8.size a := by
  have := s.isLt; intro a; fin_cases a; show s.val + 1 ≤ 8; omega
abbrev gOff (n : Nat) (s : Fin 4) : Fin 3 → Nat := ![s.val, 0, n]
theorem gOff_inb (n : Nat) (h : n ≤ 256) (s : Fin 4) : ∀ a, gOff n s a + S1x112x256.size a ≤ S4x112x512.size a := by
  have := s.isLt; intro a; fin_cases a
  · show s.val + 1 ≤ 4; omega
  · show 0 + 112 ≤ 112; omega
  · show n + 256 ≤ 512; omega
abbrev qemOff (s : Fin 4) : Fin 1 → Nat := ![s.val]
theorem qemOff_inb (s : Fin 4) : ∀ a, qemOff s a + S1.size a ≤ S4.size a := by
  have := s.isLt; intro a; fin_cases a; show s.val + 1 ≤ 4; omega
abbrev iemOff (s : Fin 3) : Fin 1 → Nat := ![s.val]
theorem iemOff_inb (s : Fin 3) : ∀ a, iemOff s a + S1.size a ≤ S3.size a := by
  have := s.isLt; intro a; fin_cases a; show s.val + 1 ≤ 3; omega

/-- Item `t`'s gate block of the weights: columns `6400 + 256 t …`; -/
def wbL (t : Fin 96) : Memref sig .tc .hbm S6144x256 .fp8e4m3 := wM.slice (Rect.unit (s := S6144x55552) (wOff 6400 t) S6144x256.size (wOff_inb 6400 (by omega) t)) (fun _ => rfl)
/-- its up block: columns `30976 + 256 t …`. -/
def wbU (t : Fin 96) : Memref sig .tc .hbm S6144x256 .fp8e4m3 := wM.slice (Rect.unit (s := S6144x55552) (wOff 30976 t) S6144x256.size (wOff_inb 30976 (by omega) t)) (fun _ => rfl)
/-- The left half of slot `s` of the weight ring; -/
def rhL (s : Fin 8) : Memref sig .tc .vmem S6144x256 .fp8e4m3 := (ringM.slice (Rect.unit (s := S8x6144x512) (hOff 0 s) S1x6144x256.size (hOff_inb 0 (by omega) s)) (fun _ => rfl)).squeeze S6144x256 squeezes_S1x6144x256_S6144x256
/-- the right half. -/
def rhU (s : Fin 8) : Memref sig .tc .vmem S6144x256 .fp8e4m3 := (ringM.slice (Rect.unit (s := S8x6144x512) (hOff 256 s) S1x6144x256.size (hOff_inb 256 (by omega) s)) (fun _ => rfl)).squeeze S6144x256 squeezes_S1x6144x256_S6144x256
/-- The slot whole, as the products read it. -/
def rslot (s : Fin 8) : Memref sig .tc .vmem S1x6144x512 .fp8e4m3 := ringM.slice (Rect.unit (s := S8x6144x512) (slotOff s) S1x6144x512.size (slotOff_inb s)) (fun _ => rfl)
/-- Slot `s`'s semaphore. -/
def rsem (s : Fin 8) : DmaSems sig S_ := (cc0_scratch7.slice (Rect.unit (s := S8) (semOff s) S1.size (semOff_inb s))).squeeze S_ squeezes_S1_S_
/-- The result's gate columns `256 t …`; -/
def pbL (t : Fin 96) : Memref sig .tc .hbm S112x256 .bf16 := pM.slice (Rect.unit (s := S112x49152) (pOff 0 t) S112x256.size (pOff_inb 0 (by omega) t)) (fun _ => rfl)
/-- its up columns. -/
def pbU (t : Fin 96) : Memref sig .tc .hbm S112x256 .bf16 := pM.slice (Rect.unit (s := S112x49152) (pOff 24576 t) S112x256.size (pOff_inb 24576 (by omega) t)) (fun _ => rfl)
/-- The left half of slot `s` of the staging buffer; -/
def phL (s : Fin 4) : Memref sig .tc .vmem S112x256 .bf16 := (stM.slice (Rect.unit (s := S4x112x512) (gOff 0 s) S1x112x256.size (gOff_inb 0 (by omega) s)) (fun _ => rfl)).squeeze S112x256 squeezes_S1x112x256_S112x256
/-- the right half. -/
def phU (s : Fin 4) : Memref sig .tc .vmem S112x256 .bf16 := (stM.slice (Rect.unit (s := S4x112x512) (gOff 256 s) S1x112x256.size (gOff_inb 256 (by omega) s)) (fun _ => rfl)).squeeze S112x256 squeezes_S1x112x256_S112x256
/-- Staging slot `s`'s semaphore. -/
def psem (s : Fin 4) : DmaSems sig S_ := (cc0_scratch9.slice (Rect.unit (s := S4) (qemOff s) S1.size (qemOff_inb s))).squeeze S_ squeezes_S1_S_
/-- The three small inputs' semaphores. -/
def isem (s : Fin 3) : DmaSems sig S_ := (cc0_scratch8.slice (Rect.unit (s := S3) (iemOff s) S1.size (iemOff_inb s))).squeeze S_ squeezes_S1_S_

instance (n : Nat) (s : Fin 8) : ClosedOff (hOff n s) := ⟨hOff n s, rfl⟩
instance (s : Fin 8) : ClosedOff (slotOff s) := ⟨slotOff s, rfl⟩
instance (n : Nat) (t : Fin 96) : ClosedOff (wOff n t) := ⟨wOff n t, rfl⟩
instance (n : Nat) (s : Fin 4) : ClosedOff (gOff n s) := ⟨gOff n s, rfl⟩

theorem rsem_congr {off : Fin 1 → Nat} {s : Fin 8} (e : off = semOff s) (hh) :
    (cc0_scratch7.slice (Rect.unit (s := S8) off S1.size hh)).squeeze S_ squeezes_S1_S_ = rsem s :=
  congrArg (fun A : DmaSems sig S1 => A.squeeze S_ squeezes_S1_S_) (SemArray.slice_unit_congr _ e _ _)
theorem psem_congr {off : Fin 1 → Nat} {s : Fin 4} (e : off = qemOff s) (hh) :
    (cc0_scratch9.slice (Rect.unit (s := S4) off S1.size hh)).squeeze S_ squeezes_S1_S_ = psem s :=
  congrArg (fun A : DmaSems sig S1 => A.squeeze S_ squeezes_S1_S_) (SemArray.slice_unit_congr _ e _ _)
theorem isem_congr {off : Fin 1 → Nat} {s : Fin 3} (e : off = iemOff s) (hh) :
    (cc0_scratch8.slice (Rect.unit (s := S3) off S1.size hh)).squeeze S_ squeezes_S1_S_ = isem s :=
  congrArg (fun A : DmaSems sig S1 => A.squeeze S_ squeezes_S1_S_) (SemArray.slice_unit_congr _ e _ _)
theorem wbL_congr {off : Fin 2 → Nat} {t : Fin 96} (e : off = wOff 6400 t) (hh hs) :
    wM.slice (Rect.unit (s := S6144x55552) off S6144x256.size hh) hs = wbL t :=
  Memref.slice_unit_congr _ e _ _ _ (fun _ => rfl)
theorem wbU_congr {off : Fin 2 → Nat} {t : Fin 96} (e : off = wOff 30976 t) (hh hs) :
    wM.slice (Rect.unit (s := S6144x55552) off S6144x256.size hh) hs = wbU t :=
  Memref.slice_unit_congr _ e _ _ _ (fun _ => rfl)
theorem pbL_congr {off : Fin 2 → Nat} {t : Fin 96} (e : off = pOff 0 t) (hh hs) :
    pM.slice (Rect.unit (s := S112x49152) off S112x256.size hh) hs = pbL t :=
  Memref.slice_unit_congr _ e _ _ _ (fun _ => rfl)
theorem pbU_congr {off : Fin 2 → Nat} {t : Fin 96} (e : off = pOff 24576 t) (hh hs) :
    pM.slice (Rect.unit (s := S112x49152) off S112x256.size hh) hs = pbU t :=
  Memref.slice_unit_congr _ e _ _ _ (fun _ => rfl)
theorem rhL_congr {off : Fin 3 → Nat} {s : Fin 8} (e : off = hOff 0 s) (hh hs) :
    (ringM.slice (Rect.unit (s := S8x6144x512) off S1x6144x256.size hh) hs).squeeze S6144x256 squeezes_S1x6144x256_S6144x256 = rhL s :=
  congrArg (fun M : Memref sig .tc .vmem S1x6144x256 .fp8e4m3 => M.squeeze S6144x256 squeezes_S1x6144x256_S6144x256) (Memref.slice_unit_congr _ e _ _ _ (fun _ => rfl))
theorem phL_congr {off : Fin 3 → Nat} {s : Fin 4} (e : off = gOff 0 s) (hh hs) :
    (stM.slice (Rect.unit (s := S4x112x512) off S1x112x256.size hh) hs).squeeze S112x256 squeezes_S1x112x256_S112x256 = phL s :=
  congrArg (fun M : Memref sig .tc .vmem S1x112x256 .bf16 => M.squeeze S112x256 squeezes_S1x112x256_S112x256) (Memref.slice_unit_congr _ e _ _ _ (fun _ => rfl))
theorem rhU_congr {off : Fin 3 → Nat} {s : Fin 8} (e : off = hOff 256 s) (hh hs) :
    (ringM.slice (Rect.unit (s := S8x6144x512) off S1x6144x256.size hh) hs).squeeze S6144x256 squeezes_S1x6144x256_S6144x256 = rhU s :=
  congrArg (fun M : Memref sig .tc .vmem S1x6144x256 .fp8e4m3 => M.squeeze S6144x256 squeezes_S1x6144x256_S6144x256) (Memref.slice_unit_congr _ e _ _ _ (fun _ => rfl))
theorem phU_congr {off : Fin 3 → Nat} {s : Fin 4} (e : off = gOff 256 s) (hh hs) :
    (stM.slice (Rect.unit (s := S4x112x512) off S1x112x256.size hh) hs).squeeze S112x256 squeezes_S1x112x256_S112x256 = phU s :=
  congrArg (fun M : Memref sig .tc .vmem S1x112x256 .bf16 => M.squeeze S112x256 squeezes_S1x112x256_S112x256) (Memref.slice_unit_congr _ e _ _ _ (fun _ => rfl))

/-! ## The prologue: items 0 … 6, the small inputs -/

theorem cond1 : k0_cond1 = 1#1 := by decide +kernel
@[sl_canon] theorem rsemP0 (hh) : (cc0_scratch7.slice (Rect.unit (s := S8) k0_off1 S1.size hh)).squeeze S_ squeezes_S1_S_ = rsem 0 := rsem_congr (by decide +kernel) _
@[sl_canon] theorem rhLP0 (hh hs) : (ringM.slice (Rect.unit (s := S8x6144x512) k0_off2 S1x6144x256.size hh) hs).squeeze S6144x256 squeezes_S1x6144x256_S6144x256 = rhL 0 := rhL_congr (by decide +kernel) _ _
@[sl_canon] theorem rhUP0 (hh hs) : (ringM.slice (Rect.unit (s := S8x6144x512) k0_off4 S1x6144x256.size hh) hs).squeeze S6144x256 squeezes_S1x6144x256_S6144x256 = rhU 0 := rhU_congr (by decide +kernel) _ _
@[sl_canon] theorem wbLP0 (hh hs) : wM.slice (Rect.unit (s := S6144x55552) (k0_off3 6400#32) S6144x256.size hh) hs = wbL 0 := wbL_congr (by decide +kernel) _ _
@[sl_canon] theorem wbUP0 (hh hs) : wM.slice (Rect.unit (s := S6144x55552) (k0_off3 30976#32) S6144x256.size hh) hs = wbU 0 := wbU_congr (by decide +kernel) _ _
theorem cond2 : k0_cond2 = 1#1 := by decide +kernel
@[sl_canon] theorem rsemP1 (hh) : (cc0_scratch7.slice (Rect.unit (s := S8) k0_off5 S1.size hh)).squeeze S_ squeezes_S1_S_ = rsem 1 := rsem_congr (by decide +kernel) _
@[sl_canon] theorem rhLP1 (hh hs) : (ringM.slice (Rect.unit (s := S8x6144x512) k0_off6 S1x6144x256.size hh) hs).squeeze S6144x256 squeezes_S1x6144x256_S6144x256 = rhL 1 := rhL_congr (by decide +kernel) _ _
@[sl_canon] theorem rhUP1 (hh hs) : (ringM.slice (Rect.unit (s := S8x6144x512) k0_off8 S1x6144x256.size hh) hs).squeeze S6144x256 squeezes_S1x6144x256_S6144x256 = rhU 1 := rhU_congr (by decide +kernel) _ _
@[sl_canon] theorem wbLP1 (hh hs) : wM.slice (Rect.unit (s := S6144x55552) (k0_off7 6400#32) S6144x256.size hh) hs = wbL 1 := wbL_congr (by decide +kernel) _ _
@[sl_canon] theorem wbUP1 (hh hs) : wM.slice (Rect.unit (s := S6144x55552) (k0_off7 30976#32) S6144x256.size hh) hs = wbU 1 := wbU_congr (by decide +kernel) _ _
theorem cond3 : k0_cond3 = 1#1 := by decide +kernel
@[sl_canon] theorem rsemP2 (hh) : (cc0_scratch7.slice (Rect.unit (s := S8) k0_off9 S1.size hh)).squeeze S_ squeezes_S1_S_ = rsem 2 := rsem_congr (by decide +kernel) _
@[sl_canon] theorem rhLP2 (hh hs) : (ringM.slice (Rect.unit (s := S8x6144x512) k0_off10 S1x6144x256.size hh) hs).squeeze S6144x256 squeezes_S1x6144x256_S6144x256 = rhL 2 := rhL_congr (by decide +kernel) _ _
@[sl_canon] theorem rhUP2 (hh hs) : (ringM.slice (Rect.unit (s := S8x6144x512) k0_off12 S1x6144x256.size hh) hs).squeeze S6144x256 squeezes_S1x6144x256_S6144x256 = rhU 2 := rhU_congr (by decide +kernel) _ _
@[sl_canon] theorem wbLP2 (hh hs) : wM.slice (Rect.unit (s := S6144x55552) (k0_off11 6400#32) S6144x256.size hh) hs = wbL 2 := wbL_congr (by decide +kernel) _ _
@[sl_canon] theorem wbUP2 (hh hs) : wM.slice (Rect.unit (s := S6144x55552) (k0_off11 30976#32) S6144x256.size hh) hs = wbU 2 := wbU_congr (by decide +kernel) _ _
theorem cond4 : k0_cond4 = 1#1 := by decide +kernel
@[sl_canon] theorem rsemP3 (hh) : (cc0_scratch7.slice (Rect.unit (s := S8) k0_off13 S1.size hh)).squeeze S_ squeezes_S1_S_ = rsem 3 := rsem_congr (by decide +kernel) _
@[sl_canon] theorem rhLP3 (hh hs) : (ringM.slice (Rect.unit (s := S8x6144x512) k0_off14 S1x6144x256.size hh) hs).squeeze S6144x256 squeezes_S1x6144x256_S6144x256 = rhL 3 := rhL_congr (by decide +kernel) _ _
@[sl_canon] theorem rhUP3 (hh hs) : (ringM.slice (Rect.unit (s := S8x6144x512) k0_off16 S1x6144x256.size hh) hs).squeeze S6144x256 squeezes_S1x6144x256_S6144x256 = rhU 3 := rhU_congr (by decide +kernel) _ _
@[sl_canon] theorem wbLP3 (hh hs) : wM.slice (Rect.unit (s := S6144x55552) (k0_off15 6400#32) S6144x256.size hh) hs = wbL 3 := wbL_congr (by decide +kernel) _ _
@[sl_canon] theorem wbUP3 (hh hs) : wM.slice (Rect.unit (s := S6144x55552) (k0_off15 30976#32) S6144x256.size hh) hs = wbU 3 := wbU_congr (by decide +kernel) _ _
theorem cond5 : k0_cond5 = 1#1 := by decide +kernel
@[sl_canon] theorem rsemP4 (hh) : (cc0_scratch7.slice (Rect.unit (s := S8) k0_off17 S1.size hh)).squeeze S_ squeezes_S1_S_ = rsem 4 := rsem_congr (by decide +kernel) _
@[sl_canon] theorem rhLP4 (hh hs) : (ringM.slice (Rect.unit (s := S8x6144x512) k0_off18 S1x6144x256.size hh) hs).squeeze S6144x256 squeezes_S1x6144x256_S6144x256 = rhL 4 := rhL_congr (by decide +kernel) _ _
@[sl_canon] theorem rhUP4 (hh hs) : (ringM.slice (Rect.unit (s := S8x6144x512) k0_off20 S1x6144x256.size hh) hs).squeeze S6144x256 squeezes_S1x6144x256_S6144x256 = rhU 4 := rhU_congr (by decide +kernel) _ _
@[sl_canon] theorem wbLP4 (hh hs) : wM.slice (Rect.unit (s := S6144x55552) (k0_off19 6400#32) S6144x256.size hh) hs = wbL 4 := wbL_congr (by decide +kernel) _ _
@[sl_canon] theorem wbUP4 (hh hs) : wM.slice (Rect.unit (s := S6144x55552) (k0_off19 30976#32) S6144x256.size hh) hs = wbU 4 := wbU_congr (by decide +kernel) _ _
theorem cond6 : k0_cond6 = 1#1 := by decide +kernel
@[sl_canon] theorem rsemP5 (hh) : (cc0_scratch7.slice (Rect.unit (s := S8) k0_off21 S1.size hh)).squeeze S_ squeezes_S1_S_ = rsem 5 := rsem_congr (by decide +kernel) _
@[sl_canon] theorem rhLP5 (hh hs) : (ringM.slice (Rect.unit (s := S8x6144x512) k0_off22 S1x6144x256.size hh) hs).squeeze S6144x256 squeezes_S1x6144x256_S6144x256 = rhL 5 := rhL_congr (by decide +kernel) _ _
@[sl_canon] theorem rhUP5 (hh hs) : (ringM.slice (Rect.unit (s := S8x6144x512) k0_off24 S1x6144x256.size hh) hs).squeeze S6144x256 squeezes_S1x6144x256_S6144x256 = rhU 5 := rhU_congr (by decide +kernel) _ _
@[sl_canon] theorem wbLP5 (hh hs) : wM.slice (Rect.unit (s := S6144x55552) (k0_off23 6400#32) S6144x256.size hh) hs = wbL 5 := wbL_congr (by decide +kernel) _ _
@[sl_canon] theorem wbUP5 (hh hs) : wM.slice (Rect.unit (s := S6144x55552) (k0_off23 30976#32) S6144x256.size hh) hs = wbU 5 := wbU_congr (by decide +kernel) _ _
theorem cond7 : k0_cond7 = 1#1 := by decide +kernel
@[sl_canon] theorem rsemP6 (hh) : (cc0_scratch7.slice (Rect.unit (s := S8) k0_off25 S1.size hh)).squeeze S_ squeezes_S1_S_ = rsem 6 := rsem_congr (by decide +kernel) _
@[sl_canon] theorem rhLP6 (hh hs) : (ringM.slice (Rect.unit (s := S8x6144x512) k0_off26 S1x6144x256.size hh) hs).squeeze S6144x256 squeezes_S1x6144x256_S6144x256 = rhL 6 := rhL_congr (by decide +kernel) _ _
@[sl_canon] theorem rhUP6 (hh hs) : (ringM.slice (Rect.unit (s := S8x6144x512) k0_off28 S1x6144x256.size hh) hs).squeeze S6144x256 squeezes_S1x6144x256_S6144x256 = rhU 6 := rhU_congr (by decide +kernel) _ _
@[sl_canon] theorem wbLP6 (hh hs) : wM.slice (Rect.unit (s := S6144x55552) (k0_off27 6400#32) S6144x256.size hh) hs = wbL 6 := wbL_congr (by decide +kernel) _ _
@[sl_canon] theorem wbUP6 (hh hs) : wM.slice (Rect.unit (s := S6144x55552) (k0_off27 30976#32) S6144x256.size hh) hs = wbU 6 := wbU_congr (by decide +kernel) _ _
@[sl_canon] theorem isemP0 (hh) : (cc0_scratch8.slice (Rect.unit (s := S3) ![0] S1.size hh)).squeeze S_ squeezes_S1_S_ = isem 0 := isem_congr (by decide +kernel) _
@[sl_canon] theorem isemP1 (hh) : (cc0_scratch8.slice (Rect.unit (s := S3) ![1] S1.size hh)).squeeze S_ squeezes_S1_S_ = isem 1 := isem_congr (by decide +kernel) _
@[sl_canon] theorem isemP2 (hh) : (cc0_scratch8.slice (Rect.unit (s := S3) ![2] S1.size hh)).squeeze S_ squeezes_S1_S_ = isem 2 := isem_congr (by decide +kernel) _

/-! ## Trip `k`: item `k + 7` issued, item `k` waited -/

theorem cond8_iff : ∀ k : Fin k0_t1_loop.trips, k0_cond8 k = 1#1 ↔ k.val + 7 < 96 := by decide +kernel
theorem cond9_iff : ∀ k : Fin k0_t1_loop.trips, k0_cond9 k = 1#1 ↔ 1 ≤ k.val := by decide +kernel
theorem cond10_iff : ∀ k : Fin k0_t1_loop.trips, k0_cond10 k = 1#1 ↔ 4 ≤ k.val := by decide +kernel
theorem trips_eq : k0_t1_loop.trips = 96 := by decide +kernel
theorem trip_lt (k : Fin k0_t1_loop.trips) : k.val < 96 := lt_of_lt_of_eq k.isLt trips_eq

theorem off29_eq : ∀ k : Fin k0_t1_loop.trips, k.val + 7 < 96 → k0_off29 k = semOff (Ring.sl 8 (k.val + 7)) := by decide +kernel
theorem off30_eq : ∀ k : Fin k0_t1_loop.trips, k.val + 7 < 96 → k0_off30 k = hOff 0 (Ring.sl 8 (k.val + 7)) := by decide +kernel
theorem off32_eq : ∀ k : Fin k0_t1_loop.trips, k.val + 7 < 96 → k0_off32 k = hOff 256 (Ring.sl 8 (k.val + 7)) := by decide +kernel
theorem off31_eqL : ∀ k : Fin k0_t1_loop.trips, k.val + 7 < 96 → k0_off31 k 6400#32 = wOff 6400 (Ring.bk 96 (k.val + 7)) := by decide +kernel
theorem off31_eqU : ∀ k : Fin k0_t1_loop.trips, k.val + 7 < 96 → k0_off31 k 30976#32 = wOff 30976 (Ring.bk 96 (k.val + 7)) := by decide +kernel
@[sl_canon] theorem rsemI (k : Fin k0_t1_loop.trips) (hk : k.val + 7 < 96) (hh) : (cc0_scratch7.slice (Rect.unit (s := S8) (k0_off29 k) S1.size hh)).squeeze S_ squeezes_S1_S_ = rsem (Ring.sl 8 (k.val + 7)) := rsem_congr (off29_eq k hk) _
@[sl_canon] theorem rhLI (k : Fin k0_t1_loop.trips) (hk : k.val + 7 < 96) (hh hs) : (ringM.slice (Rect.unit (s := S8x6144x512) (k0_off30 k) S1x6144x256.size hh) hs).squeeze S6144x256 squeezes_S1x6144x256_S6144x256 = rhL (Ring.sl 8 (k.val + 7)) := rhL_congr (off30_eq k hk) _ _
@[sl_canon] theorem rhUI (k : Fin k0_t1_loop.trips) (hk : k.val + 7 < 96) (hh hs) : (ringM.slice (Rect.unit (s := S8x6144x512) (k0_off32 k) S1x6144x256.size hh) hs).squeeze S6144x256 squeezes_S1x6144x256_S6144x256 = rhU (Ring.sl 8 (k.val + 7)) := rhU_congr (off32_eq k hk) _ _
@[sl_canon] theorem wbLI (k : Fin k0_t1_loop.trips) (hk : k.val + 7 < 96) (hh hs) : wM.slice (Rect.unit (s := S6144x55552) (k0_off31 k 6400#32) S6144x256.size hh) hs = wbL (Ring.bk 96 (k.val + 7)) := wbL_congr (off31_eqL k hk) _ _
@[sl_canon] theorem wbUI (k : Fin k0_t1_loop.trips) (hk : k.val + 7 < 96) (hh hs) : wM.slice (Rect.unit (s := S6144x55552) (k0_off31 k 30976#32) S6144x256.size hh) hs = wbU (Ring.bk 96 (k.val + 7)) := wbU_congr (off31_eqU k hk) _ _
theorem off43_eq : ∀ k : Fin k0_t1_loop.trips, k0_off43 k = semOff (Ring.sl 8 k.val) := by decide +kernel
theorem off44_eq : ∀ k : Fin k0_t1_loop.trips, k0_off44 k = hOff 0 (Ring.sl 8 k.val) := by decide +kernel
theorem off46_eq : ∀ k : Fin k0_t1_loop.trips, k0_off46 k = hOff 256 (Ring.sl 8 k.val) := by decide +kernel
theorem off45_eqL : ∀ k : Fin k0_t1_loop.trips, k0_off45 k 6400#32 = wOff 6400 (Ring.bk 96 k.val) := by decide +kernel
theorem off45_eqU : ∀ k : Fin k0_t1_loop.trips, k0_off45 k 30976#32 = wOff 30976 (Ring.bk 96 k.val) := by decide +kernel
theorem off47_eq : ∀ k : Fin k0_t1_loop.trips, k0_off47 k = slotOff (Ring.sl 8 k.val) := by decide +kernel
@[sl_canon] theorem rsemW (k : Fin k0_t1_loop.trips) (hh) : (cc0_scratch7.slice (Rect.unit (s := S8) (k0_off43 k) S1.size hh)).squeeze S_ squeezes_S1_S_ = rsem (Ring.sl 8 k.val) := rsem_congr (off43_eq k) _
@[sl_canon] theorem rhLW (k : Fin k0_t1_loop.trips) (hh hs) : (ringM.slice (Rect.unit (s := S8x6144x512) (k0_off44 k) S1x6144x256.size hh) hs).squeeze S6144x256 squeezes_S1x6144x256_S6144x256 = rhL (Ring.sl 8 k.val) := rhL_congr (off44_eq k) _ _
@[sl_canon] theorem rhUW (k : Fin k0_t1_loop.trips) (hh hs) : (ringM.slice (Rect.unit (s := S8x6144x512) (k0_off46 k) S1x6144x256.size hh) hs).squeeze S6144x256 squeezes_S1x6144x256_S6144x256 = rhU (Ring.sl 8 k.val) := rhU_congr (off46_eq k) _ _
@[sl_canon] theorem wbLW (k : Fin k0_t1_loop.trips) (hh hs) : wM.slice (Rect.unit (s := S6144x55552) (k0_off45 k 6400#32) S6144x256.size hh) hs = wbL (Ring.bk 96 k.val) := wbL_congr (off45_eqL k) _ _
@[sl_canon] theorem wbUW (k : Fin k0_t1_loop.trips) (hh hs) : wM.slice (Rect.unit (s := S6144x55552) (k0_off45 k 30976#32) S6144x256.size hh) hs = wbU (Ring.bk 96 k.val) := wbU_congr (off45_eqU k) _ _
instance (k : Fin k0_t1_loop.trips) : ClosedOff (k0_off47 k) := ⟨slotOff (Ring.sl 8 k.val), off47_eq k⟩

/-! ## Trip `k`: the result's blocks `k - 1` (issued) and `k - 4` (waited), the staging slot -/

theorem off33_eq : ∀ k : Fin k0_t1_loop.trips, 1 ≤ k.val → k0_off33 k = qemOff (Ring.sl 4 (k.val - 1)) := by decide +kernel
theorem off34_eq : ∀ k : Fin k0_t1_loop.trips, 1 ≤ k.val → k0_off34 k = pOff 0 (Ring.bk 96 (k.val - 1)) := by decide +kernel
theorem off35_eq : ∀ k : Fin k0_t1_loop.trips, 1 ≤ k.val → k0_off35 k = gOff 0 (Ring.sl 4 (k.val - 1)) := by decide +kernel
theorem off36_eq : ∀ k : Fin k0_t1_loop.trips, 1 ≤ k.val → k0_off36 k = pOff 24576 (Ring.bk 96 (k.val - 1)) := by decide +kernel
theorem off37_eq : ∀ k : Fin k0_t1_loop.trips, 1 ≤ k.val → k0_off37 k = gOff 256 (Ring.sl 4 (k.val - 1)) := by decide +kernel
@[sl_canon] theorem psemT1 (k : Fin k0_t1_loop.trips) (hk : 1 ≤ k.val) (hh) : (cc0_scratch9.slice (Rect.unit (s := S4) (k0_off33 k) S1.size hh)).squeeze S_ squeezes_S1_S_ = psem (Ring.sl 4 (k.val - 1)) := psem_congr (off33_eq k hk) _
@[sl_canon] theorem pbLT1 (k : Fin k0_t1_loop.trips) (hk : 1 ≤ k.val) (hh hs) : pM.slice (Rect.unit (s := S112x49152) (k0_off34 k) S112x256.size hh) hs = pbL (Ring.bk 96 (k.val - 1)) := pbL_congr (off34_eq k hk) _ _
@[sl_canon] theorem phLT1 (k : Fin k0_t1_loop.trips) (hk : 1 ≤ k.val) (hh hs) : (stM.slice (Rect.unit (s := S4x112x512) (k0_off35 k) S1x112x256.size hh) hs).squeeze S112x256 squeezes_S1x112x256_S112x256 = phL (Ring.sl 4 (k.val - 1)) := phL_congr (off35_eq k hk) _ _
@[sl_canon] theorem pbUT1 (k : Fin k0_t1_loop.trips) (hk : 1 ≤ k.val) (hh hs) : pM.slice (Rect.unit (s := S112x49152) (k0_off36 k) S112x256.size hh) hs = pbU (Ring.bk 96 (k.val - 1)) := pbU_congr (off36_eq k hk) _ _
@[sl_canon] theorem phUT1 (k : Fin k0_t1_loop.trips) (hk : 1 ≤ k.val) (hh hs) : (stM.slice (Rect.unit (s := S4x112x512) (k0_off37 k) S1x112x256.size hh) hs).squeeze S112x256 squeezes_S1x112x256_S112x256 = phU (Ring.sl 4 (k.val - 1)) := phU_congr (off37_eq k hk) _ _
theorem off38_eq : ∀ k : Fin k0_t1_loop.trips, 4 ≤ k.val → k0_off38 k = qemOff (Ring.sl 4 k.val) := by decide +kernel
theorem off39_eq : ∀ k : Fin k0_t1_loop.trips, 4 ≤ k.val → k0_off39 k = pOff 0 (Ring.bk 96 (k.val - 4)) := by decide +kernel
theorem off40_eq : ∀ k : Fin k0_t1_loop.trips, 4 ≤ k.val → k0_off40 k = gOff 0 (Ring.sl 4 k.val) := by decide +kernel
theorem off41_eq : ∀ k : Fin k0_t1_loop.trips, 4 ≤ k.val → k0_off41 k = pOff 24576 (Ring.bk 96 (k.val - 4)) := by decide +kernel
theorem off42_eq : ∀ k : Fin k0_t1_loop.trips, 4 ≤ k.val → k0_off42 k = gOff 256 (Ring.sl 4 k.val) := by decide +kernel
@[sl_canon] theorem psemT4 (k : Fin k0_t1_loop.trips) (hk : 4 ≤ k.val) (hh) : (cc0_scratch9.slice (Rect.unit (s := S4) (k0_off38 k) S1.size hh)).squeeze S_ squeezes_S1_S_ = psem (Ring.sl 4 k.val) := psem_congr (off38_eq k hk) _
@[sl_canon] theorem pbLT4 (k : Fin k0_t1_loop.trips) (hk : 4 ≤ k.val) (hh hs) : pM.slice (Rect.unit (s := S112x49152) (k0_off39 k) S112x256.size hh) hs = pbL (Ring.bk 96 (k.val - 4)) := pbL_congr (off39_eq k hk) _ _
@[sl_canon] theorem phLT4 (k : Fin k0_t1_loop.trips) (hk : 4 ≤ k.val) (hh hs) : (stM.slice (Rect.unit (s := S4x112x512) (k0_off40 k) S1x112x256.size hh) hs).squeeze S112x256 squeezes_S1x112x256_S112x256 = phL (Ring.sl 4 k.val) := phL_congr (off40_eq k hk) _ _
@[sl_canon] theorem pbUT4 (k : Fin k0_t1_loop.trips) (hk : 4 ≤ k.val) (hh hs) : pM.slice (Rect.unit (s := S112x49152) (k0_off41 k) S112x256.size hh) hs = pbU (Ring.bk 96 (k.val - 4)) := pbU_congr (off41_eq k hk) _ _
@[sl_canon] theorem phUT4 (k : Fin k0_t1_loop.trips) (hk : 4 ≤ k.val) (hh hs) : (stM.slice (Rect.unit (s := S4x112x512) (k0_off42 k) S1x112x256.size hh) hs).squeeze S112x256 squeezes_S1x112x256_S112x256 = phU (Ring.sl 4 k.val) := phU_congr (off42_eq k hk) _ _

/-- The four column tiles of staging slot `s`; the columns' scales of item `k`'s tiles. -/
abbrev tileOff (s : Fin 4) (r : Nat) : Fin 3 → Nat := ![s.val, 0, 128 * r]
instance (s : Fin 4) (r : Nat) : ClosedOff (tileOff s r) := ⟨tileOff s r, rfl⟩
abbrev vOff (n k : Nat) : Fin 2 → Nat := ![0, n + 256 * k]

theorem off49_eq : ∀ k : Fin k0_t1_loop.trips, k0_off49 k = tileOff (Ring.sl 4 k.val) 0 := by decide +kernel
instance (k : Fin k0_t1_loop.trips) : ClosedOff (k0_off49 k) := ⟨tileOff (Ring.sl 4 k.val) 0, off49_eq k⟩
theorem off48_eq0 : ∀ k : Fin k0_t1_loop.trips, k0_off48 k 1#1 0#32 = vOff 6400 k.val := by decide +kernel
instance (k : Fin k0_t1_loop.trips) : ClosedOff (k0_off48 k 1#1 0#32) := ⟨vOff 6400 k.val, off48_eq0 k⟩
theorem off50_eq : ∀ k : Fin k0_t1_loop.trips, k0_off50 k = tileOff (Ring.sl 4 k.val) 1 := by decide +kernel
instance (k : Fin k0_t1_loop.trips) : ClosedOff (k0_off50 k) := ⟨tileOff (Ring.sl 4 k.val) 1, off50_eq k⟩
theorem off48_eq1 : ∀ k : Fin k0_t1_loop.trips, k0_off48 k 1#1 128#32 = vOff 6528 k.val := by decide +kernel
instance (k : Fin k0_t1_loop.trips) : ClosedOff (k0_off48 k 1#1 128#32) := ⟨vOff 6528 k.val, off48_eq1 k⟩
theorem off51_eq : ∀ k : Fin k0_t1_loop.trips, k0_off51 k = tileOff (Ring.sl 4 k.val) 2 := by decide +kernel
instance (k : Fin k0_t1_loop.trips) : ClosedOff (k0_off51 k) := ⟨tileOff (Ring.sl 4 k.val) 2, off51_eq k⟩
theorem off48_eq2 : ∀ k : Fin k0_t1_loop.trips, k0_off48 k 0#1 256#32 = vOff 30976 k.val := by decide +kernel
instance (k : Fin k0_t1_loop.trips) : ClosedOff (k0_off48 k 0#1 256#32) := ⟨vOff 30976 k.val, off48_eq2 k⟩
theorem off52_eq : ∀ k : Fin k0_t1_loop.trips, k0_off52 k = tileOff (Ring.sl 4 k.val) 3 := by decide +kernel
instance (k : Fin k0_t1_loop.trips) : ClosedOff (k0_off52 k) := ⟨tileOff (Ring.sl 4 k.val) 3, off52_eq k⟩
theorem off48_eq3 : ∀ k : Fin k0_t1_loop.trips, k0_off48 k 0#1 384#32 = vOff 31104 k.val := by decide +kernel
instance (k : Fin k0_t1_loop.trips) : ClosedOff (k0_off48 k 0#1 384#32) := ⟨vOff 31104 k.val, off48_eq3 k⟩

/-! ## After the loop: block 95 issued, blocks 92 … 95 waited -/

@[sl_canon] theorem psemE92 (hh) : (cc0_scratch9.slice (Rect.unit (s := S4) (k0_off53 92#32) S1.size hh)).squeeze S_ squeezes_S1_S_ = psem 0 := psem_congr (by decide +kernel) _
@[sl_canon] theorem pbLE92 (hh hs) : pM.slice (Rect.unit (s := S112x49152) (k0_off54 92#32) S112x256.size hh) hs = pbL 92 := pbL_congr (by decide +kernel) _ _
@[sl_canon] theorem phLE92 (hh hs) : (stM.slice (Rect.unit (s := S4x112x512) (k0_off55 92#32) S1x112x256.size hh) hs).squeeze S112x256 squeezes_S1x112x256_S112x256 = phL 0 := phL_congr (by decide +kernel) _ _
@[sl_canon] theorem pbUE92 (hh hs) : pM.slice (Rect.unit (s := S112x49152) (k0_off56 92#32) S112x256.size hh) hs = pbU 92 := pbU_congr (by decide +kernel) _ _
@[sl_canon] theorem phUE92 (hh hs) : (stM.slice (Rect.unit (s := S4x112x512) (k0_off57 92#32) S1x112x256.size hh) hs).squeeze S112x256 squeezes_S1x112x256_S112x256 = phU 0 := phU_congr (by decide +kernel) _ _
@[sl_canon] theorem psemE93 (hh) : (cc0_scratch9.slice (Rect.unit (s := S4) (k0_off53 93#32) S1.size hh)).squeeze S_ squeezes_S1_S_ = psem 1 := psem_congr (by decide +kernel) _
@[sl_canon] theorem pbLE93 (hh hs) : pM.slice (Rect.unit (s := S112x49152) (k0_off54 93#32) S112x256.size hh) hs = pbL 93 := pbL_congr (by decide +kernel) _ _
@[sl_canon] theorem phLE93 (hh hs) : (stM.slice (Rect.unit (s := S4x112x512) (k0_off55 93#32) S1x112x256.size hh) hs).squeeze S112x256 squeezes_S1x112x256_S112x256 = phL 1 := phL_congr (by decide +kernel) _ _
@[sl_canon] theorem pbUE93 (hh hs) : pM.slice (Rect.unit (s := S112x49152) (k0_off56 93#32) S112x256.size hh) hs = pbU 93 := pbU_congr (by decide +kernel) _ _
@[sl_canon] theorem phUE93 (hh hs) : (stM.slice (Rect.unit (s := S4x112x512) (k0_off57 93#32) S1x112x256.size hh) hs).squeeze S112x256 squeezes_S1x112x256_S112x256 = phU 1 := phU_congr (by decide +kernel) _ _
@[sl_canon] theorem psemE94 (hh) : (cc0_scratch9.slice (Rect.unit (s := S4) (k0_off53 94#32) S1.size hh)).squeeze S_ squeezes_S1_S_ = psem 2 := psem_congr (by decide +kernel) _
@[sl_canon] theorem pbLE94 (hh hs) : pM.slice (Rect.unit (s := S112x49152) (k0_off54 94#32) S112x256.size hh) hs = pbL 94 := pbL_congr (by decide +kernel) _ _
@[sl_canon] theorem phLE94 (hh hs) : (stM.slice (Rect.unit (s := S4x112x512) (k0_off55 94#32) S1x112x256.size hh) hs).squeeze S112x256 squeezes_S1x112x256_S112x256 = phL 2 := phL_congr (by decide +kernel) _ _
@[sl_canon] theorem pbUE94 (hh hs) : pM.slice (Rect.unit (s := S112x49152) (k0_off56 94#32) S112x256.size hh) hs = pbU 94 := pbU_congr (by decide +kernel) _ _
@[sl_canon] theorem phUE94 (hh hs) : (stM.slice (Rect.unit (s := S4x112x512) (k0_off57 94#32) S1x112x256.size hh) hs).squeeze S112x256 squeezes_S1x112x256_S112x256 = phU 2 := phU_congr (by decide +kernel) _ _
@[sl_canon] theorem psemE95 (hh) : (cc0_scratch9.slice (Rect.unit (s := S4) (k0_off53 95#32) S1.size hh)).squeeze S_ squeezes_S1_S_ = psem 3 := psem_congr (by decide +kernel) _
@[sl_canon] theorem pbLE95 (hh hs) : pM.slice (Rect.unit (s := S112x49152) (k0_off54 95#32) S112x256.size hh) hs = pbL 95 := pbL_congr (by decide +kernel) _ _
@[sl_canon] theorem phLE95 (hh hs) : (stM.slice (Rect.unit (s := S4x112x512) (k0_off55 95#32) S1x112x256.size hh) hs).squeeze S112x256 squeezes_S1x112x256_S112x256 = phL 3 := phL_congr (by decide +kernel) _ _
@[sl_canon] theorem pbUE95 (hh hs) : pM.slice (Rect.unit (s := S112x49152) (k0_off56 95#32) S112x256.size hh) hs = pbU 95 := pbU_congr (by decide +kernel) _ _
@[sl_canon] theorem phUE95 (hh hs) : (stM.slice (Rect.unit (s := S4x112x512) (k0_off57 95#32) S1x112x256.size hh) hs).squeeze S112x256 squeezes_S1x112x256_S112x256 = phU 3 := phU_congr (by decide +kernel) _ _

end Cert.Proof.QI
-- ==== Proof.QI.Pieces.lean ====
module

public import proofs.«01_k».proof.Proof.QI.Names

/-! # What the loop holds

A block of the weights at home, the halves of a ring slot, a slot in flight; the same for the result's blocks. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's tokens beside the copies' counters. -/
abbrev UU := UR sig nD τ × Counters
local notation "𝕄" => MT nD τ sig Unit (Elt F) ℕ UU ℕ

abbrev 𝒱₀ : Variants := Variants.none

/-! ## Items of the weights -/

section Items
variable (c : Dev nD) (XW : Buf (Elt F) (wM.view.loc (c : Thread nD τ)))

abbrev rcell (s : Fin 8) : sProp 𝕄 := semVal ((c : Thread nD τ), SemLoc.dma (rsem s).sem) 0
abbrev rheldL (s : Fin 8) (f : Buf (Elt F) ((rhL s).view.loc (c : Thread nD τ))) : sProp 𝕄 :=
  (rhL s).view.loc (c : Thread nD τ) ↦[(rhL s).view.set]{fullShare} f
abbrev whomeL (t : Fin 96) : sProp 𝕄 := (wbL t).view.loc (c : Thread nD τ) ↦[(wbL t).view.set]{fullShare} XW
/-- The item's block as the words its copy moves. -/
abbrev wloadL (t : Fin 96) : S6144x256.Idx → Elt F .fp8e4m3 := ReadAs.same.apply ((wbL t).view.read (Elt F) XW)
/-- The half slot after the item's block landed. -/
abbrev rlandL (s : Fin 8) (t : Fin 96) : Buf (Elt F) ((rhL s).view.loc (c : Thread nD τ)) :=
  (rhL s).view.writes (Elt F) (rhL s).view.junk [⟨Rect.whole S6144x256, wloadL c XW t⟩]
abbrev rheldU (s : Fin 8) (f : Buf (Elt F) ((rhU s).view.loc (c : Thread nD τ))) : sProp 𝕄 :=
  (rhU s).view.loc (c : Thread nD τ) ↦[(rhU s).view.set]{fullShare} f
abbrev whomeU (t : Fin 96) : sProp 𝕄 := (wbU t).view.loc (c : Thread nD τ) ↦[(wbU t).view.set]{fullShare} XW
/-- The item's block as the words its copy moves. -/
abbrev wloadU (t : Fin 96) : S6144x256.Idx → Elt F .fp8e4m3 := ReadAs.same.apply ((wbU t).view.read (Elt F) XW)
/-- The half slot after the item's block landed. -/
abbrev rlandU (s : Fin 8) (t : Fin 96) : Buf (Elt F) ((rhU s).view.loc (c : Thread nD τ)) :=
  (rhU s).view.writes (Elt F) (rhU s).view.junk [⟨Rect.whole S6144x256, wloadU c XW t⟩]
omit [FloatOps F] in
theorem entails_of_eq {P Q : sProp 𝕄} (e : P = Q) : P ⊢ Q := e ▸ .rfl

theorem storable_pts (ℓ : Loc nD τ sig) (S : Finset (Idx ℓ)) (f : Buf (Elt F) ℓ) :
    Storable (upEmb : UEmb _ 𝕄) (ℓ ↦[S]{fullShare} f : sProp 𝕄) := inferInstance
theorem storable_pair {P Q : sProp 𝕄} (hP : Storable (upEmb : UEmb _ 𝕄) P) (hQ : Storable (upEmb : UEmb _ 𝕄) Q) :
    Storable (upEmb : UEmb _ 𝕄) (iprop(P ∗ Q)) := inferInstance

abbrev NW : ℕ := 49152
/-- What the two copies of item `t` into slot `s` deliver. -/
def rD (s : Fin 8) (t : Fin 96) : Fin 2 → sProp 𝕄
  | ⟨0, _⟩ => iprop(rheldL c s (rlandL c XW s t) ∗ whomeL c XW t)
  | ⟨1, _⟩ => iprop(rheldU c s (rlandU c XW s t) ∗ whomeU c XW t)
instance rD_storable (s : Fin 8) (t : Fin 96) : ∀ i : Fin 2, Storable (upEmb : UEmb _ 𝕄) (rD c XW s t i)
  | ⟨0, _⟩ => storable_pair (storable_pts _ _ _) (storable_pts _ _ _)
  | ⟨1, _⟩ => storable_pair (storable_pts _ _ _) (storable_pts _ _ _)
/-- Slot `s`'s semaphore with `j` of item `t`'s two copies issued. -/
abbrev rbatch (s : Fin 8) (t : Fin 96) (j : ℕ) : sProp 𝕄 :=
  Transfers.Batch countersEmb (c : Thread nD τ) (SemLoc.dma (rsem s).sem) () NW (rD c XW s t) j 0
/-- Slot `s` in flight with item `t`; -/
abbrev rinflAt (s : Fin 8) (t : Fin 96) : sProp 𝕄 := rbatch c XW s t 2
/-- slot `s` free. -/
abbrev rfreeAt (s : Fin 8) : sProp 𝕄 := iprop(rcell c s ∗ (∃ f, rheldL (F := F) c s f) ∗ ∃ f, rheldU (F := F) c s f)
/-- Item `t` at home. -/
abbrev whome (t : Fin 96) : sProp 𝕄 := iprop(whomeL c XW t ∗ whomeU c XW t)
/-- The items at home when the `L` items from `p` on are in flight. -/
abbrev whomes (L p : ℕ) : sProp 𝕄 := bigSep (Ring.homeSet (NB := 96) L p) (whome c XW)

theorem whomes_out (L p : ℕ) (h : p + L < 96) : whomes c XW L p = iprop(whome c XW (Ring.bk 96 (p + L)) ∗ whomes c XW (L + 1) p) := by
  have e : Ring.homeSet (NB := 96) L p = insert (Ring.bk 96 (p + L)) (Ring.homeSet (L + 1) p) := by
    ext b; rw [Finset.mem_insert, Ring.mem_homeSet, Ring.mem_homeSet, Fin.ext_iff, Ring.bk_val h]; omega
  have hn : Ring.bk 96 (p + L) ∉ Ring.homeSet (NB := 96) (L + 1) p := by
    rw [Ring.mem_homeSet, Ring.bk_val h]; omega
  unfold whomes
  rw [e, bigSep_insert hn]
  rfl
theorem whomes_back (L p : ℕ) (h : p < 96) : whomes c XW L (p + 1) = iprop(whome c XW (Ring.bk 96 p) ∗ whomes c XW (L + 1) p) := by
  have e : Ring.homeSet (NB := 96) L (p + 1) = insert (Ring.bk 96 p) (Ring.homeSet (L + 1) p) := by
    ext b; rw [Finset.mem_insert, Ring.mem_homeSet, Ring.mem_homeSet, Fin.ext_iff, Ring.bk_val h]; omega
  have hn : Ring.bk 96 p ∉ Ring.homeSet (NB := 96) (L + 1) p := by
    rw [Ring.mem_homeSet, Ring.bk_val h]; omega
  unfold whomes
  rw [e, bigSep_insert hn]
  rfl
theorem whomes_clip (L L' p : ℕ) (h : 96 ≤ p + L) (h' : 96 ≤ p + L') : whomes c XW L p = whomes c XW L' p := by
  have e : Ring.homeSet (NB := 96) L p = Ring.homeSet L' p := by
    ext b; rw [Ring.mem_homeSet, Ring.mem_homeSet]; have := b.isLt; omega
  unfold whomes
  rw [e]

/-! A slot is its two halves. -/

abbrev rheldS (s : Fin 8) (f : Buf (Elt F) ((rslot s).view.loc (c : Thread nD τ))) : sProp 𝕄 :=
  (rslot s).view.loc (c : Thread nD τ) ↦[(rslot s).view.set]{fullShare} f

abbrev HB (n : Nat) (h : n ≤ 256) (s : Fin 8) : Finset S8x6144x512.Idx := (Rect.unit (s := S8x6144x512) (hOff n s) S1x6144x256.size (hOff_inb n h s)).set
abbrev RB (s : Fin 8) : Finset S8x6144x512.Idx := (Rect.unit (s := S8x6144x512) (slotOff s) S1x6144x512.size (slotOff_inb s)).set
omit [FloatOps F] in
theorem RB_set (s : Fin 8) : (rslot s : Memref sig .tc .vmem _ _).view.set = RB s := View.set_slice_whole _ _
omit [FloatOps F] in
theorem HBL_set (s : Fin 8) : (rhL s : Memref sig .tc .vmem _ _).view.set = HB 0 (by omega) s := (View.set_reshape _ _).trans (View.set_slice_whole _ _)
omit [FloatOps F] in
theorem HBU_set (s : Fin 8) : (rhU s : Memref sig .tc .vmem _ _).view.set = HB 256 (by omega) s := (View.set_reshape _ _).trans (View.set_slice_whole _ _)
theorem mem_HB (n : Nat) (h : n ≤ 256) (s : Fin 8) (y : S8x6144x512.Idx) : y ∈ HB n h s ↔ (y 0).val = s.val ∧ n ≤ (y 2).val ∧ (y 2).val < n + 256 := by
  rw [Rect.mem_set_unit]
  have h1 : (y 1).val < 6144 := (y 1).isLt
  constructor
  · intro H
    have a0 : s.val ≤ (y 0).val ∧ (y 0).val < s.val + 1 := H 0
    have a2 : n ≤ (y 2).val ∧ (y 2).val < n + 256 := H 2
    omega
  · intro H i; fin_cases i
    · show s.val ≤ (y 0).val ∧ (y 0).val < s.val + 1; omega
    · show 0 ≤ (y 1).val ∧ (y 1).val < 0 + 6144; omega
    · show n ≤ (y 2).val ∧ (y 2).val < n + 256; omega
theorem mem_RB (b : Fin 8) (y : S8x6144x512.Idx) : y ∈ RB b ↔ (y 0).val = b.val := by
  rw [Rect.mem_set_unit]
  have h1 : (y 1).val < 6144 := (y 1).isLt
  have h2 : (y 2).val < 512 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 6144; omega
    · show 0 ≤ (y 2).val ∧ (y 2).val < 0 + 512; omega
theorem RB_halves (s : Fin 8) : RB s = HB 0 (by omega) s ∪ HB 256 (by omega) s := by
  ext y
  rw [Finset.mem_union, mem_RB, mem_HB, mem_HB]
  have h2 : (y 2).val < 512 := (y 2).isLt
  omega
theorem HB_disjoint (s : Fin 8) : Disjoint (HB 0 (by omega) s) (HB 256 (by omega) s) := by
  rw [Finset.disjoint_left]; intro y hy hy'; rw [mem_HB] at hy hy'; omega

/-- The two halves, each at its own contents, are the slot at contents that read as each does. -/
theorem slot_join (s : Fin 8) (fL : Buf (Elt F) ((rhL s).view.loc (c : Thread nD τ))) (fU : Buf (Elt F) ((rhU s).view.loc (c : Thread nD τ))) :
    iprop(rheldL c s fL ∗ rheldU c s fU) ⊢ (iprop(∃ g, rheldS c s g ∗ ⌜(rhL s).view.read (Elt F) g = (rhL s).view.read (Elt F) fL ∧ (rhU s).view.read (Elt F) g = (rhU s).view.read (Elt F) fU⌝) : sProp 𝕄) := by
  have hd : Disjoint (rhL s : Memref sig .tc .vmem _ _).view.set (rhU s : Memref sig .tc .vmem _ _).view.set := by rw [HBL_set, HBU_set]; exact HB_disjoint s
  iintro ⟨HL, HU⟩
  ihave H := (pointsTo_join (ℓ := (rslot s).view.loc (c : Thread nD τ)) (q := fullShare) (f := fL) (g := fU) hd) $$ [HL HU]
  · isplitl [HL]; · iexact HL
    iexact HU
  iexists ((rhU s : Memref sig .tc .vmem _ _).view.set.piecewise fU fL)
  isplitl [H]
  · iapply (entails_of_eq (congrArg (fun S => ((rslot s).view.loc (c : Thread nD τ) ↦[S]{fullShare} _ : sProp 𝕄))
      (show (rhL s : Memref sig .tc .vmem _ _).view.set ∪ (rhU s : Memref sig .tc .vmem _ _).view.set = (rslot s : Memref sig .tc .vmem _ _).view.set by rw [HBL_set, HBU_set, RB_set, RB_halves]; rfl))); iexact H
  ipureintro
  exact ⟨View.read_congr fun i hi => Finset.piecewise_eq_of_notMem _ _ _ (Finset.disjoint_left.mp hd hi),
    View.read_congr fun i hi => Finset.piecewise_eq_of_mem _ _ _ hi⟩
/-- The slot is its two halves. -/
theorem slot_split (s : Fin 8) (g : Buf (Elt F) ((rslot s).view.loc (c : Thread nD τ))) :
    rheldS c s g ⊢ (iprop(rheldL c s g ∗ rheldU c s g) : sProp 𝕄) := by
  have hd : Disjoint (rhL s : Memref sig .tc .vmem _ _).view.set (rhU s : Memref sig .tc .vmem _ _).view.set := by rw [HBL_set, HBU_set]; exact HB_disjoint s
  refine (entails_of_eq (congrArg (fun S => ((rslot s).view.loc (c : Thread nD τ) ↦[S]{fullShare} g : sProp 𝕄))
      (show (rslot s : Memref sig .tc .vmem _ _).view.set = (rhL s : Memref sig .tc .vmem _ _).view.set ∪ (rhU s : Memref sig .tc .vmem _ _).view.set by rw [HBL_set, HBU_set, RB_set, RB_halves]; rfl))).trans ?_
  exact (pointsTo_union hd).1
/-- What slot `s` reads as after item `t` landed. -/
def Landed (s : Fin 8) (t : Fin 96) (g : Buf (Elt F) ((rslot s).view.loc (c : Thread nD τ))) : Prop :=
  (rhL s).view.read (Elt F) g = wloadL c XW t ∧ (rhU s).view.read (Elt F) g = wloadU c XW t
theorem slot_landed (s : Fin 8) (t : Fin 96) :
    iprop(rheldL c s (rlandL c XW s t) ∗ rheldU c s (rlandU c XW s t)) ⊢ (iprop(∃ g, rheldS c s g ∗ ⌜Landed c XW s t g⌝) : sProp 𝕄) := by
  refine (slot_join c s _ _).trans ?_
  iintro ⟨%g, H, %h⟩
  iexists g
  isplitl [H]; · iexact H
  ipureintro
  exact ⟨h.1.trans (View.read_writes_whole _ _ _), h.2.trans (View.read_writes_whole _ _ _)⟩
end Items

/-! ## Blocks of the result -/

section Blocks
variable (c : Dev nD)

abbrev pcell (s : Fin 4) : sProp 𝕄 := semVal ((c : Thread nD τ), SemLoc.dma (psem s).sem) 0
abbrev pheldL (s : Fin 4) (f : Buf (Elt F) ((phL s).view.loc (c : Thread nD τ))) : sProp 𝕄 :=
  (phL s).view.loc (c : Thread nD τ) ↦[(phL s).view.set]{fullShare} f
abbrev phomeL (b : Fin 96) (g : Buf (Elt F) ((pbL b).view.loc (c : Thread nD τ))) : sProp 𝕄 :=
  (pbL b).view.loc (c : Thread nD τ) ↦[(pbL b).view.set]{fullShare} g
/-- The half of staging slot `s`, read as a block. -/
abbrev preadL (s : Fin 4) (f : Buf (Elt F) ((phL s).view.loc (c : Thread nD τ))) : S112x256.Idx → Elt F .bf16 := ReadAs.same.apply ((phL s).view.read (Elt F) f)
abbrev plandL (s : Fin 4) (b : Fin 96) (f : Buf (Elt F) ((phL s).view.loc (c : Thread nD τ))) : Buf (Elt F) ((pbL b).view.loc (c : Thread nD τ)) :=
  (pbL b).view.writes (Elt F) (pbL b).view.junk [⟨Rect.whole S112x256, preadL c s f⟩]
abbrev pheldU (s : Fin 4) (f : Buf (Elt F) ((phU s).view.loc (c : Thread nD τ))) : sProp 𝕄 :=
  (phU s).view.loc (c : Thread nD τ) ↦[(phU s).view.set]{fullShare} f
abbrev phomeU (b : Fin 96) (g : Buf (Elt F) ((pbU b).view.loc (c : Thread nD τ))) : sProp 𝕄 :=
  (pbU b).view.loc (c : Thread nD τ) ↦[(pbU b).view.set]{fullShare} g
/-- The half of staging slot `s`, read as a block. -/
abbrev preadU (s : Fin 4) (f : Buf (Elt F) ((phU s).view.loc (c : Thread nD τ))) : S112x256.Idx → Elt F .bf16 := ReadAs.same.apply ((phU s).view.read (Elt F) f)
abbrev plandU (s : Fin 4) (b : Fin 96) (f : Buf (Elt F) ((phU s).view.loc (c : Thread nD τ))) : Buf (Elt F) ((pbU b).view.loc (c : Thread nD τ)) :=
  (pbU b).view.writes (Elt F) (pbU b).view.junk [⟨Rect.whole S112x256, preadU c s f⟩]
abbrev NP : ℕ := 1792
/-- What the two copies of staging slot `s` to block pair `b` deliver. -/
def pD (s : Fin 4) (b : Fin 96) (fL : Buf (Elt F) ((phL s).view.loc (c : Thread nD τ))) (fU : Buf (Elt F) ((phU s).view.loc (c : Thread nD τ))) : Fin 2 → sProp 𝕄
  | ⟨0, _⟩ => iprop(phomeL c b (plandL c s b fL) ∗ pheldL c s fL)
  | ⟨1, _⟩ => iprop(phomeU c b (plandU c s b fU) ∗ pheldU c s fU)
instance pD_storable (s : Fin 4) (b : Fin 96) (fL fU) : ∀ i : Fin 2, Storable (upEmb : UEmb _ 𝕄) (pD (F := F) c s b fL fU i)
  | ⟨0, _⟩ => storable_pair (storable_pts _ _ _) (storable_pts _ _ _)
  | ⟨1, _⟩ => storable_pair (storable_pts _ _ _) (storable_pts _ _ _)
abbrev pbatch (s : Fin 4) (b : Fin 96) (fL : Buf (Elt F) ((phL s).view.loc (c : Thread nD τ))) (fU : Buf (Elt F) ((phU s).view.loc (c : Thread nD τ))) (j : ℕ) : sProp 𝕄 :=
  Transfers.Batch countersEmb (c : Thread nD τ) (SemLoc.dma (psem s).sem) () NP (pD (F := F) c s b fL fU) j 0
abbrev pflight (s : Fin 4) (b : Fin 96) (fL : Buf (Elt F) ((phL s).view.loc (c : Thread nD τ))) (fU : Buf (Elt F) ((phU s).view.loc (c : Thread nD τ))) : sProp 𝕄 := pbatch (F := F) c s b fL fU 2
/-- Staging slot `s` held at `fL` and `fU`, its semaphore at rest. -/
abbrev pfullAt (s : Fin 4) (fL : Buf (Elt F) ((phL s).view.loc (c : Thread nD τ))) (fU : Buf (Elt F) ((phU s).view.loc (c : Thread nD τ))) : sProp 𝕄 := iprop(pcell c s ∗ pheldL c s fL ∗ pheldU c s fU)
end Blocks

/-! ## What stays -/

section Still
variable (c : Dev nD) (HQ : Buf (Elt F) (hqM.view.loc (c : Thread nD τ)))
  (HS : Buf (Elt F) (hsbM.view.loc (c : Thread nD τ))) (WS : Buf (Elt F) (wsiM.view.loc (c : Thread nD τ)))

/-- The buffers a trip only reads, the core's dues. -/
abbrev still : sProp 𝕄 := iprop(
  (hqM.view.loc (c : Thread nD τ) ↦[hqM.view.set]{fullShare} HQ)
  ∗ (hsbM.view.loc (c : Thread nD τ) ↦[hsbM.view.set]{fullShare} HS) ∗ (wsiM.view.loc (c : Thread nD τ) ↦[wsiM.view.set]{fullShare} WS)
  ∗ (∃ W, owes (c : Thread nD τ) 0 W))
end Still

end Cert.Proof.QI
-- ==== Proof.QI.Values.lean ====
module

public import proofs.«01_k».proof.Proof.QI.Pieces

/-! # What one trip computes

Trip `k` multiplies the codes with the slot of item `k` and stores the product's four column tiles, each scaled, into staging slot
`k % 4`: the gate half (`stL`) and the up half (`stU`). -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (HQ : Buf (Elt F) (hqM.view.loc (c : Thread nD τ)))
  (HS : Buf (Elt F) (hsbM.view.loc (c : Thread nD τ))) (WS : Buf (Elt F) (wsiM.view.loc (c : Thread nD τ)))

/-- The slot as the trip loads it; -/
abbrev wAt (k : Fin k0_t1_loop.trips) (g : Buf (Elt F) ((rslot (Ring.sl 8 k.val)).view.loc (c : Thread nD τ))) : Vec F S1x6144x512 .fp8e4m3 :=
  View.readAt (Elt F) ringM.view (Rect.unit (s := S8x6144x512) (k0_off47 k) S1x6144x512.size (k0_off47_inb k)).toLoadRect g
/-- the codes; -/
abbrev aAt : Vec F S128x6144 .fp8e4m3 := View.readAt (Elt F) hqM.view (Rect.unit (s := S128x6144) ![0, 0] S128x6144.size inb_S128x6144_S128x6144_0_0).toLoadRect HQ
abbrev sAt : Vec F S112x128 .f32 := View.readAt (Elt F) hsbM.view (Rect.unit (s := S112x128) ![0, 0] S112x128.size inb_S112x128_S112x128_0_0).toLoadRect HS
abbrev wsAt0 (k : Fin k0_t1_loop.trips) : Vec F S1x128 .f32 := View.readAt (Elt F) wsiM.view (Rect.unit (s := S1x55552) (k0_off48 k 1#1 0#32) S1x128.size (k0_off48_inb k 0)).toLoadRect WS
abbrev wsAt1 (k : Fin k0_t1_loop.trips) : Vec F S1x128 .f32 := View.readAt (Elt F) wsiM.view (Rect.unit (s := S1x55552) (k0_off48 k 1#1 128#32) S1x128.size (k0_off48_inb k 1)).toLoadRect WS
abbrev wsAt2 (k : Fin k0_t1_loop.trips) : Vec F S1x128 .f32 := View.readAt (Elt F) wsiM.view (Rect.unit (s := S1x55552) (k0_off48 k 0#1 256#32) S1x128.size (k0_off48_inb k 2)).toLoadRect WS
abbrev wsAt3 (k : Fin k0_t1_loop.trips) : Vec F S1x128 .f32 := View.readAt (Elt F) wsiM.view (Rect.unit (s := S1x55552) (k0_off48 k 0#1 384#32) S1x128.size (k0_off48_inb k 3)).toLoadRect WS
/-- The four tiles stored. -/
def tile0 (k : Fin k0_t1_loop.trips) (g : Buf (Elt F) ((rslot (Ring.sl 8 k.val)).view.loc (c : Thread nD τ))) : FVec F S1x112x128 .bf16 := k0_pay6 (k0_pay2 (aAt c HQ) (wAt c k g) (wsAt0 c WS k) (sAt c HS))
def tile1 (k : Fin k0_t1_loop.trips) (g : Buf (Elt F) ((rslot (Ring.sl 8 k.val)).view.loc (c : Thread nD τ))) : FVec F S1x112x128 .bf16 := k0_pay7 (k0_pay3 (aAt c HQ) (wAt c k g) (wsAt1 c WS k) (sAt c HS))
def tile2 (k : Fin k0_t1_loop.trips) (g : Buf (Elt F) ((rslot (Ring.sl 8 k.val)).view.loc (c : Thread nD τ))) : FVec F S1x112x128 .bf16 := k0_pay10 (k0_pay4 (k0_pay1 (aAt c HQ) (wAt c k g)) (wsAt2 c WS k) (sAt c HS))
def tile3 (k : Fin k0_t1_loop.trips) (g : Buf (Elt F) ((rslot (Ring.sl 8 k.val)).view.loc (c : Thread nD τ))) : FVec F S1x112x128 .bf16 := k0_pay11 (k0_pay5 (k0_pay1 (aAt c HQ) (wAt c k g)) (wsAt3 c WS k) (sAt c HS))

def stL0 (k : Fin k0_t1_loop.trips) (g : Buf (Elt F) ((rslot (Ring.sl 8 k.val)).view.loc (c : Thread nD τ))) (f : Buf (Elt F) ((phL (Ring.sl 4 k.val)).view.loc (c : Thread nD τ))) : Buf (Elt F) ((phL (Ring.sl 4 k.val)).view.loc (c : Thread nD τ)) :=
  View.write (Elt F) (stM.access (Rect.unit (s := S4x112x512) (k0_off49 k) S1x112x128.size (k0_off49_inb k))) f (tile0 c HQ HS WS k g) Finset.univ
/-- The gate half of the staging slot after the trip; -/
def stL (k : Fin k0_t1_loop.trips) (g : Buf (Elt F) ((rslot (Ring.sl 8 k.val)).view.loc (c : Thread nD τ))) (f : Buf (Elt F) ((phL (Ring.sl 4 k.val)).view.loc (c : Thread nD τ))) : Buf (Elt F) ((phL (Ring.sl 4 k.val)).view.loc (c : Thread nD τ)) :=
  View.write (Elt F) (stM.access (Rect.unit (s := S4x112x512) (k0_off50 k) S1x112x128.size (k0_off50_inb k))) (stL0 c HQ HS WS k g f) (tile1 c HQ HS WS k g) Finset.univ
def stU0 (k : Fin k0_t1_loop.trips) (g : Buf (Elt F) ((rslot (Ring.sl 8 k.val)).view.loc (c : Thread nD τ))) (f : Buf (Elt F) ((phU (Ring.sl 4 k.val)).view.loc (c : Thread nD τ))) : Buf (Elt F) ((phU (Ring.sl 4 k.val)).view.loc (c : Thread nD τ)) :=
  View.write (Elt F) (stM.access (Rect.unit (s := S4x112x512) (k0_off51 k) S1x112x128.size (k0_off51_inb k))) f (tile2 c HQ HS WS k g) Finset.univ
/-- the up half. -/
def stU (k : Fin k0_t1_loop.trips) (g : Buf (Elt F) ((rslot (Ring.sl 8 k.val)).view.loc (c : Thread nD τ))) (f : Buf (Elt F) ((phU (Ring.sl 4 k.val)).view.loc (c : Thread nD τ))) : Buf (Elt F) ((phU (Ring.sl 4 k.val)).view.loc (c : Thread nD τ)) :=
  View.write (Elt F) (stM.access (Rect.unit (s := S4x112x512) (k0_off52 k) S1x112x128.size (k0_off52_inb k))) (stU0 c HQ HS WS k g f) (tile3 c HQ HS WS k g) Finset.univ

end
end Cert.Proof.QI
-- ==== Proof.QI.Trip.lean ====
module

public import proofs.«01_k».proof.Proof.QI.Values

/-! # One trip of the loop

Each is one run of the trip at a symbolic `k`, by which copies it starts and waits: an item of the weights is issued as
long as there is one (up to trip 88); a block pair of the result is issued from trip 1 on and one is waited from trip 4
on. The two copies of an item, like the two of a block pair, count on one semaphore; the load that spans both halves of
the slot is met with the halves joined. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (XW : Buf (Elt F) (wM.view.loc (c : Thread nD τ))) (HQ : Buf (Elt F) (hqM.view.loc (c : Thread nD τ)))
  (HS : Buf (Elt F) (hsbM.view.loc (c : Thread nD τ))) (WS : Buf (Elt F) (wsiM.view.loc (c : Thread nD τ)))

/-- The body's trip at the call's own arrays and buffers. -/
abbrev tripG (k : Fin k0_t1_loop.trips) : Prog (TpuEff nD τ sig (Elt F) Λ₀ .tc) PUnit :=
  k0_t1_body (F := F) cM (Memref.isWhole_whole _) sM (Memref.isWhole_whole _) wM (Memref.isWhole_whole _) wsM (Memref.isWhole_whole _) pM (Memref.isWhole_whole _)
    ringM (Memref.isWhole_whole _) hcbM (Memref.isWhole_whole _) hscM (Memref.isWhole_whole _) wsiM (Memref.isWhole_whole _) hqM (Memref.isWhole_whole _) stM (Memref.isWhole_whole _) hsbM (Memref.isWhole_whole _)
    cc0_scratch7 cc0_scratch8 cc0_scratch9 k ()

/-- Staging slot `k % 4` as trip `k` leaves it: filled from the slot its item landed in. -/
def pnewAt (k : Fin k0_t1_loop.trips) (eL : Buf (Elt F) ((phL (Ring.sl 4 k.val)).view.loc (c : Thread nD τ))) (eU : Buf (Elt F) ((phU (Ring.sl 4 k.val)).view.loc (c : Thread nD τ))) : sProp 𝕄 :=
  iprop(∃ g, ⌜Landed c XW (Ring.sl 8 k.val) (Ring.bk 96 k.val) g⌝ ∗ pfullAt c (Ring.sl 4 k.val) (stL c HQ HS WS k g eL) (stU c HQ HS WS k g eU))

set_option maxHeartbeats 4000000 in
/-- Trip 0: an item issued; no block of the result yet. -/
theorem trip_first (k : Fin k0_t1_loop.trips) (h0 : k.val = 0) (eL : Buf (Elt F) ((phL (Ring.sl 4 k.val)).view.loc (c : Thread nD τ))) (eU : Buf (Elt F) ((phU (Ring.sl 4 k.val)).view.loc (c : Thread nD τ))) :
    iprop(still c HQ HS WS
      ∗ rinflAt c XW (Ring.sl 8 k.val) (Ring.bk 96 k.val)
      ∗ rfreeAt c (Ring.sl 8 (k.val + 7))
      ∗ whome c XW (Ring.bk 96 (k.val + 7))
      ∗ pfullAt c (Ring.sl 4 k.val) eL eU)
    ⊢ wp frame (wpE (defs₀ (F := F)) 𝒱₀ (c : Thread nD τ) none) Set.univ (tripG (F := F) k) (fun _ => iprop(still c HQ HS WS
      ∗ rinflAt c XW (Ring.sl 8 (k.val + 7)) (Ring.bk 96 (k.val + 7))
      ∗ rfreeAt c (Ring.sl 8 k.val)
      ∗ whome c XW (Ring.bk 96 k.val)
      ∗ pnewAt c XW HQ HS WS k eL eU)) := by
  have h7 : k.val + 7 < 96 := by omega
  have c8 : k0_cond8 k = 1#1 := (cond8_iff k).mpr (by omega)
  have c9 : ¬ k0_cond9 k = 1#1 := fun e => absurd ((cond9_iff k).mp e) (by omega)
  have c10 : ¬ k0_cond10 k = 1#1 := fun e => absurd ((cond10_iff k).mp e) (by omega)
  iintro ⟨⟨Hhq, Hhs, Hws, ⟨%W, HW⟩⟩, HF, ⟨Hc7, ⟨%f7, Hs7⟩, ⟨%f8, Hs8⟩⟩, ⟨HIL, HIU⟩, ⟨HP, HP_src0, HP_src1⟩⟩
  imod (Transfers.batch_alloc' (Lvl := ℕ) countersEmb (c : Thread nD τ) () NW (rD c XW (Ring.sl 8 (k.val + 7)) (Ring.bk 96 (k.val + 7))) (sm := SemLoc.dma (rsem (Ring.sl 8 (k.val + 7))).sem) (E := Set.univ)) $$ Hc7 with HB
  delta tripG
  sl_unfold [k0_t1_body]
  sl_exec
  ihave Hg := (slot_landed c XW (Ring.sl 8 k.val) (Ring.bk 96 k.val)) $$ [HF_dst0 HF_dst1]
  · isplitl [HF_dst0]; · iexact HF_dst0
    iexact HF_dst1
  icases Hg with ⟨%g, Hslot, %hg⟩
  sl_exec
  sl_step
  ihave Hh := (slot_split c (Ring.sl 8 k.val) g) $$ Hslot
  icases Hh with ⟨HrL, HrU⟩
  isplitl [Hhq Hhs Hws HW]
  · isplitl [Hhq]; · iexact Hhq
    isplitl [Hhs]; · iexact Hhs
    isplitl [Hws]; · iexact Hws
    iexists _; iexact HW
  isplitl [HB]; · iexact HB
  isplitl [HF HrL HrU]
  · isplitl [HF]; · iexact HF
    isplitl [HrL]; · iexists _; iexact HrL
    iexists _; iexact HrU
  isplitl [HF_src0 HF_src1]
  · isplitl [HF_src0]; · iexact HF_src0
    iexact HF_src1
  unfold pnewAt
  iexists g
  isplitr; · ipureintro; exact hg
  isplitl [HP]; · iexact HP
  isplitl [HP_src0]; · iexact HP_src0
  iexact HP_src1

set_option maxHeartbeats 4000000 in
/-- Trips 1 to 3: a block pair issued, none waited. -/
theorem trip_early (k : Fin k0_t1_loop.trips) (h1 : 1 ≤ k.val) (h3 : k.val ≤ 3) (fL fU) (gL gU) (eL : Buf (Elt F) ((phL (Ring.sl 4 k.val)).view.loc (c : Thread nD τ))) (eU : Buf (Elt F) ((phU (Ring.sl 4 k.val)).view.loc (c : Thread nD τ))) :
    iprop(still c HQ HS WS
      ∗ rinflAt c XW (Ring.sl 8 k.val) (Ring.bk 96 k.val)
      ∗ rfreeAt c (Ring.sl 8 (k.val + 7))
      ∗ whome c XW (Ring.bk 96 (k.val + 7))
      ∗ (pfullAt c (Ring.sl 4 (k.val - 1)) fL fU ∗ phomeL c (Ring.bk 96 (k.val - 1)) gL ∗ phomeU c (Ring.bk 96 (k.val - 1)) gU)
      ∗ pfullAt c (Ring.sl 4 k.val) eL eU)
    ⊢ wp frame (wpE (defs₀ (F := F)) 𝒱₀ (c : Thread nD τ) none) Set.univ (tripG (F := F) k) (fun _ => iprop(still c HQ HS WS
      ∗ rinflAt c XW (Ring.sl 8 (k.val + 7)) (Ring.bk 96 (k.val + 7))
      ∗ rfreeAt c (Ring.sl 8 k.val)
      ∗ whome c XW (Ring.bk 96 k.val)
      ∗ pflight c (Ring.sl 4 (k.val - 1)) (Ring.bk 96 (k.val - 1)) fL fU
      ∗ pnewAt c XW HQ HS WS k eL eU)) := by
  have h7 : k.val + 7 < 96 := by omega
  have c8 : k0_cond8 k = 1#1 := (cond8_iff k).mpr (by omega)
  have p1 : 1 ≤ k.val := by omega
  have c9 : k0_cond9 k = 1#1 := (cond9_iff k).mpr (by omega)
  have c10 : ¬ k0_cond10 k = 1#1 := fun e => absurd ((cond10_iff k).mp e) (by omega)
  iintro ⟨⟨Hhq, Hhs, Hws, ⟨%W, HW⟩⟩, HF, ⟨Hc7, ⟨%f7, Hs7⟩, ⟨%f8, Hs8⟩⟩, ⟨HIL, HIU⟩, ⟨⟨HYc, HYL, HYU⟩, HGL, HGU⟩, ⟨HP, HP_src0, HP_src1⟩⟩
  imod (Transfers.batch_alloc' (Lvl := ℕ) countersEmb (c : Thread nD τ) () NW (rD c XW (Ring.sl 8 (k.val + 7)) (Ring.bk 96 (k.val + 7))) (sm := SemLoc.dma (rsem (Ring.sl 8 (k.val + 7))).sem) (E := Set.univ)) $$ Hc7 with HB
  imod (Transfers.batch_alloc' (Lvl := ℕ) countersEmb (c : Thread nD τ) () NP (pD c (Ring.sl 4 (k.val - 1)) (Ring.bk 96 (k.val - 1)) fL fU) (sm := SemLoc.dma (psem (Ring.sl 4 (k.val - 1))).sem) (E := Set.univ)) $$ HYc with HQB
  delta tripG
  sl_unfold [k0_t1_body]
  sl_exec
  ihave Hg := (slot_landed c XW (Ring.sl 8 k.val) (Ring.bk 96 k.val)) $$ [HF_dst0 HF_dst1]
  · isplitl [HF_dst0]; · iexact HF_dst0
    iexact HF_dst1
  icases Hg with ⟨%g, Hslot, %hg⟩
  sl_exec
  sl_step
  ihave Hh := (slot_split c (Ring.sl 8 k.val) g) $$ Hslot
  icases Hh with ⟨HrL, HrU⟩
  isplitl [Hhq Hhs Hws HW]
  · isplitl [Hhq]; · iexact Hhq
    isplitl [Hhs]; · iexact Hhs
    isplitl [Hws]; · iexact Hws
    iexists _; iexact HW
  isplitl [HB]; · iexact HB
  isplitl [HF HrL HrU]
  · isplitl [HF]; · iexact HF
    isplitl [HrL]; · iexists _; iexact HrL
    iexists _; iexact HrU
  isplitl [HF_src0 HF_src1]
  · isplitl [HF_src0]; · iexact HF_src0
    iexact HF_src1
  isplitl [HQB]; · iexact HQB
  unfold pnewAt
  iexists g
  isplitr; · ipureintro; exact hg
  isplitl [HP]; · iexact HP
  isplitl [HP_src0]; · iexact HP_src0
  iexact HP_src1

set_option maxHeartbeats 4000000 in
/-- Trips 4 to 88. -/
theorem trip_mid (k : Fin k0_t1_loop.trips) (h4 : 4 ≤ k.val) (h88 : k.val ≤ 88) (fL fU) (gL gU) (eL : Buf (Elt F) ((phL (Ring.sl 4 k.val)).view.loc (c : Thread nD τ))) (eU : Buf (Elt F) ((phU (Ring.sl 4 k.val)).view.loc (c : Thread nD τ))) :
    iprop(still c HQ HS WS
      ∗ rinflAt c XW (Ring.sl 8 k.val) (Ring.bk 96 k.val)
      ∗ rfreeAt c (Ring.sl 8 (k.val + 7))
      ∗ whome c XW (Ring.bk 96 (k.val + 7))
      ∗ (pfullAt c (Ring.sl 4 (k.val - 1)) fL fU ∗ phomeL c (Ring.bk 96 (k.val - 1)) gL ∗ phomeU c (Ring.bk 96 (k.val - 1)) gU)
      ∗ pflight c (Ring.sl 4 k.val) (Ring.bk 96 (k.val - 4)) eL eU)
    ⊢ wp frame (wpE (defs₀ (F := F)) 𝒱₀ (c : Thread nD τ) none) Set.univ (tripG (F := F) k) (fun _ => iprop(still c HQ HS WS
      ∗ rinflAt c XW (Ring.sl 8 (k.val + 7)) (Ring.bk 96 (k.val + 7))
      ∗ rfreeAt c (Ring.sl 8 k.val)
      ∗ whome c XW (Ring.bk 96 k.val)
      ∗ pflight c (Ring.sl 4 (k.val - 1)) (Ring.bk 96 (k.val - 1)) fL fU
      ∗ pnewAt c XW HQ HS WS k eL eU
      ∗ phomeL c (Ring.bk 96 (k.val - 4)) (plandL c (Ring.sl 4 k.val) (Ring.bk 96 (k.val - 4)) eL) ∗ phomeU c (Ring.bk 96 (k.val - 4)) (plandU c (Ring.sl 4 k.val) (Ring.bk 96 (k.val - 4)) eU))) := by
  have h7 : k.val + 7 < 96 := by omega
  have c8 : k0_cond8 k = 1#1 := (cond8_iff k).mpr (by omega)
  have p1 : 1 ≤ k.val := by omega
  have c9 : k0_cond9 k = 1#1 := (cond9_iff k).mpr (by omega)
  have p4 : 4 ≤ k.val := by omega
  have c10 : k0_cond10 k = 1#1 := (cond10_iff k).mpr (by omega)
  iintro ⟨⟨Hhq, Hhs, Hws, ⟨%W, HW⟩⟩, HF, ⟨Hc7, ⟨%f7, Hs7⟩, ⟨%f8, Hs8⟩⟩, ⟨HIL, HIU⟩, ⟨⟨HYc, HYL, HYU⟩, HGL, HGU⟩, HP⟩
  imod (Transfers.batch_alloc' (Lvl := ℕ) countersEmb (c : Thread nD τ) () NW (rD c XW (Ring.sl 8 (k.val + 7)) (Ring.bk 96 (k.val + 7))) (sm := SemLoc.dma (rsem (Ring.sl 8 (k.val + 7))).sem) (E := Set.univ)) $$ Hc7 with HB
  imod (Transfers.batch_alloc' (Lvl := ℕ) countersEmb (c : Thread nD τ) () NP (pD c (Ring.sl 4 (k.val - 1)) (Ring.bk 96 (k.val - 1)) fL fU) (sm := SemLoc.dma (psem (Ring.sl 4 (k.val - 1))).sem) (E := Set.univ)) $$ HYc with HQB
  delta tripG
  sl_unfold [k0_t1_body]
  sl_exec
  ihave Hg := (slot_landed c XW (Ring.sl 8 k.val) (Ring.bk 96 k.val)) $$ [HF_dst0 HF_dst1]
  · isplitl [HF_dst0]; · iexact HF_dst0
    iexact HF_dst1
  icases Hg with ⟨%g, Hslot, %hg⟩
  sl_exec
  sl_step
  ihave Hh := (slot_split c (Ring.sl 8 k.val) g) $$ Hslot
  icases Hh with ⟨HrL, HrU⟩
  isplitl [Hhq Hhs Hws HW]
  · isplitl [Hhq]; · iexact Hhq
    isplitl [Hhs]; · iexact Hhs
    isplitl [Hws]; · iexact Hws
    iexists _; iexact HW
  isplitl [HB]; · iexact HB
  isplitl [HF HrL HrU]
  · isplitl [HF]; · iexact HF
    isplitl [HrL]; · iexists _; iexact HrL
    iexists _; iexact HrU
  isplitl [HF_src0 HF_src1]
  · isplitl [HF_src0]; · iexact HF_src0
    iexact HF_src1
  isplitl [HQB]; · iexact HQB
  isplitl [HP HP_src0 HP_src1]
  · unfold pnewAt
    iexists g
    isplitr; · ipureintro; exact hg
    isplitl [HP]; · iexact HP
    isplitl [HP_src0]; · iexact HP_src0
    iexact HP_src1
  isplitl [HP_dst0]; · iexact HP_dst0
  iexact HP_dst1

set_option maxHeartbeats 4000000 in
/-- Trips 89 to 95: no item left to issue. -/
theorem trip_last (k : Fin k0_t1_loop.trips) (h89 : 89 ≤ k.val) (fL fU) (gL gU) (eL : Buf (Elt F) ((phL (Ring.sl 4 k.val)).view.loc (c : Thread nD τ))) (eU : Buf (Elt F) ((phU (Ring.sl 4 k.val)).view.loc (c : Thread nD τ))) :
    iprop(still c HQ HS WS
      ∗ rinflAt c XW (Ring.sl 8 k.val) (Ring.bk 96 k.val)
      ∗ (pfullAt c (Ring.sl 4 (k.val - 1)) fL fU ∗ phomeL c (Ring.bk 96 (k.val - 1)) gL ∗ phomeU c (Ring.bk 96 (k.val - 1)) gU)
      ∗ pflight c (Ring.sl 4 k.val) (Ring.bk 96 (k.val - 4)) eL eU)
    ⊢ wp frame (wpE (defs₀ (F := F)) 𝒱₀ (c : Thread nD τ) none) Set.univ (tripG (F := F) k) (fun _ => iprop(still c HQ HS WS
      ∗ rfreeAt c (Ring.sl 8 k.val)
      ∗ whome c XW (Ring.bk 96 k.val)
      ∗ pflight c (Ring.sl 4 (k.val - 1)) (Ring.bk 96 (k.val - 1)) fL fU
      ∗ pnewAt c XW HQ HS WS k eL eU
      ∗ phomeL c (Ring.bk 96 (k.val - 4)) (plandL c (Ring.sl 4 k.val) (Ring.bk 96 (k.val - 4)) eL) ∗ phomeU c (Ring.bk 96 (k.val - 4)) (plandU c (Ring.sl 4 k.val) (Ring.bk 96 (k.val - 4)) eU))) := by
  have c8 : ¬ k0_cond8 k = 1#1 := fun e => absurd ((cond8_iff k).mp e) (by omega)
  have p1 : 1 ≤ k.val := by omega
  have c9 : k0_cond9 k = 1#1 := (cond9_iff k).mpr (by omega)
  have p4 : 4 ≤ k.val := by omega
  have c10 : k0_cond10 k = 1#1 := (cond10_iff k).mpr (by omega)
  iintro ⟨⟨Hhq, Hhs, Hws, ⟨%W, HW⟩⟩, HF, ⟨⟨HYc, HYL, HYU⟩, HGL, HGU⟩, HP⟩
  imod (Transfers.batch_alloc' (Lvl := ℕ) countersEmb (c : Thread nD τ) () NP (pD c (Ring.sl 4 (k.val - 1)) (Ring.bk 96 (k.val - 1)) fL fU) (sm := SemLoc.dma (psem (Ring.sl 4 (k.val - 1))).sem) (E := Set.univ)) $$ HYc with HQB
  delta tripG
  sl_unfold [k0_t1_body]
  sl_exec
  ihave Hg := (slot_landed c XW (Ring.sl 8 k.val) (Ring.bk 96 k.val)) $$ [HF_dst0 HF_dst1]
  · isplitl [HF_dst0]; · iexact HF_dst0
    iexact HF_dst1
  icases Hg with ⟨%g, Hslot, %hg⟩
  sl_exec
  sl_step
  ihave Hh := (slot_split c (Ring.sl 8 k.val) g) $$ Hslot
  icases Hh with ⟨HrL, HrU⟩
  isplitl [Hhq Hhs Hws HW]
  · isplitl [Hhq]; · iexact Hhq
    isplitl [Hhs]; · iexact Hhs
    isplitl [Hws]; · iexact Hws
    iexists _; iexact HW
  isplitl [HF HrL HrU]
  · isplitl [HF]; · iexact HF
    isplitl [HrL]; · iexists _; iexact HrL
    iexists _; iexact HrU
  isplitl [HF_src0 HF_src1]
  · isplitl [HF_src0]; · iexact HF_src0
    iexact HF_src1
  isplitl [HQB]; · iexact HQB
  isplitl [HP HP_src0 HP_src1]
  · unfold pnewAt
    iexists g
    isplitr; · ipureintro; exact hg
    isplitl [HP]; · iexact HP
    isplitl [HP_src0]; · iexact HP_src0
    iexact HP_src1
  isplitl [HP_dst0]; · iexact HP_dst0
  iexact HP_dst1

end
end Cert.Proof.QI
-- ==== Proof.QI.Loop.lean ====
module

public import proofs.«01_k».proof.Proof.QI.Trip

/-! # The loop

Before trip `k` items `k … k + 6` are in flight and the slot of item `k + 7` is free; staging slot `(k - 1) % 4` holds its
block pair, the three before it are in flight, and the earlier ones have landed. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD) (XW : Buf (Elt F) (wM.view.loc (c : Thread nD τ))) (HQ : Buf (Elt F) (hqM.view.loc (c : Thread nD τ)))
  (HS : Buf (Elt F) (hsbM.view.loc (c : Thread nD τ))) (WS : Buf (Elt F) (wsiM.view.loc (c : Thread nD τ)))

/-- The words `uL` and `uU` are those trip `b` stores for block pair `b`, from a slot its item landed in. -/
def Pok (b : Fin 96) (uL uU : S112x256.Idx → Elt F .bf16) : Prop :=
  ∃ (k : Fin k0_t1_loop.trips) (g : Buf (Elt F) ((rslot (Ring.sl 8 k.val)).view.loc (c : Thread nD τ)))
    (fL : Buf (Elt F) ((phL (Ring.sl 4 k.val)).view.loc (c : Thread nD τ))) (fU : Buf (Elt F) ((phU (Ring.sl 4 k.val)).view.loc (c : Thread nD τ))),
    k.val = b.val ∧ Landed c XW (Ring.sl 8 k.val) (Ring.bk 96 k.val) g
      ∧ uL = preadL c (Ring.sl 4 k.val) (stL c HQ HS WS k g fL) ∧ uU = preadU c (Ring.sl 4 k.val) (stU c HQ HS WS k g fU)

/-! ## Roles -/

/-- The ring slot of item `p` before trip `k`. -/
def rrole (k p : ℕ) : sProp 𝕄 :=
  if p < k + 7 ∧ p < 96 then rinflAt c XW (Ring.sl 8 p) (Ring.bk 96 p) else rfreeAt (F := F) c (Ring.sl 8 p)

theorem rrole_infl (k p : ℕ) (h : p < k + 7) (h' : p < 96) : rrole c XW k p = rinflAt c XW (Ring.sl 8 p) (Ring.bk 96 p) := if_pos ⟨h, h'⟩
theorem rrole_free (k p : ℕ) (h : ¬ (p < k + 7 ∧ p < 96)) : rrole c XW k p = rfreeAt (F := F) c (Ring.sl 8 p) := if_neg h
theorem infl_out (k p : ℕ) (h : p < k + 7) (h' : p < 96) : rrole c XW k p ⊢ rinflAt c XW (Ring.sl 8 p) (Ring.bk 96 p) :=
  entails_of_eq (rrole_infl c XW k p h h')
theorem free_out (k p : ℕ) (h : ¬ (p < k + 7 ∧ p < 96)) : rrole c XW k p ⊢ rfreeAt (F := F) c (Ring.sl 8 p) :=
  entails_of_eq (rrole_free c XW k p h)
theorem infl_in (k p q : ℕ) (e : p = q) (h : p < k + 7) (h' : p < 96) : rinflAt c XW (Ring.sl 8 q) (Ring.bk 96 q) ⊢ rrole c XW k p := by
  subst e; exact entails_of_eq (rrole_infl c XW k p h h').symm
theorem free_in (k p q : ℕ) (e : p = q + 8) (h : ¬ (p < k + 7 ∧ p < 96)) : rfreeAt (F := F) c (Ring.sl 8 q) ⊢ rrole c XW k p := by
  subst e
  rw [rrole_free c XW k (q + 8) h, Ring.sl_add 8 q]
theorem role_same (k k' p q : ℕ) (e : p = q) (h : (q < k + 7 ∧ q < 96) ↔ (q < k' + 7 ∧ q < 96)) : rrole c XW k q ⊢ rrole c XW k' p := by
  subst e; unfold rrole; rw [if_congr h rfl rfl]

/-- Staging slot `s` holding block pair `b`; -/
def pfullB (s : Fin 4) (b : Fin 96) : sProp 𝕄 := iprop(∃ fL fU, pfullAt c s fL fU ∗ ⌜Pok c XW HQ HS WS b (preadL c s fL) (preadU c s fU)⌝)
/-- block pair `b` in flight from slot `s`; -/
def pinflB (s : Fin 4) (b : Fin 96) : sProp 𝕄 := iprop(∃ fL fU, pflight c s b fL fU ∗ ⌜Pok c XW HQ HS WS b (preadL c s fL) (preadU c s fU)⌝)
/-- slot `s` free; -/
def pfreeB (s : Fin 4) : sProp 𝕄 := iprop(∃ fL fU, pfullAt (F := F) c s fL fU)
/-- block pair `b` of the result landed; -/
def pdone1 (b : Fin 96) : sProp 𝕄 := iprop(∃ gL gU, phomeL c b gL ∗ phomeU c b gU ∗ ⌜Pok c XW HQ HS WS b ((pbL b).view.read (Elt F) gL) ((pbU b).view.read (Elt F) gU)⌝)
/-- block pair `b` not yet issued. -/
def ptodo1 (b : Fin 96) : sProp 𝕄 := iprop(∃ gL gU, phomeL (F := F) c b gL ∗ phomeU (F := F) c b gU)
/-- The staging slot of block pair `p - 4` (none for `p < 4`) before trip `k`. -/
def prole (k p : ℕ) : sProp 𝕄 :=
  if p < 4 then pfreeB (F := F) c (Ring.sl 4 p)
  else if p = k + 3 then pfullB c XW HQ HS WS (Ring.sl 4 p) (Ring.bk 96 (p - 4)) else pinflB c XW HQ HS WS (Ring.sl 4 p) (Ring.bk 96 (p - 4))

theorem prole_free (k p : ℕ) (h : p < 4) : prole c XW HQ HS WS k p = pfreeB (F := F) c (Ring.sl 4 p) := if_pos h
theorem prole_full (k p : ℕ) (h : ¬ p < 4) (e : p = k + 3) : prole c XW HQ HS WS k p = pfullB c XW HQ HS WS (Ring.sl 4 p) (Ring.bk 96 (p - 4)) := by
  unfold prole; rw [if_neg h, if_pos e]
theorem prole_infl (k p : ℕ) (h : ¬ p < 4) (e : ¬ p = k + 3) : prole c XW HQ HS WS k p = pinflB c XW HQ HS WS (Ring.sl 4 p) (Ring.bk 96 (p - 4)) := by
  unfold prole; rw [if_neg h, if_neg e]
theorem pfull_out (k : ℕ) (h : 1 ≤ k) : prole c XW HQ HS WS k (k + 3) ⊢ pfullB c XW HQ HS WS (Ring.sl 4 (k - 1)) (Ring.bk 96 (k - 1)) := by
  rw [prole_full c XW HQ HS WS k (k + 3) (by omega) rfl]
  obtain ⟨n, rfl⟩ : ∃ n, k = n + 1 := ⟨k - 1, by omega⟩
  rw [show n + 1 + 3 = n + 4 from rfl, Ring.sl_add 4 n]; exact .rfl
theorem pinfl_in (k : ℕ) (h : 1 ≤ k) : pinflB c XW HQ HS WS (Ring.sl 4 (k - 1)) (Ring.bk 96 (k - 1)) ⊢ prole c XW HQ HS WS (k + 1) (k + 3) := by
  rw [prole_infl c XW HQ HS WS (k + 1) (k + 3) (by omega) (by omega)]
  obtain ⟨n, rfl⟩ : ∃ n, k = n + 1 := ⟨k - 1, by omega⟩
  rw [show n + 1 + 3 = n + 4 from rfl, Ring.sl_add 4 n]; exact .rfl
/-- What a trip leaves in its staging slot is its block pair. -/
theorem pfull_in (k : Fin k0_t1_loop.trips) (h : k.val < 96) (eL eU) : pnewAt c XW HQ HS WS k eL eU ⊢ prole c XW HQ HS WS (k.val + 1) (k.val + 1 + 3) := by
  rw [prole_full c XW HQ HS WS (k.val + 1) (k.val + 1 + 3) (by omega) rfl, show k.val + 1 + 3 = k.val + 4 from rfl, Ring.sl_add 4 k.val]
  unfold pnewAt pfullB
  iintro ⟨%g, %hg, H⟩
  iexists (stL c HQ HS WS k g eL), (stU c HQ HS WS k g eU)
  isplitl [H]; · iexact H
  ipureintro
  exact ⟨k, g, eL, eU, (Ring.bk_val (show k.val < 96 by omega)).symm, hg, rfl, rfl⟩
theorem prole_same (k p : ℕ) (h : p ≠ k + 3) (h' : p ≠ k + 1 + 3) : prole c XW HQ HS WS k p ⊢ prole c XW HQ HS WS (k + 1) p := by
  unfold prole; rw [if_neg h, if_neg h']
theorem prole_first : prole c XW HQ HS WS 0 3 ⊢ prole c XW HQ HS WS 1 3 := by
  unfold prole; rw [if_pos (by decide), if_pos (by decide)]

/-! ## Blocks of the result -/

def ptodo (k : ℕ) : sProp 𝕄 := bigSep (Finset.univ.filter fun b : Fin 96 => k ≤ b.val + 1) (ptodo1 (F := F) c)
def pdone (k : ℕ) : sProp 𝕄 := bigSep (Finset.univ.filter fun b : Fin 96 => b.val + 4 < k) (pdone1 c XW HQ HS WS)

theorem ptodo_zero : ptodo (F := F) c 0 ⊢ ptodo (F := F) c 1 := by
  have e : (Finset.univ.filter fun b : Fin 96 => 0 ≤ b.val + 1) = (Finset.univ.filter fun b : Fin 96 => 1 ≤ b.val + 1) := by
    ext b; simp only [Finset.mem_filter, Finset.mem_univ, true_and]; omega
  unfold ptodo; rw [e]
theorem ptodo_out (k : ℕ) (h : 1 ≤ k) (h' : k ≤ 96) : ptodo (F := F) c k ⊢ iprop(ptodo1 (F := F) c (Ring.bk 96 (k - 1)) ∗ ptodo (F := F) c (k + 1)) := by
  have hb : (Ring.bk 96 (k - 1)).val = k - 1 := Ring.bk_val (show k - 1 < 96 by omega)
  have e : (Finset.univ.filter fun b : Fin 96 => k ≤ b.val + 1) = insert (Ring.bk 96 (k - 1)) (Finset.univ.filter fun b : Fin 96 => k + 1 ≤ b.val + 1) := by
    ext b; simp only [Finset.mem_insert, Finset.mem_filter, Finset.mem_univ, true_and, Fin.ext_iff, hb]; omega
  have hn : Ring.bk 96 (k - 1) ∉ (Finset.univ.filter fun b : Fin 96 => k + 1 ≤ b.val + 1) := by
    simp only [Finset.mem_filter, Finset.mem_univ, true_and, hb]; omega
  unfold ptodo; rw [e, bigSep_insert hn]; exact .rfl
theorem pdone_small (k : ℕ) (h : k < 4) : pdone c XW HQ HS WS k ⊢ pdone c XW HQ HS WS (k + 1) := by
  have e : (Finset.univ.filter fun b : Fin 96 => b.val + 4 < k) = (Finset.univ.filter fun b : Fin 96 => b.val + 4 < k + 1) := by
    ext b; simp only [Finset.mem_filter, Finset.mem_univ, true_and]; omega
  unfold pdone; rw [e]
theorem pdone_in (k : ℕ) (h : 4 ≤ k) (h' : k < 100) : iprop(pdone1 c XW HQ HS WS (Ring.bk 96 (k - 4)) ∗ pdone c XW HQ HS WS k) ⊢ pdone c XW HQ HS WS (k + 1) := by
  have hb : (Ring.bk 96 (k - 4)).val = k - 4 := Ring.bk_val (show k - 4 < 96 by omega)
  have e : (Finset.univ.filter fun b : Fin 96 => b.val + 4 < k + 1) = insert (Ring.bk 96 (k - 4)) (Finset.univ.filter fun b : Fin 96 => b.val + 4 < k) := by
    ext b; simp only [Finset.mem_insert, Finset.mem_filter, Finset.mem_univ, true_and, Fin.ext_iff, hb]; omega
  have hn : Ring.bk 96 (k - 4) ∉ (Finset.univ.filter fun b : Fin 96 => b.val + 4 < k) := by
    simp only [Finset.mem_filter, Finset.mem_univ, true_and, hb]; omega
  unfold pdone; rw [e, bigSep_insert hn]; exact .rfl
/-- A landed block pair, read back. -/
theorem pdone1_of (s : Fin 4) (b : Fin 96) (fL fU) (h : Pok c XW HQ HS WS b (preadL c s fL) (preadU c s fU)) :
    iprop(phomeL c b (plandL c s b fL) ∗ phomeU c b (plandU c s b fU)) ⊢ pdone1 c XW HQ HS WS b := by
  unfold pdone1
  iintro ⟨HL, HU⟩
  iexists (plandL c s b fL), (plandU c s b fU)
  isplitl [HL]; · iexact HL
  isplitl [HU]; · iexact HU
  ipureintro
  rw [View.read_writes_whole, View.read_writes_whole]
  exact h

/-! ## Items of the weights -/

theorem homes_take (k : ℕ) (h : k + 7 < 96) : whomes c XW 7 k ⊢ iprop(whome c XW (Ring.bk 96 (k + 7)) ∗ whomes c XW 8 k) := by
  rw [whomes_out c XW 7 k (by omega)]
theorem homes_take0 (k : ℕ) (h : 96 ≤ k + 7) : whomes c XW 7 k ⊢ whomes c XW 8 k := by
  rw [whomes_clip c XW 7 8 k (by omega) (by omega)]
theorem homes_give (k : ℕ) (h : k < 96) : iprop(whome c XW (Ring.bk 96 k) ∗ whomes c XW 8 k) ⊢ whomes c XW 7 (k + 1) := by
  rw [whomes_back c XW 7 k (by omega)]

/-! ## The invariant -/

/-- What the body holds before trip `k`. -/
def invAt (k : ℕ) : sProp 𝕄 :=
  iprop(still c HQ HS WS
    ∗ (rrole c XW k (k + 0) ∗ rrole c XW k (k + 1) ∗ rrole c XW k (k + 2) ∗ rrole c XW k (k + 3) ∗ rrole c XW k (k + 4) ∗ rrole c XW k (k + 5) ∗ rrole c XW k (k + 6) ∗ rrole c XW k (k + 7))
    ∗ whomes c XW 7 k
    ∗ (prole c XW HQ HS WS k k ∗ prole c XW HQ HS WS k (k + 1) ∗ prole c XW HQ HS WS k (k + 2) ∗ prole c XW HQ HS WS k (k + 3))
    ∗ ptodo (F := F) c k ∗ pdone c XW HQ HS WS k)

theorem step_first (k : Fin k0_t1_loop.trips) (h0 : k.val = 0) :
    invAt c XW HQ HS WS k.val ⊢ wp frame (wpE (defs₀ (F := F)) 𝒱₀ (c : Thread nD τ) none) Set.univ (tripG (F := F) k) (fun _ => invAt c XW HQ HS WS (k.val + 1)) := by
  have hk := trip_lt k
  unfold invAt
  iintro ⟨Hst, ⟨R0, R1, R2, R3, R4, R5, R6, R7⟩, Hh, ⟨Y0, Y1, Y2, Y3⟩, Ht, Hd⟩
  ihave F0 := (infl_out c XW k.val k.val (by omega) (by omega)) $$ R0
  ihave F7 := (free_out c XW k.val (k.val + 7) (by omega)) $$ R7
  ihave Hh' := (homes_take c XW k.val (by omega)) $$ Hh
  icases Hh' with ⟨I0, Hr⟩
  ihave Y0' := (entails_of_eq (prole_free c XW HQ HS WS k.val k.val (by omega))) $$ Y0
  unfold pfreeB
  icases Y0' with ⟨%eL, %eU, Y4⟩
  iapply (wp_wand_r Idealize.ShloMosaic.frame (wpE (defs₀ (F := F)) 𝒱₀ (c : Thread nD τ) none) Set.univ)
  isplitl [Hst F0 F7 I0 Y4]
  · iapply (trip_first c XW HQ HS WS k h0 eL eU)
    isplitl [Hst]; · iexact Hst
    isplitl [F0]; · iexact F0
    isplitl [F7]; · iexact F7
    isplitl [I0]; · iexact I0
    iexact Y4
  · iintro %_ ⟨Hst, G7, E0, W0, Yn⟩
    isplitl [Hst]; · iexact Hst
    isplitl [R1 R2 R3 R4 R5 R6 G7 E0]
    · isplitl [R1]; · iapply (role_same c XW k.val (k.val + 1) (k.val + 1 + 0) (k.val + 1) (by omega) (by omega)); iexact R1
      isplitl [R2]; · iapply (role_same c XW k.val (k.val + 1) (k.val + 1 + 1) (k.val + 2) (by omega) (by omega)); iexact R2
      isplitl [R3]; · iapply (role_same c XW k.val (k.val + 1) (k.val + 1 + 2) (k.val + 3) (by omega) (by omega)); iexact R3
      isplitl [R4]; · iapply (role_same c XW k.val (k.val + 1) (k.val + 1 + 3) (k.val + 4) (by omega) (by omega)); iexact R4
      isplitl [R5]; · iapply (role_same c XW k.val (k.val + 1) (k.val + 1 + 4) (k.val + 5) (by omega) (by omega)); iexact R5
      isplitl [R6]; · iapply (role_same c XW k.val (k.val + 1) (k.val + 1 + 5) (k.val + 6) (by omega) (by omega)); iexact R6
      isplitl [G7]; · iapply (infl_in c XW (k.val + 1) (k.val + 1 + 6) (k.val + 7) (by omega) (by omega) (by omega)); iexact G7
      iapply (free_in c XW (k.val + 1) (k.val + 1 + 7) k.val (by omega) (by omega)); iexact E0
    isplitl [W0 Hr]
    · iapply (homes_give c XW k.val (by omega))
      isplitl [W0]; · iexact W0
      iexact Hr
    isplitl [Y1 Y2 Y3 Yn]
    · isplitl [Y1]; · iapply (prole_same c XW HQ HS WS k.val (k.val + 1) (by omega) (by omega)); iexact Y1
      isplitl [Y2]; · iapply (prole_same c XW HQ HS WS k.val (k.val + 2) (by omega) (by omega)); iexact Y2
      isplitl [Y3]
      · rw [h0]; iapply (prole_first c XW HQ HS WS); iexact Y3
      iapply (pfull_in c XW HQ HS WS k (by omega) eL eU); iexact Yn
    isplitl [Ht]
    · rw [h0]; iapply (ptodo_zero c); iexact Ht
    iapply (pdone_small c XW HQ HS WS k.val (by omega)); iexact Hd

theorem step_early (k : Fin k0_t1_loop.trips) (h1 : 1 ≤ k.val) (h3 : k.val ≤ 3) :
    invAt c XW HQ HS WS k.val ⊢ wp frame (wpE (defs₀ (F := F)) 𝒱₀ (c : Thread nD τ) none) Set.univ (tripG (F := F) k) (fun _ => invAt c XW HQ HS WS (k.val + 1)) := by
  have hk := trip_lt k
  unfold invAt
  iintro ⟨Hst, ⟨R0, R1, R2, R3, R4, R5, R6, R7⟩, Hh, ⟨Y0, Y1, Y2, Y3⟩, Ht, Hd⟩
  ihave F0 := (infl_out c XW k.val k.val (by omega) (by omega)) $$ R0
  ihave F7 := (free_out c XW k.val (k.val + 7) (by omega)) $$ R7
  ihave Hh' := (homes_take c XW k.val (by omega)) $$ Hh
  icases Hh' with ⟨I0, Hr⟩
  ihave Y3' := (pfull_out c XW HQ HS WS k.val (by omega)) $$ Y3
  unfold pfullB
  icases Y3' with ⟨%fL, %fU, Yf, %hy⟩
  ihave Ht' := (ptodo_out c k.val (by omega) (by omega)) $$ Ht
  unfold ptodo1
  icases Ht' with ⟨⟨%gL, %gU, YbL, YbU⟩, Ht⟩
  ihave Y0' := (entails_of_eq (prole_free c XW HQ HS WS k.val k.val (by omega))) $$ Y0
  unfold pfreeB
  icases Y0' with ⟨%eL, %eU, Y4⟩
  iapply (wp_wand_r Idealize.ShloMosaic.frame (wpE (defs₀ (F := F)) 𝒱₀ (c : Thread nD τ) none) Set.univ)
  isplitl [Hst F0 F7 I0 Yf YbL YbU Y4]
  · iapply (trip_early c XW HQ HS WS k h1 h3 fL fU gL gU eL eU)
    isplitl [Hst]; · iexact Hst
    isplitl [F0]; · iexact F0
    isplitl [F7]; · iexact F7
    isplitl [I0]; · iexact I0
    isplitl [Yf YbL YbU]
    · isplitl [Yf]; · iexact Yf
      isplitl [YbL]; · iexact YbL
      iexact YbU
    iexact Y4
  · iintro %_ ⟨Hst, G7, E0, W0, Yf, Yn⟩
    isplitl [Hst]; · iexact Hst
    isplitl [R1 R2 R3 R4 R5 R6 G7 E0]
    · isplitl [R1]; · iapply (role_same c XW k.val (k.val + 1) (k.val + 1 + 0) (k.val + 1) (by omega) (by omega)); iexact R1
      isplitl [R2]; · iapply (role_same c XW k.val (k.val + 1) (k.val + 1 + 1) (k.val + 2) (by omega) (by omega)); iexact R2
      isplitl [R3]; · iapply (role_same c XW k.val (k.val + 1) (k.val + 1 + 2) (k.val + 3) (by omega) (by omega)); iexact R3
      isplitl [R4]; · iapply (role_same c XW k.val (k.val + 1) (k.val + 1 + 3) (k.val + 4) (by omega) (by omega)); iexact R4
      isplitl [R5]; · iapply (role_same c XW k.val (k.val + 1) (k.val + 1 + 4) (k.val + 5) (by omega) (by omega)); iexact R5
      isplitl [R6]; · iapply (role_same c XW k.val (k.val + 1) (k.val + 1 + 5) (k.val + 6) (by omega) (by omega)); iexact R6
      isplitl [G7]; · iapply (infl_in c XW (k.val + 1) (k.val + 1 + 6) (k.val + 7) (by omega) (by omega) (by omega)); iexact G7
      iapply (free_in c XW (k.val + 1) (k.val + 1 + 7) k.val (by omega) (by omega)); iexact E0
    isplitl [W0 Hr]
    · iapply (homes_give c XW k.val (by omega))
      isplitl [W0]; · iexact W0
      iexact Hr
    isplitl [Y1 Y2 Yf Yn]
    · isplitl [Y1]; · iapply (prole_same c XW HQ HS WS k.val (k.val + 1) (by omega) (by omega)); iexact Y1
      isplitl [Y2]; · iapply (prole_same c XW HQ HS WS k.val (k.val + 2) (by omega) (by omega)); iexact Y2
      isplitl [Yf]
      · iapply (pinfl_in c XW HQ HS WS k.val (by omega)); unfold pinflB; iexists fL, fU; isplitl [Yf]; · iexact Yf
        ipureintro; exact hy
      iapply (pfull_in c XW HQ HS WS k (by omega) eL eU); iexact Yn
    isplitl [Ht]
    · iexact Ht
    iapply (pdone_small c XW HQ HS WS k.val (by omega)); iexact Hd

theorem step_mid (k : Fin k0_t1_loop.trips) (h4 : 4 ≤ k.val) (h88 : k.val ≤ 88) :
    invAt c XW HQ HS WS k.val ⊢ wp frame (wpE (defs₀ (F := F)) 𝒱₀ (c : Thread nD τ) none) Set.univ (tripG (F := F) k) (fun _ => invAt c XW HQ HS WS (k.val + 1)) := by
  have hk := trip_lt k
  unfold invAt
  iintro ⟨Hst, ⟨R0, R1, R2, R3, R4, R5, R6, R7⟩, Hh, ⟨Y0, Y1, Y2, Y3⟩, Ht, Hd⟩
  ihave F0 := (infl_out c XW k.val k.val (by omega) (by omega)) $$ R0
  ihave F7 := (free_out c XW k.val (k.val + 7) (by omega)) $$ R7
  ihave Hh' := (homes_take c XW k.val (by omega)) $$ Hh
  icases Hh' with ⟨I0, Hr⟩
  ihave Y3' := (pfull_out c XW HQ HS WS k.val (by omega)) $$ Y3
  unfold pfullB
  icases Y3' with ⟨%fL, %fU, Yf, %hy⟩
  ihave Ht' := (ptodo_out c k.val (by omega) (by omega)) $$ Ht
  unfold ptodo1
  icases Ht' with ⟨⟨%gL, %gU, YbL, YbU⟩, Ht⟩
  ihave Y0' := (entails_of_eq (prole_infl c XW HQ HS WS k.val k.val (by omega) (by omega))) $$ Y0
  unfold pinflB
  icases Y0' with ⟨%eL, %eU, Y4, %hz⟩
  iapply (wp_wand_r Idealize.ShloMosaic.frame (wpE (defs₀ (F := F)) 𝒱₀ (c : Thread nD τ) none) Set.univ)
  isplitl [Hst F0 F7 I0 Yf YbL YbU Y4]
  · iapply (trip_mid c XW HQ HS WS k h4 h88 fL fU gL gU eL eU)
    isplitl [Hst]; · iexact Hst
    isplitl [F0]; · iexact F0
    isplitl [F7]; · iexact F7
    isplitl [I0]; · iexact I0
    isplitl [Yf YbL YbU]
    · isplitl [Yf]; · iexact Yf
      isplitl [YbL]; · iexact YbL
      iexact YbU
    iexact Y4
  · iintro %_ ⟨Hst, G7, E0, W0, Yf, Yn, YdL, YdU⟩
    isplitl [Hst]; · iexact Hst
    isplitl [R1 R2 R3 R4 R5 R6 G7 E0]
    · isplitl [R1]; · iapply (role_same c XW k.val (k.val + 1) (k.val + 1 + 0) (k.val + 1) (by omega) (by omega)); iexact R1
      isplitl [R2]; · iapply (role_same c XW k.val (k.val + 1) (k.val + 1 + 1) (k.val + 2) (by omega) (by omega)); iexact R2
      isplitl [R3]; · iapply (role_same c XW k.val (k.val + 1) (k.val + 1 + 2) (k.val + 3) (by omega) (by omega)); iexact R3
      isplitl [R4]; · iapply (role_same c XW k.val (k.val + 1) (k.val + 1 + 3) (k.val + 4) (by omega) (by omega)); iexact R4
      isplitl [R5]; · iapply (role_same c XW k.val (k.val + 1) (k.val + 1 + 4) (k.val + 5) (by omega) (by omega)); iexact R5
      isplitl [R6]; · iapply (role_same c XW k.val (k.val + 1) (k.val + 1 + 5) (k.val + 6) (by omega) (by omega)); iexact R6
      isplitl [G7]; · iapply (infl_in c XW (k.val + 1) (k.val + 1 + 6) (k.val + 7) (by omega) (by omega) (by omega)); iexact G7
      iapply (free_in c XW (k.val + 1) (k.val + 1 + 7) k.val (by omega) (by omega)); iexact E0
    isplitl [W0 Hr]
    · iapply (homes_give c XW k.val (by omega))
      isplitl [W0]; · iexact W0
      iexact Hr
    isplitl [Y1 Y2 Yf Yn]
    · isplitl [Y1]; · iapply (prole_same c XW HQ HS WS k.val (k.val + 1) (by omega) (by omega)); iexact Y1
      isplitl [Y2]; · iapply (prole_same c XW HQ HS WS k.val (k.val + 2) (by omega) (by omega)); iexact Y2
      isplitl [Yf]
      · iapply (pinfl_in c XW HQ HS WS k.val (by omega)); unfold pinflB; iexists fL, fU; isplitl [Yf]; · iexact Yf
        ipureintro; exact hy
      iapply (pfull_in c XW HQ HS WS k (by omega) eL eU); iexact Yn
    isplitl [Ht]
    · iexact Ht
    iapply (pdone_in c XW HQ HS WS k.val (by omega) (by omega))
    isplitl [YdL YdU]
    · iapply (pdone1_of c XW HQ HS WS (Ring.sl 4 k.val) (Ring.bk 96 (k.val - 4)) eL eU hz)
      isplitl [YdL]; · iexact YdL
      iexact YdU
    iexact Hd

theorem step_last (k : Fin k0_t1_loop.trips) (h89 : 89 ≤ k.val) :
    invAt c XW HQ HS WS k.val ⊢ wp frame (wpE (defs₀ (F := F)) 𝒱₀ (c : Thread nD τ) none) Set.univ (tripG (F := F) k) (fun _ => invAt c XW HQ HS WS (k.val + 1)) := by
  have hk := trip_lt k
  unfold invAt
  iintro ⟨Hst, ⟨R0, R1, R2, R3, R4, R5, R6, R7⟩, Hh, ⟨Y0, Y1, Y2, Y3⟩, Ht, Hd⟩
  ihave F0 := (infl_out c XW k.val k.val (by omega) (by omega)) $$ R0
  ihave Hr := (homes_take0 c XW k.val (by omega)) $$ Hh
  ihave Y3' := (pfull_out c XW HQ HS WS k.val (by omega)) $$ Y3
  unfold pfullB
  icases Y3' with ⟨%fL, %fU, Yf, %hy⟩
  ihave Ht' := (ptodo_out c k.val (by omega) (by omega)) $$ Ht
  unfold ptodo1
  icases Ht' with ⟨⟨%gL, %gU, YbL, YbU⟩, Ht⟩
  ihave Y0' := (entails_of_eq (prole_infl c XW HQ HS WS k.val k.val (by omega) (by omega))) $$ Y0
  unfold pinflB
  icases Y0' with ⟨%eL, %eU, Y4, %hz⟩
  iapply (wp_wand_r Idealize.ShloMosaic.frame (wpE (defs₀ (F := F)) 𝒱₀ (c : Thread nD τ) none) Set.univ)
  isplitl [Hst F0 Yf YbL YbU Y4]
  · iapply (trip_last c XW HQ HS WS k h89 fL fU gL gU eL eU)
    isplitl [Hst]; · iexact Hst
    isplitl [F0]; · iexact F0
    isplitl [Yf YbL YbU]
    · isplitl [Yf]; · iexact Yf
      isplitl [YbL]; · iexact YbL
      iexact YbU
    iexact Y4
  · iintro %_ ⟨Hst, E0, W0, Yf, Yn, YdL, YdU⟩
    isplitl [Hst]; · iexact Hst
    isplitl [R1 R2 R3 R4 R5 R6 R7 E0]
    · isplitl [R1]; · iapply (role_same c XW k.val (k.val + 1) (k.val + 1 + 0) (k.val + 1) (by omega) (by omega)); iexact R1
      isplitl [R2]; · iapply (role_same c XW k.val (k.val + 1) (k.val + 1 + 1) (k.val + 2) (by omega) (by omega)); iexact R2
      isplitl [R3]; · iapply (role_same c XW k.val (k.val + 1) (k.val + 1 + 2) (k.val + 3) (by omega) (by omega)); iexact R3
      isplitl [R4]; · iapply (role_same c XW k.val (k.val + 1) (k.val + 1 + 3) (k.val + 4) (by omega) (by omega)); iexact R4
      isplitl [R5]; · iapply (role_same c XW k.val (k.val + 1) (k.val + 1 + 4) (k.val + 5) (by omega) (by omega)); iexact R5
      isplitl [R6]; · iapply (role_same c XW k.val (k.val + 1) (k.val + 1 + 5) (k.val + 6) (by omega) (by omega)); iexact R6
      isplitl [R7]; · iapply (role_same c XW k.val (k.val + 1) (k.val + 1 + 6) (k.val + 7) (by omega) (by omega)); iexact R7
      iapply (free_in c XW (k.val + 1) (k.val + 1 + 7) k.val (by omega) (by omega)); iexact E0
    isplitl [W0 Hr]
    · iapply (homes_give c XW k.val (by omega))
      isplitl [W0]; · iexact W0
      iexact Hr
    isplitl [Y1 Y2 Yf Yn]
    · isplitl [Y1]; · iapply (prole_same c XW HQ HS WS k.val (k.val + 1) (by omega) (by omega)); iexact Y1
      isplitl [Y2]; · iapply (prole_same c XW HQ HS WS k.val (k.val + 2) (by omega) (by omega)); iexact Y2
      isplitl [Yf]
      · iapply (pinfl_in c XW HQ HS WS k.val (by omega)); unfold pinflB; iexists fL, fU; isplitl [Yf]; · iexact Yf
        ipureintro; exact hy
      iapply (pfull_in c XW HQ HS WS k (by omega) eL eU); iexact Yn
    isplitl [Ht]
    · iexact Ht
    iapply (pdone_in c XW HQ HS WS k.val (by omega) (by omega))
    isplitl [YdL YdU]
    · iapply (pdone1_of c XW HQ HS WS (Ring.sl 4 k.val) (Ring.bk 96 (k.val - 4)) eL eU hz)
      isplitl [YdL]; · iexact YdL
      iexact YdU
    iexact Hd

/-- One trip, whichever it is. -/
theorem step_all (k : Fin k0_t1_loop.trips) :
    invAt c XW HQ HS WS k.val ⊢ wp frame (wpE (defs₀ (F := F)) 𝒱₀ (c : Thread nD τ) none) Set.univ (tripG (F := F) k) (fun _ => invAt c XW HQ HS WS (k.val + 1)) := by
  have h96 := trip_lt k
  by_cases h0 : k.val = 0
  · exact step_first c XW HQ HS WS k h0
  by_cases h3 : k.val ≤ 3
  · exact step_early c XW HQ HS WS k (by omega) h3
  by_cases h88 : k.val ≤ 88
  · exact step_mid c XW HQ HS WS k (by omega) h88
  · exact step_last c XW HQ HS WS k (by omega)

end
end Cert.Proof.QI
-- ==== Proof.QI.Body.lean ====
module

public import proofs.«01_k».proof.Proof.QI.Loop

/-! # The body

The prologue copies the codes and scales in, issues the first seven items, stores the codes padded to 128 rows and the
scales spread over the lanes; the loop; the epilogue issues the last block pair and waits for the last four. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (c : Dev nD)
  (XC : Buf (Elt F) (cM.view.loc (c : Thread nD τ))) (XS : Buf (Elt F) (sM.view.loc (c : Thread nD τ)))
  (XWS : Buf (Elt F) (wsM.view.loc (c : Thread nD τ))) (XW : Buf (Elt F) (wM.view.loc (c : Thread nD τ)))

/-- The body at the call's own arrays and buffers. -/
abbrev bodyG : Prog (TpuEff nD τ sig (Elt F) Λ₀ .tc) PUnit :=
  cc0_parallel_block_decode cM (Memref.isWhole_whole _) sM (Memref.isWhole_whole _) wM (Memref.isWhole_whole _) wsM (Memref.isWhole_whole _) pM (Memref.isWhole_whole _)
    ringM (Memref.isWhole_whole _) hcbM (Memref.isWhole_whole _) hscM (Memref.isWhole_whole _) wsiM (Memref.isWhole_whole _) hqM (Memref.isWhole_whole _) stM (Memref.isWhole_whole _) hsbM (Memref.isWhole_whole _)
    cc0_scratch7 cc0_scratch8 cc0_scratch9

abbrev icell (s : Fin 3) : sProp 𝕄 := semVal ((c : Thread nD τ), SemLoc.dma (isem s).sem) 0

/-- The three operands copied in whole. -/
abbrev smalls : sProp 𝕄 := iprop((cM.view.loc (c : Thread nD τ) ↦[cM.view.set]{fullShare} XC) ∗ (sM.view.loc (c : Thread nD τ) ↦[sM.view.set]{fullShare} XS) ∗ (wsM.view.loc (c : Thread nD τ) ↦[wsM.view.set]{fullShare} XWS))
/-- The buffers besides the ring and the staging slots, at anything. -/
abbrev bufsAny : sProp 𝕄 := iprop((∃ f, (hcbM.view.loc (c : Thread nD τ) ↦[hcbM.view.set]{fullShare} f)) ∗ (∃ f, (hscM.view.loc (c : Thread nD τ) ↦[hscM.view.set]{fullShare} f)) ∗ (∃ f, (wsiM.view.loc (c : Thread nD τ) ↦[wsiM.view.set]{fullShare} f)) ∗ (∃ f, (hqM.view.loc (c : Thread nD τ) ↦[hqM.view.set]{fullShare} f)) ∗ (∃ f, (hsbM.view.loc (c : Thread nD τ) ↦[hsbM.view.set]{fullShare} f)))
abbrev icells : sProp 𝕄 := iprop(icell (F := F) c 0 ∗ icell (F := F) c 1 ∗ icell (F := F) c 2)
abbrev ringFree : sProp 𝕄 := iprop(rfreeAt (F := F) c 0 ∗ rfreeAt (F := F) c 1 ∗ rfreeAt (F := F) c 2 ∗ rfreeAt (F := F) c 3 ∗ rfreeAt (F := F) c 4 ∗ rfreeAt (F := F) c 5 ∗ rfreeAt (F := F) c 6 ∗ rfreeAt (F := F) c 7)
abbrev stFree : sProp 𝕄 := iprop(pfreeB (F := F) c 0 ∗ pfreeB (F := F) c 1 ∗ pfreeB (F := F) c 2 ∗ pfreeB (F := F) c 3)

/-- What the body is handed; -/
abbrev PRE (W : Waits sig Unit) : sProp 𝕄 := iprop(smalls c XC XS XWS ∗ bufsAny c ∗ icells (F := F) c ∗ ringFree (F := F) c ∗ stFree (F := F) c
  ∗ whomes c XW 0 0 ∗ ptodo (F := F) c 0 ∗ owes (c : Thread nD τ) 0 W)

theorem homes_start : whomes c XW 0 0 ⊢ iprop(whome c XW 0 ∗ whome c XW 1 ∗ whome c XW 2 ∗ whome c XW 3 ∗ whome c XW 4 ∗ whome c XW 5 ∗ whome c XW 6 ∗ whomes c XW 7 0) := by
  rw [whomes_out c XW 0 0 (by omega), whomes_out c XW 1 0 (by omega), whomes_out c XW 2 0 (by omega), whomes_out c XW 3 0 (by omega), whomes_out c XW 4 0 (by omega), whomes_out c XW 5 0 (by omega), whomes_out c XW 6 0 (by omega)]
  exact .rfl

/-- What the loop finds in the buffers it reads: the codes (padded), -/
def HQv : Buf (Elt F) (hqM.view.loc (c : Thread nD τ)) := hqM.view.writes (Elt F) hqM.view.junk
  [⟨Rect.unit (s := S128x6144) ![0, 0] S128x6144.size inb_S128x6144_S128x6144_0_0, k0_pay8 (View.readAt (Elt F) hcbM.view (Rect.unit (s := S112x6144) ![0, 0] S112x6144.size inb_S112x6144_S112x6144_0_0).toLoadRect
    (hcbM.view.writes (Elt F) hcbM.view.junk [⟨Rect.whole S112x6144, ReadAs.same.apply (cM.view.read (Elt F) XC)⟩]))⟩]
/-- the rows' scales (spread), -/
def HSv : Buf (Elt F) (hsbM.view.loc (c : Thread nD τ)) := hsbM.view.writes (Elt F) hsbM.view.junk
  [⟨Rect.unit (s := S112x128) ![0, 0] S112x128.size inb_S112x128_S112x128_0_0, k0_pay9 (View.readAt (Elt F) hscM.view (Rect.unit (s := S112x1) ![0, 0] S112x1.size inb_S112x1_S112x1_0_0).toLoadRect
    (hscM.view.writes (Elt F) hscM.view.junk [⟨Rect.whole S112x1, ReadAs.same.apply (sM.view.read (Elt F) XS)⟩]))⟩]
/-- the columns' scales. -/
def WSv : Buf (Elt F) (wsiM.view.loc (c : Thread nD τ)) := wsiM.view.writes (Elt F) wsiM.view.junk [⟨Rect.whole S1x55552, ReadAs.same.apply (wsM.view.read (Elt F) XWS)⟩]

abbrev INV (k : ℕ) : sProp 𝕄 := invAt c XW (HQv c XC) (HSv c XS) (WSv c XWS) k

theorem homes_end : whomes c XW 7 96 ⊢ whomes c XW 0 0 := by
  have e : Ring.homeSet (NB := 96) 7 96 = Ring.homeSet 0 0 := by
    ext b; rw [Ring.mem_homeSet, Ring.mem_homeSet]; have := b.isLt; omega
  unfold whomes
  rw [e]

/-- What the body hands back. -/
abbrev POST : sProp 𝕄 := iprop(smalls c XC XS XWS ∗ bufsAny c ∗ icells (F := F) c ∗ ringFree (F := F) c ∗ stFree (F := F) c
  ∗ whomes c XW 0 0 ∗ bigSep Finset.univ (pdone1 c XW (HQv c XC) (HSv c XS) (WSv c XWS)) ∗ (∃ W, owes (c : Thread nD τ) 0 W))

theorem pdone_all (HQ HS WS) : pdone c XW HQ HS WS (96 + 1 + 1 + 1 + 1) ⊢ bigSep Finset.univ (pdone1 c XW HQ HS WS) := by
  have e : (Finset.univ.filter fun b : Fin 96 => b.val + 4 < 96 + 1 + 1 + 1 + 1) = Finset.univ := by
    ext b; simp only [Finset.mem_filter, Finset.mem_univ, true_and, iff_true]; have := b.isLt; omega
  unfold pdone; rw [e]

theorem slR (p : ℕ) (s : Fin 8) (h : 96 ≤ p) (es : Ring.sl 8 p = s) : rrole c XW 96 p ⊢ rfreeAt (F := F) c s := by
  subst es; exact free_out c XW 96 p (by omega)
theorem slPi (HQ HS WS) (p : ℕ) (s : Fin 4) (b : Fin 96) (h : ¬ p < 4) (h' : ¬ p = 96 + 3) (es : Ring.sl 4 p = s) (eb : Ring.bk 96 (p - 4) = b) :
    prole c XW HQ HS WS 96 p ⊢ pinflB c XW HQ HS WS s b := by
  subst es; subst eb; exact entails_of_eq (prole_infl c XW HQ HS WS 96 p h h')
theorem slPf (HQ HS WS) (p : ℕ) (s : Fin 4) (b : Fin 96) (h : ¬ p < 4) (h' : p = 96 + 3) (es : Ring.sl 4 p = s) (eb : Ring.bk 96 (p - 4) = b) :
    prole c XW HQ HS WS 96 p ⊢ pfullB c XW HQ HS WS s b := by
  subst es; subst eb; exact entails_of_eq (prole_full c XW HQ HS WS 96 p h h')
theorem slT : ptodo (F := F) c 96 ⊢ iprop(ptodo1 (F := F) c 95 ∗ ptodo (F := F) c 97) :=
  (ptodo_out c 96 (by omega) (by omega)).trans (entails_of_eq (by rw [show Ring.bk 96 (96 - 1) = 95 from by decide]))
theorem inflP (p : ℕ) (s : Fin 8) (t : Fin 96) (h : p < 7) (es : Ring.sl 8 p = s) (et : Ring.bk 96 p = t) : rinflAt c XW s t ⊢ rrole c XW 0 p := by
  subst es; subst et; exact entails_of_eq (rrole_infl c XW 0 p (by omega) (by omega)).symm
theorem freeP : rfreeAt (F := F) c 7 ⊢ rrole c XW 0 (0 + 7) :=
  entails_of_eq ((rrole_free c XW 0 (0 + 7) (by omega)).trans (by rw [show Ring.sl 8 (0 + 7) = 7 from by decide])).symm
theorem freeY (HQ HS WS) (p : ℕ) (s : Fin 4) (h : p < 4) (es : Ring.sl 4 p = s) : pfreeB (F := F) c s ⊢ prole c XW HQ HS WS 0 p := by
  subst es; exact entails_of_eq (prole_free c XW HQ HS WS 0 p h).symm
theorem done0 (HQ HS WS) : (BI.emp : sProp 𝕄) ⊢ pdone c XW HQ HS WS 0 := by
  have e : (Finset.univ.filter fun b : Fin 96 => b.val + 4 < 0) = ∅ := by
    ext b; simp
  unfold pdone; rw [e, bigSep_empty]
theorem done_at (HQ HS WS) (k : ℕ) (b : Fin 96) (h : 4 ≤ k) (h' : k < 100) (eb : Ring.bk 96 (k - 4) = b) :
    iprop(pdone1 c XW HQ HS WS b ∗ pdone c XW HQ HS WS k) ⊢ pdone c XW HQ HS WS (k + 1) := by
  subst eb; exact pdone_in c XW HQ HS WS k h h'

set_option maxHeartbeats 8000000 in
/-- The body, from what it is handed to what it hands back. -/
theorem bodyRun (W) (Q : PUnit → sProp 𝕄) :
    iprop(PRE c XC XS XWS XW W ∗ (POST c XC XS XWS XW -∗ Q ⟨⟩)) ⊢ wp frame (wpE (defs₀ (F := F)) 𝒱₀ (c : Thread nD τ) none) Set.univ (bodyG (F := F)) Q := by
  have c1 := cond1
  have c2 := cond2
  have c3 := cond3
  have c4 := cond4
  have c5 := cond5
  have c6 := cond6
  have c7 := cond7
  iintro ⟨⟨⟨Hc, Hs, Hw⟩, ⟨⟨%bhcb, Bhcb⟩, ⟨%bhsc, Bhsc⟩, ⟨%bwsi, Bwsi⟩, ⟨%bhq, Bhq⟩, ⟨%bhsb, Bhsb⟩⟩, ⟨I0, I1, I2⟩,
    ⟨⟨C0, ⟨%f0, SL0⟩, ⟨%g0, SU0⟩⟩, ⟨C1, ⟨%f1, SL1⟩, ⟨%g1, SU1⟩⟩, ⟨C2, ⟨%f2, SL2⟩, ⟨%g2, SU2⟩⟩, ⟨C3, ⟨%f3, SL3⟩, ⟨%g3, SU3⟩⟩, ⟨C4, ⟨%f4, SL4⟩, ⟨%g4, SU4⟩⟩, ⟨C5, ⟨%f5, SL5⟩, ⟨%g5, SU5⟩⟩, ⟨C6, ⟨%f6, SL6⟩, ⟨%g6, SU6⟩⟩, ⟨C7, ⟨%f7, SL7⟩, ⟨%g7, SU7⟩⟩⟩, ⟨Y0, Y1, Y2, Y3⟩, Hh, Ht, HW⟩, Hk⟩
  ihave Hh' := (homes_start c XW) $$ Hh
  icases Hh' with ⟨⟨HL0, HU0⟩, ⟨HL1, HU1⟩, ⟨HL2, HU2⟩, ⟨HL3, HU3⟩, ⟨HL4, HU4⟩, ⟨HL5, HU5⟩, ⟨HL6, HU6⟩, Hh⟩
  imod (Transfers.batch_alloc' (Lvl := ℕ) countersEmb (c : Thread nD τ) () NW (rD c XW 0 0) (sm := SemLoc.dma (rsem 0).sem) (E := Set.univ)) $$ C0 with C0
  imod (Transfers.batch_alloc' (Lvl := ℕ) countersEmb (c : Thread nD τ) () NW (rD c XW 1 1) (sm := SemLoc.dma (rsem 1).sem) (E := Set.univ)) $$ C1 with C1
  imod (Transfers.batch_alloc' (Lvl := ℕ) countersEmb (c : Thread nD τ) () NW (rD c XW 2 2) (sm := SemLoc.dma (rsem 2).sem) (E := Set.univ)) $$ C2 with C2
  imod (Transfers.batch_alloc' (Lvl := ℕ) countersEmb (c : Thread nD τ) () NW (rD c XW 3 3) (sm := SemLoc.dma (rsem 3).sem) (E := Set.univ)) $$ C3 with C3
  imod (Transfers.batch_alloc' (Lvl := ℕ) countersEmb (c : Thread nD τ) () NW (rD c XW 4 4) (sm := SemLoc.dma (rsem 4).sem) (E := Set.univ)) $$ C4 with C4
  imod (Transfers.batch_alloc' (Lvl := ℕ) countersEmb (c : Thread nD τ) () NW (rD c XW 5 5) (sm := SemLoc.dma (rsem 5).sem) (E := Set.univ)) $$ C5 with C5
  imod (Transfers.batch_alloc' (Lvl := ℕ) countersEmb (c : Thread nD τ) () NW (rD c XW 6 6) (sm := SemLoc.dma (rsem 6).sem) (E := Set.univ)) $$ C6 with C6
  sl_exec
  sl_for (fun k _ => INV c XC XS XWS XW k) $$ [Bhq Bhsb Bwsi C0 C1 C2 C3 C4 C5 C6 C7 SL7 SU7 Y0 Y1 Y2 Y3 Ht Hh HW]
  · intro k acc
    exact step_all c XW (HQv c XC) (HSv c XS) (WSv c XWS) k
  · unfold INV invAt
    isplitl [Bhq Bhsb Bwsi HW]
    · isplitl [Bhq]; · iexact Bhq
      isplitl [Bhsb]; · iexact Bhsb
      isplitl [Bwsi]; · iexact Bwsi
      iexists _; iexact HW
    isplitl [C0 C1 C2 C3 C4 C5 C6 C7 SL7 SU7]
    · isplitl [C0]; · iapply (inflP c XW (0 + 0) 0 0 (by omega) (by decide) (by decide)); iexact C0
      isplitl [C1]; · iapply (inflP c XW (0 + 1) 1 1 (by omega) (by decide) (by decide)); iexact C1
      isplitl [C2]; · iapply (inflP c XW (0 + 2) 2 2 (by omega) (by decide) (by decide)); iexact C2
      isplitl [C3]; · iapply (inflP c XW (0 + 3) 3 3 (by omega) (by decide) (by decide)); iexact C3
      isplitl [C4]; · iapply (inflP c XW (0 + 4) 4 4 (by omega) (by decide) (by decide)); iexact C4
      isplitl [C5]; · iapply (inflP c XW (0 + 5) 5 5 (by omega) (by decide) (by decide)); iexact C5
      isplitl [C6]; · iapply (inflP c XW (0 + 6) 6 6 (by omega) (by decide) (by decide)); iexact C6
      iapply (freeP c XW); isplitl [C7]; · iexact C7
      isplitl [SL7]; · iexists f7; iexact SL7
      iexists g7; iexact SU7
    isplitl [Hh]; · iexact Hh
    isplitl [Y0 Y1 Y2 Y3]
    · isplitl [Y0]; · iapply (freeY c XW (HQv c XC) (HSv c XS) (WSv c XWS) 0 0 (by omega) (by decide)); iexact Y0
      isplitl [Y1]; · iapply (freeY c XW (HQv c XC) (HSv c XS) (WSv c XWS) (0 + 1) 1 (by omega) (by decide)); iexact Y1
      isplitl [Y2]; · iapply (freeY c XW (HQv c XC) (HSv c XS) (WSv c XWS) (0 + 2) 2 (by omega) (by decide)); iexact Y2
      iapply (freeY c XW (HQv c XC) (HSv c XS) (WSv c XWS) (0 + 3) 3 (by omega) (by decide)); iexact Y3
    isplitl [Ht]; · iexact Ht
    iapply (done0 c XW (HQv c XC) (HSv c XS) (WSv c XWS)); iempintro
  rw [show Scf.trips k0_t1_loop.lb k0_t1_loop.ub k0_t1_loop.st = 96 from trips_eq]
  unfold INV invAt
  iintro %acc ⟨⟨Bhq, Bhsb, Bwsi, ⟨%W', HW⟩⟩, ⟨R0, R1, R2, R3, R4, R5, R6, R7⟩, Hh, ⟨Y0, Y1, Y2, Y3⟩, Ht, Hd⟩
  ihave Y0' := (slPi c XW (HQv c XC) (HSv c XS) (WSv c XWS) (96 + 0) 0 92 (by omega) (by omega) (by decide) (by decide)) $$ Y0
  ihave Y1' := (slPi c XW (HQv c XC) (HSv c XS) (WSv c XWS) (96 + 1) 1 93 (by omega) (by omega) (by decide) (by decide)) $$ Y1
  ihave Y2' := (slPi c XW (HQv c XC) (HSv c XS) (WSv c XWS) (96 + 2) 2 94 (by omega) (by omega) (by decide) (by decide)) $$ Y2
  ihave Y3' := (slPf c XW (HQv c XC) (HSv c XS) (WSv c XWS) (96 + 3) 3 95 (by omega) (by omega) (by decide) (by decide)) $$ Y3
  ihave Ht' := (slT c) $$ Ht
  unfold pinflB pfullB ptodo1
  icases Y0' with ⟨%l0, %u0, Y0, %h0⟩
  icases Y1' with ⟨%l1, %u1, Y1, %h1⟩
  icases Y2' with ⟨%l2, %u2, Y2, %h2⟩
  icases Y3' with ⟨%l3, %u3, ⟨Y3c, Y3L, Y3U⟩, %h3⟩
  icases Ht' with ⟨⟨%t3, %v3, YbL, YbU⟩, Ht⟩
  imod (Transfers.batch_alloc' (Lvl := ℕ) countersEmb (c : Thread nD τ) () NP (pD c 3 95 l3 u3) (sm := SemLoc.dma (psem 3).sem) (E := Set.univ)) $$ Y3c with Y3
  sl_exec
  sl_step
  iapply Hk
  isplitl [Hc Hs Hw]
  · isplitl [Hc]; · iexact Hc
    isplitl [Hs]; · iexact Hs
    iexact Hw
  isplitl [Bhcb Bhsc Bwsi Bhq Bhsb]
  · isplitl [Bhcb]; · iexists _; iexact Bhcb
    isplitl [Bhsc]; · iexists _; iexact Bhsc
    isplitl [Bwsi]; · iexists _; iexact Bwsi
    isplitl [Bhq]; · iexists _; iexact Bhq
    iexists _; iexact Bhsb
  isplitl [I0 I1 I2]
  · isplitl [I0]; · iexact I0
    isplitl [I1]; · iexact I1
    iexact I2
  isplitl [R0 R1 R2 R3 R4 R5 R6 R7]
  · isplitl [R0]; · iapply (slR c XW (96 + 0) 0 (by omega) (by decide)); iexact R0
    isplitl [R1]; · iapply (slR c XW (96 + 1) 1 (by omega) (by decide)); iexact R1
    isplitl [R2]; · iapply (slR c XW (96 + 2) 2 (by omega) (by decide)); iexact R2
    isplitl [R3]; · iapply (slR c XW (96 + 3) 3 (by omega) (by decide)); iexact R3
    isplitl [R4]; · iapply (slR c XW (96 + 4) 4 (by omega) (by decide)); iexact R4
    isplitl [R5]; · iapply (slR c XW (96 + 5) 5 (by omega) (by decide)); iexact R5
    isplitl [R6]; · iapply (slR c XW (96 + 6) 6 (by omega) (by decide)); iexact R6
    iapply (slR c XW (96 + 7) 7 (by omega) (by decide)); iexact R7
  isplitl [Y0 Y0_src0 Y0_src1 Y1 Y1_src0 Y1_src1 Y2 Y2_src0 Y2_src1 Y3 Y3_src0 Y3_src1]
  · isplitl [Y0 Y0_src0 Y0_src1]
    · unfold pfreeB; iexists l0, u0; isplitl [Y0]; · iexact Y0
      isplitl [Y0_src0]; · iexact Y0_src0
      iexact Y0_src1
    isplitl [Y1 Y1_src0 Y1_src1]
    · unfold pfreeB; iexists l1, u1; isplitl [Y1]; · iexact Y1
      isplitl [Y1_src0]; · iexact Y1_src0
      iexact Y1_src1
    isplitl [Y2 Y2_src0 Y2_src1]
    · unfold pfreeB; iexists l2, u2; isplitl [Y2]; · iexact Y2
      isplitl [Y2_src0]; · iexact Y2_src0
      iexact Y2_src1
    unfold pfreeB; iexists l3, u3; isplitl [Y3]; · iexact Y3
    isplitl [Y3_src0]; · iexact Y3_src0
    iexact Y3_src1
  isplitl [Hh]; · iapply (homes_end c XW); iexact Hh
  isplitl [Hd Y0_dst0 Y0_dst1 Y1_dst0 Y1_dst1 Y2_dst0 Y2_dst1 Y3_dst0 Y3_dst1]
  · iapply (pdone_all c XW (HQv c XC) (HSv c XS) (WSv c XWS))
    iapply (done_at c XW (HQv c XC) (HSv c XS) (WSv c XWS) (96 + 1 + 1 + 1) 95 (by omega) (by omega) (by decide))
    isplitl [Y3_dst0 Y3_dst1]
    · iapply (pdone1_of c XW (HQv c XC) (HSv c XS) (WSv c XWS) 3 95 l3 u3 h3)
      isplitl [Y3_dst0]; · iexact Y3_dst0
      iexact Y3_dst1
    iapply (done_at c XW (HQv c XC) (HSv c XS) (WSv c XWS) (96 + 1 + 1) 94 (by omega) (by omega) (by decide))
    isplitl [Y2_dst0 Y2_dst1]
    · iapply (pdone1_of c XW (HQv c XC) (HSv c XS) (WSv c XWS) 2 94 l2 u2 h2)
      isplitl [Y2_dst0]; · iexact Y2_dst0
      iexact Y2_dst1
    iapply (done_at c XW (HQv c XC) (HSv c XS) (WSv c XWS) (96 + 1) 93 (by omega) (by omega) (by decide))
    isplitl [Y1_dst0 Y1_dst1]
    · iapply (pdone1_of c XW (HQv c XC) (HSv c XS) (WSv c XWS) 1 93 l1 u1 h1)
      isplitl [Y1_dst0]; · iexact Y1_dst0
      iexact Y1_dst1
    iapply (done_at c XW (HQv c XC) (HSv c XS) (WSv c XWS) (96) 92 (by omega) (by omega) (by decide))
    isplitl [Y0_dst0 Y0_dst1]
    · iapply (pdone1_of c XW (HQv c XC) (HSv c XS) (WSv c XWS) 0 92 l0 u0 h0)
      isplitl [Y0_dst0]; · iexact Y0_dst0
      iexact Y0_dst1
    iexact Hd
  iexists _; iexact HW

end
end Cert.Proof.QI
-- ==== Proof.QI.Launch.lean ====
module

public import proofs.«01_k».proof.Proof.QI.Body
public import proofs.«01_k».proof.Proof.Gen.ProjIdeal.Launch
public import Idealize.ShloMosaic.Lib.Pipeline.FrameBody
public import Idealize.ShloMosaic.Lib.Pipeline.KitQuiescent

/-! # The launch

The call's operands and buffers, cut into the items, slots and blocks the body's run takes; the run of the whole program:
every buffer of the arguments as at launch, every counter at zero, and each block pair of the result as the trip of its
number stores it (`Pok`). The weights' columns outside the gate and up blocks are held aside. -/

@[expose] public section

set_option maxRecDepth 16384

noncomputable section

namespace Cert.Proof.QI

open Cert.ProjIdeal Cert.ProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The arrays when the call is entered -/

/-- Core `c`'s buffers when the call is entered: after the host's reshapes. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
/-- A buffer the host does not write is as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))
theorem V_main_arg0 (c : Dev nD) : V m c main_arg0 = m ((c : Thread nD τ).loc main_arg0) := V_of_ne m c main_arg0 (by decide) (by decide)
theorem V_main_arg1 (c : Dev nD) : V m c main_arg1 = m ((c : Thread nD τ).loc main_arg1) := V_of_ne m c main_arg1 (by decide) (by decide)
theorem V_main_arg2 (c : Dev nD) : V m c main_arg2 = m ((c : Thread nD τ).loc main_arg2) := V_of_ne m c main_arg2 (by decide) (by decide)
theorem V_main_arg3 (c : Dev nD) : V m c main_arg3 = m ((c : Thread nD τ).loc main_arg3) := V_of_ne m c main_arg3 (by decide) (by decide)

/-! ## Semaphores -/

abbrev osem : Fin 15 → SemLoc sig := ![.dma (rsem 0).sem, .dma (rsem 1).sem, .dma (rsem 2).sem, .dma (rsem 3).sem, .dma (rsem 4).sem, .dma (rsem 5).sem, .dma (rsem 6).sem, .dma (rsem 7).sem, .dma (isem 0).sem, .dma (isem 1).sem, .dma (isem 2).sem, .dma (psem 0).sem, .dma (psem 1).sem, .dma (psem 2).sem, .dma (psem 3).sem]
theorem ownSemFacts : Pipeline.OwnSemFacts cfg0.spec osem := by decide

/-! ## Element sets -/

theorem RB_disjoint : ∀ b b' : Fin 8, b ≠ b' → Disjoint (RB b) (RB b') := by
  intro b b' hne; rw [Finset.disjoint_left]; intro y hy hy'; rw [mem_RB] at hy hy'; exact hne (Fin.ext (by omega))
theorem RB_cover : (Finset.univ : Finset (Fin 8)).biUnion RB = Finset.univ := by
  ext y; simp only [Finset.mem_biUnion, Finset.mem_univ, true_and, iff_true]
  exact ⟨(y 0).cast (by decide), by rw [mem_RB]; rfl⟩

/-- A half of staging slot `s`. -/
abbrev GB (n : Nat) (h : n ≤ 256) (s : Fin 4) : Finset S4x112x512.Idx := (Rect.unit (s := S4x112x512) (gOff n s) S1x112x256.size (gOff_inb n h s)).set
omit [FloatOps F] in
theorem GBL_set (s : Fin 4) : (phL s : Memref sig .tc .vmem _ _).view.set = GB 0 (by omega) s := (View.set_reshape _ _).trans (View.set_slice_whole _ _)
omit [FloatOps F] in
theorem GBU_set (s : Fin 4) : (phU s : Memref sig .tc .vmem _ _).view.set = GB 256 (by omega) s := (View.set_reshape _ _).trans (View.set_slice_whole _ _)
theorem mem_GB (n : Nat) (h : n ≤ 256) (s : Fin 4) (y : S4x112x512.Idx) : y ∈ GB n h s ↔ (y 0).val = s.val ∧ n ≤ (y 2).val ∧ (y 2).val < n + 256 := by
  rw [Rect.mem_set_unit]
  have h1 : (y 1).val < 112 := (y 1).isLt
  constructor
  · intro H
    have a0 : s.val ≤ (y 0).val ∧ (y 0).val < s.val + 1 := H 0
    have a2 : n ≤ (y 2).val ∧ (y 2).val < n + 256 := H 2
    omega
  · intro H i; fin_cases i
    · show s.val ≤ (y 0).val ∧ (y 0).val < s.val + 1; omega
    · show 0 ≤ (y 1).val ∧ (y 1).val < 0 + 112; omega
    · show n ≤ (y 2).val ∧ (y 2).val < n + 256; omega
theorem GB_disjoint (s : Fin 4) : Disjoint (GB 0 (by omega) s) (GB 256 (by omega) s) := by
  rw [Finset.disjoint_left]; intro y hy hy'; rw [mem_GB] at hy hy'; omega
/-- Staging slot `s`: its two halves. -/
abbrev SB (s : Fin 4) : Finset S4x112x512.Idx := GB 0 (by omega) s ∪ GB 256 (by omega) s
theorem mem_SB (s : Fin 4) (y : S4x112x512.Idx) : y ∈ SB s ↔ (y 0).val = s.val := by
  rw [Finset.mem_union, mem_GB, mem_GB]
  have h2 : (y 2).val < 512 := (y 2).isLt
  omega
theorem SB_disjoint : ∀ b b' : Fin 4, b ≠ b' → Disjoint (SB b) (SB b') := by
  intro b b' hne; rw [Finset.disjoint_left]; intro y hy hy'; rw [mem_SB] at hy hy'; exact hne (Fin.ext (by omega))
theorem SB_cover : (Finset.univ : Finset (Fin 4)).biUnion SB = Finset.univ := by
  ext y; simp only [Finset.mem_biUnion, Finset.mem_univ, true_and, iff_true]
  exact ⟨(y 0).cast (by decide), by rw [mem_SB]; rfl⟩

/-- A block of the result. -/
abbrev YH (n : Nat) (h : n ≤ 24576) (b : Fin 96) : Finset S112x49152.Idx := (Rect.unit (s := S112x49152) (pOff n b) S112x256.size (pOff_inb n h b)).set
omit [FloatOps F] in
theorem YL_set (b : Fin 96) : (pbL b : Memref sig .tc .hbm _ _).view.set = YH 0 (by omega) b := View.set_slice_whole _ _
omit [FloatOps F] in
theorem YU_set (b : Fin 96) : (pbU b : Memref sig .tc .hbm _ _).view.set = YH 24576 (by omega) b := View.set_slice_whole _ _
theorem mem_YH (n : Nat) (h : n ≤ 24576) (b : Fin 96) (y : S112x49152.Idx) : y ∈ YH n h b ↔ n + 256 * b.val ≤ (y 1).val ∧ (y 1).val < n + 256 * b.val + 256 := by
  rw [Rect.mem_set_unit]
  have h0 : (y 0).val < 112 := (y 0).isLt
  constructor
  · intro H; exact H 1
  · intro H i; fin_cases i
    · show 0 ≤ (y 0).val ∧ (y 0).val < 0 + 112; omega
    · exact H
theorem YH_disjoint (b : Fin 96) : Disjoint (YH 0 (by omega) b) (YH 24576 (by omega) b) := by
  rw [Finset.disjoint_left]; intro y hy hy'; rw [mem_YH] at hy hy'; have := b.isLt; omega
/-- Block pair `b` of the result. -/
abbrev YB (b : Fin 96) : Finset S112x49152.Idx := YH 0 (by omega) b ∪ YH 24576 (by omega) b
theorem mem_YB (b : Fin 96) (y : S112x49152.Idx) : y ∈ YB b ↔ (y 1).val % 24576 / 256 = b.val := by
  rw [Finset.mem_union, mem_YH, mem_YH]
  have h1 : (y 1).val < 49152 := (y 1).isLt
  have := b.isLt
  omega
theorem YB_disjoint : ∀ b b' : Fin 96, b ≠ b' → Disjoint (YB b) (YB b') := by
  intro b b' hne; rw [Finset.disjoint_left]; intro y hy hy'; rw [mem_YB] at hy hy'; exact hne (Fin.ext (by omega))
theorem YB_cover : (Finset.univ : Finset (Fin 96)).biUnion YB = Finset.univ := by
  ext y; simp only [Finset.mem_biUnion, Finset.mem_univ, true_and, iff_true]
  exact ⟨⟨(y 1).val % 24576 / 256, by omega⟩, by rw [mem_YB]⟩

/-- A block of the weights. -/
abbrev WH (n : Nat) (h : n ≤ 30976) (b : Fin 96) : Finset S6144x55552.Idx := (Rect.unit (s := S6144x55552) (wOff n b) S6144x256.size (wOff_inb n h b)).set
omit [FloatOps F] in
theorem WL_set (b : Fin 96) : (wbL b : Memref sig .tc .hbm _ _).view.set = WH 6400 (by omega) b := View.set_slice_whole _ _
omit [FloatOps F] in
theorem WU_set (b : Fin 96) : (wbU b : Memref sig .tc .hbm _ _).view.set = WH 30976 (by omega) b := View.set_slice_whole _ _
theorem mem_WH (n : Nat) (h : n ≤ 30976) (b : Fin 96) (y : S6144x55552.Idx) : y ∈ WH n h b ↔ n + 256 * b.val ≤ (y 1).val ∧ (y 1).val < n + 256 * b.val + 256 := by
  rw [Rect.mem_set_unit]
  have h0 : (y 0).val < 6144 := (y 0).isLt
  constructor
  · intro H; exact H 1
  · intro H i; fin_cases i
    · show 0 ≤ (y 0).val ∧ (y 0).val < 0 + 6144; omega
    · exact H
theorem WH_disjoint (b : Fin 96) : Disjoint (WH 6400 (by omega) b) (WH 30976 (by omega) b) := by
  rw [Finset.disjoint_left]; intro y hy hy'; rw [mem_WH] at hy hy'; have := b.isLt; omega
/-- Item `b` of the weights; -/
abbrev WB (b : Fin 96) : Finset S6144x55552.Idx := WH 6400 (by omega) b ∪ WH 30976 (by omega) b
theorem mem_WB (b : Fin 96) (y : S6144x55552.Idx) : y ∈ WB b ↔ 6400 ≤ (y 1).val ∧ ((y 1).val - 6400) % 24576 / 256 = b.val := by
  rw [Finset.mem_union, mem_WH, mem_WH]
  have h1 : (y 1).val < 55552 := (y 1).isLt
  have := b.isLt
  omega
theorem WB_disjoint : ∀ b b' : Fin 96, b ≠ b' → Disjoint (WB b) (WB b') := by
  intro b b' hne; rw [Finset.disjoint_left]; intro y hy hy'; rw [mem_WB] at hy hy'; exact hne (Fin.ext (by omega))
/-- all the items' elements. -/
abbrev WT : Finset S6144x55552.Idx := (Finset.univ : Finset (Fin 96)).biUnion WB

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

omit [FloatOps F] in
/-- A whole buffer through its own view. -/
theorem whole_eq (c : Dev nD) (b : Ref sig .tc) (f : Buf (Elt F) ((c : Thread nD τ).loc b)) :
    (((c : Thread nD τ).loc b) ↦{fullShare} f : sProp 𝕄) = (((Memref.whole b).view.loc (c : Thread nD τ)) ↦[(Memref.whole b).view.set]{fullShare} f) := by
  rw [show (Memref.whole b).view.set = Finset.univ from View.set_whole b]

/-! ## The weights -/

/-- The weights' elements outside the items. -/
abbrev wrest (c : Dev nD) (XW : Buf (Elt F) (wM.view.loc (c : Thread nD τ))) : sProp 𝕄 :=
  ((c : Thread nD τ).loc main_arg2) ↦[Finset.univ \ WT]{fullShare} XW
omit [FloatOps F] in
theorem wL_at (c : Dev nD) (XW : Buf (Elt F) (wM.view.loc (c : Thread nD τ))) (b : Fin 96) :
    whomeL c XW b = (((c : Thread nD τ).loc main_arg2) ↦[WH 6400 (by omega) b]{fullShare} XW : sProp 𝕄) :=
  congrArg (fun S => (((c : Thread nD τ).loc main_arg2) ↦[S]{fullShare} XW : sProp 𝕄)) (WL_set b)
omit [FloatOps F] in
theorem wU_at (c : Dev nD) (XW : Buf (Elt F) (wM.view.loc (c : Thread nD τ))) (b : Fin 96) :
    whomeU c XW b = (((c : Thread nD τ).loc main_arg2) ↦[WH 30976 (by omega) b]{fullShare} XW : sProp 𝕄) :=
  congrArg (fun S => (((c : Thread nD τ).loc main_arg2) ↦[S]{fullShare} XW : sProp 𝕄)) (WU_set b)
theorem home_all : Ring.homeSet (NB := 96) 0 0 = Finset.univ := by
  ext b; rw [Ring.mem_homeSet]; simp
/-- The weights whole are their items at home and the rest, -/
theorem w_split (c : Dev nD) (XW : Buf (Elt F) (wM.view.loc (c : Thread nD τ))) :
    (((c : Thread nD τ).loc main_arg2) ↦{fullShare} XW : sProp 𝕄) ⊢ iprop(whomes c XW 0 0 ∗ wrest c XW) := by
  unfold whomes
  rw [home_all]
  iintro H
  ihave H2 := ((pointsTo_union (ℓ := (c : Thread nD τ).loc main_arg2) (q := fullShare) (f := XW) (I := WT) (J := Finset.univ \ WT) Finset.disjoint_sdiff).1) $$ [H]
  · iapply (entails_of_eq (congrArg (fun S => (((c : Thread nD τ).loc main_arg2) ↦[S]{fullShare} XW : sProp 𝕄)) (Finset.union_sdiff_of_subset (Finset.subset_univ WT)).symm)); iexact H
  icases H2 with ⟨H, Hr⟩
  isplitl [H]
  · iapply (show (bigSep Finset.univ (fun b : Fin 96 => (((c : Thread nD τ).loc main_arg2) ↦[WB b]{fullShare} XW)) : sProp 𝕄) ⊢ bigSep Finset.univ (whome c XW) from bigSep_mono fun b _ => by
      unfold whome
      rw [wL_at, wU_at]; exact (pointsTo_union (WH_disjoint b)).1)
    iapply (entails_of_eq (pointsTo_biUnion Finset.univ WB (fun b _ b' _ h => WB_disjoint b b' h))); iexact H
  iexact Hr
/-- and back. -/
theorem w_join (c : Dev nD) (XW : Buf (Elt F) (wM.view.loc (c : Thread nD τ))) :
    iprop(whomes c XW 0 0 ∗ wrest c XW) ⊢ (((c : Thread nD τ).loc main_arg2) ↦{fullShare} XW : sProp 𝕄) := by
  unfold whomes
  rw [home_all]
  iintro ⟨H, Hr⟩
  iapply (entails_of_eq (congrArg (fun S => (((c : Thread nD τ).loc main_arg2) ↦[S]{fullShare} XW : sProp 𝕄)) (Finset.union_sdiff_of_subset (Finset.subset_univ WT))))
  iapply ((pointsTo_union (ℓ := (c : Thread nD τ).loc main_arg2) (q := fullShare) (f := XW) (I := WT) (J := Finset.univ \ WT) Finset.disjoint_sdiff).2)
  isplitl [H]
  · iapply (entails_of_eq (pointsTo_biUnion Finset.univ WB (fun b _ b' _ h => WB_disjoint b b' h)).symm)
    iapply (show (bigSep Finset.univ (whome c XW) : sProp 𝕄) ⊢ bigSep Finset.univ (fun b : Fin 96 => (((c : Thread nD τ).loc main_arg2) ↦[WB b]{fullShare} XW)) from bigSep_mono fun b _ => by
      unfold whome
      rw [wL_at, wU_at]; exact (pointsTo_union (WH_disjoint b)).2)
    iexact H
  iexact Hr

/-! ## The result's array -/

omit [FloatOps F] in
theorem yL_at (c : Dev nD) (b : Fin 96) (f) : phomeL c b f = (((c : Thread nD τ).loc main_v2) ↦[YH 0 (by omega) b]{fullShare} f : sProp 𝕄) :=
  congrArg (fun S => (((c : Thread nD τ).loc main_v2) ↦[S]{fullShare} f : sProp 𝕄)) (YL_set b)
omit [FloatOps F] in
theorem yU_at (c : Dev nD) (b : Fin 96) (f) : phomeU c b f = (((c : Thread nD τ).loc main_v2) ↦[YH 24576 (by omega) b]{fullShare} f : sProp 𝕄) :=
  congrArg (fun S => (((c : Thread nD τ).loc main_v2) ↦[S]{fullShare} f : sProp 𝕄)) (YU_set b)
/-- The result's array cut into its block pairs; -/
theorem y_split (c : Dev nD) (f : Buf (Elt F) ((c : Thread nD τ).loc main_v2)) :
    (((c : Thread nD τ).loc main_v2) ↦{fullShare} f : sProp 𝕄) ⊢ ptodo (F := F) c 0 := by
  have e : (Finset.univ.filter fun b : Fin 96 => 0 ≤ b.val + 1) = Finset.univ := by
    ext b; simp
  unfold ptodo; rw [e, Ring.pointsTo_blocks (ℓ := (c : Thread nD τ).loc main_v2) YB YB_disjoint YB_cover]
  refine bigSep_mono fun b _ => ?_
  show (((c : Thread nD τ).loc main_v2) ↦[YB b]{fullShare} f : sProp 𝕄) ⊢ iprop(∃ gL gU, phomeL c b gL ∗ phomeU c b gU)
  refine ((pointsTo_union (YH_disjoint b)).1).trans ?_
  iintro ⟨HL, HU⟩
  iexists f, f
  isplitl [HL]; · iapply (entails_of_eq (yL_at c b f).symm); iexact HL
  iapply (entails_of_eq (yU_at c b f).symm); iexact HU
/-- A block pair from its two blocks. -/
def pw (b : Fin 96) (gL gU : S112x49152.Idx → Elt F .bf16) : S112x49152.Idx → Elt F .bf16 := (YH 24576 (by omega) b).piecewise gU gL
/-- and joined, each block pair as stored. -/
theorem y_join (c : Dev nD) (XW HQ HS WS) :
    bigSep Finset.univ (pdone1 c XW HQ HS WS) ⊢ (iprop(∃ f : Buf (Elt F) ((c : Thread nD τ).loc main_v2), (((c : Thread nD τ).loc main_v2) ↦{fullShare} f)
      ∗ ⌜∀ b : Fin 96, Pok c XW HQ HS WS b ((pbL b).view.read (Elt F) f) ((pbU b).view.read (Elt F) f)⌝) : sProp 𝕄) := by
  have e : ∀ b ∈ (Finset.univ : Finset (Fin 96)), pdone1 c XW HQ HS WS b
      ⊢ (iprop(∃ f : Buf (Elt F) ((c : Thread nD τ).loc main_v2), ⌜Pok c XW HQ HS WS b ((pbL b).view.read (Elt F) f) ((pbU b).view.read (Elt F) f)⌝ ∗ (((c : Thread nD τ).loc main_v2) ↦[YB b]{fullShare} f)) : sProp 𝕄) := fun b _ => by
    unfold pdone1
    iintro ⟨%gL, %gU, HL, HU, %h⟩
    ihave HL' := (entails_of_eq (yL_at c b gL)) $$ HL
    ihave HU' := (entails_of_eq (yU_at c b gU)) $$ HU
    ihave J := (pointsTo_join (ℓ := (c : Thread nD τ).loc main_v2) (q := fullShare) (f := gL) (g := gU) (YH_disjoint b)) $$ [HL' HU']
    · isplitl [HL']; · iexact HL'
      iexact HU'
    iexists (pw b gL gU)
    isplitr
    · ipureintro
      have eL : (pbL b).view.read (Elt F) (pw b gL gU) = (pbL b).view.read (Elt F) gL :=
        View.read_congr fun i hi => Finset.piecewise_eq_of_notMem _ _ _ (Finset.disjoint_left.mp (YH_disjoint b) (by rw [← YL_set]; exact hi))
      have eU : (pbU b).view.read (Elt F) (pw b gL gU) = (pbU b).view.read (Elt F) gU :=
        View.read_congr fun i hi => Finset.piecewise_eq_of_mem _ _ _ (by rw [← YU_set]; exact hi)
      exact (congrArg₂ (Pok c XW HQ HS WS b) eL eU).mpr h
    iexact J
  refine (bigSep_mono e).trans ?_
  haveI : Nonempty (Buf (Elt F) ((c : Thread nD τ).loc main_v2)) := ⟨pM.view.junk⟩
  refine (Idealize.SL.BI.bigSep_exists_pi Finset.univ (fun b (f : Buf (Elt F) ((c : Thread nD τ).loc main_v2)) => (iprop(⌜Pok c XW HQ HS WS b ((pbL b).view.read (Elt F) f) ((pbU b).view.read (Elt F) f)⌝ ∗ (((c : Thread nD τ).loc main_v2) ↦[YB b]{fullShare} f)) : sProp 𝕄))).trans ?_
  iintro ⟨%fs, H⟩
  ihave H' := (Idealize.SL.BI.bigSep_pure_sep Finset.univ (fun b => Pok c XW HQ HS WS b ((pbL b).view.read (Elt F) (fs b)) ((pbU b).view.read (Elt F) (fs b))) (fun b => ((((c : Thread nD τ).loc main_v2) ↦[YB b]{fullShare} (fs b)) : sProp 𝕄))) $$ H
  icases H' with ⟨%hp, H⟩
  ihave J := (pointsTo_biUnion_join Finset.univ YB fs (pM.view.junk) (fun b _ b' _ h => YB_disjoint b b' h)) $$ H
  icases J with ⟨%g, %hg, H⟩
  iexists g
  isplitl [H]
  · iapply (entails_of_eq (show (((c : Thread nD τ).loc main_v2) ↦[Finset.univ.biUnion YB]{fullShare} g : sProp 𝕄) = (((c : Thread nD τ).loc main_v2) ↦{fullShare} g) from by rw [YB_cover])); iexact H
  ipureintro
  intro b
  have hL : (pbL b).view.read (Elt F) g = (pbL b).view.read (Elt F) (fs b) :=
    View.read_congr fun i hi => hg b (Finset.mem_univ b) i (Finset.mem_union_left _ (by rw [← YL_set]; exact hi))
  have hU : (pbU b).view.read (Elt F) g = (pbU b).view.read (Elt F) (fs b) :=
    View.read_congr fun i hi => hg b (Finset.mem_univ b) i (Finset.mem_union_right _ (by rw [← YU_set]; exact hi))
  rw [hL, hU]; exact hp b (Finset.mem_univ b)

/-! ## The ring and the staging buffer -/

/-- A ring slot's halves at anything; -/
def rany (c : Dev nD) (s : Fin 8) : sProp 𝕄 := iprop((∃ f, rheldL (F := F) c s f) ∗ ∃ f, rheldU (F := F) c s f)
/-- a staging slot's. -/
def pany (c : Dev nD) (s : Fin 4) : sProp 𝕄 := iprop((∃ f, pheldL (F := F) c s f) ∗ ∃ f, pheldU (F := F) c s f)
omit [FloatOps F] in
theorem ring_at (c : Dev nD) (s : Fin 8) (f) : rheldS c s f = (((c : Thread nD τ).loc cc0_scratch0) ↦[RB s]{fullShare} f : sProp 𝕄) :=
  congrArg (fun S => (((c : Thread nD τ).loc cc0_scratch0) ↦[S]{fullShare} f : sProp 𝕄)) (RB_set s)
theorem ring_split (c : Dev nD) : iprop(∃ f : Buf (Elt F) ((c : Thread nD τ).loc cc0_scratch0), ((c : Thread nD τ).loc cc0_scratch0) ↦{fullShare} f)
      ⊢ bigSep Finset.univ (rany (F := F) c) := by
  iintro ⟨%f, H⟩
  iapply (show (bigSep Finset.univ (fun s : Fin 8 => (((c : Thread nD τ).loc cc0_scratch0) ↦[RB s]{fullShare} f)) : sProp 𝕄) ⊢ bigSep Finset.univ (rany (F := F) c) from bigSep_mono (fun s _ => by
    refine (entails_of_eq (ring_at c s f).symm).trans ((slot_split c s f).trans ?_)
    unfold rany
    iintro ⟨HL, HU⟩
    isplitl [HL]; · iexists f; iexact HL
    iexists f; iexact HU))
  iapply (entails_of_eq (Ring.pointsTo_blocks (Ix := Unit) (Name := ℕ) (U := UU) (Lvl := ℕ) (q := fullShare) (ℓ := (c : Thread nD τ).loc cc0_scratch0) RB RB_disjoint RB_cover f)); iexact H
theorem rany_join (c : Dev nD) (s : Fin 8) : rany (F := F) c s ⊢ (iprop(∃ f : Buf (Elt F) ((c : Thread nD τ).loc cc0_scratch0), ((c : Thread nD τ).loc cc0_scratch0) ↦[RB s]{fullShare} f) : sProp 𝕄) := by
  unfold rany
  iintro ⟨⟨%fL, HL⟩, ⟨%fU, HU⟩⟩
  ihave J := (slot_join c s fL fU) $$ [HL HU]
  · isplitl [HL]; · iexact HL
    iexact HU
  icases J with ⟨%g, H, -⟩
  iexists g
  iapply (entails_of_eq (ring_at c s g)); iexact H
theorem ring_join (c : Dev nD) : bigSep Finset.univ (rany (F := F) c)
      ⊢ (iprop(∃ f : Buf (Elt F) ((c : Thread nD τ).loc cc0_scratch0), ((c : Thread nD τ).loc cc0_scratch0) ↦{fullShare} f) : sProp 𝕄) := by
  refine (bigSep_mono (Ψ := fun s : Fin 8 => (iprop(∃ f, ((c : Thread nD τ).loc cc0_scratch0) ↦[RB s]{fullShare} f) : sProp 𝕄)) (fun s _ => rany_join c s)).trans
    (Ring.pointsTo_blocks_join_exists (ℓ := (c : Thread nD τ).loc cc0_scratch0) RB RB_disjoint RB_cover (ringM.view.junk))
omit [FloatOps F] in
theorem stL_at (c : Dev nD) (s : Fin 4) (f) : pheldL c s f = (((c : Thread nD τ).loc cc0_scratch5) ↦[GB 0 (by omega) s]{fullShare} f : sProp 𝕄) :=
  congrArg (fun S => (((c : Thread nD τ).loc cc0_scratch5) ↦[S]{fullShare} f : sProp 𝕄)) (GBL_set s)
omit [FloatOps F] in
theorem stU_at (c : Dev nD) (s : Fin 4) (f) : pheldU c s f = (((c : Thread nD τ).loc cc0_scratch5) ↦[GB 256 (by omega) s]{fullShare} f : sProp 𝕄) :=
  congrArg (fun S => (((c : Thread nD τ).loc cc0_scratch5) ↦[S]{fullShare} f : sProp 𝕄)) (GBU_set s)
theorem stage_split (c : Dev nD) : iprop(∃ f : Buf (Elt F) ((c : Thread nD τ).loc cc0_scratch5), ((c : Thread nD τ).loc cc0_scratch5) ↦{fullShare} f)
      ⊢ bigSep Finset.univ (pany (F := F) c) := by
  iintro ⟨%f, H⟩
  iapply (show (bigSep Finset.univ (fun s : Fin 4 => (((c : Thread nD τ).loc cc0_scratch5) ↦[SB s]{fullShare} f)) : sProp 𝕄) ⊢ bigSep Finset.univ (pany (F := F) c) from bigSep_mono (fun s _ => by
    refine ((pointsTo_union (GB_disjoint s)).1).trans ?_
    unfold pany
    iintro ⟨HL, HU⟩
    isplitl [HL]; · iexists f; iapply (entails_of_eq (stL_at c s f).symm); iexact HL
    iexists f; iapply (entails_of_eq (stU_at c s f).symm); iexact HU))
  iapply (entails_of_eq (Ring.pointsTo_blocks (Ix := Unit) (Name := ℕ) (U := UU) (Lvl := ℕ) (q := fullShare) (ℓ := (c : Thread nD τ).loc cc0_scratch5) SB SB_disjoint SB_cover f)); iexact H
theorem pany_join (c : Dev nD) (s : Fin 4) : pany (F := F) c s ⊢ (iprop(∃ f : Buf (Elt F) ((c : Thread nD τ).loc cc0_scratch5), ((c : Thread nD τ).loc cc0_scratch5) ↦[SB s]{fullShare} f) : sProp 𝕄) := by
  unfold pany
  iintro ⟨⟨%fL, HL⟩, ⟨%fU, HU⟩⟩
  ihave HL' := (entails_of_eq (stL_at c s fL)) $$ HL
  ihave HU' := (entails_of_eq (stU_at c s fU)) $$ HU
  ihave J := (pointsTo_join (ℓ := (c : Thread nD τ).loc cc0_scratch5) (q := fullShare) (f := fL) (g := fU) (GB_disjoint s)) $$ [HL' HU']
  · isplitl [HL']; · iexact HL'
    iexact HU'
  iexists _; iexact J
theorem stage_join (c : Dev nD) : bigSep Finset.univ (pany (F := F) c)
      ⊢ (iprop(∃ f : Buf (Elt F) ((c : Thread nD τ).loc cc0_scratch5), ((c : Thread nD τ).loc cc0_scratch5) ↦{fullShare} f) : sProp 𝕄) := by
  refine (bigSep_mono (Ψ := fun s : Fin 4 => (iprop(∃ f, ((c : Thread nD τ).loc cc0_scratch5) ↦[SB s]{fullShare} f) : sProp 𝕄)) (fun s _ => pany_join c s)).trans
    (Ring.pointsTo_blocks_join_exists (ℓ := (c : Thread nD τ).loc cc0_scratch5) SB SB_disjoint SB_cover (stM.view.junk))

omit [FloatOps F] in
theorem ownSems0_eq (c : Dev nD) : (Pipeline.ownSems0 (Ix := Unit) (Name := ℕ) (U := UU) (Lvl := ℕ) (Val := Elt F) (τ := τ) osem c : sProp 𝕄)
    = iprop(rcell (F := F) c 0 ∗ rcell (F := F) c 1 ∗ rcell (F := F) c 2 ∗ rcell (F := F) c 3 ∗ rcell (F := F) c 4 ∗ rcell (F := F) c 5 ∗ rcell (F := F) c 6 ∗ rcell (F := F) c 7 ∗ icell (F := F) c 0 ∗ icell (F := F) c 1 ∗ icell (F := F) c 2 ∗ pcell (F := F) c 0 ∗ pcell (F := F) c 1 ∗ pcell (F := F) c 2 ∗ pcell (F := F) c 3) := by
  unfold Pipeline.ownSems0; rw [bigSep_fin15]; rfl

/-! ## The pipeline's proof data -/

abbrev XC (c : Dev nD) : Buf (Elt F) (cM.view.loc (c : Thread nD τ)) := V m c main_v0
abbrev XS (c : Dev nD) : Buf (Elt F) (sM.view.loc (c : Thread nD τ)) := V m c main_arg1
abbrev XW (c : Dev nD) : Buf (Elt F) (wM.view.loc (c : Thread nD τ)) := V m c main_arg2
abbrev XWS (c : Dev nD) : Buf (Elt F) (wsM.view.loc (c : Thread nD τ)) := V m c main_v1
/-- Block pair `b`'s words are as trip `b` stores them from the call's operands. -/
abbrev PokV (c : Dev nD) : Fin 96 → (S112x256.Idx → Elt F .bf16) → (S112x256.Idx → Elt F .bf16) → Prop := Pok c (XW m c) (HQv c (XC m c)) (HSv c (XS m c)) (WSv c (XWS m c))

abbrev scratch (c : Dev nD) : sProp 𝕄 := iprop(bufsAny (F := F) c ∗ icells (F := F) c ∗ ringFree (F := F) c ∗ stFree (F := F) c)
/-- What the region holds before its point; -/
def Φ0 (c : Dev nD) : sProp 𝕄 := iprop(smalls c (XC m c) (XS m c) (XWS m c) ∗ scratch (F := F) c ∗ (whomes c (XW m c) 0 0 ∗ wrest c (XW m c)) ∗ ptodo (F := F) c 0)
/-- and after it. -/
def Φ1 (c : Dev nD) : sProp 𝕄 := iprop(smalls c (XC m c) (XS m c) (XWS m c) ∗ scratch (F := F) c ∗ (whomes c (XW m c) 0 0 ∗ wrest c (XW m c))
  ∗ bigSep Finset.univ (pdone1 c (XW m c) (HQv c (XC m c)) (HSv c (XS m c)) (WSv c (XWS m c))))

def dats (_ : Fin 1) (c : Dev nD) : Dat τ (Elt F) Unit ℕ UU ℕ cfg0 c where
  A w := V m c (Pipeline.arrRef cfg0.spec w)
  after w t := w.elim0
  Φ i := if i.val = 0 then Φ0 m c else Φ1 m c
  q _ := fullShare
  owed _ := 0

theorem Φ_eq (c : Dev nD) (i : Fin (cfg0.N + 1)) : (dats m 0 c).Φ i = if i.val = 0 then Φ0 m c else Φ1 m c := rfl
theorem Φ_first (c : Dev nD) (t : Fin cfg0.N) : (dats m 0 c).Φ t.castSucc = Φ0 m c := by
  have h : t.val = 0 := by have := t.isLt; have e : cfg0.N = 1 := N_0; omega
  rw [Φ_eq]; exact if_pos h
theorem Φ_next (c : Dev nD) (t : Fin cfg0.N) : (dats m 0 c).Φ t.succ = Φ1 m c := by
  rw [Φ_eq, if_neg (show ¬ t.succ.val = 0 from by simp)]
theorem Φ_zero (c : Dev nD) : (dats m 0 c).Φ 0 = Φ0 m c := by
  rw [Φ_eq, if_pos (show (0 : Fin (cfg0.N + 1)).val = 0 from rfl)]
theorem Φ_last (c : Dev nD) : (dats m 0 c).Φ (Fin.last cfg0.N) = Φ1 m c := by
  rw [Φ_eq, if_neg (show ¬ (Fin.last cfg0.N).val = 0 from by have e : cfg0.N = 1 := N_0; rw [Fin.val_last, e]; decide)]

theorem defs_tc : (defs₀ (F := F)) .tc cfg0.body = fun a => bodyG (F := F) := rfl
theorem prog_eq (t : Fin cfg0.N) : (defs₀ (F := F)) .tc cfg0.body (cfg0.bodyArgs t (cfg0.slots t)) = bodyG (F := F) :=
  (congrFun defs_tc _).trans rfl

theorem noWin (Φ : Fin cfg0.W → sProp 𝕄) : bigSep Finset.univ Φ = BI.emp := by
  rw [show (Finset.univ : Finset (Fin cfg0.W)) = ∅ from by decide, bigSep_empty]

set_option backward.isDefEq.respectTransparency.types false in
theorem body_obligation (c : Dev nD) : BodyObligation (dats (F := F) m 0 c) (defs₀ (F := F)) 𝒱₀ () Set.univ := fun t => by
  rw [noWin, noWin]
  rw [Φ_first, Φ_next]
  unfold Dat.owesAt Pipeline.owesWithin
  rw [show (dats m 0 c).owed t.castSucc = 0 from rfl, show (dats m 0 c).owed t.succ = 0 from rfl]
  unfold Φ0 Φ1
  iintro ⟨⟨Hs, ⟨Hb, Hi, Hr, Hst⟩, ⟨Hw, Hx⟩, Hy⟩, ⟨%W, -, HW⟩, -⟩
  sl_rw [prog_eq t]
  iapply (bodyRun c (XC m c) (XS m c) (XWS m c) (XW m c) W)
  isplitl [Hs Hb Hi Hr Hst Hw Hy HW]
  · isplitl [Hs]; · iexact Hs
    isplitl [Hb]; · iexact Hb
    isplitl [Hi]; · iexact Hi
    isplitl [Hr]; · iexact Hr
    isplitl [Hst]; · iexact Hst
    isplitl [Hw]; · iexact Hw
    isplitl [Hy]; · iexact Hy
    iexact HW
  · iintro ⟨Hs, Hb, Hi, Hr, Hst, Hw, Hy, ⟨%W', HW⟩⟩
    isplitl [Hs Hb Hi Hr Hst Hw Hy Hx]
    · isplitl [Hs]; · iexact Hs
      isplitl [Hb Hi Hr Hst]
      · isplitl [Hb]; · iexact Hb
        isplitl [Hi]; · iexact Hi
        isplitl [Hr]; · iexact Hr
        iexact Hst
      isplitl [Hw Hx]
      · isplitl [Hw]; · iexact Hw
        iexact Hx
      iexact Hy
    isplitl [HW]
    · iexists W'; isplitr; · ipureintro; exact fun _ _ => Or.inl trivial
      iexact HW
    iempintro

/-! ## The run -/

def X0 (c : Dev nD) : sProp 𝕄 := iprop(((((c : Thread nD τ).loc main_v0) ↦{fullShare} V m c main_v0) ∗ (((c : Thread nD τ).loc main_arg1) ↦{fullShare} V m c main_arg1) ∗ (((c : Thread nD τ).loc main_arg2) ↦{fullShare} V m c main_arg2) ∗ (((c : Thread nD τ).loc main_v1) ↦{fullShare} V m c main_v1) ∗ (((c : Thread nD τ).loc main_v2) ↦{fullShare} V m c main_v2))
  ∗ Pipeline.ownSems0 osem c)
def Y0 (c : Dev nD) : sProp 𝕄 := iprop((((c : Thread nD τ).loc main_arg1) ↦{fullShare} V m c main_arg1) ∗ (((c : Thread nD τ).loc main_arg2) ↦{fullShare} V m c main_arg2)
  ∗ (∃ f : Buf (Elt F) ((c : Thread nD τ).loc main_v2), (((c : Thread nD τ).loc main_v2) ↦{fullShare} f) ∗ ⌜∀ b : Fin 96, PokV m c b ((pbL b).view.read (Elt F) f) ((pbU b).view.read (Elt F) f)⌝))
def Z0 (c : Dev nD) : sProp 𝕄 := iprop((((c : Thread nD τ).loc main_arg0) ↦{fullShare} V m c main_arg0) ∗ (((c : Thread nD τ).loc main_arg3) ↦{fullShare} V m c main_arg3))
def u₀ : UU := (initOf (Pipeline.cells cfgs Cert.ProjIdeal.Gen.cellOf_inj) (Pipeline.launchToks cfgs Cert.ProjIdeal.Gen.cellOf_inj), 1)
/-- What is claimed of core `c`'s memory at the end. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ ∀ b : Fin 96, PokV m c b ((pbL b).view.read (Elt F) (s.mem ((c : Thread nD τ).loc main_v2))) ((pbU b).view.read (Elt F) (s.mem ((c : Thread nD τ).loc main_v2)))

/-- The slots free, from their halves and cells, -/
theorem rfree_in (c : Dev nD) (s : Fin 8) : iprop(rcell (F := F) c s ∗ rany (F := F) c s) ⊢ rfreeAt (F := F) c s := .rfl
theorem rfree_out (c : Dev nD) (s : Fin 8) : rfreeAt (F := F) c s ⊢ iprop(rcell (F := F) c s ∗ rany (F := F) c s) := .rfl
theorem pfree_in (c : Dev nD) (s : Fin 4) : iprop(pcell (F := F) c s ∗ pany (F := F) c s) ⊢ pfreeB (F := F) c s := by
  unfold pany pfreeB
  iintro ⟨C, ⟨%fL, HL⟩, ⟨%fU, HU⟩⟩
  iexists fL, fU
  isplitl [C]; · iexact C
  isplitl [HL]; · iexact HL
  iexact HU
theorem pfree_out (c : Dev nD) (s : Fin 4) : pfreeB (F := F) c s ⊢ iprop(pcell (F := F) c s ∗ pany (F := F) c s) := by
  unfold pany pfreeB
  iintro ⟨%fL, %fU, C, HL, HU⟩
  isplitl [C]; · iexact C
  isplitl [HL]; · iexists fL; iexact HL
  iexists fU; iexact HU

theorem hin0 (c : Dev nD) : iprop(X0 m c ∗ Pipeline.scopedRest cfg0.spec c) ⊢ Φ0 m c := by
  rw [scopedRest0_eq]
  unfold X0 Φ0; rw [ownSems0_eq]
  iintro ⟨⟨⟨H0, H1, H2, H3, H4⟩, C0, C1, C2, C3, C4, C5, C6, C7, I0, I1, I2, Y0, Y1, Y2, Y3⟩, S0, B1, B2, B3, B4, S5, B6⟩
  ihave R := ((ring_split c).trans (entails_of_eq (bigSep_fin8 _))) $$ S0
  icases R with ⟨R0, R1, R2, R3, R4, R5, R6, R7⟩
  ihave T := ((stage_split c).trans (entails_of_eq (bigSep_fin4 _))) $$ S5
  icases T with ⟨T0, T1, T2, T3⟩
  isplitl [H0 H1 H3]
  · isplitl [H0]; · iapply (entails_of_eq (whole_eq c main_v0 _)); iexact H0
    isplitl [H1]; · iapply (entails_of_eq (whole_eq c main_arg1 _)); iexact H1
    iapply (entails_of_eq (whole_eq c main_v1 _)); iexact H3
  isplitr [H2 H4]
  · isplitl [B1 B2 B3 B4 B6]
    · isplitl [B1]; · icases B1 with ⟨%f, B1⟩; iexists f; iapply (entails_of_eq (whole_eq c cc0_scratch1 f)); iexact B1
      isplitl [B2]; · icases B2 with ⟨%f, B2⟩; iexists f; iapply (entails_of_eq (whole_eq c cc0_scratch2 f)); iexact B2
      isplitl [B3]; · icases B3 with ⟨%f, B3⟩; iexists f; iapply (entails_of_eq (whole_eq c cc0_scratch3 f)); iexact B3
      isplitl [B4]; · icases B4 with ⟨%f, B4⟩; iexists f; iapply (entails_of_eq (whole_eq c cc0_scratch4 f)); iexact B4
      icases B6 with ⟨%f, B6⟩; iexists f; iapply (entails_of_eq (whole_eq c cc0_scratch6 f)); iexact B6
    isplitl [I0 I1 I2]
    · isplitl [I0]; · iexact I0
      isplitl [I1]; · iexact I1
      iexact I2
    isplitl [C0 R0 C1 R1 C2 R2 C3 R3 C4 R4 C5 R5 C6 R6 C7 R7]
    · isplitl [C0 R0]
      · iapply (rfree_in c 0); isplitl [C0]; · iexact C0
        iexact R0
      isplitl [C1 R1]
      · iapply (rfree_in c 1); isplitl [C1]; · iexact C1
        iexact R1
      isplitl [C2 R2]
      · iapply (rfree_in c 2); isplitl [C2]; · iexact C2
        iexact R2
      isplitl [C3 R3]
      · iapply (rfree_in c 3); isplitl [C3]; · iexact C3
        iexact R3
      isplitl [C4 R4]
      · iapply (rfree_in c 4); isplitl [C4]; · iexact C4
        iexact R4
      isplitl [C5 R5]
      · iapply (rfree_in c 5); isplitl [C5]; · iexact C5
        iexact R5
      isplitl [C6 R6]
      · iapply (rfree_in c 6); isplitl [C6]; · iexact C6
        iexact R6
      iapply (rfree_in c 7); isplitl [C7]; · iexact C7
      iexact R7
    isplitl [Y0 T0]
    · iapply (pfree_in c 0); isplitl [Y0]; · iexact Y0
      iexact T0
    isplitl [Y1 T1]
    · iapply (pfree_in c 1); isplitl [Y1]; · iexact Y1
      iexact T1
    isplitl [Y2 T2]
    · iapply (pfree_in c 2); isplitl [Y2]; · iexact Y2
      iexact T2
    iapply (pfree_in c 3); isplitl [Y3]; · iexact Y3
    iexact T3
  isplitl [H2]; · iapply (w_split c _); iexact H2
  iapply (y_split c _); iexact H4

theorem hout0 (c : Dev nD) : Φ1 m c ⊢ iprop(Y0 m c ∗ Pipeline.ownSems0 osem c ∗ Pipeline.scopedRest cfg0.spec c) := by
  rw [scopedRest0_eq, ownSems0_eq]
  unfold Y0 Φ1
  iintro ⟨⟨H0, H1, H3⟩, ⟨⟨B1, B2, B3, B4, B6⟩, ⟨I0, I1, I2⟩, ⟨F0, F1, F2, F3, F4, F5, F6, F7⟩, ⟨Q0, Q1, Q2, Q3⟩⟩, H2, Hy⟩
  ihave F0' := (rfree_out c 0) $$ F0
  icases F0' with ⟨C0, R0⟩
  ihave F1' := (rfree_out c 1) $$ F1
  icases F1' with ⟨C1, R1⟩
  ihave F2' := (rfree_out c 2) $$ F2
  icases F2' with ⟨C2, R2⟩
  ihave F3' := (rfree_out c 3) $$ F3
  icases F3' with ⟨C3, R3⟩
  ihave F4' := (rfree_out c 4) $$ F4
  icases F4' with ⟨C4, R4⟩
  ihave F5' := (rfree_out c 5) $$ F5
  icases F5' with ⟨C5, R5⟩
  ihave F6' := (rfree_out c 6) $$ F6
  icases F6' with ⟨C6, R6⟩
  ihave F7' := (rfree_out c 7) $$ F7
  icases F7' with ⟨C7, R7⟩
  ihave Q0' := (pfree_out c 0) $$ Q0
  icases Q0' with ⟨Y0, T0⟩
  ihave Q1' := (pfree_out c 1) $$ Q1
  icases Q1' with ⟨Y1, T1⟩
  ihave Q2' := (pfree_out c 2) $$ Q2
  icases Q2' with ⟨Y2, T2⟩
  ihave Q3' := (pfree_out c 3) $$ Q3
  icases Q3' with ⟨Y3, T3⟩
  isplitl [H1 H2 Hy]
  · isplitl [H1]; · iapply (entails_of_eq (whole_eq c main_arg1 _).symm); iexact H1
    isplitl [H2]; · iapply (w_join c _); iexact H2
    iapply (y_join c (XW m c) (HQv c (XC m c)) (HSv c (XS m c)) (WSv c (XWS m c))); iexact Hy
  isplitl [C0 C1 C2 C3 C4 C5 C6 C7 I0 I1 I2 Y0 Y1 Y2 Y3]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [I0]; · iexact I0
    isplitl [I1]; · iexact I1
    isplitl [I2]; · iexact I2
    isplitl [Y0]; · iexact Y0
    isplitl [Y1]; · iexact Y1
    isplitl [Y2]; · iexact Y2
    iexact Y3
  isplitl [R0 R1 R2 R3 R4 R5 R6 R7]
  · iapply (ring_join c)
    irw [bigSep_fin8]
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [B1]; · icases B1 with ⟨%f, B1⟩; iexists f; iapply (entails_of_eq (whole_eq c cc0_scratch1 f).symm); iexact B1
  isplitl [B2]; · icases B2 with ⟨%f, B2⟩; iexists f; iapply (entails_of_eq (whole_eq c cc0_scratch2 f).symm); iexact B2
  isplitl [B3]; · icases B3 with ⟨%f, B3⟩; iexists f; iapply (entails_of_eq (whole_eq c cc0_scratch3 f).symm); iexact B3
  isplitl [B4]; · icases B4 with ⟨%f, B4⟩; iexists f; iapply (entails_of_eq (whole_eq c cc0_scratch4 f).symm); iexact B4
  isplitl [T0 T1 T2 T3]
  · iapply (stage_join c)
    irw [bigSep_fin4]
    isplitl [T0]; · iexact T0
    isplitl [T1]; · iexact T1
    isplitl [T2]; · iexact T2
    iexact T3
  icases B6 with ⟨%f, B6⟩; iexists f; iapply (entails_of_eq (whole_eq c cc0_scratch6 f).symm); iexact B6

theorem hmain0 : Pipeline.HMain (Ix := Unit) (Name := ℕ) (U := UU) (Lvl := ℕ) cfgs 0 defs₀ 𝒱₀ m (main (F := F)) (V m) :=
  Pipeline.hmain_prefix cfgs 0 defs₀ 𝒱₀ m main hostOps0 hostOps0_sub hostOps0_fresh main_chain

abbrev EP : Emb (UR sig nD τ) 𝕄 := embL

set_option backward.isDefEq.respectTransparency.types false in
/-- For any float values, from any memory with zero counters: every weakly fair execution of @main terminates, and every
    final state is as `QY` says, every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain0 m)
    (hA := fun _ _ => rfl)
    (X := X0 m) (Y := Y0 m) (Z := Z0 m)
    (hX := fun c => by
      rw [unscopedRest0_eq]
      unfold X0 Z0
      iintro ⟨⟨A0, A1, A2, A3, V0, V1, V2⟩, HS, -, -, -⟩; imodintro
      isplitl [A1 A2 V0 V1 V2 HS]
      · isplitl [A1 A2 V0 V1 V2]
        · isplitl [V0]; · iexact V0
          isplitl [A1]; · iexact A1
          isplitl [A2]; · iexact A2
          isplitl [V1]; · iexact V1
          iexact V2
        iexact HS
      isplitl [A0]; · iexact A0
      iexact A3)
    (hin := fun c => by rw [Φ_zero]; exact hin0 m c)
    (hout := fun c => by rw [Φ_last]; exact hout0 m c)
    (QY := QY m)
    (hY := fun c s' => by
      unfold Y0 Z0
      iintro ⟨⟨A1, A2, ⟨%f, V2, %hf⟩⟩, ⟨A0, A3⟩, HSI⟩
      icombine HSI A0 gives %h0
      icombine HSI A1 gives %h1
      icombine HSI A2 gives %h2
      icombine HSI A3 gives %h3
      icombine HSI V2 gives %h5
      imodintro
      isplitr
      · ipureintro
        refine ⟨(Buf.eq_of_forall_mem_univ h0).trans (V_main_arg0 m c), (Buf.eq_of_forall_mem_univ h1).trans (V_main_arg1 m c), (Buf.eq_of_forall_mem_univ h2).trans (V_main_arg2 m c),
          (Buf.eq_of_forall_mem_univ h3).trans (V_main_arg3 m c), ?_⟩
        rw [Buf.eq_of_forall_mem_univ h5]; exact hf
      iexact HSI)
    (hQ := fun _ hh hz => ⟨fun c => (hh c).2, hz⟩)

end Cert.Proof.QI
-- ==== Proof.QI.MathPay.lean ====
module

public import proofs.«01_k».proof.Proof.QI.Launch
public import Idealize.ShloMosaic.Lib.Pointwise
public import Idealize.ShloMosaic.Lib.VecWindow

/-! # The printed values, read at one element

Over the reals each tile the body stores is the product of the codes with a weight block, times the two scales. -/

@[expose] public section

set_option maxRecDepth 16384

noncomputable section

namespace Cert.Proof.QI

open Cert.ProjIdeal Cert.ProjIdeal.Gen
open Idealize.ShloMosaic

/-- One element of the result, from its product and the two scales. -/
def fin (p s ws : EReal) : EReal := p * s * ws

section
variable (a : Vec Ideal S128x6144 .fp8e4m3) (w : Vec Ideal S1x6144x512 .fp8e4m3) (s : Vec Ideal S112x128 .f32) (ws : Vec Ideal S1x128 .f32) (p : FVec Ideal S128x512 .f32)

/-- One weight block's product, at row `r` and column `j` of the block. -/
def dotAt (r : Fin 128) (j : Fin 512) : EReal := ∑ q : Fin 6144, a (ix2 r q) * w (ix3 0 q j)

theorem pay1_at (r : Fin 128) (j : Fin 512) : k0_pay1 a w (ix2 r j) = dotAt a w r j := by
  pointwise [k0_pay1, dotAt]
theorem pay6_at (r : Fin 112) (l : Fin 128) :
    k0_pay6 (k0_pay2 a w ws s) (ix3 0 r l) = fin (k0_pay1 a w (ix2 ⟨r.val, by omega⟩ ⟨l.val, by omega⟩)) (s (ix2 r l)) (ws (ix2 0 l)) := by
  pointwise [k0_pay6, k0_pay2, fin]
theorem pay7_at (r : Fin 112) (l : Fin 128) :
    k0_pay7 (k0_pay3 a w ws s) (ix3 0 r l) = fin (k0_pay1 a w (ix2 ⟨r.val, by omega⟩ ⟨128 + l.val, by omega⟩)) (s (ix2 r l)) (ws (ix2 0 l)) := by
  pointwise [k0_pay7, k0_pay3, fin]
theorem pay10_at (r : Fin 112) (l : Fin 128) :
    k0_pay10 (k0_pay4 p ws s) (ix3 0 r l) = fin (p (ix2 ⟨r.val, by omega⟩ ⟨256 + l.val, by omega⟩)) (s (ix2 r l)) (ws (ix2 0 l)) := by
  pointwise [k0_pay10, k0_pay4, fin]
theorem pay11_at (r : Fin 112) (l : Fin 128) :
    k0_pay11 (k0_pay5 p ws s) (ix3 0 r l) = fin (p (ix2 ⟨r.val, by omega⟩ ⟨384 + l.val, by omega⟩)) (s (ix2 r l)) (ws (ix2 0 l)) := by
  pointwise [k0_pay11, k0_pay5, fin]
theorem pay8_at (v : Vec Ideal S112x6144 .fp8e4m3) (r : Fin 112) (q : Fin 6144) : k0_pay8 v (ix2 ⟨r.val, by omega⟩ q) = v (ix2 r q) := by
  have h := r.isLt
  pointwise [k0_pay8]
theorem pay9_at (v : Vec Ideal S112x1 .f32) (r : Fin 112) (l : Fin 128) : k0_pay9 v (ix2 r l) = v (ix2 r 0) := by
  pointwise [k0_pay9]
end
end Cert.Proof.QI
-- ==== Proof.QI.MathRead.lean ====
module

public import proofs.«01_k».proof.Proof.QI.MathPay

/-! # What the trips load, element by element

The slot of item `k` holds gate columns `256 k …` and up columns `256 k …` of the weights; the codes, the spread scales and the
column scales are the arguments' own elements. -/

@[expose] public section

set_option maxRecDepth 16384

noncomputable section

namespace Cert.Proof.QI

open Cert.ProjIdeal Cert.ProjIdeal.Gen
open Idealize.ShloMosaic
open Idealize.ShloMosaic.TcCoe

variable (c : Dev nD)

/-- Where a slot keeps row `q`, column `j`: in its gate half, -/
theorem slot_embL (s : Fin 8) (hh) (q : Fin 6144) (j : Fin 512) (hj : j.val < 256) :
    (Rect.unit (s := S8x6144x512) (slotOff s) S1x6144x512.size hh).toLoadRect.idx (ix3 0 q j) = (rhL s).view.emb (ix2 q ⟨j.val, hj⟩) := by
  have h0 : Shape.reshapeEquiv squeezes_S1x6144x256_S6144x256.numel_eq (ix2 q ⟨j.val, hj⟩) = (ix3 0 q ⟨j.val, hj⟩ : S1x6144x256.Idx) := by
    pointwise
  show _ = (Rect.unit (s := S8x6144x512) (hOff 0 s) S1x6144x256.size (hOff_inb 0 (by omega) s)).emb (Shape.reshapeEquiv squeezes_S1x6144x256_S6144x256.numel_eq (ix2 q ⟨j.val, hj⟩))
  rw [h0]
  refine funext fun a => Fin.ext ?_
  fin_cases a
  · rfl
  · rfl
  · show 0 + 1 * j.val = 0 + 1 * j.val; rfl
/-- or in its up half. -/
theorem slot_embU (s : Fin 8) (hh) (q : Fin 6144) (j : Fin 512) (hj : 256 ≤ j.val) :
    (Rect.unit (s := S8x6144x512) (slotOff s) S1x6144x512.size hh).toLoadRect.idx (ix3 0 q j) = (rhU s).view.emb (ix2 q ⟨j.val - 256, by omega⟩) := by
  have h0 : Shape.reshapeEquiv squeezes_S1x6144x256_S6144x256.numel_eq (ix2 q (⟨j.val - 256, by omega⟩ : Fin 256)) = (ix3 0 q ⟨j.val - 256, by omega⟩ : S1x6144x256.Idx) := by
    pointwise
  show _ = (Rect.unit (s := S8x6144x512) (hOff 256 s) S1x6144x256.size (hOff_inb 256 (by omega) s)).emb (Shape.reshapeEquiv squeezes_S1x6144x256_S6144x256.numel_eq (ix2 q ⟨j.val - 256, by omega⟩))
  rw [h0]
  refine funext fun a => Fin.ext ?_
  fin_cases a
  · rfl
  · rfl
  · show 0 + 1 * j.val = 256 + 1 * (j.val - 256); omega

section
variable (XW : Buf (Elt Ideal) (wM.view.loc (c : Thread nD τ))) (t : Fin 96) (q : Fin 6144) (j : Fin 256)
theorem wloadL_at : wloadL c XW t (ix2 q j) = XW (ix2 q ⟨6400 + (256 * t.val + j.val), by omega⟩) := by
  show XW ((wbL t).view.emb (ix2 q j)) = _
  refine congrArg XW (funext fun a => Fin.ext ?_)
  fin_cases a
  · show 0 + 1 * q.val = q.val; omega
  · show 6400 + 256 * t.val + 1 * j.val = 6400 + (256 * t.val + j.val); omega
theorem wloadU_at : wloadU c XW t (ix2 q j) = XW (ix2 q ⟨6400 + (24576 + 256 * t.val + j.val), by omega⟩) := by
  show XW ((wbU t).view.emb (ix2 q j)) = _
  refine congrArg XW (funext fun a => Fin.ext ?_)
  fin_cases a
  · show 0 + 1 * q.val = q.val; omega
  · show 30976 + 256 * t.val + 1 * j.val = 6400 + (24576 + 256 * t.val + j.val); omega
end

/-- The result's column of column `j` of item `t`. -/
def colJ (t : Fin 96) (j : Fin 512) : Fin 49152 := if h : j.val < 256 then ⟨256 * t.val + j.val, by omega⟩ else ⟨24576 + 256 * t.val + (j.val - 256), by omega⟩
/-- The weights' column of the result's column `y`. -/
def wcol (y : Fin 49152) : Fin 55552 := ⟨6400 + y.val, by omega⟩

/-- The slot loaded while it holds item `t`. -/
theorem slot_at (XW : Buf (Elt Ideal) (wM.view.loc (c : Thread nD τ))) (s : Fin 8) (t : Fin 96) (g : Buf (Elt Ideal) ((rslot s).view.loc (c : Thread nD τ))) (hg : Landed c XW s t g)
    (off : Fin 3 → Nat) (e : off = slotOff s) (hh) (q : Fin 6144) (j : Fin 512) :
    View.readAt (Elt Ideal) ringM.view (Rect.unit (s := S8x6144x512) off S1x6144x512.size hh).toLoadRect g (ix3 0 q j) = XW (ix2 q (wcol (colJ t j))) := by
  subst e
  by_cases hj : j.val < 256
  · refine (congrArg g (slot_embL s hh q j hj)).trans ((congrFun hg.1 (ix2 q ⟨j.val, hj⟩)).trans ((wloadL_at c XW t q ⟨j.val, hj⟩).trans ?_))
    unfold colJ; rw [dif_pos hj]; rfl
  · refine (congrArg g (slot_embU s hh q j (by omega))).trans ((congrFun hg.2 (ix2 q ⟨j.val - 256, by omega⟩)).trans ((wloadU_at c XW t q ⟨j.val - 256, by omega⟩).trans ?_))
    unfold colJ; rw [dif_neg hj]; rfl

/-- A tile's column scales. -/
theorem ws_at (W : Buf (Elt Ideal) (wsiM.view.loc (c : Thread nD τ))) (X : S1x55552.Idx → EReal) (hW : wsiM.view.read (Elt Ideal) W = X) (n k : Nat) (off : Fin 2 → Nat) (e : off = vOff n k) (hh)
    (l : Fin 128) (y : Fin 55552) (hy : y.val = n + 256 * k + l.val) :
    View.readAt (Elt Ideal) wsiM.view (Rect.unit (s := S1x55552) off S1x128.size hh).toLoadRect W (ix2 0 l) = X (ix2 0 y) := by
  subst e; subst hW
  show W ((Rect.unit (s := S1x55552) (vOff n k) S1x128.size hh).toLoadRect.idx (ix2 0 l)) = W (ix2 0 y)
  refine congrArg W (funext fun a => Fin.ext ?_)
  fin_cases a
  · rfl
  · show n + 256 * k + 1 * l.val = y.val; omega
theorem WSv_read (XWS : Buf (Elt Ideal) (wsM.view.loc (c : Thread nD τ))) : wsiM.view.read (Elt Ideal) (WSv c XWS) = XWS := View.read_writes_whole _ _ _

section
variable (XC : Buf (Elt Ideal) (cM.view.loc (c : Thread nD τ))) (XS : Buf (Elt Ideal) (sM.view.loc (c : Thread nD τ)))
theorem hcb_read : hcbM.view.read (Elt Ideal) (hcbM.view.writes (Elt Ideal) hcbM.view.junk [⟨Rect.whole S112x6144, ReadAs.same.apply (cM.view.read (Elt Ideal) XC)⟩]) = XC := View.read_writes_whole _ _ _
theorem hsc_read : hscM.view.read (Elt Ideal) (hscM.view.writes (Elt Ideal) hscM.view.junk [⟨Rect.whole S112x1, ReadAs.same.apply (sM.view.read (Elt Ideal) XS)⟩]) = XS := View.read_writes_whole _ _ _
theorem hcb_load (g : Buf (Elt Ideal) (hcbM.view.loc (c : Thread nD τ))) (x : S112x6144.Idx → EReal) (hg : hcbM.view.read (Elt Ideal) g = x) (hh) (r : Fin 112) (q : Fin 6144) :
    View.readAt (Elt Ideal) hcbM.view (Rect.unit (s := S112x6144) ![0, 0] S112x6144.size hh).toLoadRect g (ix2 r q) = x (ix2 r q) := by
  subst hg
  exact congrFun (View.readAt_full hcbM.view g hh) (ix2 r q)
theorem hsc_load (g : Buf (Elt Ideal) (hscM.view.loc (c : Thread nD τ))) (x : S112x1.Idx → EReal) (hg : hscM.view.read (Elt Ideal) g = x) (hh) (r : Fin 112) :
    View.readAt (Elt Ideal) hscM.view (Rect.unit (s := S112x1) ![0, 0] S112x1.size hh).toLoadRect g (ix2 r 0) = x (ix2 r 0) := by
  subst hg
  exact congrFun (View.readAt_full hscM.view g hh) (ix2 r 0)
theorem HQv_read (r : Fin 112) (q : Fin 6144) : hqM.view.read (Elt Ideal) (HQv c XC) (ix2 ⟨r.val, by omega⟩ q) = XC (ix2 r q) := by
  refine Eq.trans (congrFun (View.read_writes_full _ _ _ _ _) _) ?_
  refine (pay8_at _ r q).trans ?_
  exact hcb_load c _ XC (hcb_read c XC) _ r q
theorem HSv_read (r : Fin 112) (l : Fin 128) : hsbM.view.read (Elt Ideal) (HSv c XS) (ix2 r l) = XS (ix2 r 0) := by
  refine Eq.trans (congrFun (View.read_writes_full _ _ _ _ _) _) ?_
  refine (pay9_at _ r l).trans ?_
  exact hsc_load c _ XS (hsc_read c XS) _ r
theorem hq_load (g : Buf (Elt Ideal) (hqM.view.loc (c : Thread nD τ))) (hh) (r : Fin 128) (q : Fin 6144) :
    View.readAt (Elt Ideal) hqM.view (Rect.unit (s := S128x6144) ![0, 0] S128x6144.size hh).toLoadRect g (ix2 r q) = hqM.view.read (Elt Ideal) g (ix2 r q) :=
  congrFun (View.readAt_full hqM.view g hh) (ix2 r q)
theorem hsb_load (g : Buf (Elt Ideal) (hsbM.view.loc (c : Thread nD τ))) (hh) (r : Fin 112) (l : Fin 128) :
    View.readAt (Elt Ideal) hsbM.view (Rect.unit (s := S112x128) ![0, 0] S112x128.size hh).toLoadRect g (ix2 r l) = hsbM.view.read (Elt Ideal) g (ix2 r l) :=
  congrFun (View.readAt_full hsbM.view g hh) (ix2 r l)
theorem a_at (r : Fin 112) (q : Fin 6144) : aAt c (HQv c XC) (ix2 ⟨r.val, by omega⟩ q) = XC (ix2 r q) :=
  (hq_load c (HQv c XC) _ _ q).trans (HQv_read c XC r q)
theorem s_at (r : Fin 112) (l : Fin 128) : sAt c (HSv c XS) (ix2 r l) = XS (ix2 r 0) :=
  (hsb_load c (HSv c XS) _ r l).trans (HSv_read c XS r l)
end
end Cert.Proof.QI
-- ==== Proof.QI.MathTile.lean ====
module

public import proofs.«01_k».proof.Proof.QI.MathRead

/-! # The tiles, element by element

Each element a trip stores is the product of a row of the codes with a column of the weights times the two scales (`G`). -/

@[expose] public section

set_option maxRecDepth 16384

noncomputable section

namespace Cert.Proof.QI

open Cert.ProjIdeal Cert.ProjIdeal.Gen
open Idealize.ShloMosaic
open Idealize.ShloMosaic.TcCoe

/-- The product of row `r` of the codes with the weights' column of the result's column `y`. -/
def dotC (C : S112x6144.Idx → EReal) (W : S6144x55552.Idx → EReal) (r : Fin 112) (y : Fin 49152) : EReal := ∑ q : Fin 6144, C (ix2 r q) * W (ix2 q (wcol y))
/-- The result the claim names: (codes · weights) · row scale · column scale, at the gate and up columns. -/
def G (C : S112x6144.Idx → EReal) (S : S112x1.Idx → EReal) (W : S6144x55552.Idx → EReal) (WS : S1x55552.Idx → EReal) : S112x49152.Idx → EReal :=
  fun y => fin (dotC C W (y 0) (y 1)) (S (ix2 (y 0) 0)) (WS (ix2 0 (wcol (y 1))))

variable (c : Dev nD)

theorem fin_congr {p p' s s' w w' : EReal} (h1 : p = p') (h3 : s = s') (h4 : w = w') : fin p s w = fin p' s' w' := by
  subst h1 h3 h4; rfl
theorem colJ_lo (t : Fin 96) (j : Fin 512) (h : j.val < 256) : (colJ t j).val = 256 * t.val + j.val := by
  unfold colJ; rw [dif_pos h]
theorem colJ_hi (t : Fin 96) (j : Fin 512) (h : 256 ≤ j.val) : (colJ t j).val = 24576 + 256 * t.val + (j.val - 256) := by
  unfold colJ; rw [dif_neg (by omega)]

section
variable (XC : Buf (Elt Ideal) (cM.view.loc (c : Thread nD τ))) (XS : Buf (Elt Ideal) (sM.view.loc (c : Thread nD τ))) (XW : Buf (Elt Ideal) (wM.view.loc (c : Thread nD τ)))
  (XWS : Buf (Elt Ideal) (wsM.view.loc (c : Thread nD τ))) (k : Fin k0_t1_loop.trips) (r : Fin 112) (l : Fin 128)
  (g : Buf (Elt Ideal) ((rslot (Ring.sl 8 k.val)).view.loc (c : Thread nD τ))) (hg : Landed c XW (Ring.sl 8 k.val) (Ring.bk 96 k.val) g)
include hg

theorem prod_at (j : Fin 512) : k0_pay1 (aAt c (HQv c XC)) (wAt c k g) (ix2 ⟨r.val, by omega⟩ j) = dotC XC XW r (colJ (Ring.bk 96 k.val) j) :=
  (pay1_at _ _ _ _).trans (Finset.sum_congr rfl fun q _ => congrArg₂ (· * ·) (a_at c XC r q) (slot_at c XW _ _ g hg _ (off47_eq k) _ q j))
theorem tile0_at : tile0 c (HQv c XC) (HSv c XS) (WSv c XWS) k g (ix3 0 r l) = G XC XS XW XWS (ix2 r (colJ (Ring.bk 96 k.val) ⟨l.val, by omega⟩)) :=
  (pay6_at _ _ _ _ r l).trans (fin_congr (prod_at c XC XW k r g hg _) (s_at c XS r l) (ws_at c _ XWS (WSv_read c XWS) 6400 k.val _ (off48_eq0 k) _ l _ (by
    have h : (Ring.bk 96 k.val).val = k.val := Ring.bk_val (trip_lt k)
    show 6400 + (colJ (Ring.bk 96 k.val) ⟨l.val, by omega⟩).val = 6400 + 256 * k.val + l.val
    rw [colJ_lo _ _ (by show l.val < 256; omega), h]
    show 6400 + (256 * k.val + l.val) = 6400 + 256 * k.val + l.val
    omega)))
theorem tile1_at : tile1 c (HQv c XC) (HSv c XS) (WSv c XWS) k g (ix3 0 r l) = G XC XS XW XWS (ix2 r (colJ (Ring.bk 96 k.val) ⟨128 + l.val, by omega⟩)) :=
  (pay7_at _ _ _ _ r l).trans (fin_congr (prod_at c XC XW k r g hg _) (s_at c XS r l) (ws_at c _ XWS (WSv_read c XWS) 6528 k.val _ (off48_eq1 k) _ l _ (by
    have h : (Ring.bk 96 k.val).val = k.val := Ring.bk_val (trip_lt k)
    show 6400 + (colJ (Ring.bk 96 k.val) ⟨128 + l.val, by omega⟩).val = 6528 + 256 * k.val + l.val
    rw [colJ_lo _ _ (by show 128 + l.val < 256; omega), h]
    show 6400 + (256 * k.val + (128 + l.val)) = 6528 + 256 * k.val + l.val
    omega)))
theorem tile2_at : tile2 c (HQv c XC) (HSv c XS) (WSv c XWS) k g (ix3 0 r l) = G XC XS XW XWS (ix2 r (colJ (Ring.bk 96 k.val) ⟨256 + l.val, by omega⟩)) :=
  (pay10_at _ _ _ r l).trans (fin_congr (prod_at c XC XW k r g hg _) (s_at c XS r l) (ws_at c _ XWS (WSv_read c XWS) 30976 k.val _ (off48_eq2 k) _ l _ (by
    have h : (Ring.bk 96 k.val).val = k.val := Ring.bk_val (trip_lt k)
    show 6400 + (colJ (Ring.bk 96 k.val) ⟨256 + l.val, by omega⟩).val = 30976 + 256 * k.val + l.val
    rw [colJ_hi _ _ (by show 256 ≤ 256 + l.val; omega), h]
    show 6400 + (24576 + 256 * k.val + (256 + l.val - 256)) = 30976 + 256 * k.val + l.val
    omega)))
theorem tile3_at : tile3 c (HQv c XC) (HSv c XS) (WSv c XWS) k g (ix3 0 r l) = G XC XS XW XWS (ix2 r (colJ (Ring.bk 96 k.val) ⟨384 + l.val, by omega⟩)) :=
  (pay11_at _ _ _ r l).trans (fin_congr (prod_at c XC XW k r g hg _) (s_at c XS r l) (ws_at c _ XWS (WSv_read c XWS) 31104 k.val _ (off48_eq3 k) _ l _ (by
    have h : (Ring.bk 96 k.val).val = k.val := Ring.bk_val (trip_lt k)
    show 6400 + (colJ (Ring.bk 96 k.val) ⟨384 + l.val, by omega⟩).val = 31104 + 256 * k.val + l.val
    rw [colJ_hi _ _ (by show 256 ≤ 384 + l.val; omega), h]
    show 6400 + (24576 + 256 * k.val + (384 + l.val - 256)) = 31104 + 256 * k.val + l.val
    omega)))
end

/-! ## The staging slot -/
section
variable (s : Fin 4) (r : Fin 112) (j : Fin 256)
theorem phL_emb : (phL s).view.emb (ix2 r j) = (ix3 s r ⟨j.val, by omega⟩ : S4x112x512.Idx) := by
  have h0 : Shape.reshapeEquiv squeezes_S1x112x256_S112x256.numel_eq (ix2 r j) = (ix3 0 r j : S1x112x256.Idx) := by
    pointwise
  show (Rect.unit (s := S4x112x512) (gOff 0 s) S1x112x256.size (gOff_inb 0 (by omega) s)).emb (Shape.reshapeEquiv squeezes_S1x112x256_S112x256.numel_eq (ix2 r j)) = _
  rw [h0]
  refine funext fun a => Fin.ext ?_
  fin_cases a
  · show s.val + 1 * 0 = s.val; omega
  · show 0 + 1 * r.val = r.val; omega
  · show 0 + 1 * j.val = j.val; omega
theorem phU_emb : (phU s).view.emb (ix2 r j) = (ix3 s r ⟨256 + j.val, by omega⟩ : S4x112x512.Idx) := by
  have h0 : Shape.reshapeEquiv squeezes_S1x112x256_S112x256.numel_eq (ix2 r j) = (ix3 0 r j : S1x112x256.Idx) := by
    pointwise
  show (Rect.unit (s := S4x112x512) (gOff 256 s) S1x112x256.size (gOff_inb 256 (by omega) s)).emb (Shape.reshapeEquiv squeezes_S1x112x256_S112x256.numel_eq (ix2 r j)) = _
  rw [h0]
  refine funext fun a => Fin.ext ?_
  fin_cases a
  · show s.val + 1 * 0 = s.val; omega
  · show 0 + 1 * r.val = r.val; omega
  · show 256 + 1 * j.val = 256 + j.val; omega
end
theorem preadL_at (c : Dev nD) (s : Fin 4) (g : Buf (Elt Ideal) ((phL s).view.loc (c : Thread nD τ))) (r : Fin 112) (j : Fin 256) :
    preadL c s g (ix2 r j) = g (ix3 s r ⟨j.val, by omega⟩ : S4x112x512.Idx) := congrArg g (phL_emb s r j)
theorem preadU_at (c : Dev nD) (s : Fin 4) (g : Buf (Elt Ideal) ((phU s).view.loc (c : Thread nD τ))) (r : Fin 112) (j : Fin 256) :
    preadU c s g (ix2 r j) = g (ix3 s r ⟨256 + j.val, by omega⟩ : S4x112x512.Idx) := congrArg g (phU_emb s r j)
section
variable (s : Fin 4) (g : S4x112x512.Idx → EReal) (w : FVec Ideal S1x112x128 .bf16) (r : Fin 112)
theorem tile_emb (i : Nat) (hh) (l : Fin 128) (hi : 128 * i + l.val < 512) :
    (stM.access (Rect.unit (s := S4x112x512) (tileOff s i) S1x112x128.size hh)).emb (ix3 0 r l) = (ix3 s r ⟨128 * i + l.val, hi⟩ : S4x112x512.Idx) := by
  refine funext fun a => Fin.ext ?_
  fin_cases a
  · show s.val + 1 * 0 = s.val; omega
  · show 0 + 1 * r.val = r.val; omega
  · show 128 * i + 1 * l.val = 128 * i + l.val; omega
theorem tile_hit (off : Fin 3 → Nat) (i : Nat) (e : off = tileOff s i) (hh) (l : Fin 128) (j : Fin 512) (hj : j.val = 128 * i + l.val) :
    View.write (Elt Ideal) (stM.access (Rect.unit (s := S4x112x512) off S1x112x128.size hh)) g w Finset.univ (ix3 s r j : S4x112x512.Idx) = w (ix3 0 r l) := by
  subst e
  have hi : 128 * i + l.val < 512 := hj ▸ j.isLt
  have e2 : (ix3 s r j : S4x112x512.Idx) = (stM.access (Rect.unit (s := S4x112x512) (tileOff s i) S1x112x128.size hh)).emb (ix3 0 r l) :=
    (congrArg (fun y : Fin 512 => (ix3 s r y : S4x112x512.Idx)) (Fin.ext hj : j = ⟨128 * i + l.val, hi⟩)).trans (tile_emb s r i hh l hi).symm
  exact (congrArg (View.write (Elt Ideal) (stM.access (Rect.unit (s := S4x112x512) (tileOff s i) S1x112x128.size hh)) g w Finset.univ) e2).trans
    (View.write_emb_of_mem _ _ (Finset.mem_univ _))
theorem tile_miss (off : Fin 3 → Nat) (i : Nat) (e : off = tileOff s i) (hh) (j : Fin 512) (hj : j.val < 128 * i) :
    View.write (Elt Ideal) (stM.access (Rect.unit (s := S4x112x512) off S1x112x128.size hh)) g w Finset.univ (ix3 s r j : S4x112x512.Idx) = g (ix3 s r j : S4x112x512.Idx) := by
  subst e
  refine View.write_of_not_mem _ _ _ fun hm => ?_
  obtain ⟨y, -, hy⟩ := Finset.mem_map.mp hm
  have h := congrArg (fun z : S4x112x512.Idx => (z 2).val) hy
  have h' : 128 * i + 1 * (y 2).val = j.val := h
  omega
end
end Cert.Proof.QI
-- ==== Proof.QI.MathOut.lean ====
module

public import proofs.«01_k».proof.Proof.QI.MathTile

/-! # The kernel's result

Every element of the result array the kernel leaves is the closed form `G` of the four arguments' arrays. -/

@[expose] public section

set_option maxRecDepth 16384

noncomputable section

namespace Cert.Proof.QI

open Cert.ProjIdeal Cert.ProjIdeal.Gen
open Idealize.ShloMosaic
open Idealize.ShloMosaic.TcCoe

variable (c : Dev nD)

section
variable (XC : Buf (Elt Ideal) (cM.view.loc (c : Thread nD τ))) (XS : Buf (Elt Ideal) (sM.view.loc (c : Thread nD τ))) (XW : Buf (Elt Ideal) (wM.view.loc (c : Thread nD τ)))
  (XWS : Buf (Elt Ideal) (wsM.view.loc (c : Thread nD τ))) (k : Fin k0_t1_loop.trips) (r : Fin 112)
  (g : Buf (Elt Ideal) ((rslot (Ring.sl 8 k.val)).view.loc (c : Thread nD τ))) (hg : Landed c XW (Ring.sl 8 k.val) (Ring.bk 96 k.val) g)
include hg

/-- The gate half of the staging slot after trip `k`; -/
theorem stL_at' (f : Buf (Elt Ideal) ((phL (Ring.sl 4 k.val)).view.loc (c : Thread nD τ))) (j : Fin 512) (hj : j.val < 256) :
    stL c (HQv c XC) (HSv c XS) (WSv c XWS) k g f (ix3 (Ring.sl 4 k.val) r j : S4x112x512.Idx) = G XC XS XW XWS (ix2 r (colJ (Ring.bk 96 k.val) j)) := by
  rcases (by omega : j.val < 128 ∨ 128 ≤ j.val) with h | h
  · exact (tile_miss _ _ _ r _ 1 (off50_eq k) _ j (by omega)).trans ((tile_hit _ _ _ r _ 0 (off49_eq k) _ ⟨j.val, h⟩ j (by show j.val = 128 * 0 + j.val; omega)).trans
      (tile0_at c XC XS XW XWS k r ⟨j.val, h⟩ g hg))
  · refine (tile_hit _ _ _ r _ 1 (off50_eq k) _ ⟨j.val - 128, by omega⟩ j (by show j.val = 128 * 1 + (j.val - 128); omega)).trans
      ((tile1_at c XC XS XW XWS k r ⟨j.val - 128, by omega⟩ g hg).trans (congrArg (fun y : Fin 512 => G XC XS XW XWS (ix2 r (colJ (Ring.bk 96 k.val) y))) (Fin.ext ?_)))
    show 128 + (j.val - 128) = j.val; omega
/-- its up half. -/
theorem stU_at' (f : Buf (Elt Ideal) ((phU (Ring.sl 4 k.val)).view.loc (c : Thread nD τ))) (j : Fin 512) (hj : 256 ≤ j.val) :
    stU c (HQv c XC) (HSv c XS) (WSv c XWS) k g f (ix3 (Ring.sl 4 k.val) r j : S4x112x512.Idx) = G XC XS XW XWS (ix2 r (colJ (Ring.bk 96 k.val) j)) := by
  rcases (by omega : j.val < 384 ∨ 384 ≤ j.val) with h | h
  · refine (tile_miss _ _ _ r _ 3 (off52_eq k) _ j (by omega)).trans ((tile_hit _ _ _ r _ 2 (off51_eq k) _ ⟨j.val - 256, by omega⟩ j (by show j.val = 128 * 2 + (j.val - 256); omega)).trans
      ((tile2_at c XC XS XW XWS k r ⟨j.val - 256, by omega⟩ g hg).trans (congrArg (fun y : Fin 512 => G XC XS XW XWS (ix2 r (colJ (Ring.bk 96 k.val) y))) (Fin.ext ?_))))
    show 256 + (j.val - 256) = j.val; omega
  · refine (tile_hit _ _ _ r _ 3 (off52_eq k) _ ⟨j.val - 384, by omega⟩ j (by show j.val = 128 * 3 + (j.val - 384); omega)).trans
      ((tile3_at c XC XS XW XWS k r ⟨j.val - 384, by omega⟩ g hg).trans (congrArg (fun y : Fin 512 => G XC XS XW XWS (ix2 r (colJ (Ring.bk 96 k.val) y))) (Fin.ext ?_)))
    show 384 + (j.val - 384) = j.val; omega
end

section
variable (XC : Buf (Elt Ideal) (cM.view.loc (c : Thread nD τ))) (XS : Buf (Elt Ideal) (sM.view.loc (c : Thread nD τ))) (XW : Buf (Elt Ideal) (wM.view.loc (c : Thread nD τ)))
  (XWS : Buf (Elt Ideal) (wsM.view.loc (c : Thread nD τ)))

theorem Pok_at (b : Fin 96) (uL uU : S112x256.Idx → Elt Ideal .bf16) (h : Pok c XW (HQv c XC) (HSv c XS) (WSv c XWS) b uL uU) (r : Fin 112) (j : Fin 256) :
    uL (ix2 r j) = G XC XS XW XWS (ix2 r ⟨256 * b.val + j.val, by omega⟩) ∧ uU (ix2 r j) = G XC XS XW XWS (ix2 r ⟨24576 + 256 * b.val + j.val, by omega⟩) := by
  obtain ⟨k, g, fL, fU, hk, hg, hL, hU⟩ := h
  subst hL hU
  have hb : (Ring.bk 96 k.val).val = b.val := (Ring.bk_val (trip_lt k)).trans hk
  constructor
  · refine (preadL_at c _ _ r j).trans ((stL_at' c XC XS XW XWS k r g hg fL _ j.isLt).trans (congrArg (fun y : Fin 49152 => G XC XS XW XWS (ix2 r y)) (Fin.ext ?_)))
    refine (colJ_lo _ _ (show j.val < 256 from j.isLt)).trans ?_
    show 256 * (Ring.bk 96 k.val).val + j.val = 256 * b.val + j.val
    rw [hb]
  · refine (preadU_at c _ _ r j).trans ((stU_at' c XC XS XW XWS k r g hg fU _ (by show 256 ≤ 256 + j.val; omega)).trans (congrArg (fun y : Fin 49152 => G XC XS XW XWS (ix2 r y)) (Fin.ext ?_)))
    refine (colJ_hi _ _ (show 256 ≤ 256 + j.val by omega)).trans ?_
    show 24576 + 256 * (Ring.bk 96 k.val).val + (256 + j.val - 256) = 24576 + 256 * b.val + j.val
    rw [hb]
    show 24576 + 256 * b.val + (256 + j.val - 256) = 24576 + 256 * b.val + j.val
    omega

/-- All block pairs right: the array is `G`. -/
theorem out_eq (Y : Buf (Elt Ideal) ((c : Thread nD τ).loc main_v2))
    (h : ∀ b : Fin 96, Pok c XW (HQv c XC) (HSv c XS) (WSv c XWS) b ((pbL b).view.read (Elt Ideal) Y) ((pbU b).view.read (Elt Ideal) Y)) : Y = G XC XS XW XWS := by
  refine funext fun y => ?_
  have hy : (y 1).val < 49152 := (y 1).isLt
  have hj : (y 1).val % 256 < 256 := Nat.mod_lt _ (by decide)
  rcases (by omega : (y 1).val < 24576 ∨ 24576 ≤ (y 1).val) with hl | hl
  · have hb : (y 1).val / 256 < 96 := by omega
    have h1 := (Pok_at c XC XS XW XWS ⟨(y 1).val / 256, hb⟩ _ _ (h ⟨(y 1).val / 256, hb⟩) (y 0) ⟨(y 1).val % 256, hj⟩).1
    have e1 : (pbL ⟨(y 1).val / 256, hb⟩).view.emb (ix2 (y 0) ⟨(y 1).val % 256, hj⟩) = y := by
      refine funext fun a => Fin.ext ?_
      fin_cases a
      · show 0 + 1 * (y 0).val = (y 0).val; omega
      · show 0 + 256 * ((y 1).val / 256) + 1 * ((y 1).val % 256) = (y 1).val; omega
    have e2 : (ix2 (y 0) ⟨256 * ((y 1).val / 256) + (y 1).val % 256, by omega⟩ : S112x49152.Idx) = y := by
      refine funext fun a => Fin.ext ?_
      fin_cases a
      · rfl
      · show 256 * ((y 1).val / 256) + (y 1).val % 256 = (y 1).val; omega
    exact (congrArg Y e1).symm.trans (h1.trans (congrArg (G XC XS XW XWS) e2))
  · have hb : ((y 1).val - 24576) / 256 < 96 := by omega
    have h1 := (Pok_at c XC XS XW XWS ⟨((y 1).val - 24576) / 256, hb⟩ _ _ (h ⟨((y 1).val - 24576) / 256, hb⟩) (y 0) ⟨(y 1).val % 256, hj⟩).2
    have e1 : (pbU ⟨((y 1).val - 24576) / 256, hb⟩).view.emb (ix2 (y 0) ⟨(y 1).val % 256, hj⟩) = y := by
      refine funext fun a => Fin.ext ?_
      fin_cases a
      · show 0 + 1 * (y 0).val = (y 0).val; omega
      · show 24576 + 256 * (((y 1).val - 24576) / 256) + 1 * ((y 1).val % 256) = (y 1).val; omega
    have e2 : (ix2 (y 0) ⟨24576 + 256 * (((y 1).val - 24576) / 256) + (y 1).val % 256, by omega⟩ : S112x49152.Idx) = y := by
      refine funext fun a => Fin.ext ?_
      fin_cases a
      · rfl
      · show 24576 + 256 * (((y 1).val - 24576) / 256) + (y 1).val % 256 = (y 1).val; omega
    exact (congrArg Y e1).symm.trans (h1.trans (congrArg (G XC XS XW XWS) e2))
end
end Cert.Proof.QI
-- ==== Proof.SI.Ref.lean ====
module

public import proofs.«01_k».proof.Proof.QI.MathOut
public import proofs.«01_k».proof.Proof.Gen.ProjReferenceIdeal.Value
public import Idealize.ShloMosaic.Lib.StableHlo.ReadAt

/-! # The second reference's result

The reference runs one point over whole arrays, so its result array is its body's one value: the same closed form `G`. -/

@[expose] public section

set_option maxRecDepth 16384

noncomputable section

namespace Cert.Proof.SI

open Cert.ProjReferenceIdeal Cert.ProjReferenceIdeal.Gen
open Idealize.ShloMosaic
open Idealize.ShloMosaic.TcCoe

variable (m : (ℓ : Loc nD τ sig) → Buf (Elt Ideal) ℓ) (c : Dev nD)

theorem pay_at (v0 : Vec Ideal S112x6144 .fp8e4m3) (v2 : Vec Ideal S6144x55552 .fp8e4m3) (v4 : Vec Ideal S112x1 .f32) (v7 : Vec Ideal S1x55552 .f32)
    (r : Fin 112) (y : Fin 49152) : k0_pay1 v0 v2 v4 v7 (ix2 r y) = Cert.Proof.QI.G v0 v4 v2 v7 (ix2 r y) := by
  pointwise [k0_pay1, Cert.Proof.QI.G, Cert.Proof.QI.fin, Cert.Proof.QI.dotC, Cert.Proof.QI.wcol]

theorem hz : (![0, 0] : Fin 2 → Nat) = fun _ => 0 := funext fun a => by fin_cases a <;> rfl

theorem out_eq (x0 : Vec Ideal S112x6144 .fp8e4m3) (x1 : Vec Ideal S112x1 .f32) (x2 : Vec Ideal S6144x55552 .fp8e4m3) (x3 : Vec Ideal S1x55552 .f32) :
    out0_4 x0 x1 x2 x3 = Cert.Proof.QI.G x0 x1 x2 x3 := by
  unfold out0_4
  rw [View.canon_unit_zero hz]
  funext y
  rw [View.ld_unit_zero hz, View.ld_unit_zero hz, View.ld_unit_zero hz, View.ld_unit_zero hz]
  idx_vars y
  exact pay_at _ _ _ _ _ _

theorem blk0 : iblk m c 0 t0_0 = V m c main_v0 := by
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)
theorem blk1 : iblk m c 1 t0_0 = V m c main_arg1 := by
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)
theorem blk2 : iblk m c 2 t0_0 = V m c main_arg2 := by
  have hz' : (fun a => win0_2.index t0_0 a * main_arg2.ty.shape.size a) = fun _ => 0 := funext fun a => by fin_cases a <;> decide
  exact Memref.read_access_unit_zero (Elt Ideal) main_arg2 hz' (fun a => by rw [congrFun hz' a]; simp) (V m c main_arg2)
theorem blk3 : iblk m c 3 t0_0 = V m c main_v1 := by
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V m c main_v1)
/-- The closed form of the reference's own operands. -/
def GR : S112x49152.Idx → EReal := Cert.Proof.QI.G (V m c main_v0) (V m c main_arg1) (V m c main_arg2) (V m c main_v1)

theorem flushed_eq (t : Fin cfg0.N) (hf : (cfg0.win 4).flush t = true) :
    (dats m 0 c).flushed 4 t = ((cfg0.win 4).blk t).view.read (Elt Ideal) (GR m c) := by
  obtain rfl := fin_N0 t
  rw [Value.flushed4, out_eq, blk0, blk1, blk2, blk3]
  have hz' : (fun a => win0_4.index t0_0 a * main_v2.ty.shape.size a) = fun _ => 0 := funext fun a => by fin_cases a <;> decide
  exact (Memref.read_access_unit_zero (Elt Ideal) main_v2 hz' (fun a => by rw [congrFun hz' a]; simp) (GR m c)).symm

theorem final : (dats m 0 c).arrAt 4 cfg0.N = GR m c :=
  (dats m 0 c).arrAt_eq_of_cover 4 (GR m c) (flushed_eq m c) fun i =>
    ⟨t0_0, flush0_4 t0_0, by
      show i ∈ ((View.whole main_v2).slice (win0_4.rect t0_0)).set
      rw [View.set_slice_whole, Rect.mem_set_unit]
      intro a
      have h0 : (i 0 : Nat) < 112 := (i 0).isLt
      have h1 : (i 1 : Nat) < 49152 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 112 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 49152 from by decide +kernel]; omega⟩

theorem V0 : V m c main_v0 = shapeCast S112x6144 (m ((c : Thread nD τ).loc main_arg0)) shapeCasts_S112x1x6144_S112x6144 := by
  unfold V; after_reads_simp; rfl
theorem V1 : V m c main_v1 = shapeCast S1x55552 (m ((c : Thread nD τ).loc main_arg3)) shapeCasts_S55552_S1x55552 := by
  unfold V; after_reads_simp; rfl

end Cert.Proof.SI

namespace Cert.Proof.QI
open Cert.ProjIdeal Cert.ProjIdeal.Gen
open Idealize.ShloMosaic
open Idealize.ShloMosaic.TcCoe
variable (m : (ℓ : Loc nD τ sig) → Buf (Elt Ideal) ℓ) (c : Dev nD)
theorem V0 : V m c main_v0 = shapeCast S112x6144 (m ((c : Thread nD τ).loc main_arg0)) shapeCasts_S112x1x6144_S112x6144 := by
  unfold V; after_reads_simp; rfl
theorem V1 : V m c main_v1 = shapeCast S1x55552 (m ((c : Thread nD τ).loc main_arg3)) shapeCasts_S55552_S1x55552 := by
  unfold V; after_reads_simp; rfl
end Cert.Proof.QI
-- ==== Proof.lean ====
module

public import proofs.«01_k».proof.Defs
public import proofs.«01_k».proof.Proof.SI.Ref
public import proofs.«01_k».proof.Proof.KI.MathOut
public import proofs.«01_k».proof.Proof.RI.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.QI.MathOut
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Frame
public import proofs.«01_k».proof.Proof.Gen.ProjReferenceIdeal.Value
public import Idealize.ShloMosaic.Adequacy
public import Idealize.ShloMosaic.Init

/-! # The claims

For each of the two kernels: its frame at the machine's words and over the reals, the reference's frame, and the value
claim: over the reals the kernel's result array and the reference's are one closed form of the arguments. A kernel's run
(`KI.run_main`, `QI.run_main`) is proved for any float values; the program read over the reals is the program's own text,
so the run at the machine's words is the same theorem, its program unfolded. -/

@[expose] public section

set_option maxRecDepth 65536

noncomputable section

namespace Cert.Proof

open Idealize.ShloMosaic Idealize.SL.Sem

theorem frame_k : Cert.quiescent_Kernel := fun m g _ =>
  (θ_run Cert.KernelIdeal.defs _ _).mono (fun r h => ⟨fun c => ⟨(h.1 c).1, (h.1 c).2.1, (h.1 c).2.2.1, (h.1 c).2.2.2.1, (h.1 c).2.2.2.2.1⟩, h.2⟩)
    (Cert.Proof.KI.run_main (F := Bits) m g)

theorem frame_ki : Cert.quiescent_KernelIdeal := fun m g _ =>
  (θ_run Cert.KernelIdeal.defs _ _).mono (fun r h => ⟨fun c => ⟨(h.1 c).1, (h.1 c).2.1, (h.1 c).2.2.1, (h.1 c).2.2.2.1, (h.1 c).2.2.2.2.1⟩, h.2⟩)
    (Cert.Proof.KI.run_main (F := Ideal) m g)

theorem frame_ri : Cert.quiescent_ReferenceIdeal := fun m g _ => Cert.ReferenceIdeal.Gen.frame m g

theorem preserves : Cert.preserves_Kernel_KernelIdeal := trivial

/-- The result both programs end with. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v3) :=
  Cert.Proof.KI.G (Cert.Proof.KI.XX m c) (Cert.Proof.KI.XC m c) (Cert.Proof.KI.XS m c) (Cert.Proof.KI.XW m c) (Cert.Proof.KI.XWS m c)

theorem G_congr {x x' : Cert.KernelIdeal.S112x6144.Idx → EReal} {c c' : Cert.KernelIdeal.S112x30720.Idx → EReal} {s s' : Cert.KernelIdeal.S112x1.Idx → EReal}
    {w w' : Cert.KernelIdeal.S30720x6144.Idx → EReal} {v v' : Cert.KernelIdeal.S1x6144.Idx → EReal}
    (hx : x = x') (hc : c = c') (hs : s = s') (hw : w = w') (hv : v = v') : Cert.Proof.KI.G x c s w v = Cert.Proof.KI.G x' c' s' w' v' := by
  subst hx hc hs hw hv; rfl

theorem algebraic : Cert.algebraic_KernelIdeal_ReferenceIdeal := by
  intro m g m' g' _ hagree
  refine ⟨result m, ?_, ?_⟩
  · refine (θ_run Cert.KernelIdeal.defs _ _).mono (fun r h c => ?_) (Cert.Proof.KI.run_main (F := Ideal) m g)
    obtain ⟨h0, h1, h2, h3, h4, hy⟩ := h.1 c
    exact ⟨Cert.Proof.KI.out_eq c _ _ _ _ _ _ hy, h0, h1, h2, h3, h4⟩
  · refine (θ_run Cert.ReferenceIdeal.defs _ _).mono (fun r h c => ?_) (Cert.ReferenceIdeal.Value.run_blocks (F := Ideal) m' g')
    obtain ⟨hy, hargs⟩ := h c
    obtain ⟨a0, a1, a2, a3, a4⟩ := hagree c
    refine ⟨hy.trans ((Cert.Proof.RI.final m' c).trans ?_), hargs⟩
    refine G_congr ?_ ?_ ?_ ?_ ?_
    · exact (Cert.Proof.RI.V0 m' c).trans ((congrArg (fun z => shapeCast Cert.KernelIdeal.S112x6144 z Cert.KernelIdeal.Gen.shapeCasts_S112x1x6144_S112x6144) a0).trans (Cert.Proof.KI.V0 m c).symm)
    · exact (Cert.Proof.RI.V1 m' c).trans ((congrArg (fun z => shapeCast Cert.KernelIdeal.S112x30720 z Cert.KernelIdeal.Gen.shapeCasts_S112x1x30720_S112x30720) a1).trans (Cert.Proof.KI.V1 m c).symm)
    · exact (Cert.ReferenceIdeal.Gen.V_main_arg2 m' c).trans (a2.trans (Cert.KernelIdeal.Gen.V_main_arg2 m c).symm)
    · exact (Cert.ReferenceIdeal.Gen.V_main_arg3 m' c).trans (a3.trans (Cert.KernelIdeal.Gen.V_main_arg3 m c).symm)
    · exact (Cert.Proof.RI.V2 m' c).trans ((congrArg (fun z => shapeCast Cert.KernelIdeal.S1x6144 z Cert.KernelIdeal.Gen.shapeCasts_S6144_S1x6144) a4).trans (Cert.Proof.KI.V2 m c).symm)

/-! ## The gate and up projection -/

theorem frame_q : Cert.quiescent_Proj := fun m g _ =>
  (θ_run Cert.ProjIdeal.defs _ _).mono (fun r h => ⟨fun c => ⟨(h.1 c).1, (h.1 c).2.1, (h.1 c).2.2.1, (h.1 c).2.2.2.1⟩, h.2⟩)
    (Cert.Proof.QI.run_main (F := Bits) m g)

theorem frame_qi : Cert.quiescent_ProjIdeal := fun m g _ =>
  (θ_run Cert.ProjIdeal.defs _ _).mono (fun r h => ⟨fun c => ⟨(h.1 c).1, (h.1 c).2.1, (h.1 c).2.2.1, (h.1 c).2.2.2.1⟩, h.2⟩)
    (Cert.Proof.QI.run_main (F := Ideal) m g)

theorem frame_si : Cert.quiescent_ProjReferenceIdeal := fun m g _ => Cert.ProjReferenceIdeal.Gen.frame m g

theorem preserves_proj : Cert.preserves_Proj_ProjIdeal := trivial

/-- The result both programs end with. -/
def result_proj (m : (ℓ : Loc Cert.ProjIdeal.nD Cert.ProjIdeal.τ Cert.ProjIdeal.sig) → Buf (Elt Ideal) ℓ) (c : Dev Cert.ProjIdeal.nD) :
    Buf (Elt Ideal) ((c.tc : Thread Cert.ProjIdeal.nD Cert.ProjIdeal.τ).loc Cert.ProjIdeal.main_v2) :=
  Cert.Proof.QI.G (Cert.Proof.QI.XC m c) (Cert.Proof.QI.XS m c) (Cert.Proof.QI.XW m c) (Cert.Proof.QI.XWS m c)

theorem G_proj_congr {c c' : Cert.ProjIdeal.S112x6144.Idx → EReal} {s s' : Cert.ProjIdeal.S112x1.Idx → EReal}
    {w w' : Cert.ProjIdeal.S6144x55552.Idx → EReal} {v v' : Cert.ProjIdeal.S1x55552.Idx → EReal}
    (hc : c = c') (hs : s = s') (hw : w = w') (hv : v = v') : Cert.Proof.QI.G c s w v = Cert.Proof.QI.G c' s' w' v' := by
  subst hc hs hw hv; rfl

theorem algebraic_proj : Cert.algebraic_ProjIdeal_ProjReferenceIdeal := by
  intro m g m' g' _ hagree
  refine ⟨result_proj m, ?_, ?_⟩
  · refine (θ_run Cert.ProjIdeal.defs _ _).mono (fun r h c => ?_) (Cert.Proof.QI.run_main (F := Ideal) m g)
    obtain ⟨h0, h1, h2, h3, hy⟩ := h.1 c
    exact ⟨Cert.Proof.QI.out_eq c _ _ _ _ _ hy, h0, h1, h2, h3⟩
  · refine (θ_run Cert.ProjReferenceIdeal.defs _ _).mono (fun r h c => ?_) (Cert.ProjReferenceIdeal.Value.run_blocks (F := Ideal) m' g')
    obtain ⟨hy, hargs⟩ := h c
    obtain ⟨a0, a1, a2, a3⟩ := hagree c
    refine ⟨hy.trans ((Cert.Proof.SI.final m' c).trans ?_), hargs⟩
    refine G_proj_congr ?_ ?_ ?_ ?_
    · exact (Cert.Proof.SI.V0 m' c).trans ((congrArg (fun z => shapeCast Cert.ProjIdeal.S112x6144 z Cert.ProjIdeal.Gen.shapeCasts_S112x1x6144_S112x6144) a0).trans (Cert.Proof.QI.V0 m c).symm)
    · exact (Cert.ProjReferenceIdeal.Gen.V_main_arg1 m' c).trans (a1.trans (Cert.Proof.QI.V_main_arg1 m c).symm)
    · exact (Cert.ProjReferenceIdeal.Gen.V_main_arg2 m' c).trans (a2.trans (Cert.Proof.QI.V_main_arg2 m c).symm)
    · exact (Cert.Proof.SI.V1 m' c).trans ((congrArg (fun z => shapeCast Cert.ProjIdeal.S1x55552 z Cert.ProjIdeal.Gen.shapeCasts_S55552_S1x55552) a3).trans (Cert.Proof.QI.V1 m c).symm)

theorem claim : Cert.Claim :=
  ⟨Cert.Kernel.Gen.facts, Cert.KernelIdeal.Gen.facts, Cert.ReferenceIdeal.Gen.facts, Cert.Proj.Gen.facts, Cert.ProjIdeal.Gen.facts, Cert.ProjReferenceIdeal.Gen.facts,
    frame_k, frame_ki, frame_ri, frame_q, frame_qi, frame_si, preserves, algebraic, preserves_proj, algebraic_proj⟩

end Cert.Proof

end
